-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2))).1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2))).2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2))).2.2 = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2))).1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2))).2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2))).2.2 = (fun _ => 1#1)

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelOutDx (m : (ℓ : Loc Cert.KernelOutDx.nD Cert.KernelOutDx.τ Cert.KernelOutDx.sig) → Buf (Elt Bits) ℓ) : Prop :=
  True

def Pre_KernelOutDxIdeal (m : (ℓ : Loc Cert.KernelOutDxIdeal.nD Cert.KernelOutDxIdeal.τ Cert.KernelOutDxIdeal.sig) → Buf (Elt Ideal) ℓ) : Prop :=
  True

def Pre_ReferenceOutDxIdeal (m : (ℓ : Loc Cert.ReferenceOutDxIdeal.nD Cert.ReferenceOutDxIdeal.τ Cert.ReferenceOutDxIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMergeBwd (m : (ℓ : Loc Cert.KernelMergeBwd.nD Cert.KernelMergeBwd.τ Cert.KernelMergeBwd.sig) → Buf (Elt Bits) ℓ) : Prop :=
  True

def Pre_KernelMergeBwdIdeal (m : (ℓ : Loc Cert.KernelMergeBwdIdeal.nD Cert.KernelMergeBwdIdeal.τ Cert.KernelMergeBwdIdeal.sig) → Buf (Elt Ideal) ℓ) : Prop :=
  True

def Pre_ReferenceMergeBwdIdeal (m : (ℓ : Loc Cert.ReferenceMergeBwdIdeal.nD Cert.ReferenceMergeBwdIdeal.τ Cert.ReferenceMergeBwdIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamMod (m : (ℓ : Loc Cert.KernelAdamMod.nD Cert.KernelAdamMod.τ Cert.KernelAdamMod.sig) → Buf (Elt Bits) ℓ) : Prop :=
  True

def Pre_KernelAdamModIdeal (m : (ℓ : Loc Cert.KernelAdamModIdeal.nD Cert.KernelAdamModIdeal.τ Cert.KernelAdamModIdeal.sig) → Buf (Elt Ideal) ℓ) : Prop :=
  True

def Pre_ReferenceAdamModIdeal (m : (ℓ : Loc Cert.ReferenceAdamModIdeal.nD Cert.ReferenceAdamModIdeal.τ Cert.ReferenceAdamModIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelOutDx [hKernelOutDx : Cert.KernelOutDx.Facts] : Prop :=
  ∀ (m : (ℓ : Loc Cert.KernelOutDx.nD Cert.KernelOutDx.τ Cert.KernelOutDx.sig) → Buf (Elt Bits) ℓ) (g : Dev Cert.KernelOutDx.nD → PrngReg), Pre_KernelOutDx m →
    θ_run (Cert.KernelOutDx.defs (F := Bits)) (onTc (τ := Cert.KernelOutDx.τ) (Cert.KernelOutDx.main (F := Bits))) ⟨m, fun _ => 0, g⟩ (fun r => (∀ c : Dev Cert.KernelOutDx.nD,
      r.2.mem ((c.tc : Thread Cert.KernelOutDx.nD Cert.KernelOutDx.τ).loc Cert.KernelOutDx.main_arg0) = m ((c.tc : Thread Cert.KernelOutDx.nD Cert.KernelOutDx.τ).loc Cert.KernelOutDx.main_arg0)
      ∧ r.2.mem ((c.tc : Thread Cert.KernelOutDx.nD Cert.KernelOutDx.τ).loc Cert.KernelOutDx.main_arg1) = m ((c.tc : Thread Cert.KernelOutDx.nD Cert.KernelOutDx.τ).loc Cert.KernelOutDx.main_arg1))
      ∧ r.2.sem = fun _ => 0)

def quiescent_KernelOutDxIdeal [hKernelOutDxIdeal : Cert.KernelOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg), Pre_KernelOutDxIdeal m →
    θ_run (Cert.KernelOutDxIdeal.defs (F := Ideal)) (onTc (τ := Cert.KernelOutDxIdeal.τ) (Cert.KernelOutDxIdeal.main (F := Ideal))) ⟨m, fun _ => 0, g⟩ (fun r => (∀ c : Dev Cert.KernelOutDxIdeal.nD,
      r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
      ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ r.2.sem = fun _ => 0)

def quiescent_ReferenceOutDxIdeal [hReferenceOutDxIdeal : Cert.ReferenceOutDxIdeal.Facts] : Prop :=
  ∀ (m : (ℓ : Loc Cert.ReferenceOutDxIdeal.nD Cert.ReferenceOutDxIdeal.τ Cert.ReferenceOutDxIdeal.sig) → Buf (Elt Ideal) ℓ) (g : Dev Cert.ReferenceOutDxIdeal.nD → PrngReg), Pre_ReferenceOutDxIdeal m →
    θ_run (Cert.ReferenceOutDxIdeal.defs (F := Ideal)) (onTc (τ := Cert.ReferenceOutDxIdeal.τ) (Cert.ReferenceOutDxIdeal.main (F := Ideal))) ⟨m, fun _ => 0, g⟩ (fun r => (∀ c : Dev Cert.ReferenceOutDxIdeal.nD,
      r.2.mem ((c.tc : Thread Cert.ReferenceOutDxIdeal.nD Cert.ReferenceOutDxIdeal.τ).loc Cert.ReferenceOutDxIdeal.main_arg0) = m ((c.tc : Thread Cert.ReferenceOutDxIdeal.nD Cert.ReferenceOutDxIdeal.τ).loc Cert.ReferenceOutDxIdeal.main_arg0)
      ∧ r.2.mem ((c.tc : Thread Cert.ReferenceOutDxIdeal.nD Cert.ReferenceOutDxIdeal.τ).loc Cert.ReferenceOutDxIdeal.main_arg1) = m ((c.tc : Thread Cert.ReferenceOutDxIdeal.nD Cert.ReferenceOutDxIdeal.τ).loc Cert.ReferenceOutDxIdeal.main_arg1))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelMergeBwd [hKernelMergeBwd : Cert.KernelMergeBwd.Facts] : Prop :=
  ∀ (m : (ℓ : Loc Cert.KernelMergeBwd.nD Cert.KernelMergeBwd.τ Cert.KernelMergeBwd.sig) → Buf (Elt Bits) ℓ) (g : Dev Cert.KernelMergeBwd.nD → PrngReg), Pre_KernelMergeBwd m →
    θ_run (Cert.KernelMergeBwd.defs (F := Bits)) (onTc (τ := Cert.KernelMergeBwd.τ) (Cert.KernelMergeBwd.main (F := Bits))) ⟨m, fun _ => 0, g⟩ (fun r => (∀ c : Dev Cert.KernelMergeBwd.nD,
      r.2.mem ((c.tc : Thread Cert.KernelMergeBwd.nD Cert.KernelMergeBwd.τ).loc Cert.KernelMergeBwd.main_arg0) = m ((c.tc : Thread Cert.KernelMergeBwd.nD Cert.KernelMergeBwd.τ).loc Cert.KernelMergeBwd.main_arg0)
      ∧ r.2.mem ((c.tc : Thread Cert.KernelMergeBwd.nD Cert.KernelMergeBwd.τ).loc Cert.KernelMergeBwd.main_arg1) = m ((c.tc : Thread Cert.KernelMergeBwd.nD Cert.KernelMergeBwd.τ).loc Cert.KernelMergeBwd.main_arg1)
      ∧ r.2.mem ((c.tc : Thread Cert.KernelMergeBwd.nD Cert.KernelMergeBwd.τ).loc Cert.KernelMergeBwd.main_arg2) = m ((c.tc : Thread Cert.KernelMergeBwd.nD Cert.KernelMergeBwd.τ).loc Cert.KernelMergeBwd.main_arg2)
      ∧ r.2.mem ((c.tc : Thread Cert.KernelMergeBwd.nD Cert.KernelMergeBwd.τ).loc Cert.KernelMergeBwd.main_arg3) = m ((c.tc : Thread Cert.KernelMergeBwd.nD Cert.KernelMergeBwd.τ).loc Cert.KernelMergeBwd.main_arg3))
      ∧ r.2.sem = fun _ => 0)

def quiescent_KernelMergeBwdIdeal [hKernelMergeBwdIdeal : Cert.KernelMergeBwdIdeal.Facts] : Prop :=
  ∀ (m : (ℓ : Loc Cert.KernelMergeBwdIdeal.nD Cert.KernelMergeBwdIdeal.τ Cert.KernelMergeBwdIdeal.sig) → Buf (Elt Ideal) ℓ) (g : Dev Cert.KernelMergeBwdIdeal.nD → PrngReg), Pre_KernelMergeBwdIdeal m →
    θ_run (Cert.KernelMergeBwdIdeal.defs (F := Ideal)) (onTc (τ := Cert.KernelMergeBwdIdeal.τ) (Cert.KernelMergeBwdIdeal.main (F := Ideal))) ⟨m, fun _ => 0, g⟩ (fun r => (∀ c : Dev Cert.KernelMergeBwdIdeal.nD,
      r.2.mem ((c.tc : Thread Cert.KernelMergeBwdIdeal.nD Cert.KernelMergeBwdIdeal.τ).loc Cert.KernelMergeBwdIdeal.main_arg0) = m ((c.tc : Thread Cert.KernelMergeBwdIdeal.nD Cert.KernelMergeBwdIdeal.τ).loc Cert.KernelMergeBwdIdeal.main_arg0)
      ∧ r.2.mem ((c.tc : Thread Cert.KernelMergeBwdIdeal.nD Cert.KernelMergeBwdIdeal.τ).loc Cert.KernelMergeBwdIdeal.main_arg1) = m ((c.tc : Thread Cert.KernelMergeBwdIdeal.nD Cert.KernelMergeBwdIdeal.τ).loc Cert.KernelMergeBwdIdeal.main_arg1)
      ∧ r.2.mem ((c.tc : Thread Cert.KernelMergeBwdIdeal.nD Cert.KernelMergeBwdIdeal.τ).loc Cert.KernelMergeBwdIdeal.main_arg2) = m ((c.tc : Thread Cert.KernelMergeBwdIdeal.nD Cert.KernelMergeBwdIdeal.τ).loc Cert.KernelMergeBwdIdeal.main_arg2)
      ∧ r.2.mem ((c.tc : Thread Cert.KernelMergeBwdIdeal.nD Cert.KernelMergeBwdIdeal.τ).loc Cert.KernelMergeBwdIdeal.main_arg3) = m ((c.tc : Thread Cert.KernelMergeBwdIdeal.nD Cert.KernelMergeBwdIdeal.τ).loc Cert.KernelMergeBwdIdeal.main_arg3))
      ∧ r.2.sem = fun _ => 0)

def quiescent_ReferenceMergeBwdIdeal [hReferenceMergeBwdIdeal : Cert.ReferenceMergeBwdIdeal.Facts] : Prop :=
  ∀ (m : (ℓ : Loc Cert.ReferenceMergeBwdIdeal.nD Cert.ReferenceMergeBwdIdeal.τ Cert.ReferenceMergeBwdIdeal.sig) → Buf (Elt Ideal) ℓ) (g : Dev Cert.ReferenceMergeBwdIdeal.nD → PrngReg), Pre_ReferenceMergeBwdIdeal m →
    θ_run (Cert.ReferenceMergeBwdIdeal.defs (F := Ideal)) (onTc (τ := Cert.ReferenceMergeBwdIdeal.τ) (Cert.ReferenceMergeBwdIdeal.main (F := Ideal))) ⟨m, fun _ => 0, g⟩ (fun r => (∀ c : Dev Cert.ReferenceMergeBwdIdeal.nD,
      r.2.mem ((c.tc : Thread Cert.ReferenceMergeBwdIdeal.nD Cert.ReferenceMergeBwdIdeal.τ).loc Cert.ReferenceMergeBwdIdeal.main_arg0) = m ((c.tc : Thread Cert.ReferenceMergeBwdIdeal.nD Cert.ReferenceMergeBwdIdeal.τ).loc Cert.ReferenceMergeBwdIdeal.main_arg0)
      ∧ r.2.mem ((c.tc : Thread Cert.ReferenceMergeBwdIdeal.nD Cert.ReferenceMergeBwdIdeal.τ).loc Cert.ReferenceMergeBwdIdeal.main_arg1) = m ((c.tc : Thread Cert.ReferenceMergeBwdIdeal.nD Cert.ReferenceMergeBwdIdeal.τ).loc Cert.ReferenceMergeBwdIdeal.main_arg1)
      ∧ r.2.mem ((c.tc : Thread Cert.ReferenceMergeBwdIdeal.nD Cert.ReferenceMergeBwdIdeal.τ).loc Cert.ReferenceMergeBwdIdeal.main_arg2) = m ((c.tc : Thread Cert.ReferenceMergeBwdIdeal.nD Cert.ReferenceMergeBwdIdeal.τ).loc Cert.ReferenceMergeBwdIdeal.main_arg2)
      ∧ r.2.mem ((c.tc : Thread Cert.ReferenceMergeBwdIdeal.nD Cert.ReferenceMergeBwdIdeal.τ).loc Cert.ReferenceMergeBwdIdeal.main_arg3) = m ((c.tc : Thread Cert.ReferenceMergeBwdIdeal.nD Cert.ReferenceMergeBwdIdeal.τ).loc Cert.ReferenceMergeBwdIdeal.main_arg3))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamMod [hKernelAdamMod : Cert.KernelAdamMod.Facts] : Prop :=
  ∀ (m : (ℓ : Loc Cert.KernelAdamMod.nD Cert.KernelAdamMod.τ Cert.KernelAdamMod.sig) → Buf (Elt Bits) ℓ) (g : Dev Cert.KernelAdamMod.nD → PrngReg), Pre_KernelAdamMod m →
    θ_run (Cert.KernelAdamMod.defs (F := Bits)) (onTc (τ := Cert.KernelAdamMod.τ) (Cert.KernelAdamMod.main (F := Bits))) ⟨m, fun _ => 0, g⟩ (fun r => (∀ c : Dev Cert.KernelAdamMod.nD,
      r.2.mem ((c.tc : Thread Cert.KernelAdamMod.nD Cert.KernelAdamMod.τ).loc Cert.KernelAdamMod.main_arg0) = m ((c.tc : Thread Cert.KernelAdamMod.nD Cert.KernelAdamMod.τ).loc Cert.KernelAdamMod.main_arg0)
      ∧ r.2.mem ((c.tc : Thread Cert.KernelAdamMod.nD Cert.KernelAdamMod.τ).loc Cert.KernelAdamMod.main_arg1) = m ((c.tc : Thread Cert.KernelAdamMod.nD Cert.KernelAdamMod.τ).loc Cert.KernelAdamMod.main_arg1)
      ∧ r.2.mem ((c.tc : Thread Cert.KernelAdamMod.nD Cert.KernelAdamMod.τ).loc Cert.KernelAdamMod.main_arg2) = m ((c.tc : Thread Cert.KernelAdamMod.nD Cert.KernelAdamMod.τ).loc Cert.KernelAdamMod.main_arg2)
      ∧ r.2.mem ((c.tc : Thread Cert.KernelAdamMod.nD Cert.KernelAdamMod.τ).loc Cert.KernelAdamMod.main_arg3) = m ((c.tc : Thread Cert.KernelAdamMod.nD Cert.KernelAdamMod.τ).loc Cert.KernelAdamMod.main_arg3))
      ∧ r.2.sem = fun _ => 0)

def quiescent_KernelAdamModIdeal [hKernelAdamModIdeal : Cert.KernelAdamModIdeal.Facts] : Prop :=
  ∀ (m : (ℓ : Loc Cert.KernelAdamModIdeal.nD Cert.KernelAdamModIdeal.τ Cert.KernelAdamModIdeal.sig) → Buf (Elt Ideal) ℓ) (g : Dev Cert.KernelAdamModIdeal.nD → PrngReg), Pre_KernelAdamModIdeal m →
    θ_run (Cert.KernelAdamModIdeal.defs (F := Ideal)) (onTc (τ := Cert.KernelAdamModIdeal.τ) (Cert.KernelAdamModIdeal.main (F := Ideal))) ⟨m, fun _ => 0, g⟩ (fun r => (∀ c : Dev Cert.KernelAdamModIdeal.nD,
      r.2.mem ((c.tc : Thread Cert.KernelAdamModIdeal.nD Cert.KernelAdamModIdeal.τ).loc Cert.KernelAdamModIdeal.main_arg0) = m ((c.tc : Thread Cert.KernelAdamModIdeal.nD Cert.KernelAdamModIdeal.τ).loc Cert.KernelAdamModIdeal.main_arg0)
      ∧ r.2.mem ((c.tc : Thread Cert.KernelAdamModIdeal.nD Cert.KernelAdamModIdeal.τ).loc Cert.KernelAdamModIdeal.main_arg1) = m ((c.tc : Thread Cert.KernelAdamModIdeal.nD Cert.KernelAdamModIdeal.τ).loc Cert.KernelAdamModIdeal.main_arg1)
      ∧ r.2.mem ((c.tc : Thread Cert.KernelAdamModIdeal.nD Cert.KernelAdamModIdeal.τ).loc Cert.KernelAdamModIdeal.main_arg2) = m ((c.tc : Thread Cert.KernelAdamModIdeal.nD Cert.KernelAdamModIdeal.τ).loc Cert.KernelAdamModIdeal.main_arg2)
      ∧ r.2.mem ((c.tc : Thread Cert.KernelAdamModIdeal.nD Cert.KernelAdamModIdeal.τ).loc Cert.KernelAdamModIdeal.main_arg3) = m ((c.tc : Thread Cert.KernelAdamModIdeal.nD Cert.KernelAdamModIdeal.τ).loc Cert.KernelAdamModIdeal.main_arg3))
      ∧ r.2.sem = fun _ => 0)

def quiescent_ReferenceAdamModIdeal [hReferenceAdamModIdeal : Cert.ReferenceAdamModIdeal.Facts] : Prop :=
  ∀ (m : (ℓ : Loc Cert.ReferenceAdamModIdeal.nD Cert.ReferenceAdamModIdeal.τ Cert.ReferenceAdamModIdeal.sig) → Buf (Elt Ideal) ℓ) (g : Dev Cert.ReferenceAdamModIdeal.nD → PrngReg), Pre_ReferenceAdamModIdeal m →
    θ_run (Cert.ReferenceAdamModIdeal.defs (F := Ideal)) (onTc (τ := Cert.ReferenceAdamModIdeal.τ) (Cert.ReferenceAdamModIdeal.main (F := Ideal))) ⟨m, fun _ => 0, g⟩ (fun r => (∀ c : Dev Cert.ReferenceAdamModIdeal.nD,
      r.2.mem ((c.tc : Thread Cert.ReferenceAdamModIdeal.nD Cert.ReferenceAdamModIdeal.τ).loc Cert.ReferenceAdamModIdeal.main_arg0) = m ((c.tc : Thread Cert.ReferenceAdamModIdeal.nD Cert.ReferenceAdamModIdeal.τ).loc Cert.ReferenceAdamModIdeal.main_arg0)
      ∧ r.2.mem ((c.tc : Thread Cert.ReferenceAdamModIdeal.nD Cert.ReferenceAdamModIdeal.τ).loc Cert.ReferenceAdamModIdeal.main_arg1) = m ((c.tc : Thread Cert.ReferenceAdamModIdeal.nD Cert.ReferenceAdamModIdeal.τ).loc Cert.ReferenceAdamModIdeal.main_arg1)
      ∧ r.2.mem ((c.tc : Thread Cert.ReferenceAdamModIdeal.nD Cert.ReferenceAdamModIdeal.τ).loc Cert.ReferenceAdamModIdeal.main_arg2) = m ((c.tc : Thread Cert.ReferenceAdamModIdeal.nD Cert.ReferenceAdamModIdeal.τ).loc Cert.ReferenceAdamModIdeal.main_arg2)
      ∧ r.2.mem ((c.tc : Thread Cert.ReferenceAdamModIdeal.nD Cert.ReferenceAdamModIdeal.τ).loc Cert.ReferenceAdamModIdeal.main_arg3) = m ((c.tc : Thread Cert.ReferenceAdamModIdeal.nD Cert.ReferenceAdamModIdeal.τ).loc Cert.ReferenceAdamModIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v75_1)) (v2 : (c : Dev Cert.KernelIdeal.nD) → Buf (Elt Ideal) ((c.tc : Thread Cert.KernelIdeal.nD Cert.KernelIdeal.τ).loc Cert.KernelIdeal.main_v75_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v75_1) = v1 c
          ∧ r.2.mem ((c.tc : Thread Cert.KernelIdeal.nD Cert.KernelIdeal.τ).loc Cert.KernelIdeal.main_v75_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelFwd_KernelFwdIdeal : Prop :=
  IdealRules.named_const.Statement Cert.KernelFwdIdeal.κ "mask" .f32 0xF149F2CA#32 ⊥
  ∧ IdealRules.named_const.Statement Cert.KernelFwdIdeal.κ "log2e" .f32 0x3FB8AA3B#32 (((Real.log 2)⁻¹ : ℝ) : EReal)

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)) →
    ∃ (v0 : (c : Dev Cert.KernelFwdIdeal.nD) → Buf (Elt Ideal) ((c.tc : Thread Cert.KernelFwdIdeal.nD Cert.KernelFwdIdeal.τ).loc Cert.KernelFwdIdeal.main_v14_0)) (v1 : (c : Dev Cert.KernelFwdIdeal.nD) → Buf (Elt Ideal) ((c.tc : Thread Cert.KernelFwdIdeal.nD Cert.KernelFwdIdeal.τ).loc Cert.KernelFwdIdeal.main_v14_1)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v14_0) = v0 c
          ∧ r.2.mem ((c.tc : Thread Cert.KernelFwdIdeal.nD Cert.KernelFwdIdeal.τ).loc Cert.KernelFwdIdeal.main_v14_1) = v1 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v41) = v0 c
          ∧ r.2.mem ((c.tc : Thread Cert.ReferenceFwdIdeal.nD Cert.ReferenceFwdIdeal.τ).loc Cert.ReferenceFwdIdeal.main_v79) = v1 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)) →
    ∃ (v0 : (c : Dev Cert.KernelInDxIdeal.nD) → Buf (Elt Ideal) ((c.tc : Thread Cert.KernelInDxIdeal.nD Cert.KernelInDxIdeal.τ).loc Cert.KernelInDxIdeal.main_v0)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v0) = v0 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v5) = v0 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v0)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v0) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v5) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelOutDx_KernelOutDxIdeal : Prop :=
  True

def algebraic_KernelOutDxIdeal_ReferenceOutDxIdeal [hKernelOutDxIdeal : Cert.KernelOutDxIdeal.Facts] [hReferenceOutDxIdeal : Cert.ReferenceOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg)
    (m' : (ℓ : Loc Cert.ReferenceOutDxIdeal.nD Cert.ReferenceOutDxIdeal.τ Cert.ReferenceOutDxIdeal.sig) → Buf (Elt Ideal) ℓ) (g' : Dev Cert.ReferenceOutDxIdeal.nD → PrngReg), Pre_KernelOutDxIdeal m →
    (∀ c : Dev Cert.KernelOutDxIdeal.nD,
      m' ((c.tc : Thread Cert.ReferenceOutDxIdeal.nD Cert.ReferenceOutDxIdeal.τ).loc Cert.ReferenceOutDxIdeal.main_arg0) = m ((c.tc : Thread Cert.KernelOutDxIdeal.nD Cert.KernelOutDxIdeal.τ).loc Cert.KernelOutDxIdeal.main_arg0)
      ∧ m' ((c.tc : Thread Cert.ReferenceOutDxIdeal.nD Cert.ReferenceOutDxIdeal.τ).loc Cert.ReferenceOutDxIdeal.main_arg1) = m ((c.tc : Thread Cert.KernelOutDxIdeal.nD Cert.KernelOutDxIdeal.τ).loc Cert.KernelOutDxIdeal.main_arg1)) →
    ∃ (v0 : (c : Dev Cert.KernelOutDxIdeal.nD) → Buf (Elt Ideal) ((c.tc : Thread Cert.KernelOutDxIdeal.nD Cert.KernelOutDxIdeal.τ).loc Cert.KernelOutDxIdeal.main_v0)),
      θ_run (Cert.KernelOutDxIdeal.defs (F := Ideal)) (onTc (τ := Cert.KernelOutDxIdeal.τ) (Cert.KernelOutDxIdeal.main (F := Ideal))) ⟨m, fun _ => 0, g⟩ (fun r => ∀ c : Dev Cert.KernelOutDxIdeal.nD,
          r.2.mem ((c.tc : Thread Cert.KernelOutDxIdeal.nD Cert.KernelOutDxIdeal.τ).loc Cert.KernelOutDxIdeal.main_v0) = v0 c
          ∧ r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
          ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ θ_run (Cert.ReferenceOutDxIdeal.defs (F := Ideal)) (onTc (τ := Cert.ReferenceOutDxIdeal.τ) (Cert.ReferenceOutDxIdeal.main (F := Ideal))) ⟨m', fun _ => 0, g'⟩ (fun r => ∀ c : Dev Cert.ReferenceOutDxIdeal.nD,
          r.2.mem ((c.tc : Thread Cert.ReferenceOutDxIdeal.nD Cert.ReferenceOutDxIdeal.τ).loc Cert.ReferenceOutDxIdeal.main_v5) = v0 c
          ∧ r.2.mem ((c.tc : Thread Cert.ReferenceOutDxIdeal.nD Cert.ReferenceOutDxIdeal.τ).loc Cert.ReferenceOutDxIdeal.main_arg0) = m' ((c.tc : Thread Cert.ReferenceOutDxIdeal.nD Cert.ReferenceOutDxIdeal.τ).loc Cert.ReferenceOutDxIdeal.main_arg0)
          ∧ r.2.mem ((c.tc : Thread Cert.ReferenceOutDxIdeal.nD Cert.ReferenceOutDxIdeal.τ).loc Cert.ReferenceOutDxIdeal.main_arg1) = m' ((c.tc : Thread Cert.ReferenceOutDxIdeal.nD Cert.ReferenceOutDxIdeal.τ).loc Cert.ReferenceOutDxIdeal.main_arg1))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v0)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v0) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v5) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v3) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelMergeBwd_KernelMergeBwdIdeal : Prop :=
  True

def algebraic_KernelMergeBwdIdeal_ReferenceMergeBwdIdeal [hKernelMergeBwdIdeal : Cert.KernelMergeBwdIdeal.Facts] [hReferenceMergeBwdIdeal : Cert.ReferenceMergeBwdIdeal.Facts] : Prop :=
  ∀ (m : (ℓ : Loc Cert.KernelMergeBwdIdeal.nD Cert.KernelMergeBwdIdeal.τ Cert.KernelMergeBwdIdeal.sig) → Buf (Elt Ideal) ℓ) (g : Dev Cert.KernelMergeBwdIdeal.nD → PrngReg)
    (m' : (ℓ : Loc Cert.ReferenceMergeBwdIdeal.nD Cert.ReferenceMergeBwdIdeal.τ Cert.ReferenceMergeBwdIdeal.sig) → Buf (Elt Ideal) ℓ) (g' : Dev Cert.ReferenceMergeBwdIdeal.nD → PrngReg), Pre_KernelMergeBwdIdeal m →
    (∀ c : Dev Cert.KernelMergeBwdIdeal.nD,
      m' ((c.tc : Thread Cert.ReferenceMergeBwdIdeal.nD Cert.ReferenceMergeBwdIdeal.τ).loc Cert.ReferenceMergeBwdIdeal.main_arg0) = m ((c.tc : Thread Cert.KernelMergeBwdIdeal.nD Cert.KernelMergeBwdIdeal.τ).loc Cert.KernelMergeBwdIdeal.main_arg0)
      ∧ m' ((c.tc : Thread Cert.ReferenceMergeBwdIdeal.nD Cert.ReferenceMergeBwdIdeal.τ).loc Cert.ReferenceMergeBwdIdeal.main_arg1) = m ((c.tc : Thread Cert.KernelMergeBwdIdeal.nD Cert.KernelMergeBwdIdeal.τ).loc Cert.KernelMergeBwdIdeal.main_arg1)
      ∧ m' ((c.tc : Thread Cert.ReferenceMergeBwdIdeal.nD Cert.ReferenceMergeBwdIdeal.τ).loc Cert.ReferenceMergeBwdIdeal.main_arg2) = m ((c.tc : Thread Cert.KernelMergeBwdIdeal.nD Cert.KernelMergeBwdIdeal.τ).loc Cert.KernelMergeBwdIdeal.main_arg2)
      ∧ m' ((c.tc : Thread Cert.ReferenceMergeBwdIdeal.nD Cert.ReferenceMergeBwdIdeal.τ).loc Cert.ReferenceMergeBwdIdeal.main_arg3) = m ((c.tc : Thread Cert.KernelMergeBwdIdeal.nD Cert.KernelMergeBwdIdeal.τ).loc Cert.KernelMergeBwdIdeal.main_arg3)) →
    ∃ (v0 : (c : Dev Cert.KernelMergeBwdIdeal.nD) → Buf (Elt Ideal) ((c.tc : Thread Cert.KernelMergeBwdIdeal.nD Cert.KernelMergeBwdIdeal.τ).loc Cert.KernelMergeBwdIdeal.main_v0_0)) (v1 : (c : Dev Cert.KernelMergeBwdIdeal.nD) → Buf (Elt Ideal) ((c.tc : Thread Cert.KernelMergeBwdIdeal.nD Cert.KernelMergeBwdIdeal.τ).loc Cert.KernelMergeBwdIdeal.main_v0_1)) (v2 : (c : Dev Cert.KernelMergeBwdIdeal.nD) → Buf (Elt Ideal) ((c.tc : Thread Cert.KernelMergeBwdIdeal.nD Cert.KernelMergeBwdIdeal.τ).loc Cert.KernelMergeBwdIdeal.main_v0_2)),
      θ_run (Cert.KernelMergeBwdIdeal.defs (F := Ideal)) (onTc (τ := Cert.KernelMergeBwdIdeal.τ) (Cert.KernelMergeBwdIdeal.main (F := Ideal))) ⟨m, fun _ => 0, g⟩ (fun r => ∀ c : Dev Cert.KernelMergeBwdIdeal.nD,
          r.2.mem ((c.tc : Thread Cert.KernelMergeBwdIdeal.nD Cert.KernelMergeBwdIdeal.τ).loc Cert.KernelMergeBwdIdeal.main_v0_0) = v0 c
          ∧ r.2.mem ((c.tc : Thread Cert.KernelMergeBwdIdeal.nD Cert.KernelMergeBwdIdeal.τ).loc Cert.KernelMergeBwdIdeal.main_v0_1) = v1 c
          ∧ r.2.mem ((c.tc : Thread Cert.KernelMergeBwdIdeal.nD Cert.KernelMergeBwdIdeal.τ).loc Cert.KernelMergeBwdIdeal.main_v0_2) = v2 c
          ∧ r.2.mem ((c.tc : Thread Cert.KernelMergeBwdIdeal.nD Cert.KernelMergeBwdIdeal.τ).loc Cert.KernelMergeBwdIdeal.main_arg0) = m ((c.tc : Thread Cert.KernelMergeBwdIdeal.nD Cert.KernelMergeBwdIdeal.τ).loc Cert.KernelMergeBwdIdeal.main_arg0)
          ∧ r.2.mem ((c.tc : Thread Cert.KernelMergeBwdIdeal.nD Cert.KernelMergeBwdIdeal.τ).loc Cert.KernelMergeBwdIdeal.main_arg1) = m ((c.tc : Thread Cert.KernelMergeBwdIdeal.nD Cert.KernelMergeBwdIdeal.τ).loc Cert.KernelMergeBwdIdeal.main_arg1)
          ∧ r.2.mem ((c.tc : Thread Cert.KernelMergeBwdIdeal.nD Cert.KernelMergeBwdIdeal.τ).loc Cert.KernelMergeBwdIdeal.main_arg2) = m ((c.tc : Thread Cert.KernelMergeBwdIdeal.nD Cert.KernelMergeBwdIdeal.τ).loc Cert.KernelMergeBwdIdeal.main_arg2)
          ∧ r.2.mem ((c.tc : Thread Cert.KernelMergeBwdIdeal.nD Cert.KernelMergeBwdIdeal.τ).loc Cert.KernelMergeBwdIdeal.main_arg3) = m ((c.tc : Thread Cert.KernelMergeBwdIdeal.nD Cert.KernelMergeBwdIdeal.τ).loc Cert.KernelMergeBwdIdeal.main_arg3))
      ∧ θ_run (Cert.ReferenceMergeBwdIdeal.defs (F := Ideal)) (onTc (τ := Cert.ReferenceMergeBwdIdeal.τ) (Cert.ReferenceMergeBwdIdeal.main (F := Ideal))) ⟨m', fun _ => 0, g'⟩ (fun r => ∀ c : Dev Cert.ReferenceMergeBwdIdeal.nD,
          r.2.mem ((c.tc : Thread Cert.ReferenceMergeBwdIdeal.nD Cert.ReferenceMergeBwdIdeal.τ).loc Cert.ReferenceMergeBwdIdeal.main_v35) = v0 c
          ∧ r.2.mem ((c.tc : Thread Cert.ReferenceMergeBwdIdeal.nD Cert.ReferenceMergeBwdIdeal.τ).loc Cert.ReferenceMergeBwdIdeal.main_v36) = v1 c
          ∧ r.2.mem ((c.tc : Thread Cert.ReferenceMergeBwdIdeal.nD Cert.ReferenceMergeBwdIdeal.τ).loc Cert.ReferenceMergeBwdIdeal.main_v37) = v2 c
          ∧ r.2.mem ((c.tc : Thread Cert.ReferenceMergeBwdIdeal.nD Cert.ReferenceMergeBwdIdeal.τ).loc Cert.ReferenceMergeBwdIdeal.main_arg0) = m' ((c.tc : Thread Cert.ReferenceMergeBwdIdeal.nD Cert.ReferenceMergeBwdIdeal.τ).loc Cert.ReferenceMergeBwdIdeal.main_arg0)
          ∧ r.2.mem ((c.tc : Thread Cert.ReferenceMergeBwdIdeal.nD Cert.ReferenceMergeBwdIdeal.τ).loc Cert.ReferenceMergeBwdIdeal.main_arg1) = m' ((c.tc : Thread Cert.ReferenceMergeBwdIdeal.nD Cert.ReferenceMergeBwdIdeal.τ).loc Cert.ReferenceMergeBwdIdeal.main_arg1)
          ∧ r.2.mem ((c.tc : Thread Cert.ReferenceMergeBwdIdeal.nD Cert.ReferenceMergeBwdIdeal.τ).loc Cert.ReferenceMergeBwdIdeal.main_arg2) = m' ((c.tc : Thread Cert.ReferenceMergeBwdIdeal.nD Cert.ReferenceMergeBwdIdeal.τ).loc Cert.ReferenceMergeBwdIdeal.main_arg2)
          ∧ r.2.mem ((c.tc : Thread Cert.ReferenceMergeBwdIdeal.nD Cert.ReferenceMergeBwdIdeal.τ).loc Cert.ReferenceMergeBwdIdeal.main_arg3) = m' ((c.tc : Thread Cert.ReferenceMergeBwdIdeal.nD Cert.ReferenceMergeBwdIdeal.τ).loc Cert.ReferenceMergeBwdIdeal.main_arg3))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)) →
    ∃ (v0 : (c : Dev Cert.KernelMergeIdeal.nD) → Buf (Elt Ideal) ((c.tc : Thread Cert.KernelMergeIdeal.nD Cert.KernelMergeIdeal.τ).loc Cert.KernelMergeIdeal.main_v0)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v21) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2))

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)
      ∧ m' ((c.tc : Thread Cert.ReferencePreIdeal.nD Cert.ReferencePreIdeal.τ).loc Cert.ReferencePreIdeal.main_arg2) = m ((c.tc : Thread Cert.KernelPreIdeal.nD Cert.KernelPreIdeal.τ).loc Cert.KernelPreIdeal.main_arg2)) →
    ∃ (v0 : (c : Dev Cert.KernelPreIdeal.nD) → Buf (Elt Ideal) ((c.tc : Thread Cert.KernelPreIdeal.nD Cert.KernelPreIdeal.τ).loc Cert.KernelPreIdeal.main_v0)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v0) = v0 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
          ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v43) = v0 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)) →
    ∃ (v0 : (c : Dev Cert.KernelPostIdeal.nD) → Buf (Elt Ideal) ((c.tc : Thread Cert.KernelPostIdeal.nD Cert.KernelPostIdeal.τ).loc Cert.KernelPostIdeal.main_v0)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v0) = v0 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v37) = v0 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v23) = v0 c
          ∧ r.2.mem ((c.tc : Thread Cert.ReferenceAdamInIdeal.nD Cert.ReferenceAdamInIdeal.τ).loc Cert.ReferenceAdamInIdeal.main_v4) = v1 c
          ∧ r.2.mem ((c.tc : Thread Cert.ReferenceAdamInIdeal.nD Cert.ReferenceAdamInIdeal.τ).loc Cert.ReferenceAdamInIdeal.main_v10) = v2 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamMod_KernelAdamModIdeal : Prop :=
  True

def algebraic_KernelAdamModIdeal_ReferenceAdamModIdeal [hKernelAdamModIdeal : Cert.KernelAdamModIdeal.Facts] [hReferenceAdamModIdeal : Cert.ReferenceAdamModIdeal.Facts] : Prop :=
  ∀ (m : (ℓ : Loc Cert.KernelAdamModIdeal.nD Cert.KernelAdamModIdeal.τ Cert.KernelAdamModIdeal.sig) → Buf (Elt Ideal) ℓ) (g : Dev Cert.KernelAdamModIdeal.nD → PrngReg)
    (m' : (ℓ : Loc Cert.ReferenceAdamModIdeal.nD Cert.ReferenceAdamModIdeal.τ Cert.ReferenceAdamModIdeal.sig) → Buf (Elt Ideal) ℓ) (g' : Dev Cert.ReferenceAdamModIdeal.nD → PrngReg), Pre_KernelAdamModIdeal m →
    (∀ c : Dev Cert.KernelAdamModIdeal.nD,
      m' ((c.tc : Thread Cert.ReferenceAdamModIdeal.nD Cert.ReferenceAdamModIdeal.τ).loc Cert.ReferenceAdamModIdeal.main_arg0) = m ((c.tc : Thread Cert.KernelAdamModIdeal.nD Cert.KernelAdamModIdeal.τ).loc Cert.KernelAdamModIdeal.main_arg0)
      ∧ m' ((c.tc : Thread Cert.ReferenceAdamModIdeal.nD Cert.ReferenceAdamModIdeal.τ).loc Cert.ReferenceAdamModIdeal.main_arg1) = m ((c.tc : Thread Cert.KernelAdamModIdeal.nD Cert.KernelAdamModIdeal.τ).loc Cert.KernelAdamModIdeal.main_arg1)
      ∧ m' ((c.tc : Thread Cert.ReferenceAdamModIdeal.nD Cert.ReferenceAdamModIdeal.τ).loc Cert.ReferenceAdamModIdeal.main_arg2) = m ((c.tc : Thread Cert.KernelAdamModIdeal.nD Cert.KernelAdamModIdeal.τ).loc Cert.KernelAdamModIdeal.main_arg2)
      ∧ m' ((c.tc : Thread Cert.ReferenceAdamModIdeal.nD Cert.ReferenceAdamModIdeal.τ).loc Cert.ReferenceAdamModIdeal.main_arg3) = m ((c.tc : Thread Cert.KernelAdamModIdeal.nD Cert.KernelAdamModIdeal.τ).loc Cert.KernelAdamModIdeal.main_arg3)) →
    ∃ (v0 : (c : Dev Cert.KernelAdamModIdeal.nD) → Buf (Elt Ideal) ((c.tc : Thread Cert.KernelAdamModIdeal.nD Cert.KernelAdamModIdeal.τ).loc Cert.KernelAdamModIdeal.main_v0_0)) (v1 : (c : Dev Cert.KernelAdamModIdeal.nD) → Buf (Elt Ideal) ((c.tc : Thread Cert.KernelAdamModIdeal.nD Cert.KernelAdamModIdeal.τ).loc Cert.KernelAdamModIdeal.main_v0_1)) (v2 : (c : Dev Cert.KernelAdamModIdeal.nD) → Buf (Elt Ideal) ((c.tc : Thread Cert.KernelAdamModIdeal.nD Cert.KernelAdamModIdeal.τ).loc Cert.KernelAdamModIdeal.main_v0_2)),
      θ_run (Cert.KernelAdamModIdeal.defs (F := Ideal)) (onTc (τ := Cert.KernelAdamModIdeal.τ) (Cert.KernelAdamModIdeal.main (F := Ideal))) ⟨m, fun _ => 0, g⟩ (fun r => ∀ c : Dev Cert.KernelAdamModIdeal.nD,
          r.2.mem ((c.tc : Thread Cert.KernelAdamModIdeal.nD Cert.KernelAdamModIdeal.τ).loc Cert.KernelAdamModIdeal.main_v0_0) = v0 c
          ∧ r.2.mem ((c.tc : Thread Cert.KernelAdamModIdeal.nD Cert.KernelAdamModIdeal.τ).loc Cert.KernelAdamModIdeal.main_v0_1) = v1 c
          ∧ r.2.mem ((c.tc : Thread Cert.KernelAdamModIdeal.nD Cert.KernelAdamModIdeal.τ).loc Cert.KernelAdamModIdeal.main_v0_2) = v2 c
          ∧ r.2.mem ((c.tc : Thread Cert.KernelAdamModIdeal.nD Cert.KernelAdamModIdeal.τ).loc Cert.KernelAdamModIdeal.main_arg0) = m ((c.tc : Thread Cert.KernelAdamModIdeal.nD Cert.KernelAdamModIdeal.τ).loc Cert.KernelAdamModIdeal.main_arg0)
          ∧ r.2.mem ((c.tc : Thread Cert.KernelAdamModIdeal.nD Cert.KernelAdamModIdeal.τ).loc Cert.KernelAdamModIdeal.main_arg1) = m ((c.tc : Thread Cert.KernelAdamModIdeal.nD Cert.KernelAdamModIdeal.τ).loc Cert.KernelAdamModIdeal.main_arg1)
          ∧ r.2.mem ((c.tc : Thread Cert.KernelAdamModIdeal.nD Cert.KernelAdamModIdeal.τ).loc Cert.KernelAdamModIdeal.main_arg2) = m ((c.tc : Thread Cert.KernelAdamModIdeal.nD Cert.KernelAdamModIdeal.τ).loc Cert.KernelAdamModIdeal.main_arg2)
          ∧ r.2.mem ((c.tc : Thread Cert.KernelAdamModIdeal.nD Cert.KernelAdamModIdeal.τ).loc Cert.KernelAdamModIdeal.main_arg3) = m ((c.tc : Thread Cert.KernelAdamModIdeal.nD Cert.KernelAdamModIdeal.τ).loc Cert.KernelAdamModIdeal.main_arg3))
      ∧ θ_run (Cert.ReferenceAdamModIdeal.defs (F := Ideal)) (onTc (τ := Cert.ReferenceAdamModIdeal.τ) (Cert.ReferenceAdamModIdeal.main (F := Ideal))) ⟨m', fun _ => 0, g'⟩ (fun r => ∀ c : Dev Cert.ReferenceAdamModIdeal.nD,
          r.2.mem ((c.tc : Thread Cert.ReferenceAdamModIdeal.nD Cert.ReferenceAdamModIdeal.τ).loc Cert.ReferenceAdamModIdeal.main_v23) = v0 c
          ∧ r.2.mem ((c.tc : Thread Cert.ReferenceAdamModIdeal.nD Cert.ReferenceAdamModIdeal.τ).loc Cert.ReferenceAdamModIdeal.main_v4) = v1 c
          ∧ r.2.mem ((c.tc : Thread Cert.ReferenceAdamModIdeal.nD Cert.ReferenceAdamModIdeal.τ).loc Cert.ReferenceAdamModIdeal.main_v10) = v2 c
          ∧ r.2.mem ((c.tc : Thread Cert.ReferenceAdamModIdeal.nD Cert.ReferenceAdamModIdeal.τ).loc Cert.ReferenceAdamModIdeal.main_arg0) = m' ((c.tc : Thread Cert.ReferenceAdamModIdeal.nD Cert.ReferenceAdamModIdeal.τ).loc Cert.ReferenceAdamModIdeal.main_arg0)
          ∧ r.2.mem ((c.tc : Thread Cert.ReferenceAdamModIdeal.nD Cert.ReferenceAdamModIdeal.τ).loc Cert.ReferenceAdamModIdeal.main_arg1) = m' ((c.tc : Thread Cert.ReferenceAdamModIdeal.nD Cert.ReferenceAdamModIdeal.τ).loc Cert.ReferenceAdamModIdeal.main_arg1)
          ∧ r.2.mem ((c.tc : Thread Cert.ReferenceAdamModIdeal.nD Cert.ReferenceAdamModIdeal.τ).loc Cert.ReferenceAdamModIdeal.main_arg2) = m' ((c.tc : Thread Cert.ReferenceAdamModIdeal.nD Cert.ReferenceAdamModIdeal.τ).loc Cert.ReferenceAdamModIdeal.main_arg2)
          ∧ r.2.mem ((c.tc : Thread Cert.ReferenceAdamModIdeal.nD Cert.ReferenceAdamModIdeal.τ).loc Cert.ReferenceAdamModIdeal.main_arg3) = m' ((c.tc : Thread Cert.ReferenceAdamModIdeal.nD Cert.ReferenceAdamModIdeal.τ).loc Cert.ReferenceAdamModIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v23) = v0 c
          ∧ r.2.mem ((c.tc : Thread Cert.ReferenceAdamOutIdeal.nD Cert.ReferenceAdamOutIdeal.τ).loc Cert.ReferenceAdamOutIdeal.main_v4) = v1 c
          ∧ r.2.mem ((c.tc : Thread Cert.ReferenceAdamOutIdeal.nD Cert.ReferenceAdamOutIdeal.τ).loc Cert.ReferenceAdamOutIdeal.main_v10) = v2 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def Claim : Prop :=
  ∃ (hKernel : Cert.Kernel.Facts) (hKernelIdeal : Cert.KernelIdeal.Facts) (hReferenceIdeal : Cert.ReferenceIdeal.Facts) (hKernelFwd : Cert.KernelFwd.Facts) (hKernelFwdIdeal : Cert.KernelFwdIdeal.Facts) (hReferenceFwdIdeal : Cert.ReferenceFwdIdeal.Facts) (hKernelInDx : Cert.KernelInDx.Facts) (hKernelInDxIdeal : Cert.KernelInDxIdeal.Facts) (hReferenceInDxIdeal : Cert.ReferenceInDxIdeal.Facts) (hKernelInDw : Cert.KernelInDw.Facts) (hKernelInDwIdeal : Cert.KernelInDwIdeal.Facts) (hReferenceInDwIdeal : Cert.ReferenceInDwIdeal.Facts) (hKernelOutDx : Cert.KernelOutDx.Facts) (hKernelOutDxIdeal : Cert.KernelOutDxIdeal.Facts) (hReferenceOutDxIdeal : Cert.ReferenceOutDxIdeal.Facts) (hKernelOutDw : Cert.KernelOutDw.Facts) (hKernelOutDwIdeal : Cert.KernelOutDwIdeal.Facts) (hReferenceOutDwIdeal : Cert.ReferenceOutDwIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelMergeBwd : Cert.KernelMergeBwd.Facts) (hKernelMergeBwdIdeal : Cert.KernelMergeBwdIdeal.Facts) (hReferenceMergeBwdIdeal : Cert.ReferenceMergeBwdIdeal.Facts) (hKernelMerge : Cert.KernelMerge.Facts) (hKernelMergeIdeal : Cert.KernelMergeIdeal.Facts) (hReferenceMergeIdeal : Cert.ReferenceMergeIdeal.Facts) (hKernelPre : Cert.KernelPre.Facts) (hKernelPreIdeal : Cert.KernelPreIdeal.Facts) (hReferencePreIdeal : Cert.ReferencePreIdeal.Facts) (hKernelPost : Cert.KernelPost.Facts) (hKernelPostIdeal : Cert.KernelPostIdeal.Facts) (hReferencePostIdeal : Cert.ReferencePostIdeal.Facts) (hKernelAdamIn : Cert.KernelAdamIn.Facts) (hKernelAdamInIdeal : Cert.KernelAdamInIdeal.Facts) (hReferenceAdamInIdeal : Cert.ReferenceAdamInIdeal.Facts) (hKernelAdamMod : Cert.KernelAdamMod.Facts) (hKernelAdamModIdeal : Cert.KernelAdamModIdeal.Facts) (hReferenceAdamModIdeal : Cert.ReferenceAdamModIdeal.Facts) (hKernelAdamOut : Cert.KernelAdamOut.Facts) (hKernelAdamOutIdeal : Cert.KernelAdamOutIdeal.Facts) (hReferenceAdamOutIdeal : Cert.ReferenceAdamOutIdeal.Facts) (hKernelAdamSmall : Cert.KernelAdamSmall.Facts) (hKernelAdamSmallIdeal : Cert.KernelAdamSmallIdeal.Facts) (hReferenceAdamSmallIdeal : Cert.ReferenceAdamSmallIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelOutDx (hKernelOutDx := hKernelOutDx)
    ∧ quiescent_KernelOutDxIdeal (hKernelOutDxIdeal := hKernelOutDxIdeal)
    ∧ quiescent_ReferenceOutDxIdeal (hReferenceOutDxIdeal := hReferenceOutDxIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMergeBwd (hKernelMergeBwd := hKernelMergeBwd)
    ∧ quiescent_KernelMergeBwdIdeal (hKernelMergeBwdIdeal := hKernelMergeBwdIdeal)
    ∧ quiescent_ReferenceMergeBwdIdeal (hReferenceMergeBwdIdeal := hReferenceMergeBwdIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamMod (hKernelAdamMod := hKernelAdamMod)
    ∧ quiescent_KernelAdamModIdeal (hKernelAdamModIdeal := hKernelAdamModIdeal)
    ∧ quiescent_ReferenceAdamModIdeal (hReferenceAdamModIdeal := hReferenceAdamModIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelOutDx_KernelOutDxIdeal
    ∧ algebraic_KernelOutDxIdeal_ReferenceOutDxIdeal (hKernelOutDxIdeal := hKernelOutDxIdeal) (hReferenceOutDxIdeal := hReferenceOutDxIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelMergeBwd_KernelMergeBwdIdeal
    ∧ algebraic_KernelMergeBwdIdeal_ReferenceMergeBwdIdeal (hKernelMergeBwdIdeal := hKernelMergeBwdIdeal) (hReferenceMergeBwdIdeal := hReferenceMergeBwdIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelPre_KernelPreIdeal
    ∧ algebraic_KernelPreIdeal_ReferencePreIdeal (hKernelPreIdeal := hKernelPreIdeal) (hReferencePreIdeal := hReferencePreIdeal)
    ∧ preserves_KernelPost_KernelPostIdeal
    ∧ algebraic_KernelPostIdeal_ReferencePostIdeal (hKernelPostIdeal := hKernelPostIdeal) (hReferencePostIdeal := hReferencePostIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamMod_KernelAdamModIdeal
    ∧ algebraic_KernelAdamModIdeal_ReferenceAdamModIdeal (hKernelAdamModIdeal := hKernelAdamModIdeal) (hReferenceAdamModIdeal := hReferenceAdamModIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
-- ==== Pre_finite.lean ====
abbrev S8448x16x64 : Shape := ⟨3, ![8448, 16, 64]⟩
abbrev S8448x4x64 : Shape := ⟨3, ![8448, 4, 64]⟩
abbrev S_ : Shape := ⟨0, ![]⟩

class Facts : Prop where
  bcast_S_S8448x16x64 : S_.BroadcastsInDim S8448x16x64 (![] : Fin 0 → Fin S8448x16x64.rank)
  bcast_S_S8448x4x64 : S_.BroadcastsInDim S8448x4x64 (![] : Fin 0 → Fin S8448x4x64.rank)

variable [Facts]

def fn {F : FTy → Type} [FloatOps F] (main_arg0 : FVec F S8448x16x64 .f32) (main_arg1 : FVec F S8448x4x64 .f32) (main_arg2 : FVec F S8448x4x64 .f32) (main_arg3 : FVec F S8448x16x64 .f32) : IVec S8448x16x64 1 × IVec S8448x4x64 1 × IVec S8448x4x64 1 × IVec S8448x16x64 1 :=
  let main_v0 : FVec F S8448x16x64 .f32 := Host.absf main_arg0
  let main_cst : FVec F S_ .f32 := constant S_ .f32 0x7F800000#32
  let main_v1 : FVec F S8448x16x64 .f32 := broadcastInDim S8448x16x64 ![] bcast_S_S8448x16x64 main_cst
  let main_v2 : IVec S8448x16x64 1 := cmpf .olt main_v0 main_v1
  let main_v3 : FVec F S8448x4x64 .f32 := Host.absf main_arg1
  let main_cst_0 : FVec F S_ .f32 := constant S_ .f32 0x7F800000#32
  let main_v4 : FVec F S8448x4x64 .f32 := broadcastInDim S8448x4x64 ![] bcast_S_S8448x4x64 main_cst_0
  let main_v5 : IVec S8448x4x64 1 := cmpf .olt main_v3 main_v4
  let main_v6 : FVec F S8448x4x64 .f32 := Host.absf main_arg2
  let main_cst_1 : FVec F S_ .f32 := constant S_ .f32 0x7F800000#32
  let main_v7 : FVec F S8448x4x64 .f32 := broadcastInDim S8448x4x64 ![] bcast_S_S8448x4x64 main_cst_1
  let main_v8 : IVec S8448x4x64 1 := cmpf .olt main_v6 main_v7
  let main_v9 : FVec F S8448x16x64 .f32 := Host.absf main_arg3
  let main_cst_2 : FVec F S_ .f32 := constant S_ .f32 0x7F800000#32
  let main_v10 : FVec F S8448x16x64 .f32 := broadcastInDim S8448x16x64 ![] bcast_S_S8448x16x64 main_cst_2
  let main_v11 : IVec S8448x16x64 1 := cmpf .olt main_v9 main_v10
  (main_v2, main_v5, main_v8, main_v11)
-- ==== Pre_finite_fwd.lean ====
abbrev S8448x16x64 : Shape := ⟨3, ![8448, 16, 64]⟩
abbrev S8448x4x64 : Shape := ⟨3, ![8448, 4, 64]⟩
abbrev S_ : Shape := ⟨0, ![]⟩

class Facts : Prop where
  bcast_S_S8448x16x64 : S_.BroadcastsInDim S8448x16x64 (![] : Fin 0 → Fin S8448x16x64.rank)
  bcast_S_S8448x4x64 : S_.BroadcastsInDim S8448x4x64 (![] : Fin 0 → Fin S8448x4x64.rank)

variable [Facts]

def fn {F : FTy → Type} [FloatOps F] (main_arg0 : FVec F S8448x16x64 .f32) (main_arg1 : FVec F S8448x4x64 .f32) (main_arg2 : FVec F S8448x4x64 .f32) : IVec S8448x16x64 1 × IVec S8448x4x64 1 × IVec S8448x4x64 1 :=
  let main_v0 : FVec F S8448x16x64 .f32 := Host.absf main_arg0
  let main_cst : FVec F S_ .f32 := constant S_ .f32 0x7F800000#32
  let main_v1 : FVec F S8448x16x64 .f32 := broadcastInDim S8448x16x64 ![] bcast_S_S8448x16x64 main_cst
  let main_v2 : IVec S8448x16x64 1 := cmpf .olt main_v0 main_v1
  let main_v3 : FVec F S8448x4x64 .f32 := Host.absf main_arg1
  let main_cst_0 : FVec F S_ .f32 := constant S_ .f32 0x7F800000#32
  let main_v4 : FVec F S8448x4x64 .f32 := broadcastInDim S8448x4x64 ![] bcast_S_S8448x4x64 main_cst_0
  let main_v5 : IVec S8448x4x64 1 := cmpf .olt main_v3 main_v4
  let main_v6 : FVec F S8448x4x64 .f32 := Host.absf main_arg2
  let main_cst_1 : FVec F S_ .f32 := constant S_ .f32 0x7F800000#32
  let main_v7 : FVec F S8448x4x64 .f32 := broadcastInDim S8448x4x64 ![] bcast_S_S8448x4x64 main_cst_1
  let main_v8 : IVec S8448x4x64 1 := cmpf .olt main_v6 main_v7
  (main_v2, main_v5, main_v8)
-- ==== Kernel.lean ====
abbrev S8448x16x64 : Shape := ⟨3, ![8448, 16, 64]⟩
abbrev S8448x4x64 : Shape := ⟨3, ![8448, 4, 64]⟩
abbrev S8448x4x4x64 : Shape := ⟨4, ![8448, 4, 4, 64]⟩
abbrev S8192x4x4x64 : Shape := ⟨4, ![8192, 4, 4, 64]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x64x4x8192 : Shape := ⟨4, ![4, 64, 4, 8192]⟩
abbrev S16x8192 : Shape := ⟨2, ![16, 8192]⟩
abbrev S256x4x4x64 : Shape := ⟨4, ![256, 4, 4, 64]⟩
abbrev S256x4x64 : Shape := ⟨3, ![256, 4, 64]⟩
abbrev S4x256x256x4 : Shape := ⟨4, ![4, 256, 256, 4]⟩
abbrev S4x4x256x256 : Shape := ⟨4, ![4, 4, 256, 256]⟩
abbrev S4x4x256 : Shape := ⟨3, ![4, 4, 256]⟩
abbrev S4x4x256x1 : Shape := ⟨4, ![4, 4, 256, 1]⟩
abbrev S4x64x4x256 : Shape := ⟨4, ![4, 64, 4, 256]⟩
abbrev S16x256 : Shape := ⟨2, ![16, 256]⟩
abbrev S16x8448 : Shape := ⟨2, ![16, 8448]⟩
abbrev S8448x16 : Shape := ⟨2, ![8448, 16]⟩
abbrev S16x8448x64 : Shape := ⟨3, ![16, 8448, 64]⟩
abbrev S8448x1024 : Shape := ⟨2, ![8448, 1024]⟩
abbrev S1024x8448 : Shape := ⟨2, ![1024, 8448]⟩
abbrev S4x8448x64 : Shape := ⟨3, ![4, 8448, 64]⟩
abbrev S8448x256 : Shape := ⟨2, ![8448, 256]⟩
abbrev S256x8448 : Shape := ⟨2, ![256, 8448]⟩
abbrev S16x8448x1 : Shape := ⟨3, ![16, 8448, 1]⟩
abbrev S16x8448x128 : Shape := ⟨3, ![16, 8448, 128]⟩
abbrev S4x256x64 : Shape := ⟨3, ![4, 256, 64]⟩
abbrev S256x256 : Shape := ⟨2, ![256, 256]⟩
abbrev S1x8448x64 : Shape := ⟨3, ![1, 8448, 64]⟩
abbrev S64x8448 : Shape := ⟨2, ![64, 8448]⟩
abbrev S4x256x128 : Shape := ⟨3, ![4, 256, 128]⟩
abbrev S1024x64 : Shape := ⟨2, ![1024, 64]⟩
abbrev S64x256 : Shape := ⟨2, ![64, 256]⟩
abbrev S64x1024 : Shape := ⟨2, ![64, 1024]⟩
abbrev S1x256x64 : Shape := ⟨3, ![1, 256, 64]⟩
abbrev S256x64 : Shape := ⟨2, ![256, 64]⟩
abbrev S1024x256 : Shape := ⟨2, ![1024, 256]⟩
abbrev S1024x128 : Shape := ⟨2, ![1024, 128]⟩
abbrev S256x1024 : Shape := ⟨2, ![256, 1024]⟩

abbrev nBuf : Space → Nat
  | .hbm => 91
  | .vmem => 24
  | .smem => 0
  | _ => 0

abbrev bufTy : (tb : Table) → Fin (tcTables nBuf tb) → BufTy
  | .hbm, ⟨0, _⟩ => ⟨S8448x16x64, .f32⟩
  | .hbm, ⟨1, _⟩ => ⟨S8448x4x64, .f32⟩
  | .hbm, ⟨2, _⟩ => ⟨S8448x4x64, .f32⟩
  | .hbm, ⟨3, _⟩ => ⟨S8448x16x64, .f32⟩
  | .hbm, ⟨4, _⟩ => ⟨S8448x4x4x64, .f32⟩
  | .hbm, ⟨5, _⟩ => ⟨S8192x4x4x64, .f32⟩
  | .hbm, ⟨6, _⟩ => ⟨S4x8448x8192x4, .f32⟩
  | .hbm, ⟨7, _⟩ => ⟨S4x4x8192x8448, .f32⟩
  | .hbm, ⟨8, _⟩ => ⟨S_, .f32⟩
  | .hbm, ⟨9, _⟩ => ⟨S4x4x8192x8448, .f32⟩
  | .hbm, ⟨10, _⟩ => ⟨S4x4x8192x8448, .f32⟩
  | .hbm, ⟨11, _⟩ => ⟨S_, .f32⟩
  | .hbm, ⟨12, _⟩ => ⟨S4x4x8192, .f32⟩
  | .hbm, ⟨13, _⟩ => ⟨S4x4x8192x1, .f32⟩
  | .hbm, ⟨14, _⟩ => ⟨S4x4x8192x8448, .f32⟩
  | .hbm, ⟨15, _⟩ => ⟨S4x4x8192x8448, .f32⟩
  | .hbm, ⟨16, _⟩ => ⟨S4x4x8192x8448, .f32⟩
  | .hbm, ⟨17, _⟩ => ⟨S_, .f32⟩
  | .hbm, ⟨18, _⟩ => ⟨S4x4x8192, .f32⟩
  | .hbm, ⟨19, _⟩ => ⟨S4x4x8192x1, .f32⟩
  | .hbm, ⟨20, _⟩ => ⟨S4x4x8192x8448, .f32⟩
  | .hbm, ⟨21, _⟩ => ⟨S4x4x8192x8448, .f32⟩
  | .hbm, ⟨22, _⟩ => ⟨S4x64x4x8192, .f32⟩
  | .hbm, ⟨23, _⟩ => ⟨S8192x4x4x64, .f32⟩
  | .hbm, ⟨24, _⟩ => ⟨S4x4x8192x1, .f32⟩
  | .hbm, ⟨25, _⟩ => ⟨S4x4x8192x1, .f32⟩
  | .hbm, ⟨26, _⟩ => ⟨S16x8192, .f32⟩
  | .hbm, ⟨27, _⟩ => ⟨S256x4x4x64, .f32⟩
  | .hbm, ⟨28, _⟩ => ⟨S256x4x64, .f32⟩
  | .hbm, ⟨29, _⟩ => ⟨S256x4x64, .f32⟩
  | .hbm, ⟨30, _⟩ => ⟨S4x256x256x4, .f32⟩
  | .hbm, ⟨31, _⟩ => ⟨S4x4x256x256, .f32⟩
  | .hbm, ⟨32, _⟩ => ⟨S_, .f32⟩
  | .hbm, ⟨33, _⟩ => ⟨S4x4x256x256, .f32⟩
  | .hbm, ⟨34, _⟩ => ⟨S4x4x256x256, .f32⟩
  | .hbm, ⟨35, _⟩ => ⟨S_, .f32⟩
  | .hbm, ⟨36, _⟩ => ⟨S4x4x256, .f32⟩
  | .hbm, ⟨37, _⟩ => ⟨S4x4x256x1, .f32⟩
  | .hbm, ⟨38, _⟩ => ⟨S4x4x256x256, .f32⟩
  | .hbm, ⟨39, _⟩ => ⟨S4x4x256x256, .f32⟩
  | .hbm, ⟨40, _⟩ => ⟨S4x4x256x256, .f32⟩
  | .hbm, ⟨41, _⟩ => ⟨S_, .f32⟩
  | .hbm, ⟨42, _⟩ => ⟨S4x4x256, .f32⟩
  | .hbm, ⟨43, _⟩ => ⟨S4x4x256x1, .f32⟩
  | .hbm, ⟨44, _⟩ => ⟨S4x4x256x256, .f32⟩
  | .hbm, ⟨45, _⟩ => ⟨S4x4x256x256, .f32⟩
  | .hbm, ⟨46, _⟩ => ⟨S4x64x4x256, .f32⟩
  | .hbm, ⟨47, _⟩ => ⟨S256x4x4x64, .f32⟩
  | .hbm, ⟨48, _⟩ => ⟨S4x4x256x1, .f32⟩
  | .hbm, ⟨49, _⟩ => ⟨S4x4x256x1, .f32⟩
  | .hbm, ⟨50, _⟩ => ⟨S16x256, .f32⟩
  | .hbm, ⟨51, _⟩ => ⟨S8448x4x4x64, .f32⟩
  | .hbm, ⟨52, _⟩ => ⟨S8448x16x64, .f32⟩
  | .hbm, ⟨53, _⟩ => ⟨S_, .f32⟩
  | .hbm, ⟨54, _⟩ => ⟨S_, .f32⟩
  | .hbm, ⟨55, _⟩ => ⟨S16x8448, .f32⟩
  | .hbm, ⟨56, _⟩ => ⟨S16x8448, .f32⟩
  | .hbm, ⟨57, _⟩ => ⟨S16x8448, .f32⟩
  | .hbm, ⟨58, _⟩ => ⟨S8448x16x64, .f32⟩
  | .hbm, ⟨59, _⟩ => ⟨S_, .f32⟩
  | .hbm, ⟨60, _⟩ => ⟨S8448x16, .f32⟩
  | .hbm, ⟨61, _⟩ => ⟨S16x8448, .f32⟩
  | .hbm, ⟨62, _⟩ => ⟨S_, .f32⟩
  | .hbm, ⟨63, _⟩ => ⟨S8448x16x64, .f32⟩
  | .hbm, ⟨64, _⟩ => ⟨S8448x16x64, .f32⟩
  | .hbm, ⟨65, _⟩ => ⟨S8448x16x64, .f32⟩
  | .hbm, ⟨66, _⟩ => ⟨S8448x16x64, .f32⟩
  | .hbm, ⟨67, _⟩ => ⟨S16x8448x64, .f32⟩
  | .hbm, ⟨68, _⟩ => ⟨S16x8448x64, .bf16⟩
  | .hbm, ⟨69, _⟩ => ⟨S8448x1024, .f32⟩
  | .hbm, ⟨70, _⟩ => ⟨S1024x8448, .f32⟩
  | .hbm, ⟨71, _⟩ => ⟨S1024x8448, .bf16⟩
  | .hbm, ⟨72, _⟩ => ⟨S4x8448x64, .f32⟩
  | .hbm, ⟨73, _⟩ => ⟨S4x8448x64, .bf16⟩
  | .hbm, ⟨74, _⟩ => ⟨S8448x256, .f32⟩
  | .hbm, ⟨75, _⟩ => ⟨S256x8448, .f32⟩
  | .hbm, ⟨76, _⟩ => ⟨S256x8448, .bf16⟩
  | .hbm, ⟨77, _⟩ => ⟨S4x8448x64, .f32⟩
  | .hbm, ⟨78, _⟩ => ⟨S4x8448x64, .bf16⟩
  | .hbm, ⟨79, _⟩ => ⟨S16x8448x64, .f32⟩
  | .hbm, ⟨80, _⟩ => ⟨S16x8448x64, .bf16⟩
  | .hbm, ⟨81, _⟩ => ⟨S8448x1024, .f32⟩
  | .hbm, ⟨82, _⟩ => ⟨S1024x8448, .f32⟩
  | .hbm, ⟨83, _⟩ => ⟨S1024x8448, .bf16⟩
  | .hbm, ⟨84, _⟩ => ⟨S16x8448x1, .f32⟩
  | .hbm, ⟨85, _⟩ => ⟨S16x8448x128, .f32⟩
  | .hbm, ⟨86, _⟩ => ⟨S16x8448x1, .f32⟩
  | .hbm, ⟨87, _⟩ => ⟨S16x8448x128, .f32⟩
  | .hbm, ⟨88, _⟩ => ⟨S8448x1024, .f32⟩
  | .hbm, ⟨89, _⟩ => ⟨S256x8448, .f32⟩
  | .hbm, ⟨90, _⟩ => ⟨S256x8448, .f32⟩
  | .local _ .vmem, ⟨0, _⟩ => ⟨S4x256x64, .bf16⟩
  | .local _ .vmem, ⟨1, _⟩ => ⟨S4x256x64, .bf16⟩
  | .local _ .vmem, ⟨2, _⟩ => ⟨S256x256, .bf16⟩
  | .local _ .vmem, ⟨3, _⟩ => ⟨S256x256, .bf16⟩
  | .local _ .vmem, ⟨4, _⟩ => ⟨S1x8448x64, .bf16⟩
  | .local _ .vmem, ⟨5, _⟩ => ⟨S1x8448x64, .bf16⟩
  | .local _ .vmem, ⟨6, _⟩ => ⟨S64x8448, .bf16⟩
  | .local _ .vmem, ⟨7, _⟩ => ⟨S64x8448, .bf16⟩
  | .local _ .vmem, ⟨8, _⟩ => ⟨S1x8448x64, .bf16⟩
  | .local _ .vmem, ⟨9, _⟩ => ⟨S1x8448x64, .bf16⟩
  | .local _ .vmem, ⟨10, _⟩ => ⟨S4x256x64, .bf16⟩
  | .local _ .vmem, ⟨11, _⟩ => ⟨S4x256x64, .bf16⟩
  | .local _ .vmem, ⟨12, _⟩ => ⟨S256x256, .bf16⟩
  | .local _ .vmem, ⟨13, _⟩ => ⟨S256x256, .bf16⟩
  | .local _ .vmem, ⟨14, _⟩ => ⟨S4x256x128, .f32⟩
  | .local _ .vmem, ⟨15, _⟩ => ⟨S4x256x128, .f32⟩
  | .local _ .vmem, ⟨16, _⟩ => ⟨S4x256x128, .f32⟩
  | .local _ .vmem, ⟨17, _⟩ => ⟨S4x256x128, .f32⟩
  | .local _ .vmem, ⟨18, _⟩ => ⟨S256x256, .f32⟩
  | .local _ .vmem, ⟨19, _⟩ => ⟨S256x256, .f32⟩
  | .local _ .vmem, ⟨20, _⟩ => ⟨S64x8448, .f32⟩
  | .local _ .vmem, ⟨21, _⟩ => ⟨S64x8448, .f32⟩
  | .local _ .vmem, ⟨22, _⟩ => ⟨S64x8448, .f32⟩
  | .local _ .vmem, ⟨23, _⟩ => ⟨S64x8448, .f32⟩
  | _, _ => ⟨S8448x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75_0 : Ref sig .tc := ⟨.hbm, 88, rfl⟩
abbrev main_v75_1 : Ref sig .tc := ⟨.hbm, 89, rfl⟩
abbrev main_v75_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 33], ![false, false]⟩

def k0_cond2 (i : grid0.Coords) : BitVec 1 :=
  let arg1 : BitVec 32 := BitVec.ofNat 32 (i 1).val
  let c32_i32 : BitVec 32 := 32#32
  let v3 : BitVec 1 := Scalar.cmpi .slt arg1 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c32_i32_2 : BitVec 32 := 32#32
  let v6 : BitVec 1 := Scalar.cmpi .sge arg1 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg1 : BitVec 32 := BitVec.ofNat 32 (i 1).val
  let c32_i32_4 : BitVec 32 := 32#32
  let v9 : BitVec 1 := Scalar.cmpi .eq arg1 c32_i32_4
  let v10 : BitVec 32 := Scalar.extui v9
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8448x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x8448 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8448x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x8448 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S64x8448 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8448x16x64 : Shape := ⟨3, ![8448, 16, 64]⟩
abbrev S8448x4x64 : Shape := ⟨3, ![8448, 4, 64]⟩
abbrev S8448x4x4x64 : Shape := ⟨4, ![8448, 4, 4, 64]⟩
abbrev S8192x4x4x64 : Shape := ⟨4, ![8192, 4, 4, 64]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x64x4x8192 : Shape := ⟨4, ![4, 64, 4, 8192]⟩
abbrev S256x4x4x64 : Shape := ⟨4, ![256, 4, 4, 64]⟩
abbrev S256x4x64 : Shape := ⟨3, ![256, 4, 64]⟩
abbrev S4x256x256x4 : Shape := ⟨4, ![4, 256, 256, 4]⟩
abbrev S4x4x256x256 : Shape := ⟨4, ![4, 4, 256, 256]⟩
abbrev S4x4x256 : Shape := ⟨3, ![4, 4, 256]⟩
abbrev S4x4x256x1 : Shape := ⟨4, ![4, 4, 256, 1]⟩
abbrev S4x64x4x256 : Shape := ⟨4, ![4, 64, 4, 256]⟩
abbrev S4x64x256 : Shape := ⟨3, ![4, 64, 256]⟩
abbrev S4x256x4x64 : Shape := ⟨4, ![4, 256, 4, 64]⟩
abbrev S4x256x64 : Shape := ⟨3, ![4, 256, 64]⟩
abbrev S4x64x8448 : Shape := ⟨3, ![4, 64, 8448]⟩
abbrev S4x8192x4x64 : Shape := ⟨4, ![4, 8192, 4, 64]⟩
abbrev S4x8448x64 : Shape := ⟨3, ![4, 8448, 64]⟩
abbrev S8448x1024 : Shape := ⟨2, ![8448, 1024]⟩
abbrev S8448x256 : Shape := ⟨2, ![8448, 256]⟩
abbrev S256x8448 : Shape := ⟨2, ![256, 8448]⟩

abbrev nBuf : Space → Nat
  | .hbm => 176
  | .vmem => 0
  | .smem => 0
  | _ => 0

abbrev hbmTy0_0 (i : Nat) : BufTy := match i % 128 with
  | 0 => ⟨S8448x16x64, .f32⟩
  | 1 => ⟨S8448x4x64, .f32⟩
  | 2 => ⟨S8448x4x64, .f32⟩
  | 3 => ⟨S8448x16x64, .f32⟩
  | 4 => ⟨S8448x4x4x64, .f32⟩
  | 5 => ⟨S8192x4x4x64, .f32⟩
  | 6 => ⟨S4x8448x8192x4, .f32⟩
  | 7 => ⟨S4x4x8192x8448, .f32⟩
  | 8 => ⟨S_, .f32⟩
  | 9 => ⟨S4x4x8192x8448, .f32⟩
  | 10 => ⟨S4x4x8192x8448, .f32⟩
  | 11 => ⟨S_, .f32⟩
  | 12 => ⟨S4x4x8192, .f32⟩
  | 13 => ⟨S4x4x8192x1, .f32⟩
  | 14 => ⟨S4x4x8192x8448, .f32⟩
  | 15 => ⟨S4x4x8192x8448, .i1⟩
  | 16 => ⟨S4x4x8192x8448, .f32⟩
  | 17 => ⟨S_, .f32⟩
  | 18 => ⟨S4x4x8192, .f32⟩
  | 19 => ⟨S_, .f32⟩
  | 20 => ⟨S4x4x8192, .f32⟩
  | 21 => ⟨S4x4x8192, .f32⟩
  | 22 => ⟨S_, .f32⟩
  | 23 => ⟨S4x4x8192, .f32⟩
  | 24 => ⟨S4x4x8192, .i1⟩
  | 25 => ⟨S_, .f32⟩
  | 26 => ⟨S4x4x8192, .f32⟩
  | 27 => ⟨S4x4x8192, .i1⟩
  | 28 => ⟨S_, .f32⟩
  | 29 => ⟨S4x4x8192, .f32⟩
  | 30 => ⟨S_, .f32⟩
  | 31 => ⟨S4x4x8192, .f32⟩
  | 32 => ⟨S_, .f32⟩
  | 33 => ⟨S4x4x8192, .f32⟩
  | 34 => ⟨S4x4x8192, .f32⟩
  | 35 => ⟨S4x4x8192, .f32⟩
  | 36 => ⟨S4x4x8192x1, .f32⟩
  | 37 => ⟨S4x4x8192x8448, .f32⟩
  | 38 => ⟨S4x4x8192x8448, .f32⟩
  | 39 => ⟨S4x4x8192x8448, .f32⟩
  | 40 => ⟨S_, .f32⟩
  | 41 => ⟨S4x4x8192, .f32⟩
  | 42 => ⟨S4x4x8192x1, .f32⟩
  | 43 => ⟨S4x4x8192x8448, .f32⟩
  | 44 => ⟨S4x4x8192x8448, .f32⟩
  | 45 => ⟨S4x4x8192x1, .f32⟩
  | 46 => ⟨S_, .f32⟩
  | 47 => ⟨S4x4x8192x1, .f32⟩
  | 48 => ⟨S4x4x8192x1, .f32⟩
  | 49 => ⟨S4x64x4x8192, .f32⟩
  | 50 => ⟨S8192x4x4x64, .f32⟩
  | 51 => ⟨S256x4x4x64, .f32⟩
  | 52 => ⟨S256x4x64, .f32⟩
  | 53 => ⟨S256x4x64, .f32⟩
  | 54 => ⟨S4x256x256x4, .f32⟩
  | 55 => ⟨S4x4x256x256, .f32⟩
  | 56 => ⟨S_, .f32⟩
  | 57 => ⟨S4x4x256x256, .f32⟩
  | 58 => ⟨S4x4x256x256, .f32⟩
  | 59 => ⟨S_, .f32⟩
  | 60 => ⟨S4x4x256, .f32⟩
  | 61 => ⟨S4x4x256x1, .f32⟩
  | 62 => ⟨S4x4x256x256, .f32⟩
  | 63 => ⟨S4x4x256x256, .i1⟩
  | 64 => ⟨S4x4x256x256, .f32⟩
  | 65 => ⟨S_, .f32⟩
  | 66 => ⟨S4x4x256, .f32⟩
  | 67 => ⟨S_, .f32⟩
  | 68 => ⟨S4x4x256, .f32⟩
  | 69 => ⟨S4x4x256, .f32⟩
  | 70 => ⟨S_, .f32⟩
  | 71 => ⟨S4x4x256, .f32⟩
  | 72 => ⟨S4x4x256, .i1⟩
  | 73 => ⟨S_, .f32⟩
  | 74 => ⟨S4x4x256, .f32⟩
  | 75 => ⟨S4x4x256, .i1⟩
  | 76 => ⟨S_, .f32⟩
  | 77 => ⟨S4x4x256, .f32⟩
  | 78 => ⟨S_, .f32⟩
  | 79 => ⟨S4x4x256, .f32⟩
  | 80 => ⟨S_, .f32⟩
  | 81 => ⟨S4x4x256, .f32⟩
  | 82 => ⟨S4x4x256, .f32⟩
  | 83 => ⟨S4x4x256, .f32⟩
  | 84 => ⟨S4x4x256x1, .f32⟩
  | 85 => ⟨S4x4x256x256, .f32⟩
  | 86 => ⟨S4x4x256x256, .f32⟩
  | 87 => ⟨S4x4x256x256, .f32⟩
  | 88 => ⟨S_, .f32⟩
  | 89 => ⟨S4x4x256, .f32⟩
  | 90 => ⟨S4x4x256x1, .f32⟩
  | 91 => ⟨S4x4x256x256, .f32⟩
  | 92 => ⟨S4x4x256x256, .f32⟩
  | 93 => ⟨S4x4x256x1, .f32⟩
  | 94 => ⟨S_, .f32⟩
  | 95 => ⟨S4x4x256x1, .f32⟩
  | 96 => ⟨S4x4x256x1, .f32⟩
  | 97 => ⟨S4x64x4x256, .f32⟩
  | 98 => ⟨S256x4x4x64, .f32⟩
  | 99 => ⟨S8448x4x4x64, .f32⟩
  | 100 => ⟨S8448x16x64, .f32⟩
  | 101 => ⟨S8448x4x4x64, .f32⟩
  | 102 => ⟨S8192x4x4x64, .f32⟩
  | 103 => ⟨S256x4x4x64, .f32⟩
  | 104 => ⟨S4x64x4x256, .f32⟩
  | 105 => ⟨S4x4x256x256, .f32⟩
  | 106 => ⟨S4x64x256, .f32⟩
  | 107 => ⟨S256x4x64, .f32⟩
  | 108 => ⟨S4x4x256x256, .f32⟩
  | 109 => ⟨S4x4x256x256, .f32⟩
  | 110 => ⟨S4x4x256x256, .f32⟩
  | 111 => ⟨S_, .f32⟩
  | 112 => ⟨S4x4x256, .f32⟩
  | 113 => ⟨S4x4x256x1, .f32⟩
  | 114 => ⟨S4x4x256x1, .f32⟩
  | 115 => ⟨S4x4x256x256, .f32⟩
  | 116 => ⟨S4x4x256x256, .f32⟩
  | 117 => ⟨S_, .f32⟩
  | 118 => ⟨S4x4x256, .f32⟩
  | 119 => ⟨S4x4x256x256, .f32⟩
  | 120 => ⟨S4x4x256x256, .f32⟩
  | 121 => ⟨S4x4x256x256, .f32⟩
  | 122 => ⟨S_, .f32⟩
  | 123 => ⟨S4x4x256x256, .f32⟩
  | 124 => ⟨S4x4x256x256, .f32⟩
  | 125 => ⟨S4x256x256x4, .f32⟩
  | 126 => ⟨S4x256x4x64, .f32⟩
  | 127 => ⟨S256x4x4x64, .f32⟩
  | _ => ⟨S8448x16x64, .f32⟩

abbrev hbmTy0_1 (i : Nat) : BufTy := match i % 128 with
  | 0 => ⟨S4x256x64, .f32⟩
  | 1 => ⟨S256x4x64, .f32⟩
  | 2 => ⟨S_, .f32⟩
  | 3 => ⟨S8448x4x64, .f32⟩
  | 4 => ⟨S_, .f32⟩
  | 5 => ⟨S8448x4x64, .f32⟩
  | 6 => ⟨S_, .f32⟩
  | 7 => ⟨S8448x4x4x64, .f32⟩
  | 8 => ⟨S4x64x4x8192, .f32⟩
  | 9 => ⟨S4x4x8192x8448, .f32⟩
  | 10 => ⟨S4x64x8448, .f32⟩
  | 11 => ⟨S8448x4x64, .f32⟩
  | 12 => ⟨S8448x4x64, .f32⟩
  | 13 => ⟨S4x4x8192x8448, .f32⟩
  | 14 => ⟨S4x4x8192x8448, .f32⟩
  | 15 => ⟨S4x4x8192x8448, .f32⟩
  | 16 => ⟨S_, .f32⟩
  | 17 => ⟨S4x4x8192, .f32⟩
  | 18 => ⟨S4x4x8192x1, .f32⟩
  | 19 => ⟨S4x4x8192x1, .f32⟩
  | 20 => ⟨S4x4x8192x8448, .f32⟩
  | 21 => ⟨S4x4x8192x8448, .f32⟩
  | 22 => ⟨S_, .f32⟩
  | 23 => ⟨S4x4x8192, .f32⟩
  | 24 => ⟨S4x4x8192x8448, .f32⟩
  | 25 => ⟨S4x4x8192x8448, .f32⟩
  | 26 => ⟨S4x4x8192x8448, .f32⟩
  | 27 => ⟨S_, .f32⟩
  | 28 => ⟨S4x4x8192x8448, .f32⟩
  | 29 => ⟨S4x4x8192x8448, .f32⟩
  | 30 => ⟨S4x8448x8192x4, .f32⟩
  | 31 => ⟨S4x8192x4x64, .f32⟩
  | 32 => ⟨S8192x4x4x64, .f32⟩
  | 33 => ⟨S4x8448x64, .f32⟩
  | 34 => ⟨S8448x4x64, .f32⟩
  | 35 => ⟨S8448x4x64, .f32⟩
  | 36 => ⟨S_, .f32⟩
  | 37 => ⟨S8448x4x4x64, .f32⟩
  | 38 => ⟨S8448x4x4x64, .f32⟩
  | 39 => ⟨S8448x16x64, .f32⟩
  | 40 => ⟨S_, .f32⟩
  | 41 => ⟨S8448x16x64, .f32⟩
  | 42 => ⟨S8448x16x64, .f32⟩
  | 43 => ⟨S8448x1024, .f32⟩
  | 44 => ⟨S8448x256, .f32⟩
  | 45 => ⟨S256x8448, .f32⟩
  | 46 => ⟨S8448x256, .f32⟩
  | 47 => ⟨S256x8448, .f32⟩
  | _ => ⟨S8448x16x64, .f32⟩

abbrev hbmTy (i : Nat) : BufTy := match i / 128 with
  | 0 => hbmTy0_0 i
  | 1 => hbmTy0_1 i
  | _ => ⟨S8448x16x64, .f32⟩

abbrev bufTy : (tb : Table) → Fin (tcTables nBuf tb) → BufTy
  | .hbm, ⟨i, _⟩ => hbmTy i
  | _, _ => ⟨S8448x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_cst_14 : Ref sig .tc := ⟨.hbm, 70, rfl⟩
abbrev main_v51 : Ref sig .tc := ⟨.hbm, 71, rfl⟩
abbrev main_v52 : Ref sig .tc := ⟨.hbm, 72, rfl⟩
abbrev main_cst_15 : Ref sig .tc := ⟨.hbm, 73, rfl⟩
abbrev main_v53 : Ref sig .tc := ⟨.hbm, 74, rfl⟩
abbrev main_v54 : Ref sig .tc := ⟨.hbm, 75, rfl⟩
abbrev main_cst_16 : Ref sig .tc := ⟨.hbm, 76, rfl⟩
abbrev main_v55 : Ref sig .tc := ⟨.hbm, 77, rfl⟩
abbrev main_cst_17 : Ref sig .tc := ⟨.hbm, 78, rfl⟩
abbrev main_v56 : Ref sig .tc := ⟨.hbm, 79, rfl⟩
abbrev main_cst_18 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_19 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_20 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_21 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_22 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_23 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_24 : Ref sig .tc := ⟨.hbm, 130, rfl⟩
abbrev main_v101 : Ref sig .tc := ⟨.hbm, 131, rfl⟩
abbrev main_cst_25 : Ref sig .tc := ⟨.hbm, 132, rfl⟩
abbrev main_v102 : Ref sig .tc := ⟨.hbm, 133, rfl⟩
abbrev main_cst_26 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_27 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_28 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_29 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_30 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_31 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩

abbrev nD : Nat := 1
abbrev τ : Topo := Topo.v7x

variable {F : FTy → Type} [FloatOps F]
-- ==== KernelFwd.lean ====
abbrev S8448x16x64 : Shape := ⟨3, ![8448, 16, 64]⟩
abbrev S8448x4x64 : Shape := ⟨3, ![8448, 4, 64]⟩
abbrev S_ : Shape := ⟨0, ![]⟩
abbrev S8448x4x1 : Shape := ⟨3, ![8448, 4, 1]⟩
abbrev S8448x4x63 : Shape := ⟨3, ![8448, 4, 63]⟩
abbrev S8448x4x128 : Shape := ⟨3, ![8448, 4, 128]⟩
abbrev S16x8448x64 : Shape := ⟨3, ![16, 8448, 64]⟩
abbrev S4x8448x64 : Shape := ⟨3, ![4, 8448, 64]⟩
abbrev S4x8448x128 : Shape := ⟨3, ![4, 8448, 128]⟩
abbrev S8448x1024 : Shape := ⟨2, ![8448, 1024]⟩
abbrev S16x8448x128 : Shape := ⟨3, ![16, 8448, 128]⟩
abbrev S4x256x64 : Shape := ⟨3, ![4, 256, 64]⟩
abbrev S1x8448x64 : Shape := ⟨3, ![1, 8448, 64]⟩
abbrev S1x8448x128 : Shape := ⟨3, ![1, 8448, 128]⟩
abbrev S256x256 : Shape := ⟨2, ![256, 256]⟩
abbrev S4x256x128 : Shape := ⟨3, ![4, 256, 128]⟩
abbrev S1x128x64 : Shape := ⟨3, ![1, 128, 64]⟩
abbrev S128x64 : Shape := ⟨2, ![128, 64]⟩
abbrev S128x128 : Shape := ⟨2, ![128, 128]⟩
abbrev S1x256x64 : Shape := ⟨3, ![1, 256, 64]⟩
abbrev S256x64 : Shape := ⟨2, ![256, 64]⟩
abbrev S128x256 : Shape := ⟨2, ![128, 256]⟩
abbrev S128 : Shape := ⟨1, ![128]⟩
abbrev S128x1 : Shape := ⟨2, ![128, 1]⟩
abbrev S1x256x128 : Shape := ⟨3, ![1, 256, 128]⟩
abbrev S256x128 : Shape := ⟨2, ![256, 128]⟩
abbrev S1x128x128 : Shape := ⟨3, ![1, 128, 128]⟩

abbrev nBuf : Space → Nat
  | .hbm => 23
  | .vmem => 10
  | .smem => 0
  | _ => 0

abbrev bufTy : (tb : Table) → Fin (tcTables nBuf tb) → BufTy
  | .hbm, ⟨0, _⟩ => ⟨S8448x16x64, .f32⟩
  | .hbm, ⟨1, _⟩ => ⟨S8448x4x64, .f32⟩
  | .hbm, ⟨2, _⟩ => ⟨S8448x4x64, .f32⟩
  | .hbm, ⟨3, _⟩ => ⟨S_, .f32⟩
  | .hbm, ⟨4, _⟩ => ⟨S8448x16x64, .f32⟩
  | .hbm, ⟨5, _⟩ => ⟨S8448x16x64, .f32⟩
  | .hbm, ⟨6, _⟩ => ⟨S_, .f32⟩
  | .hbm, ⟨7, _⟩ => ⟨S_, .f32⟩
  | .hbm, ⟨8, _⟩ => ⟨S8448x16x64, .f32⟩
  | .hbm, ⟨9, _⟩ => ⟨S8448x16x64, .f32⟩
  | .hbm, ⟨10, _⟩ => ⟨S_, .f32⟩
  | .hbm, ⟨11, _⟩ => ⟨S8448x4x1, .f32⟩
  | .hbm, ⟨12, _⟩ => ⟨S_, .f32⟩
  | .hbm, ⟨13, _⟩ => ⟨S8448x4x63, .f32⟩
  | .hbm, ⟨14, _⟩ => ⟨S8448x4x128, .f32⟩
  | .hbm, ⟨15, _⟩ => ⟨S16x8448x64, .f32⟩
  | .hbm, ⟨16, _⟩ => ⟨S16x8448x64, .bf16⟩
  | .hbm, ⟨17, _⟩ => ⟨S4x8448x64, .f32⟩
  | .hbm, ⟨18, _⟩ => ⟨S4x8448x64, .bf16⟩
  | .hbm, ⟨19, _⟩ => ⟨S4x8448x128, .f32⟩
  | .hbm, ⟨20, _⟩ => ⟨S4x8448x128, .bf16⟩
  | .hbm, ⟨21, _⟩ => ⟨S8448x1024, .f32⟩
  | .hbm, ⟨22, _⟩ => ⟨S16x8448x128, .f32⟩
  | .local _ .vmem, ⟨0, _⟩ => ⟨S4x256x64, .bf16⟩
  | .local _ .vmem, ⟨1, _⟩ => ⟨S4x256x64, .bf16⟩
  | .local _ .vmem, ⟨2, _⟩ => ⟨S1x8448x64, .bf16⟩
  | .local _ .vmem, ⟨3, _⟩ => ⟨S1x8448x64, .bf16⟩
  | .local _ .vmem, ⟨4, _⟩ => ⟨S1x8448x128, .bf16⟩
  | .local _ .vmem, ⟨5, _⟩ => ⟨S1x8448x128, .bf16⟩
  | .local _ .vmem, ⟨6, _⟩ => ⟨S256x256, .f32⟩
  | .local _ .vmem, ⟨7, _⟩ => ⟨S256x256, .f32⟩
  | .local _ .vmem, ⟨8, _⟩ => ⟨S4x256x128, .f32⟩
  | .local _ .vmem, ⟨9, _⟩ => ⟨S4x256x128, .f32⟩
  | _, _ => ⟨S8448x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 33], ![false, false]⟩

def k0_cond1 (i : grid0.Coords) : BitVec 1 :=
  let arg1 : BitVec 32 := BitVec.ofNat 32 (i 1).val
  let c32_i32 : BitVec 32 := 32#32
  let v0 : BitVec 1 := Scalar.cmpi .slt arg1 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c32_i32_0 : BitVec 32 := 32#32
  let v3 : BitVec 1 := Scalar.cmpi .sge arg1 c32_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelFwdIdeal.lean ====
variable {F : FTy → Type} [FloatOps F] [Named F]
def κ : String → Option EReal := fun
  | "log2e" => some (((Real.log 2)⁻¹ : ℝ) : EReal)
  | "mask" => some ⊥
  | _ => none
-- ==== ReferenceFwdIdeal.lean ====
abbrev S8448x16x64 : Shape := ⟨3, ![8448, 16, 64]⟩
abbrev S8448x4x64 : Shape := ⟨3, ![8448, 4, 64]⟩
abbrev S8448x4x4x64 : Shape := ⟨4, ![8448, 4, 4, 64]⟩
abbrev S8192x4x4x64 : Shape := ⟨4, ![8192, 4, 4, 64]⟩
abbrev S4x8448x8192x4 : Shape := ⟨4, ![4, 8448, 8192, 4]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x64x4x8192 : Shape := ⟨4, ![4, 64, 4, 8192]⟩
abbrev S256x4x4x64 : Shape := ⟨4, ![256, 4, 4, 64]⟩
abbrev S256x4x64 : Shape := ⟨3, ![256, 4, 64]⟩
abbrev S4x256x256x4 : Shape := ⟨4, ![4, 256, 256, 4]⟩
abbrev S4x4x256x256 : Shape := ⟨4, ![4, 4, 256, 256]⟩
abbrev S4x4x256 : Shape := ⟨3, ![4, 4, 256]⟩
abbrev S4x4x256x1 : Shape := ⟨4, ![4, 4, 256, 1]⟩
abbrev S4x64x4x256 : Shape := ⟨4, ![4, 64, 4, 256]⟩
abbrev S8448x1024 : Shape := ⟨2, ![8448, 1024]⟩
abbrev S16x8192 : Shape := ⟨2, ![16, 8192]⟩
abbrev S16x256 : Shape := ⟨2, ![16, 256]⟩
abbrev S16x8448 : Shape := ⟨2, ![16, 8448]⟩
abbrev S16x8448x1 : Shape := ⟨3, ![16, 8448, 1]⟩
abbrev S16x8448x128 : Shape := ⟨3, ![16, 8448, 128]⟩

abbrev nBuf : Space → Nat
  | .hbm => 98
  | .vmem => 0
  | .smem => 0
  | _ => 0

abbrev bufTy : (tb : Table) → Fin (tcTables nBuf tb) → BufTy
  | .hbm, ⟨0, _⟩ => ⟨S8448x16x64, .f32⟩
  | .hbm, ⟨1, _⟩ => ⟨S8448x4x64, .f32⟩
  | .hbm, ⟨2, _⟩ => ⟨S8448x4x64, .f32⟩
  | .hbm, ⟨3, _⟩ => ⟨S8448x4x4x64, .f32⟩
  | .hbm, ⟨4, _⟩ => ⟨S8192x4x4x64, .f32⟩
  | .hbm, ⟨5, _⟩ => ⟨S4x8448x8192x4, .f32⟩
  | .hbm, ⟨6, _⟩ => ⟨S4x4x8192x8448, .f32⟩
  | .hbm, ⟨7, _⟩ => ⟨S_, .f32⟩
  | .hbm, ⟨8, _⟩ => ⟨S4x4x8192x8448, .f32⟩
  | .hbm, ⟨9, _⟩ => ⟨S4x4x8192x8448, .f32⟩
  | .hbm, ⟨10, _⟩ => ⟨S_, .f32⟩
  | .hbm, ⟨11, _⟩ => ⟨S4x4x8192, .f32⟩
  | .hbm, ⟨12, _⟩ => ⟨S_, .f32⟩
  | .hbm, ⟨13, _⟩ => ⟨S4x4x8192, .f32⟩
  | .hbm, ⟨14, _⟩ => ⟨S4x4x8192, .f32⟩
  | .hbm, ⟨15, _⟩ => ⟨S4x4x8192x1, .f32⟩
  | .hbm, ⟨16, _⟩ => ⟨S4x4x8192x8448, .f32⟩
  | .hbm, ⟨17, _⟩ => ⟨S4x4x8192x8448, .f32⟩
  | .hbm, ⟨18, _⟩ => ⟨S4x4x8192x8448, .f32⟩
  | .hbm, ⟨19, _⟩ => ⟨S_, .f32⟩
  | .hbm, ⟨20, _⟩ => ⟨S4x4x8192, .f32⟩
  | .hbm, ⟨21, _⟩ => ⟨S4x4x8192x1, .f32⟩
  | .hbm, ⟨22, _⟩ => ⟨S4x4x8192x8448, .f32⟩
  | .hbm, ⟨23, _⟩ => ⟨S4x4x8192x8448, .f32⟩
  | .hbm, ⟨24, _⟩ => ⟨S4x64x4x8192, .f32⟩
  | .hbm, ⟨25, _⟩ => ⟨S8192x4x4x64, .f32⟩
  | .hbm, ⟨26, _⟩ => ⟨S256x4x4x64, .f32⟩
  | .hbm, ⟨27, _⟩ => ⟨S256x4x64, .f32⟩
  | .hbm, ⟨28, _⟩ => ⟨S256x4x64, .f32⟩
  | .hbm, ⟨29, _⟩ => ⟨S4x256x256x4, .f32⟩
  | .hbm, ⟨30, _⟩ => ⟨S4x4x256x256, .f32⟩
  | .hbm, ⟨31, _⟩ => ⟨S_, .f32⟩
  | .hbm, ⟨32, _⟩ => ⟨S4x4x256x256, .f32⟩
  | .hbm, ⟨33, _⟩ => ⟨S4x4x256x256, .f32⟩
  | .hbm, ⟨34, _⟩ => ⟨S_, .f32⟩
  | .hbm, ⟨35, _⟩ => ⟨S4x4x256, .f32⟩
  | .hbm, ⟨36, _⟩ => ⟨S_, .f32⟩
  | .hbm, ⟨37, _⟩ => ⟨S4x4x256, .f32⟩
  | .hbm, ⟨38, _⟩ => ⟨S4x4x256, .f32⟩
  | .hbm, ⟨39, _⟩ => ⟨S4x4x256x1, .f32⟩
  | .hbm, ⟨40, _⟩ => ⟨S4x4x256x256, .f32⟩
  | .hbm, ⟨41, _⟩ => ⟨S4x4x256x256, .f32⟩
  | .hbm, ⟨42, _⟩ => ⟨S4x4x256x256, .f32⟩
  | .hbm, ⟨43, _⟩ => ⟨S_, .f32⟩
  | .hbm, ⟨44, _⟩ => ⟨S4x4x256, .f32⟩
  | .hbm, ⟨45, _⟩ => ⟨S4x4x256x1, .f32⟩
  | .hbm, ⟨46, _⟩ => ⟨S4x4x256x256, .f32⟩
  | .hbm, ⟨47, _⟩ => ⟨S4x4x256x256, .f32⟩
  | .hbm, ⟨48, _⟩ => ⟨S4x64x4x256, .f32⟩
  | .hbm, ⟨49, _⟩ => ⟨S256x4x4x64, .f32⟩
  | .hbm, ⟨50, _⟩ => ⟨S8448x4x4x64, .f32⟩
  | .hbm, ⟨51, _⟩ => ⟨S8448x16x64, .f32⟩
  | .hbm, ⟨52, _⟩ => ⟨S8448x1024, .f32⟩
  | .hbm, ⟨53, _⟩ => ⟨S8448x4x4x64, .f32⟩
  | .hbm, ⟨54, _⟩ => ⟨S8192x4x4x64, .f32⟩
  | .hbm, ⟨55, _⟩ => ⟨S4x8448x8192x4, .f32⟩
  | .hbm, ⟨56, _⟩ => ⟨S4x4x8192x8448, .f32⟩
  | .hbm, ⟨57, _⟩ => ⟨S_, .f32⟩
  | .hbm, ⟨58, _⟩ => ⟨S4x4x8192x8448, .f32⟩
  | .hbm, ⟨59, _⟩ => ⟨S4x4x8192x8448, .f32⟩
  | .hbm, ⟨60, _⟩ => ⟨S_, .f32⟩
  | .hbm, ⟨61, _⟩ => ⟨S4x4x8192, .f32⟩
  | .hbm, ⟨62, _⟩ => ⟨S4x4x8192x1, .f32⟩
  | .hbm, ⟨63, _⟩ => ⟨S4x4x8192x8448, .f32⟩
  | .hbm, ⟨64, _⟩ => ⟨S4x4x8192x8448, .f32⟩
  | .hbm, ⟨65, _⟩ => ⟨S4x4x8192x8448, .f32⟩
  | .hbm, ⟨66, _⟩ => ⟨S_, .f32⟩
  | .hbm, ⟨67, _⟩ => ⟨S4x4x8192, .f32⟩
  | .hbm, ⟨68, _⟩ => ⟨S4x4x8192x1, .f32⟩
  | .hbm, ⟨69, _⟩ => ⟨S4x4x8192x1, .f32⟩
  | .hbm, ⟨70, _⟩ => ⟨S4x4x8192x1, .f32⟩
  | .hbm, ⟨71, _⟩ => ⟨S16x8192, .f32⟩
  | .hbm, ⟨72, _⟩ => ⟨S256x4x4x64, .f32⟩
  | .hbm, ⟨73, _⟩ => ⟨S256x4x64, .f32⟩
  | .hbm, ⟨74, _⟩ => ⟨S4x256x256x4, .f32⟩
  | .hbm, ⟨75, _⟩ => ⟨S4x4x256x256, .f32⟩
  | .hbm, ⟨76, _⟩ => ⟨S_, .f32⟩
  | .hbm, ⟨77, _⟩ => ⟨S4x4x256x256, .f32⟩
  | .hbm, ⟨78, _⟩ => ⟨S4x4x256x256, .f32⟩
  | .hbm, ⟨79, _⟩ => ⟨S_, .f32⟩
  | .hbm, ⟨80, _⟩ => ⟨S4x4x256, .f32⟩
  | .hbm, ⟨81, _⟩ => ⟨S4x4x256x1, .f32⟩
  | .hbm, ⟨82, _⟩ => ⟨S4x4x256x256, .f32⟩
  | .hbm, ⟨83, _⟩ => ⟨S4x4x256x256, .f32⟩
  | .hbm, ⟨84, _⟩ => ⟨S4x4x256x256, .f32⟩
  | .hbm, ⟨85, _⟩ => ⟨S_, .f32⟩
  | .hbm, ⟨86, _⟩ => ⟨S4x4x256, .f32⟩
  | .hbm, ⟨87, _⟩ => ⟨S4x4x256x1, .f32⟩
  | .hbm, ⟨88, _⟩ => ⟨S4x4x256x1, .f32⟩
  | .hbm, ⟨89, _⟩ => ⟨S4x4x256x1, .f32⟩
  | .hbm, ⟨90, _⟩ => ⟨S16x256, .f32⟩
  | .hbm, ⟨91, _⟩ => ⟨S16x8448, .f32⟩
  | .hbm, ⟨92, _⟩ => ⟨S_, .f32⟩
  | .hbm, ⟨93, _⟩ => ⟨S_, .f32⟩
  | .hbm, ⟨94, _⟩ => ⟨S16x8448, .f32⟩
  | .hbm, ⟨95, _⟩ => ⟨S16x8448, .f32⟩
  | .hbm, ⟨96, _⟩ => ⟨S16x8448x1, .f32⟩
  | .hbm, ⟨97, _⟩ => ⟨S16x8448x128, .f32⟩
  | _, _ => ⟨S8448x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_12 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_13 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩

abbrev nD : Nat := 1
abbrev τ : Topo := Topo.v7x

variable {F : FTy → Type} [FloatOps F]
-- ==== KernelInDx.lean ====
abbrev S1024x7680 : Shape := ⟨2, ![1024, 7680]⟩
abbrev S8448x7680 : Shape := ⟨2, ![8448, 7680]⟩
abbrev S8448x1024 : Shape := ⟨2, ![8448, 1024]⟩
abbrev S1408x1536 : Shape := ⟨2, ![1408, 1536]⟩
abbrev S1024x1536 : Shape := ⟨2, ![1024, 1536]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x7680, .bf16⟩
  | .hbm, ⟨1, _⟩ => ⟨S8448x7680, .bf16⟩
  | .hbm, ⟨2, _⟩ => ⟨S8448x1024, .bf16⟩
  | .local _ .vmem, ⟨0, _⟩ => ⟨S1408x1536, .bf16⟩
  | .local _ .vmem, ⟨1, _⟩ => ⟨S1408x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S1024x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDxIdeal.lean ====
abbrev S1024x7680 : Shape := ⟨2, ![1024, 7680]⟩
abbrev S8448x7680 : Shape := ⟨2, ![8448, 7680]⟩
abbrev S_ : Shape := ⟨0, ![]⟩
abbrev S8448x1024 : Shape := ⟨2, ![8448, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x7680, .bf16⟩
  | .hbm, ⟨1, _⟩ => ⟨S8448x7680, .bf16⟩
  | .hbm, ⟨2, _⟩ => ⟨S_, .f32⟩
  | .hbm, ⟨3, _⟩ => ⟨S8448x1024, .f32⟩
  | .hbm, ⟨4, _⟩ => ⟨S1024x7680, .f32⟩
  | .hbm, ⟨5, _⟩ => ⟨S8448x7680, .f32⟩
  | .hbm, ⟨6, _⟩ => ⟨S8448x7680, .f32⟩
  | .hbm, ⟨7, _⟩ => ⟨S8448x1024, .f32⟩
  | .hbm, ⟨8, _⟩ => ⟨S8448x1024, .bf16⟩
  | _, _ => ⟨S1024x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelInDw.lean ====
abbrev S8448x1024 : Shape := ⟨2, ![8448, 1024]⟩
abbrev S8448x7680 : Shape := ⟨2, ![8448, 7680]⟩
abbrev S1024x7680 : Shape := ⟨2, ![1024, 7680]⟩
abbrev S2816x1024 : Shape := ⟨2, ![2816, 1024]⟩
abbrev S2816x1280 : Shape := ⟨2, ![2816, 1280]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x7680, .bf16⟩
  | .hbm, ⟨2, _⟩ => ⟨S1024x7680, .f32⟩
  | .local _ .vmem, ⟨0, _⟩ => ⟨S2816x1024, .bf16⟩
  | .local _ .vmem, ⟨1, _⟩ => ⟨S2816x1024, .bf16⟩
  | .local _ .vmem, ⟨2, _⟩ => ⟨S2816x1280, .bf16⟩
  | .local _ .vmem, ⟨3, _⟩ => ⟨S2816x1280, .bf16⟩
  | .local _ .vmem, ⟨4, _⟩ => ⟨S1024x1280, .f32⟩
  | .local _ .vmem, ⟨5, _⟩ => ⟨S1024x1280, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDwIdeal.lean ====
abbrev S8448x1024 : Shape := ⟨2, ![8448, 1024]⟩
abbrev S8448x7680 : Shape := ⟨2, ![8448, 7680]⟩
abbrev S_ : Shape := ⟨0, ![]⟩
abbrev S1024x7680 : Shape := ⟨2, ![1024, 7680]⟩
abbrev S7680x1024 : Shape := ⟨2, ![7680, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x7680, .bf16⟩
  | .hbm, ⟨2, _⟩ => ⟨S_, .f32⟩
  | .hbm, ⟨3, _⟩ => ⟨S1024x7680, .f32⟩
  | .hbm, ⟨4, _⟩ => ⟨S8448x1024, .f32⟩
  | .hbm, ⟨5, _⟩ => ⟨S8448x7680, .f32⟩
  | .hbm, ⟨6, _⟩ => ⟨S8448x7680, .f32⟩
  | .hbm, ⟨7, _⟩ => ⟨S7680x1024, .f32⟩
  | .hbm, ⟨8, _⟩ => ⟨S1024x7680, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOutDx.lean ====
abbrev S1024x1024 : Shape := ⟨2, ![1024, 1024]⟩
abbrev S8448x1024 : Shape := ⟨2, ![8448, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S8448x1024, .bf16⟩
  | .hbm, ⟨2, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDxIdeal.lean ====
abbrev S1024x1024 : Shape := ⟨2, ![1024, 1024]⟩
abbrev S8448x1024 : Shape := ⟨2, ![8448, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8448x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOutDw.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOutDwIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelIn.lean ====
abbrev S8448x1024 : Shape := ⟨2, ![8448, 1024]⟩
abbrev S1024x7680 : Shape := ⟨2, ![1024, 7680]⟩
abbrev S8448x7680 : Shape := ⟨2, ![8448, 7680]⟩
abbrev S1408x1024 : Shape := ⟨2, ![1408, 1024]⟩
abbrev S1024x1280 : Shape := ⟨2, ![1024, 1280]⟩
abbrev S1408x1280 : Shape := ⟨2, ![1408, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x7680, .bf16⟩
  | .hbm, ⟨2, _⟩ => ⟨S8448x7680, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1408x1280, .bf16⟩
  | .local _ .vmem, ⟨5, _⟩ => ⟨S1408x1280, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S8448x1024 : Shape := ⟨2, ![8448, 1024]⟩
abbrev S1024x7680 : Shape := ⟨2, ![1024, 7680]⟩
abbrev S8448x7680 : Shape := ⟨2, ![8448, 7680]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x7680, .bf16⟩
  | .hbm, ⟨2, _⟩ => ⟨S8448x1024, .f32⟩
  | .hbm, ⟨3, _⟩ => ⟨S1024x7680, .f32⟩
  | .hbm, ⟨4, _⟩ => ⟨S8448x7680, .f32⟩
  | .hbm, ⟨5, _⟩ => ⟨S8448x7680, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOut.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S8448x1024 : Shape := ⟨2, ![8448, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | .hbm, ⟨5, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelMergeBwd.lean ====
abbrev S8448x1024 : Shape := ⟨2, ![8448, 1024]⟩
abbrev S8448x7680 : Shape := ⟨2, ![8448, 7680]⟩
abbrev S8448x2048 : Shape := ⟨2, ![8448, 2048]⟩
abbrev S256x1024 : Shape := ⟨2, ![256, 1024]⟩
abbrev S256x512 : Shape := ⟨2, ![256, 512]⟩
abbrev S256x2048 : Shape := ⟨2, ![256, 2048]⟩

abbrev nBuf : Space → Nat
  | .hbm => 7
  | .vmem => 20
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x7680, .bf16⟩
  | .hbm, ⟨4, _⟩ => ⟨S8448x1024, .bf16⟩
  | .hbm, ⟨5, _⟩ => ⟨S8448x1024, .bf16⟩
  | .hbm, ⟨6, _⟩ => ⟨S8448x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x2048, .bf16⟩
  | .local _ .vmem, ⟨19, _⟩ => ⟨S256x2048, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_6 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceMergeBwdIdeal.lean ====
abbrev S8448x1024 : Shape := ⟨2, ![8448, 1024]⟩
abbrev S8448x7680 : Shape := ⟨2, ![8448, 7680]⟩
abbrev S8448x2048 : Shape := ⟨2, ![8448, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x7680, .bf16⟩
  | .hbm, ⟨4, _⟩ => ⟨S8448x1024, .f32⟩
  | .hbm, ⟨5, _⟩ => ⟨S8448x1024, .f32⟩
  | .hbm, ⟨6, _⟩ => ⟨S8448x2048, .bf16⟩
  | .hbm, ⟨7, _⟩ => ⟨S8448x2048, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S_, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S8448x2048, .f32⟩
  | .hbm, ⟨45, _⟩ => ⟨S8448x1024, .bf16⟩
  | .hbm, ⟨46, _⟩ => ⟨S8448x1024, .bf16⟩
  | .hbm, ⟨47, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== KernelMerge.lean ====
abbrev S8448x1024 : Shape := ⟨2, ![8448, 1024]⟩
abbrev S8448x7680 : Shape := ⟨2, ![8448, 7680]⟩
abbrev S256x1024 : Shape := ⟨2, ![256, 1024]⟩
abbrev S256x512 : Shape := ⟨2, ![256, 512]⟩

abbrev nBuf : Space → Nat
  | .hbm => 4
  | .vmem => 14
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x7680, .bf16⟩
  | .hbm, ⟨3, _⟩ => ⟨S8448x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x1024, .bf16⟩
  | .local _ .vmem, ⟨13, _⟩ => ⟨S256x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceMergeIdeal.lean ====
abbrev S8448x1024 : Shape := ⟨2, ![8448, 1024]⟩
abbrev S8448x7680 : Shape := ⟨2, ![8448, 7680]⟩
abbrev S8448x2048 : Shape := ⟨2, ![8448, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x7680, .bf16⟩
  | .hbm, ⟨3, _⟩ => ⟨S8448x1024, .f32⟩
  | .hbm, ⟨4, _⟩ => ⟨S8448x1024, .f32⟩
  | .hbm, ⟨5, _⟩ => ⟨S8448x2048, .bf16⟩
  | .hbm, ⟨6, _⟩ => ⟨S8448x2048, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448x1024, .f32⟩
  | .hbm, ⟨22, _⟩ => ⟨S8448x1024, .f32⟩
  | .hbm, ⟨23, _⟩ => ⟨S_, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelPre.lean ====
abbrev S8448x1024 : Shape := ⟨2, ![8448, 1024]⟩
abbrev S1x1024 : Shape := ⟨2, ![1, 1024]⟩
abbrev S8x3072 : Shape := ⟨2, ![8, 3072]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8x3072, .f32⟩
  | .hbm, ⟨3, _⟩ => ⟨S8448x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x3072, .f32⟩
  | .local _ .vmem, ⟨4, _⟩ => ⟨S256x1024, .bf16⟩
  | .local _ .vmem, ⟨5, _⟩ => ⟨S256x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePreIdeal.lean ====
abbrev S8448x1024 : Shape := ⟨2, ![8448, 1024]⟩
abbrev S1x1024 : Shape := ⟨2, ![1, 1024]⟩
abbrev S8x3072 : Shape := ⟨2, ![8, 3072]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256 : Shape := ⟨1, ![256]⟩
abbrev S256x1 : Shape := ⟨2, ![256, 1]⟩

abbrev nBuf : Space → Nat
  | .hbm => 55
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8x3072, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256x1, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S8448x1024, .f32⟩
  | .hbm, ⟨54, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== KernelPost.lean ====
abbrev S8448x1024 : Shape := ⟨2, ![8448, 1024]⟩
abbrev S1x1024 : Shape := ⟨2, ![1, 1024]⟩
abbrev S8x3072 : Shape := ⟨2, ![8, 3072]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1x1024, .f32⟩
  | .hbm, ⟨3, _⟩ => ⟨S8x3072, .f32⟩
  | .hbm, ⟨4, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S8x3072, .f32⟩
  | .local _ .vmem, ⟨6, _⟩ => ⟨S256x1024, .f32⟩
  | .local _ .vmem, ⟨7, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferencePostIdeal.lean ====
abbrev S8448x1024 : Shape := ⟨2, ![8448, 1024]⟩
abbrev S1x1024 : Shape := ⟨2, ![1, 1024]⟩
abbrev S8x3072 : Shape := ⟨2, ![8, 3072]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S256 : Shape := ⟨1, ![256]⟩
abbrev S256x1 : Shape := ⟨2, ![256, 1]⟩

abbrev nBuf : Space → Nat
  | .hbm => 48
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .bf16⟩
  | .hbm, ⟨2, _⟩ => ⟨S1x1024, .f32⟩
  | .hbm, ⟨3, _⟩ => ⟨S8x3072, .f32⟩
  | .hbm, ⟨4, _⟩ => ⟨S8448x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S256x1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S256x1, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== KernelAdamIn.lean ====
abbrev S2048x1920 : Shape := ⟨2, ![2048, 1920]⟩
abbrev S128x1920 : Shape := ⟨2, ![128, 1920]⟩

abbrev nBuf : Space → Nat
  | .hbm => 7
  | .vmem => 14
  | .smem => 0
  | _ => 0

abbrev bufTy : (tb : Table) → Fin (tcTables nBuf tb) → BufTy
  | .hbm, ⟨0, _⟩ => ⟨S2048x1920, .f32⟩
  | .hbm, ⟨1, _⟩ => ⟨S2048x1920, .f32⟩
  | .hbm, ⟨2, _⟩ => ⟨S2048x1920, .f32⟩
  | .hbm, ⟨3, _⟩ => ⟨S2048x1920, .f32⟩
  | .hbm, ⟨4, _⟩ => ⟨S2048x1920, .f32⟩
  | .hbm, ⟨5, _⟩ => ⟨S2048x1920, .f32⟩
  | .hbm, ⟨6, _⟩ => ⟨S2048x1920, .f32⟩
  | .local _ .vmem, ⟨0, _⟩ => ⟨S128x1920, .f32⟩
  | .local _ .vmem, ⟨1, _⟩ => ⟨S128x1920, .f32⟩
  | .local _ .vmem, ⟨2, _⟩ => ⟨S128x1920, .f32⟩
  | .local _ .vmem, ⟨3, _⟩ => ⟨S128x1920, .f32⟩
  | .local _ .vmem, ⟨4, _⟩ => ⟨S128x1920, .f32⟩
  | .local _ .vmem, ⟨5, _⟩ => ⟨S128x1920, .f32⟩
  | .local _ .vmem, ⟨6, _⟩ => ⟨S128x1920, .f32⟩
  | .local _ .vmem, ⟨7, _⟩ => ⟨S128x1920, .f32⟩
  | .local _ .vmem, ⟨8, _⟩ => ⟨S128x1920, .f32⟩
  | .local _ .vmem, ⟨9, _⟩ => ⟨S128x1920, .f32⟩
  | .local _ .vmem, ⟨10, _⟩ => ⟨S128x1920, .f32⟩
  | .local _ .vmem, ⟨11, _⟩ => ⟨S128x1920, .f32⟩
  | .local _ .vmem, ⟨12, _⟩ => ⟨S128x1920, .f32⟩
  | .local _ .vmem, ⟨13, _⟩ => ⟨S128x1920, .f32⟩
  | _, _ => ⟨S2048x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamInIdeal.lean ====
abbrev S2048x1920 : Shape := ⟨2, ![2048, 1920]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1920, .f32⟩
  | .hbm, ⟨1, _⟩ => ⟨S2048x1920, .f32⟩
  | .hbm, ⟨2, _⟩ => ⟨S2048x1920, .f32⟩
  | .hbm, ⟨3, _⟩ => ⟨S2048x1920, .f32⟩
  | .hbm, ⟨4, _⟩ => ⟨S_, .f32⟩
  | .hbm, ⟨5, _⟩ => ⟨S2048x1920, .f32⟩
  | .hbm, ⟨6, _⟩ => ⟨S2048x1920, .f32⟩
  | .hbm, ⟨7, _⟩ => ⟨S_, .f32⟩
  | .hbm, ⟨8, _⟩ => ⟨S2048x1920, .f32⟩
  | .hbm, ⟨9, _⟩ => ⟨S2048x1920, .f32⟩
  | .hbm, ⟨10, _⟩ => ⟨S2048x1920, .f32⟩
  | .hbm, ⟨11, _⟩ => ⟨S_, .f32⟩
  | .hbm, ⟨12, _⟩ => ⟨S2048x1920, .f32⟩
  | .hbm, ⟨13, _⟩ => ⟨S2048x1920, .f32⟩
  | .hbm, ⟨14, _⟩ => ⟨S2048x1920, .f32⟩
  | .hbm, ⟨15, _⟩ => ⟨S_, .f32⟩
  | .hbm, ⟨16, _⟩ => ⟨S2048x1920, .f32⟩
  | .hbm, ⟨17, _⟩ => ⟨S2048x1920, .f32⟩
  | .hbm, ⟨18, _⟩ => ⟨S2048x1920, .f32⟩
  | .hbm, ⟨19, _⟩ => ⟨S_, .f32⟩
  | .hbm, ⟨20, _⟩ => ⟨S2048x1920, .f32⟩
  | .hbm, ⟨21, _⟩ => ⟨S2048x1920, .f32⟩
  | .hbm, ⟨22, _⟩ => ⟨S_, .f32⟩
  | .hbm, ⟨23, _⟩ => ⟨S2048x1920, .f32⟩
  | .hbm, ⟨24, _⟩ => ⟨S2048x1920, .f32⟩
  | .hbm, ⟨25, _⟩ => ⟨S2048x1920, .f32⟩
  | .hbm, ⟨26, _⟩ => ⟨S_, .f32⟩
  | .hbm, ⟨27, _⟩ => ⟨S2048x1920, .f32⟩
  | .hbm, ⟨28, _⟩ => ⟨S2048x1920, .f32⟩
  | .hbm, ⟨29, _⟩ => ⟨S2048x1920, .f32⟩
  | .hbm, ⟨30, _⟩ => ⟨S_, .f32⟩
  | .hbm, ⟨31, _⟩ => ⟨S2048x1920, .f32⟩
  | .hbm, ⟨32, _⟩ => ⟨S2048x1920, .f32⟩
  | .hbm, ⟨33, _⟩ => ⟨S2048x1920, .f32⟩
  | .hbm, ⟨34, _⟩ => ⟨S_, .f32⟩
  | .hbm, ⟨35, _⟩ => ⟨S2048x1920, .f32⟩
  | .hbm, ⟨36, _⟩ => ⟨S2048x1920, .f32⟩
  | _, _ => ⟨S2048x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamMod.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamModIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamOutIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamSmall.lean ====
abbrev S264x128 : Shape := ⟨2, ![264, 128]⟩

abbrev nBuf : Space → Nat
  | .hbm => 7
  | .vmem => 7
  | .smem => 0
  | _ => 0

abbrev bufTy : (tb : Table) → Fin (tcTables nBuf tb) → BufTy
  | .hbm, ⟨0, _⟩ => ⟨S264x128, .f32⟩
  | .hbm, ⟨1, _⟩ => ⟨S264x128, .f32⟩
  | .hbm, ⟨2, _⟩ => ⟨S264x128, .f32⟩
  | .hbm, ⟨3, _⟩ => ⟨S264x128, .f32⟩
  | .hbm, ⟨4, _⟩ => ⟨S264x128, .f32⟩
  | .hbm, ⟨5, _⟩ => ⟨S264x128, .f32⟩
  | .hbm, ⟨6, _⟩ => ⟨S264x128, .f32⟩
  | .local _ .vmem, ⟨0, _⟩ => ⟨S264x128, .f32⟩
  | .local _ .vmem, ⟨1, _⟩ => ⟨S264x128, .f32⟩
  | .local _ .vmem, ⟨2, _⟩ => ⟨S264x128, .f32⟩
  | .local _ .vmem, ⟨3, _⟩ => ⟨S264x128, .f32⟩
  | .local _ .vmem, ⟨4, _⟩ => ⟨S264x128, .f32⟩
  | .local _ .vmem, ⟨5, _⟩ => ⟨S264x128, .f32⟩
  | .local _ .vmem, ⟨6, _⟩ => ⟨S264x128, .f32⟩
  | _, _ => ⟨S264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S264x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S264x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S264x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S264x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S264x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S264x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S264x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamSmallIdeal.lean ====
abbrev S264x128 : Shape := ⟨2, ![264, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S264x128, .f32⟩
  | .hbm, ⟨1, _⟩ => ⟨S264x128, .f32⟩
  | .hbm, ⟨2, _⟩ => ⟨S264x128, .f32⟩
  | .hbm, ⟨3, _⟩ => ⟨S264x128, .f32⟩
  | .hbm, ⟨4, _⟩ => ⟨S_, .f32⟩
  | .hbm, ⟨5, _⟩ => ⟨S264x128, .f32⟩
  | .hbm, ⟨6, _⟩ => ⟨S264x128, .f32⟩
  | .hbm, ⟨7, _⟩ => ⟨S_, .f32⟩
  | .hbm, ⟨8, _⟩ => ⟨S264x128, .f32⟩
  | .hbm, ⟨9, _⟩ => ⟨S264x128, .f32⟩
  | .hbm, ⟨10, _⟩ => ⟨S264x128, .f32⟩
  | .hbm, ⟨11, _⟩ => ⟨S_, .f32⟩
  | .hbm, ⟨12, _⟩ => ⟨S264x128, .f32⟩
  | .hbm, ⟨13, _⟩ => ⟨S264x128, .f32⟩
  | .hbm, ⟨14, _⟩ => ⟨S264x128, .f32⟩
  | .hbm, ⟨15, _⟩ => ⟨S_, .f32⟩
  | .hbm, ⟨16, _⟩ => ⟨S264x128, .f32⟩
  | .hbm, ⟨17, _⟩ => ⟨S264x128, .f32⟩
  | .hbm, ⟨18, _⟩ => ⟨S264x128, .f32⟩
  | .hbm, ⟨19, _⟩ => ⟨S_, .f32⟩
  | .hbm, ⟨20, _⟩ => ⟨S264x128, .f32⟩
  | .hbm, ⟨21, _⟩ => ⟨S264x128, .f32⟩
  | .hbm, ⟨22, _⟩ => ⟨S_, .f32⟩
  | .hbm, ⟨23, _⟩ => ⟨S264x128, .f32⟩
  | .hbm, ⟨24, _⟩ => ⟨S264x128, .f32⟩
  | .hbm, ⟨25, _⟩ => ⟨S264x128, .f32⟩
  | .hbm, ⟨26, _⟩ => ⟨S_, .f32⟩
  | .hbm, ⟨27, _⟩ => ⟨S264x128, .f32⟩
  | .hbm, ⟨28, _⟩ => ⟨S264x128, .f32⟩
  | .hbm, ⟨29, _⟩ => ⟨S264x128, .f32⟩
  | .hbm, ⟨30, _⟩ => ⟨S_, .f32⟩
  | .hbm, ⟨31, _⟩ => ⟨S264x128, .f32⟩
  | .hbm, ⟨32, _⟩ => ⟨S264x128, .f32⟩
  | .hbm, ⟨33, _⟩ => ⟨S264x128, .f32⟩
  | .hbm, ⟨34, _⟩ => ⟨S_, .f32⟩
  | .hbm, ⟨35, _⟩ => ⟨S264x128, .f32⟩
  | .hbm, ⟨36, _⟩ => ⟨S264x128, .f32⟩
  | _, _ => ⟨S264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Steps.lean ====
/-
  The body of the attention's backward kernel as a recursion over the 33 chunks of keys: what one grid point
  adds to the gradients of the keys and the values, and the gradient of the queries it sums over its chunks.
  The three cases of a grid point (the first block of a head, a later block of latent rows, the block of
  context rows) write the lists of stores below.
-/
module

public import proofs.«01_k».proof.Proof.Gen.KernelIdeal.Frame
public import Idealize.ShloMosaic.Lib.WritesUnit

@[expose] public section

set_option maxRecDepth 16384

noncomputable section

namespace Cert.Steps

open Cert.KernelIdeal Cert.KernelIdeal.Gen Idealize.ShloMosaic Idealize.ShloMosaic.TcCoe Idealize.SL.Sem

variable {F : FTy → Type} [FloatOps F] [Named F]

/-- What a grid point loads: the queries and the cotangent of its 1024 rows, both also transposed, the chunks
of the keys (also transposed) and of the values, and per row the logarithm of the sum and the product of the
output with its cotangent. -/
structure Ins (F : FTy → Type) where
  q : Vec F S4x256x64 .bf16
  qt : Fin 4 → Vec F S64x256 .bf16
  k : Fin 33 → Vec F S1x256x64 .bf16
  kt : Fin 33 → Vec F S64x256 .bf16
  v : Fin 33 → Vec F S1x256x64 .bf16
  ct : Vec F S4x256x64 .bf16
  ctt : Fin 4 → Vec F S64x256 .bf16
  lse : Vec F S4x256x128 .f32
  delta : Vec F S4x256x128 .f32

/-- The scores of the rows against the keys of a chunk. -/
def scores (I : Ins F) (n : Fin 33) : FVec F S1024x256 .f32 := k0_pay18 I.q (I.k n)

/-- The old gradient of a chunk's values with this point's part added. -/
def dvStep (I : Ins F) (n : Fin 33) (old : Vec F S64x256 .f32) : FVec F S64x256 .f32 :=
  k0_pay21 (k0_pay15 (I.ctt 0) (I.ctt 1) (I.ctt 2) (I.ctt 3)) (scores I n) I.lse old

/-- The old gradient of a chunk's keys with this point's part added. -/
def dkStep (I : Ins F) (n : Fin 33) (old : Vec F S64x256 .f32) : FVec F S64x256 .f32 :=
  k0_pay22 (k0_pay13 I.ct) (k0_pay14 (I.qt 0) (I.qt 1) (I.qt 2) (I.qt 3)) (k0_pay17 (I.v n)) (scores I n) I.lse I.delta old

/-- The gradient of the rows' queries, transposed, with one chunk's part added. -/
def dqStep (I : Ins F) (n : Fin 33) (old : FVec F S64x1024 .f32) : FVec F S64x1024 .f32 :=
  k0_pay23 (k0_pay13 I.ct) old (k0_pay17 (I.v n)) (scores I n) I.lse I.delta (I.kt n)

/-- The gradient of the rows' queries, transposed, after the first `n` chunks. -/
def dqSum (I : Ins F) : (n : ℕ) → n ≤ 33 → FVec F S64x1024 .f32
  | 0, _ => k0_pay16
  | n + 1, h => dqStep I ⟨n, h⟩ (dqSum I n (Nat.le_of_succ_le h))

theorem inb2 (n : Fin 33) : ∀ a : Fin 2, (![0, 256 * n.val] : Fin 2 → ℕ) a + S64x256.size a ≤ S64x8448.size a
  | 0 => Nat.le_refl 64
  | 1 => by
    show 256 * n.val + 256 ≤ 8448
    omega

theorem inb3 (n : Fin 33) : ∀ a : Fin 3, (![0, 256 * n.val, 0] : Fin 3 → ℕ) a + S1x256x64.size a ≤ S1x8448x64.size a
  | 0 => Nat.le_refl 1
  | 1 => by
    show 256 * n.val + 256 ≤ 8448
    omega
  | 2 => Nat.le_refl 64

theorem inbT (g : Fin 4) : ∀ a : Fin 2, (![64 * g.val, 0] : Fin 2 → ℕ) a + S64x256.size a ≤ S256x256.size a
  | 0 => by
    show 64 * g.val + 64 ≤ 256
    omega
  | 1 => Nat.le_refl 256

/-- The chunk of columns `[256 n, 256 n + 256)`. -/
abbrev cols (n : Fin 33) : Rect S64x8448 := Rect.unit ![0, 256 * n.val] S64x256.size (inb2 n)

/-- The chunk of rows `[256 n, 256 n + 256)`. -/
abbrev rows (n : Fin 33) : Rect S1x8448x64 := Rect.unit ![0, 256 * n.val, 0] S1x256x64.size (inb3 n)

/-- The rows of query head `g` of the group. -/
abbrev heads (g : Fin 4) : Rect S256x256 := Rect.unit ![64 * g.val, 0] S64x256.size (inbT g)

/-- What a grid point loads of the blocks in its staging buffers. -/
abbrev insOf (arg2 : Memref sig .tc .vmem S4x256x64 .bf16) (harg2 : arg2.IsWhole)
    (arg3 : Memref sig .tc .vmem S256x256 .bf16) (harg3 : arg3.IsWhole)
    (arg4 : Memref sig .tc .vmem S1x8448x64 .bf16) (harg4 : arg4.IsWhole)
    (arg5 : Memref sig .tc .vmem S64x8448 .bf16) (harg5 : arg5.IsWhole)
    (arg6 : Memref sig .tc .vmem S1x8448x64 .bf16) (harg6 : arg6.IsWhole)
    (arg7 : Memref sig .tc .vmem S4x256x64 .bf16) (harg7 : arg7.IsWhole)
    (arg8 : Memref sig .tc .vmem S256x256 .bf16) (harg8 : arg8.IsWhole)
    (arg9 : Memref sig .tc .vmem S4x256x128 .f32) (harg9 : arg9.IsWhole)
    (arg10 : Memref sig .tc .vmem S4x256x128 .f32) (harg10 : arg10.IsWhole)
    (x0 : Vec F S4x256x64 .bf16) (x1 : Vec F S256x256 .bf16) (x2 : Vec F S1x8448x64 .bf16) (x3 : Vec F S64x8448 .bf16)
    (x4 : Vec F S1x8448x64 .bf16) (x5 : Vec F S4x256x64 .bf16) (x6 : Vec F S256x256 .bf16) (x7 : Vec F S4x256x128 .f32)
    (x8 : Vec F S4x256x128 .f32) : Ins F where
  q := View.readAt (Elt F) arg2.view (Rect.unit ![0, 0, 0] S4x256x64.size inb_S4x256x64_S4x256x64_0_0_0).toLoadRect (harg2.unread x0)
  qt g := View.readAt (Elt F) arg3.view (heads g).toLoadRect (harg3.unread x1)
  k n := View.readAt (Elt F) arg4.view (rows n).toLoadRect (harg4.unread x2)
  kt n := View.readAt (Elt F) arg5.view (cols n).toLoadRect (harg5.unread x3)
  v n := View.readAt (Elt F) arg6.view (rows n).toLoadRect (harg6.unread x4)
  ct := View.readAt (Elt F) arg7.view (Rect.unit ![0, 0, 0] S4x256x64.size inb_S4x256x64_S4x256x64_0_0_0).toLoadRect (harg7.unread x5)
  ctt g := View.readAt (Elt F) arg8.view (heads g).toLoadRect (harg8.unread x6)
  lse := View.readAt (Elt F) arg9.view (Rect.unit ![0, 0, 0] S4x256x128.size inb_S4x256x128_S4x256x128_0_0_0).toLoadRect (harg9.unread x7)
  delta := View.readAt (Elt F) arg10.view (Rect.unit ![0, 0, 0] S4x256x128.size inb_S4x256x128_S4x256x128_0_0_0).toLoadRect (harg10.unread x8)

/-- The four stores of the gradient of the queries, one of each query head of the group. -/
def dqStores (D : FVec F S64x1024 .f32) : List (View.Piece (Elt F) S256x256 .f32) :=
  [⟨Rect.unit ![0, 192] S256x64.size inb_S256x256_S256x64_0_192, transpose S256x64 [1, 0] (extractStridedSlice S64x256 ![0, 768] D slices_S64x1024_o0_768_S64x256) transposes_S64x256_p1_0_S256x64⟩,
   ⟨Rect.unit ![0, 128] S256x64.size inb_S256x256_S256x64_0_128, transpose S256x64 [1, 0] (extractStridedSlice S64x256 ![0, 512] D slices_S64x1024_o0_512_S64x256) transposes_S64x256_p1_0_S256x64⟩,
   ⟨Rect.unit ![0, 64] S256x64.size inb_S256x256_S256x64_0_64, transpose S256x64 [1, 0] (extractStridedSlice S64x256 ![0, 256] D slices_S64x1024_o0_256_S64x256) transposes_S64x256_p1_0_S256x64⟩,
   ⟨Rect.unit ![0, 0] S256x64.size inb_S256x256_S256x64_0_0, transpose S256x64 [1, 0] (extractStridedSlice S64x256 ![0, 0] D slices_S64x1024_o0_0_S64x256) transposes_S64x256_p1_0_S256x64⟩]

/-- The first block of a head: every chunk's store over the stores before it, the oldest of which zeroes the block. -/
def firstStores (m : Memref sig .tc .vmem S64x8448 .f32) (step : Fin 33 → Vec F S64x256 .f32 → FVec F S64x256 .f32)
    (zero : FVec F S64x8448 .f32) : (n : ℕ) → n ≤ 33 → List (View.Piece (Elt F) S64x8448 .f32)
  | 0, _ => [⟨Rect.unit ![0, 0] S64x8448.size inb_S64x8448_S64x8448_0_0, zero⟩]
  | n + 1, h =>
    ⟨cols ⟨n, h⟩, step ⟨n, h⟩ (m.view.readCov (firstStores m step zero n (Nat.le_of_succ_le h)) (cols ⟨n, h⟩).toLoadRect)⟩
      :: firstStores m step zero n (Nat.le_of_succ_le h)

/-- A later block of latent rows: every chunk's store over what the block before left. -/
def laterStores (m : Memref sig .tc .vmem S64x8448 .f32) (hm : m.IsWhole)
    (step : Fin 33 → Vec F S64x256 .f32 → FVec F S64x256 .f32) (old : Vec F S64x8448 .f32) :
    (n : ℕ) → n ≤ 33 → List (View.Piece (Elt F) S64x8448 .f32) :=
  View.tilePieces S64x256.size (fun n : Fin 33 => ![0, 256 * n.val]) inb2
    (fun n => step n (View.readAt (Elt F) m.view (cols n).toLoadRect (hm.unread old)))

/-- The context rows' store, over what the block before left. -/
def lastStore (m : Memref sig .tc .vmem S64x8448 .f32) (hm : m.IsWhole)
    (step : Fin 33 → Vec F S64x256 .f32 → FVec F S64x256 .f32) (old : Vec F S64x8448 .f32) :
    List (View.Piece (Elt F) S64x8448 .f32) :=
  [⟨cols 32, step 32 (View.readAt (Elt F) m.view (cols 32).toLoadRect (hm.unread old))⟩]

/-- The keys' gradient scaled by the logarithm of 2 after the context rows' store. -/
def scaledStores (m : Memref sig .tc .vmem S64x8448 .f32) (hm : m.IsWhole)
    (step : Fin 33 → Vec F S64x256 .f32 → FVec F S64x256 .f32) (old : Vec F S64x8448 .f32) :
    List (View.Piece (Elt F) S64x8448 .f32) :=
  ⟨Rect.unit ![0, 0] S64x8448.size inb_S64x8448_S64x8448_0_0,
    k0_pay11 (View.readAt (Elt F) m.view (Rect.unit ![0, 0] S64x8448.size inb_S64x8448_S64x8448_0_0).toLoadRect
      (m.view.writes (Elt F) (hm.unread old) (lastStore m hm step old)))⟩ :: lastStore m hm step old

section Bridge

variable (c : Dev nD) (i : grid0.Coords) (arg2 : Memref sig .tc .vmem S4x256x64 .bf16) (harg2 : arg2.IsWhole) (arg3 : Memref sig .tc .vmem S256x256 .bf16) (harg3 : arg3.IsWhole) (arg4 : Memref sig .tc .vmem S1x8448x64 .bf16) (harg4 : arg4.IsWhole) (arg5 : Memref sig .tc .vmem S64x8448 .bf16) (harg5 : arg5.IsWhole) (arg6 : Memref sig .tc .vmem S1x8448x64 .bf16) (harg6 : arg6.IsWhole) (arg7 : Memref sig .tc .vmem S4x256x64 .bf16) (harg7 : arg7.IsWhole) (arg8 : Memref sig .tc .vmem S256x256 .bf16) (harg8 : arg8.IsWhole) (arg9 : Memref sig .tc .vmem S4x256x128 .f32) (harg9 : arg9.IsWhole) (arg10 : Memref sig .tc .vmem S4x256x128 .f32) (harg10 : arg10.IsWhole) (arg11 : Memref sig .tc .vmem S256x256 .f32) (harg11 : arg11.IsWhole) (arg12 : Memref sig .tc .vmem S64x8448 .f32) (harg12 : arg12.IsWhole) (arg13 : Memref sig .tc .vmem S64x8448 .f32) (harg13 : arg13.IsWhole)
  (x0 : Vec F S4x256x64 .bf16) (x1 : Vec F S256x256 .bf16) (x2 : Vec F S1x8448x64 .bf16) (x3 : Vec F S64x8448 .bf16) (x4 : Vec F S1x8448x64 .bf16) (x5 : Vec F S4x256x64 .bf16) (x6 : Vec F S256x256 .bf16) (x7 : Vec F S4x256x128 .f32) (x8 : Vec F S4x256x128 .f32) (xo10 : Vec F S64x8448 .f32) (xo11 : Vec F S64x8448 .f32)

/-- The first block of a head stores the gradient of its queries. -/
theorem first9 (hc0 : cond0_0 i) (hc1 : cond0_1 i) (hc2 : ¬cond0_2 i) (hc3 : ¬cond0_3 i) :
    (kernelRun0_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8).1
      = dqStores (dqSum (insOf arg2 harg2 arg3 harg3 arg4 harg4 arg5 harg5 arg6 harg6 arg7 harg7 arg8 harg8 arg9 harg9 arg10 harg10 x0 x1 x2 x3 x4 x5 x6 x7 x8) 33 (Nat.le_refl 33)) := by sl_kernel_rfl

/-- The first block of a head begins the gradient of the keys. -/
theorem first10 (hc0 : cond0_0 i) (hc1 : cond0_1 i) (hc2 : ¬cond0_2 i) (hc3 : ¬cond0_3 i) :
    (kernelRun0_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8).2.1
      = firstStores arg12 (dkStep (insOf arg2 harg2 arg3 harg3 arg4 harg4 arg5 harg5 arg6 harg6 arg7 harg7 arg8 harg8 arg9 harg9 arg10 harg10 x0 x1 x2 x3 x4 x5 x6 x7 x8)) k0_pay1 33 (Nat.le_refl 33) := by sl_kernel_rfl

/-- The first block of a head begins the gradient of the values. -/
theorem first11 (hc0 : cond0_0 i) (hc1 : cond0_1 i) (hc2 : ¬cond0_2 i) (hc3 : ¬cond0_3 i) :
    (kernelRun0_A c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8).2.2.1
      = firstStores arg13 (dvStep (insOf arg2 harg2 arg3 harg3 arg4 harg4 arg5 harg5 arg6 harg6 arg7 harg7 arg8 harg8 arg9 harg9 arg10 harg10 x0 x1 x2 x3 x4 x5 x6 x7 x8)) k0_pay2 33 (Nat.le_refl 33) := by sl_kernel_rfl

/-- A later block stores the gradient of its queries. -/
theorem later9 (hc0 : ¬cond0_0 i) (hc1 : cond0_1 i) (hc2 : ¬cond0_2 i) (hc3 : ¬cond0_3 i) :
    (kernelRun0_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo10 xo11).1
      = dqStores (dqSum (insOf arg2 harg2 arg3 harg3 arg4 harg4 arg5 harg5 arg6 harg6 arg7 harg7 arg8 harg8 arg9 harg9 arg10 harg10 x0 x1 x2 x3 x4 x5 x6 x7 x8) 33 (Nat.le_refl 33)) := by sl_kernel_rfl

/-- A later block adds to the gradient of the keys. -/
theorem later10 (hc0 : ¬cond0_0 i) (hc1 : cond0_1 i) (hc2 : ¬cond0_2 i) (hc3 : ¬cond0_3 i) :
    (kernelRun0_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo10 xo11).2.1
      = laterStores arg12 harg12 (dkStep (insOf arg2 harg2 arg3 harg3 arg4 harg4 arg5 harg5 arg6 harg6 arg7 harg7 arg8 harg8 arg9 harg9 arg10 harg10 x0 x1 x2 x3 x4 x5 x6 x7 x8)) xo10 33 (Nat.le_refl 33) := by sl_kernel_rfl

/-- A later block adds to the gradient of the values. -/
theorem later11 (hc0 : ¬cond0_0 i) (hc1 : cond0_1 i) (hc2 : ¬cond0_2 i) (hc3 : ¬cond0_3 i) :
    (kernelRun0_B c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo10 xo11).2.2.1
      = laterStores arg13 harg13 (dvStep (insOf arg2 harg2 arg3 harg3 arg4 harg4 arg5 harg5 arg6 harg6 arg7 harg7 arg8 harg8 arg9 harg9 arg10 harg10 x0 x1 x2 x3 x4 x5 x6 x7 x8)) xo11 33 (Nat.le_refl 33) := by sl_kernel_rfl

/-- The context rows see the context keys alone. -/
theorem last9 (hc0 : ¬cond0_0 i) (hc1 : ¬cond0_1 i) (hc2 : cond0_2 i) (hc3 : cond0_3 i) :
    (kernelRun0_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo10 xo11).1
      = dqStores (dqStep (insOf arg2 harg2 arg3 harg3 arg4 harg4 arg5 harg5 arg6 harg6 arg7 harg7 arg8 harg8 arg9 harg9 arg10 harg10 x0 x1 x2 x3 x4 x5 x6 x7 x8) 32 k0_pay16) := by sl_kernel_rfl

/-- The context rows add to the gradient of the context keys, and the whole is then scaled. -/
theorem last10 (hc0 : ¬cond0_0 i) (hc1 : ¬cond0_1 i) (hc2 : cond0_2 i) (hc3 : cond0_3 i) :
    (kernelRun0_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo10 xo11).2.1
      = scaledStores arg12 harg12 (dkStep (insOf arg2 harg2 arg3 harg3 arg4 harg4 arg5 harg5 arg6 harg6 arg7 harg7 arg8 harg8 arg9 harg9 arg10 harg10 x0 x1 x2 x3 x4 x5 x6 x7 x8)) xo10 := by sl_kernel_rfl

/-- The context rows add to the gradient of the context values. -/
theorem last11 (hc0 : ¬cond0_0 i) (hc1 : ¬cond0_1 i) (hc2 : cond0_2 i) (hc3 : cond0_3 i) :
    (kernelRun0_C c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo10 xo11).2.2.1
      = lastStore arg13 harg13 (dvStep (insOf arg2 harg2 arg3 harg3 arg4 harg4 arg5 harg5 arg6 harg6 arg7 harg7 arg8 harg8 arg9 harg9 arg10 harg10 x0 x1 x2 x3 x4 x5 x6 x7 x8)) xo11 := by sl_kernel_rfl

end Bridge

end Cert.Steps
-- ==== Proof.Coe.lean ====
/- Real numbers among the extended reals, and arrays read at their coordinates: what the other modules share. -/
module

public import Idealize.ShloMosaic.Lib.Pipeline.Value
public import Idealize.ShloMosaic.Lib.ValueIdx
public import Idealize.ShloMosaic.Lib.ValueIdxCore
public import Idealize.ShloMosaic.Lib.TwoAxisContraction
public import Idealize.ShloMosaic.Lib.KernelVsHost
public import Idealize.ShloMosaic.PureOps.Ideal.Laws

@[expose] public section

noncomputable section

namespace Cert.Coe

open Idealize.ShloMosaic Idealize.ShloMosaic.ValueIdx

/-! ## Real numbers -/

theorem sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div {x y : ℝ} (hy : y ≠ 0) : Ideal.div (x : EReal) (y : EReal) = ((x / y : ℝ) : EReal) := by
  rw [Ideal.div_coe hy, ← EReal.coe_mul, mul_one_div]

theorem log {x : ℝ} (hx : 0 < x) : Ideal.log (x : EReal) = ((Real.log x : ℝ) : EReal) := by
  rw [Ideal.log_coe, if_neg (not_le.mpr hx)]

theorem max_coe (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-! The operations on real numbers. -/

section Ops

variable {φ : FTy} {a b : Ideal φ} {x y : ℝ}

theorem mulf (ha : a = (x : EReal)) (hb : b = (y : EReal)) : FloatOps.mulf a b = ((x * y : ℝ) : EReal) := by
  subst ha hb; exact (EReal.coe_mul x y).symm
theorem addf (ha : a = (x : EReal)) (hb : b = (y : EReal)) : FloatOps.addf a b = ((x + y : ℝ) : EReal) := by
  subst ha hb; exact (EReal.coe_add x y).symm
theorem subf (ha : a = (x : EReal)) (hb : b = (y : EReal)) : FloatOps.subf a b = ((x - y : ℝ) : EReal) := by
  subst ha hb; exact (EReal.coe_sub x y).symm
theorem hostNegf (ha : a = (x : EReal)) : FloatOps.hostNegf a = ((-x : ℝ) : EReal) := by
  subst ha; exact (EReal.coe_neg x).symm
theorem hostDivf (ha : a = (x : EReal)) (hb : b = (y : EReal)) (hy : y ≠ 0) :
    FloatOps.hostDivf a b = ((x / y : ℝ) : EReal) := by
  subst ha hb; exact div hy
theorem hostExp (ha : a = (x : EReal)) : FloatOps.hostUnary .exp a = ((Real.exp x : ℝ) : EReal) := by
  subst ha; rfl
theorem hostLog (ha : a = (x : EReal)) (hx : 0 < x) : FloatOps.hostUnary .log a = ((Real.log x : ℝ) : EReal) := by
  subst ha; exact log hx

end Ops

/-- A host sum from zero. -/
theorem sum0 {ι : Type} [Fintype ι] {z : EReal} {a : ι → EReal} {f : ι → ℝ} (hz : z = ((0 : ℝ) : EReal)) (ha : ∀ i, a i = f i) :
    z + ∑ i, a i = ((∑ i, f i : ℝ) : EReal) := by
  rw [hz, EReal.coe_zero, zero_add, sum]; exact Finset.sum_congr rfl fun i _ => ha i

/-- A product's sum of real numbers is a real number. -/
theorem dot {ι : Type} [Fintype ι] {a b : ι → EReal} {f g : ι → ℝ} (ha : ∀ i, a i = f i) (hb : ∀ i, b i = g i) :
    ∑ i, a i * b i = ((∑ i, f i * g i : ℝ) : EReal) := by
  rw [sum]; exact Finset.sum_congr rfl fun i _ => by rw [ha, hb, EReal.coe_mul]

/-- A finite number is a real number. -/
theorem of_abs_lt {x : EReal} (h : max x (-x) < ⊤) : x = ((x.toReal : ℝ) : EReal) := by
  refine (EReal.coe_toReal (ne_of_lt (lt_of_le_of_lt (le_max_left _ _) h)) fun hb => ?_).symm
  subst hb
  simp at h

/-! ## The literals -/

theorem eighth : Ideal.ofBits .f32 0x3E000000#32 = ((1 / 8 : ℝ) : EReal) := by
  simp [Ideal.ofBits, Ideal.ieee, -EReal.coe_mul]; norm_num
theorem one : Ideal.ofBits .f32 0x3F800000#32 = ((1 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem zero : Ideal.ofBits .f32 0x00000000#32 = ((0 : ℝ) : EReal) := by
  rw [Ideal.ofBits_zero_f32, EReal.coe_zero]
theorem negInf : Ideal.ofBits .f32 0xFF800000#32 = ⊥ := by
  simp [Ideal.ofBits, Ideal.ieee]
theorem posInf : Ideal.ofBits .f32 0x7F800000#32 = ⊤ := by
  simp [Ideal.ofBits, Ideal.ieee]

/-! ## A maximum -/

theorem foldl_max_real {ι : Type} (f : ι → ℝ) : ∀ (l : List ι) (a : ℝ),
    ∃ r : ℝ, l.foldl (fun r n => max r ((f n : ℝ) : EReal)) (a : EReal) = r
  | [], a => ⟨a, rfl⟩
  | n :: l, a => by
    rw [List.foldl_cons, max_coe]; exact foldl_max_real f l (max a (f n))

/-- The maximum of real numbers, at least one, is a real number. -/
theorem foldl_max {ι : Type} (f : ι → ℝ) : ∀ l : List ι, l ≠ [] →
    ∃ r : ℝ, l.foldl (fun r n => max r ((f n : ℝ) : EReal)) (⊥ : EReal) = r
  | [], h => absurd rfl h
  | n :: l, _ => by
    rw [List.foldl_cons, max_eq_right bot_le]; exact foldl_max_real f l (f n)

/-- A host reduction by the maximum, over real numbers, has a real number wherever an entry is reduced into it. -/
theorem reduce_max {s t u : Shape} {axes : List (Fin s.rank)} (x : FVec Ideal s .f32) (init : FVec Ideal u .f32)
    (h : s.ReducesTo axes t) (hu : 0 < u.numel) (hi : init (Shape.Idx.first hu) = ⊥) {f : s.Idx → ℝ} (hx : ∀ i, x i = f i)
    (j : t.Idx) (i : s.Idx) (hj : h.drop i = j) :
    ∃ r : ℝ, Host.reduce (FloatOps.maximumf (F := Ideal)) x init h hu j = r := by
  have hl : ((List.finRange s.numel).filter fun n => h.drop (s.rowMajor.symm n) = j) ≠ [] := by
    refine List.ne_nil_of_mem (a := s.rowMajor i) (List.mem_filter.mpr ⟨List.mem_finRange _, ?_⟩)
    simp [hj]
  obtain ⟨r, hr⟩ := foldl_max (fun n => f (s.rowMajor.symm n)) _ hl
  refine ⟨r, Eq.trans ?_ hr⟩
  unfold Host.reduce
  rw [hi]
  congr 1
  funext r n
  rw [hx]; rfl

/-! ## Arrays read at their coordinates -/

section Read

variable {α : Type} {n0 n1 n2 n3 : ℕ}

theorem rd2 {x : (⟨2, ![n0, n1]⟩ : Shape).Idx → α} {f : Fin n0 → Fin n1 → α} (h : ∀ a b, x (ix2 a b) = f a b)
    (i : (⟨2, ![n0, n1]⟩ : Shape).Idx) : x i = f (i 0) (i 1) := (congrArg x (eq_ix2 i)).trans (h _ _)
theorem rd3 {x : (⟨3, ![n0, n1, n2]⟩ : Shape).Idx → α} {f : Fin n0 → Fin n1 → Fin n2 → α}
    (h : ∀ a b c, x (ix3 a b c) = f a b c) (i : (⟨3, ![n0, n1, n2]⟩ : Shape).Idx) : x i = f (i 0) (i 1) (i 2) :=
  (congrArg x (eq_ix3 i)).trans (h _ _ _)
theorem rd4 {x : (⟨4, ![n0, n1, n2, n3]⟩ : Shape).Idx → α} {f : Fin n0 → Fin n1 → Fin n2 → Fin n3 → α}
    (h : ∀ a b c d, x (ix4 a b c d) = f a b c d) (i : (⟨4, ![n0, n1, n2, n3]⟩ : Shape).Idx) :
    x i = f (i 0) (i 1) (i 2) (i 3) := (congrArg x (eq_ix4 i)).trans (h _ _ _ _)

end Read

/-- The query head `(h, g)` among the 16. -/
def head (h g : Fin 4) : Fin 16 := ⟨4 * h.val + g.val, by omega⟩

theorem head_div (a : Fin 16) : head ⟨a.val / 4, by omega⟩ ⟨a.val % 4, by omega⟩ = a :=
  Fin.ext (by simp only [head]; omega)

/-- The column of the head `(h, g)`'s entry `d`. -/
def col (h g : Fin 4) (d : Fin 64) : Fin 1024 := ⟨256 * h.val + 64 * g.val + d.val, by omega⟩
/-- The row of the key head `h`'s entry `d`. -/
def rowOf (h : Fin 4) (d : Fin 64) : Fin 256 := ⟨64 * h.val + d.val, by omega⟩

end Cert.Coe

end
-- ==== Proof.Chunk.lean ====
/- What one grid point computes of a chunk of keys, over real numbers. -/
module

public import proofs.«01_k».proof.Proof.Steps
public import proofs.«01_k».proof.Proof.Coe
public import Idealize.ShloMosaic.Lib.MatmulPlain

@[expose] public section

set_option maxRecDepth 16384

noncomputable section

namespace Cert.Steps

open Cert.KernelIdeal Cert.KernelIdeal.Gen Idealize.ShloMosaic Idealize.ShloMosaic.TcCoe Idealize.SL.Sem
open Idealize.ShloMosaic.ValueIdx Cert.Coe

/-- Row `i` of query head `g` among the 1024 rows of a grid point. -/
def gi (g : Fin 4) (i : Fin 256) : Fin 1024 := ⟨256 * g.val + i.val, by omega⟩

theorem sum_gi (f : Fin 1024 → ℝ) : ∑ r, f r = ∑ g, ∑ i, f (gi g i) := by
  rw [← Fintype.sum_prod_type' fun g i => f (gi g i)]
  refine (Equiv.sum_comp (finProdFinEquiv (m := 4) (n := 256)) f).symm.trans
    (Finset.sum_congr rfl fun x _ => congrArg f (Fin.ext ?_))
  show x.2.val + 256 * x.1.val = 256 * x.1.val + x.2.val
  omega

theorem gi_split (r : Fin 1024) : r = gi ⟨r.val / 256, by omega⟩ ⟨r.val % 256, by omega⟩ :=
  Fin.ext (by simp only [gi]; omega)

/-- The loaded arrays hold real numbers: the queries and the cotangent of four heads' 256 rows, the keys and the
values of 33 chunks, and two numbers per row. -/
structure Holds (I : Ins Ideal) (q ct : Fin 4 → Fin 256 → Fin 64 → ℝ) (k v : Fin 33 → Fin 256 → Fin 64 → ℝ)
    (l δ : Fin 4 → Fin 256 → ℝ) : Prop where
  hq : ∀ g i d, I.q (ix3 g i d) = (q g i d : EReal)
  hqt : ∀ g d i, I.qt g (ix2 d i) = (q g i d : EReal)
  hk : ∀ n j d, I.k n (ix3 0 j d) = (k n j d : EReal)
  hkt : ∀ n d j, I.kt n (ix2 d j) = (k n j d : EReal)
  hv : ∀ n j d, I.v n (ix3 0 j d) = (v n j d : EReal)
  hct : ∀ g i d, I.ct (ix3 g i d) = (ct g i d : EReal)
  hctt : ∀ g d i, I.ctt g (ix2 d i) = (ct g i d : EReal)
  hlse : ∀ g i x, I.lse (ix3 g i x) = (l g i : EReal)
  hdelta : ∀ g i x, I.delta (ix3 g i x) = (δ g i : EReal)

/-- The position of `(a, b)` in row-major order. -/
theorem pos2 {n0 n1 : ℕ} (a : Fin n0) (b : Fin n1) : ((⟨2, ![n0, n1]⟩ : Shape).rowMajor (ix2 a b)).val = a.val * n1 + b.val :=
  Shape.rowMajor_val_two (d := ![n0, n1]) (ix2 a b)

/-- The position of `(a, b, c)` in row-major order. -/
theorem pos3 {n0 n1 n2 : ℕ} (a : Fin n0) (b : Fin n1) (c : Fin n2) :
    ((⟨3, ![n0, n1, n2]⟩ : Shape).rowMajor (ix3 a b c)).val = (a.val * n1 + b.val) * n2 + c.val :=
  Shape.rowMajor_val_three (d := ![n0, n1, n2]) (ix3 a b c)

section Layout

variable {α : Type}

/-- The four heads' rows one under the other. -/
theorem stack_apply (x : S4x256x64.Idx → α) (g : Fin 4) (i : Fin 256) (d : Fin 64) :
    shapeCast S1024x64 (shapeCast S4x256x64 x shapeCasts_S4x256x64_S4x256x64) shapeCasts_S4x256x64_S1024x64 (ix2 (gi g i) d)
      = x (ix3 g i d) := by
  rw [shapeCast_apply (s := S4x256x64) (t := S1024x64) _ _ _ (ix3 g i d)
    ((pos3 g i d).trans (Eq.trans (by show _ = (256 * g.val + i.val) * 64 + d.val; omega) (pos2 (gi g i) d).symm))]
  exact shapeCast_apply (s := S4x256x64) (t := S4x256x64) _ _ _ (ix3 g i d) rfl

/-- A number per row, spread over the 256 keys of a chunk. -/
theorem spread_apply (x : S4x256x128.Idx → α) (g : Fin 4) (i j : Fin 256) :
    concatenate S1024x256 1 [⟨S1024x128, shapeCast S1024x128 (shapeCast S4x256x128 x shapeCasts_S4x256x128_S4x256x128) shapeCasts_S4x256x128_S1024x128⟩, ⟨S1024x128, shapeCast S1024x128 (shapeCast S4x256x128 x shapeCasts_S4x256x128_S4x256x128) shapeCasts_S4x256x128_S1024x128⟩]
      concatenates_S1024x128_S1024x128_S1024x256_d1 (ix2 (gi g i) j) = x (ix3 g i ⟨j.val % 128, by omega⟩) := by
  refine (concatenate_replicate_apply (t := S1024x256) (s₁ := S1024x128) 1 2 _ concatenates_S1024x128_S1024x128_S1024x256_d1
    rfl (ix2 (gi g i) j) (ix2 (gi g i) ⟨j.val % 128, by omega⟩) rfl ?_).trans ?_
  · intro b hb
    match b with
    | ⟨0, _⟩ => rfl
    | ⟨1, _⟩ => exact absurd rfl hb
  rw [shapeCast_apply (s := S4x256x128) (t := S1024x128) _ _ _ (ix3 g i ⟨j.val % 128, by omega⟩)
    ((pos3 g i _).trans (Eq.trans (by show (g.val * 256 + i.val) * 128 + j.val % 128 = (256 * g.val + i.val) * 128 + j.val % 128; omega) (pos2 (gi g i) _).symm))]
  exact shapeCast_apply (s := S4x256x128) (t := S4x256x128) _ _ _ _ rfl

/-- The four heads' transposed rows side by side. -/
theorem beside_apply (x : Fin 4 → S64x256.Idx → α) (g : Fin 4) (i : Fin 256) (d : Fin 64) :
    concatenate S64x1024 1 [⟨S64x256, shapeCast S64x256 (x 0) shapeCasts_S64x256_S64x256⟩, ⟨S64x256, shapeCast S64x256 (x 1) shapeCasts_S64x256_S64x256⟩, ⟨S64x256, shapeCast S64x256 (x 2) shapeCasts_S64x256_S64x256⟩, ⟨S64x256, shapeCast S64x256 (x 3) shapeCasts_S64x256_S64x256⟩]
      concatenates_S64x256_S64x256_S64x256_S64x256_S64x1024_d1 (ix2 d (gi g i)) = x g (ix2 d i) := by
  refine (concatenate_ofFn_apply (t := S64x1024) (s₁ := S64x256) 1 (N := 4)
    (fun n => shapeCast S64x256 (x n) shapeCasts_S64x256_S64x256) concatenates_S64x256_S64x256_S64x256_S64x256_S64x1024_d1
    rfl 256 rfl (ix2 d (gi g i)) g (by show (256 * g.val + i.val) / 256 = g.val; omega) (ix2 d i)
    (by show i.val = (256 * g.val + i.val) % 256; omega) ?_).trans ?_
  · intro b hb
    match b with
    | ⟨0, _⟩ => rfl
    | ⟨1, _⟩ => exact absurd rfl hb
  exact shapeCast_apply (s := S64x256) (t := S64x256) _ _ _ _ rfl

theorem same_apply (x : S64x256.Idx → α) (y : S64x256.Idx) : shapeCast S64x256 x shapeCasts_S64x256_S64x256 y = x y :=
  shapeCast_apply (s := S64x256) (t := S64x256) _ _ _ _ rfl

theorem drop1_apply (x : S1x256x64.Idx → α) (j : Fin 256) (d : Fin 64) :
    shapeCast S256x64 x shapeCasts_S1x256x64_S256x64 (ix2 j d) = x (ix3 0 j d) :=
  shapeCast_apply (s := S1x256x64) (t := S256x64) _ _ _ _
    ((pos3 0 j d).trans (Eq.trans (by show (0 * 256 + j.val) * 64 + d.val = _; omega) (pos2 j d).symm))

end Layout

/-! ## The products, from zero -/

section Products

variable {φ₁ φ₂ : FTy}

theorem zero_add_dot {n : ℕ} {a b : Fin n → EReal} {f g : Fin n → ℝ} (ha : ∀ i, a i = f i) (hb : ∀ i, b i = g i) :
    Ideal.ofBits .f32 0x00000000#32 + ∑ i, a i * b i = ((∑ i, f i * g i : ℝ) : EReal) := by
  rw [Coe.zero, EReal.coe_zero, zero_add]; exact dot ha hb

/-- Rows by the keys of a chunk. -/
theorem rows_apply (A : FVec Ideal S1024x64 φ₁) (B : FVec Ideal S256x64 φ₂) (r : Fin 1024) (j : Fin 256) {f g : Fin 64 → ℝ}
    (ha : ∀ d, A (ix2 r d) = (f d : EReal)) (hb : ∀ d, B (ix2 j d) = (g d : EReal)) :
    matmul dot_S1024x64_S256x64_S1024x256_1_1_0_0_n_n none A B (constant S1024x256 .f32 0x00000000#32) (ix2 r j)
      = ((∑ d, f d * g d : ℝ) : EReal) :=
  (Ideal.matmul_transposedRhs_apply (M := 1024) (K := 64) (N := 256) none A B (constant S1024x256 .f32 0x00000000#32) r j).trans
    (zero_add_dot ha hb)

/-- The rows summed for a key of a chunk. -/
theorem keys_apply (A : FVec Ideal S64x1024 φ₁) (B : FVec Ideal S1024x256 φ₂) (d : Fin 64) (j : Fin 256) {f g : Fin 4 → Fin 256 → ℝ}
    (ha : ∀ h i, A (ix2 d (gi h i)) = (f h i : EReal)) (hb : ∀ h i, B (ix2 (gi h i) j) = (g h i : EReal)) :
    matmul dot_S64x1024_S1024x256_S64x256_1_0_0_1_n_n none A B (constant S64x256 .f32 0x00000000#32) (ix2 d j)
      = ((∑ h, ∑ i, f h i * g h i : ℝ) : EReal) := by
  refine ((Ideal.matmul_plain_apply (M := 64) (K := 1024) (N := 256) none A B (constant S64x256 .f32 0x00000000#32) d j).trans
    (zero_add_dot (f := fun r => f ⟨r.val / 256, by omega⟩ ⟨r.val % 256, by omega⟩)
      (g := fun r => g ⟨r.val / 256, by omega⟩ ⟨r.val % 256, by omega⟩) (fun r => ?_) fun r => ?_)).trans ?_
  · exact (congrArg (fun r => A (ix2 d r)) (gi_split r)).trans (ha _ _)
  · exact (congrArg (fun r => B (ix2 r j)) (gi_split r)).trans (hb _ _)
  · rw [sum_gi]
    refine congrArg _ (Finset.sum_congr rfl fun h _ => Finset.sum_congr rfl fun i _ => ?_)
    have e1 : (⟨(gi h i).val / 256, by omega⟩ : Fin 4) = h := Fin.ext (by show (256 * h.val + i.val) / 256 = h.val; omega)
    have e2 : (⟨(gi h i).val % 256, by omega⟩ : Fin 256) = i := Fin.ext (by show (256 * h.val + i.val) % 256 = i.val; omega)
    rw [e1, e2]

/-- The keys of a chunk summed for a row. -/
theorem queries_apply (A : FVec Ideal S64x256 φ₁) (B : FVec Ideal S256x1024 φ₂) (d : Fin 64) (r : Fin 1024) {f g : Fin 256 → ℝ}
    (ha : ∀ j, A (ix2 d j) = (f j : EReal)) (hb : ∀ j, B (ix2 j r) = (g j : EReal)) :
    matmul dot_S64x256_S256x1024_S64x1024_1_0_0_1_n_n none A B (constant S64x1024 .f32 0x00000000#32) (ix2 d r)
      = ((∑ j, f j * g j : ℝ) : EReal) :=
  (Ideal.matmul_plain_apply (M := 64) (K := 256) (N := 1024) none A B (constant S64x1024 .f32 0x00000000#32) d r).trans
    (zero_add_dot ha hb)

end Products

section Values

variable {I : Ins Ideal} {q ct : Fin 4 → Fin 256 → Fin 64 → ℝ} {k v : Fin 33 → Fin 256 → Fin 64 → ℝ} {l δ : Fin 4 → Fin 256 → ℝ}
  (H : Holds I q ct k v l δ)

/-- The weight of key `j` of chunk `n` in row `i` of head `g`. -/
def weight (q : Fin 4 → Fin 256 → Fin 64 → ℝ) (k : Fin 33 → Fin 256 → Fin 64 → ℝ) (l : Fin 4 → Fin 256 → ℝ)
    (n : Fin 33) (g : Fin 4) (i j : Fin 256) : ℝ := (2 : ℝ) ^ ((∑ d, q g i d * k n j d) - l g i)

/-- The gradient of that key's score. -/
def grad (q ct : Fin 4 → Fin 256 → Fin 64 → ℝ) (k v : Fin 33 → Fin 256 → Fin 64 → ℝ) (l δ : Fin 4 → Fin 256 → ℝ)
    (n : Fin 33) (g : Fin 4) (i j : Fin 256) : ℝ := weight q k l n g i j * ((∑ d, ct g i d * v n j d) - δ g i)

theorem exp2_of {a : EReal} {x : ℝ} (ha : a = (x : EReal)) : Ideal.exp2 a = (((2 : ℝ) ^ x : ℝ) : EReal) := by
  subst ha; rfl

include H

theorem scores_apply (n : Fin 33) (g : Fin 4) (i j : Fin 256) :
    scores I n (ix2 (gi g i) j) = ((∑ d, q g i d * k n j d : ℝ) : EReal) :=
  rows_apply (k0_pay12 I.q) (shapeCast S256x64 (I.k n) shapeCasts_S1x256x64_S256x64) (gi g i) j
    (fun d => (stack_apply I.q g i d).trans (H.hq g i d)) fun d => (drop1_apply (I.k n) j d).trans (H.hk n j d)

theorem weight_apply (n : Fin 33) (g : Fin 4) (i j : Fin 256) :
    k0_pay19 (scores I n) I.lse (ix2 (gi g i) j) = (weight q k l n g i j : EReal) :=
  exp2_of (Coe.subf (scores_apply H n g i j) ((spread_apply I.lse g i j).trans (H.hlse g i _)))

theorem grad_apply (n : Fin 33) (g : Fin 4) (i j : Fin 256) :
    k0_pay20 (k0_pay13 I.ct) (k0_pay17 (I.v n)) (scores I n) I.lse I.delta (ix2 (gi g i) j)
      = (grad q ct k v l δ n g i j : EReal) :=
  Coe.mulf (weight_apply H n g i j) (Coe.subf
    (rows_apply (k0_pay13 I.ct) (k0_pay17 (I.v n)) (gi g i) j
      (fun d => (stack_apply I.ct g i d).trans (H.hct g i d)) fun d => (drop1_apply (I.v n) j d).trans (H.hv n j d))
    ((spread_apply I.delta g i j).trans (H.hdelta g i _)))

theorem dvStep_apply (n : Fin 33) (old : Vec Ideal S64x256 .f32) (d : Fin 64) (j : Fin 256) {o : ℝ}
    (ho : old (ix2 d j) = (o : EReal)) :
    dvStep I n old (ix2 d j) = ((o + ∑ g, ∑ i, ct g i d * weight q k l n g i j : ℝ) : EReal) :=
  Coe.addf ((same_apply old (ix2 d j)).trans ho)
    (keys_apply (k0_pay15 (I.ctt 0) (I.ctt 1) (I.ctt 2) (I.ctt 3)) (truncf .bf16 (k0_pay19 (scores I n) I.lse) bitsLt_bf16_f32) d j
      (fun g i => (beside_apply I.ctt g i d).trans (H.hctt g d i)) fun g i => weight_apply H n g i j)

theorem dkStep_apply (n : Fin 33) (old : Vec Ideal S64x256 .f32) (d : Fin 64) (j : Fin 256) {o : ℝ}
    (ho : old (ix2 d j) = (o : EReal)) :
    dkStep I n old (ix2 d j) = ((o + ∑ g, ∑ i, q g i d * grad q ct k v l δ n g i j : ℝ) : EReal) :=
  Coe.addf ((same_apply old (ix2 d j)).trans ho)
    (keys_apply (k0_pay14 (I.qt 0) (I.qt 1) (I.qt 2) (I.qt 3))
      (truncf .bf16 (k0_pay20 (k0_pay13 I.ct) (k0_pay17 (I.v n)) (scores I n) I.lse I.delta) bitsLt_bf16_f32) d j
      (fun g i => (beside_apply I.qt g i d).trans (H.hqt g d i)) fun g i => grad_apply H n g i j)

theorem dqStep_apply (n : Fin 33) (old : FVec Ideal S64x1024 .f32) (d : Fin 64) (g : Fin 4) (i : Fin 256) {o : ℝ}
    (ho : old (ix2 d (gi g i)) = (o : EReal)) :
    dqStep I n old (ix2 d (gi g i)) = ((o + ∑ j, k n j d * grad q ct k v l δ n g i j : ℝ) : EReal) :=
  Coe.addf ho
    (queries_apply (shapeCast S64x256 (I.kt n) shapeCasts_S64x256_S64x256)
      (truncf .bf16 (transpose S256x1024 [1, 0] (k0_pay20 (k0_pay13 I.ct) (k0_pay17 (I.v n)) (scores I n) I.lse I.delta) transposes_S1024x256_p1_0_S256x1024) bitsLt_bf16_f32) d (gi g i)
      (fun j => (same_apply (I.kt n) (ix2 d j)).trans (H.hkt n d j))
      fun j => (transpose_apply (s := S1024x256) (t := S256x1024) [1, 0] _ transposes_S1024x256_p1_0_S256x1024 (ix2 j (gi g i)) (ix2 (gi g i) j) (fun b => by
        match b with
        | ⟨0, _⟩ => rfl
        | ⟨1, _⟩ => rfl)).trans (grad_apply H n g i j))

theorem dqSum_apply (d : Fin 64) (g : Fin 4) (i : Fin 256) : ∀ (n : ℕ) (h : n ≤ 33),
    dqSum I n h (ix2 d (gi g i))
      = ((∑ m : Fin n, ∑ j, k (m.castLE h) j d * grad q ct k v l δ (m.castLE h) g i j : ℝ) : EReal)
  | 0, _ => Coe.zero
  | n + 1, h => by
    rw [Fin.sum_univ_castSucc]
    exact dqStep_apply H ⟨n, h⟩ _ d g i (dqSum_apply d g i n (Nat.le_of_succ_le h))

end Values

end Cert.Steps
-- ==== Proof.Spec.lean ====
/- The backward pass of the attention over the real numbers: what both programs compute where their arguments are finite.
   A query row is one of 8448 (8192 latent rows, then 256 context rows), a key one of 8448 (the same rows); a latent row sees
   every key, a context row the context's keys alone. There are 4 key heads, and 4 query heads to each. -/
module

public import Idealize.ShloMosaic.Lib.Pipeline.Value
public import Idealize.ShloMosaic.PureOps.Ideal.Laws

@[expose] public section

noncomputable section

namespace Cert.Spec

/-! ## One row of a softmax -/

section Row

variable {σ : Type} [Fintype σ]

/-- A softmax does not change when a number is taken from every score. -/
theorem softmax_shift (S : σ → ℝ) (M : ℝ) (s : σ) :
    Real.exp (S s - M) / ∑ j, Real.exp (S j - M) = Real.exp (S s) / ∑ j, Real.exp (S j) := by
  simp only [Real.exp_sub, ← Finset.sum_div]
  rw [div_div_div_cancel_right₀ (Real.exp_ne_zero M)]

/-- A sum of exponentials is positive. -/
theorem sum_exp_pos [Nonempty σ] (S : σ → ℝ) : 0 < ∑ j, Real.exp (S j) :=
  Finset.sum_pos (fun j _ => Real.exp_pos (S j)) Finset.univ_nonempty

/-- The log of the sum of the exponentials, computed after a number has been taken from every score. -/
theorem log_sum_shift [Nonempty σ] (S : σ → ℝ) (M : ℝ) :
    M + Real.log (∑ j, Real.exp (S j - M)) = Real.log (∑ j, Real.exp (S j)) := by
  simp only [Real.exp_sub, ← Finset.sum_div]
  rw [Real.log_div (sum_exp_pos S).ne' (Real.exp_ne_zero M), Real.log_exp]
  ring

/-- The gradient of a softmax as the quotient rule gives it, is `p (dp - ∑ p dp)`. -/
theorem softmax_grad [Nonempty σ] (S dp : σ → ℝ) (M : ℝ) (s : σ) :
    (dp s / (∑ j, Real.exp (S j - M))
        + -(∑ j, dp j * (1 / ((∑ j, Real.exp (S j - M)) * ∑ j, Real.exp (S j - M))) * Real.exp (S j - M)))
        * Real.exp (S s - M)
      = Real.exp (S s) / (∑ j, Real.exp (S j))
        * (dp s - ∑ j, Real.exp (S j) / (∑ i, Real.exp (S i)) * dp j) := by
  simp only [← softmax_shift S M]
  have hL := (sum_exp_pos fun j => S j - M).ne'
  generalize (∑ j, Real.exp (S j - M)) = L at hL ⊢
  have e : ∑ j, dp j * (1 / (L * L)) * Real.exp (S j - M) = (∑ j, Real.exp (S j - M) / L * dp j) / L := by
    rw [Finset.sum_div]; exact Finset.sum_congr rfl fun j _ => by ring
  rw [e]
  ring

end Row

/-! ## Sums over the keys -/

/-- The context's row `j`. -/
def ctx (j : Fin 256) : Fin 8448 := ⟨8192 + j.val, by omega⟩
/-- The latent row `j`. -/
def lat (j : Fin 8192) : Fin 8448 := ⟨j.val, by omega⟩
/-- Row `j` of the block `c` of 256 rows. -/
def row (c : Fin 33) (j : Fin 256) : Fin 8448 := ⟨256 * c.val + j.val, by omega⟩

theorem sum_lat_ctx (f : Fin 8448 → ℝ) : ∑ s, f s = ∑ j, f (lat j) + ∑ j, f (ctx j) :=
  Fin.sum_univ_add (a := 8192) (b := 256) f

theorem sum_ctx (f : Fin 8448 → ℝ) (h : ∀ j, f (lat j) = 0) : ∑ s, f s = ∑ j, f (ctx j) := by
  rw [sum_lat_ctx, Finset.sum_eq_zero fun j _ => h j, zero_add]

theorem sum_row (f : Fin 8448 → ℝ) : ∑ s, f s = ∑ c, ∑ j, f (row c j) := by
  rw [← Fintype.sum_prod_type' fun c j => f (row c j)]
  refine (Equiv.sum_comp (finProdFinEquiv (m := 33) (n := 256)) f).symm.trans
    (Finset.sum_congr rfl fun x _ => congrArg f (Fin.ext ?_))
  show x.2.val + 256 * x.1.val = 256 * x.1.val + x.2.val
  omega

/-! ## The attention and its gradients -/

section Attention

variable (Q CT : Fin 8448 → Fin 4 → Fin 4 → Fin 64 → ℝ) (K V : Fin 8448 → Fin 4 → Fin 64 → ℝ)

/-- Row `n` sees key `s`. -/
abbrev Sees (n s : Fin 8448) : Prop := n.val < 8192 ∨ 8192 ≤ s.val

/-- The score of the row `n` of the head `(h, g)` at the key `s`. -/
def score (n : Fin 8448) (h g : Fin 4) (s : Fin 8448) : ℝ := (∑ d, K s h d * Q n h g d) * (1 / 8)
/-- Its exponential, or zero where the row doesn't see the key. -/
def expo (n : Fin 8448) (h g : Fin 4) (s : Fin 8448) : ℝ := if Sees n s then Real.exp (score Q K n h g s) else 0
/-- The sum of a row. -/
def total (n : Fin 8448) (h g : Fin 4) : ℝ := ∑ s, expo Q K n h g s
/-- The probabilities. -/
def prob (n : Fin 8448) (h g : Fin 4) (s : Fin 8448) : ℝ := expo Q K n h g s / total Q K n h g
/-- The attention's output. -/
def outp (n : Fin 8448) (h g : Fin 4) (d : Fin 64) : ℝ := ∑ s, V s h d * prob Q K n h g s
/-- The gradient of the probabilities. -/
def dprob (n : Fin 8448) (h g : Fin 4) (s : Fin 8448) : ℝ := ∑ d, CT n h g d * V s h d
/-- What the backward pass takes from each gradient of a row. -/
def delta (n : Fin 8448) (h g : Fin 4) : ℝ := ∑ d, CT n h g d * outp Q K V n h g d
/-- The gradient of the scores. -/
def dscore (n : Fin 8448) (h g : Fin 4) (s : Fin 8448) : ℝ :=
  prob Q K n h g s * (dprob CT V n h g s - delta Q CT K V n h g)
/-- The gradient of the queries, without the scores' factor 1/8. -/
def dq (n : Fin 8448) (h g : Fin 4) (d : Fin 64) : ℝ := ∑ s, dscore Q CT K V n h g s * K s h d
/-- The gradient of the keys. -/
def dk (s : Fin 8448) (h : Fin 4) (d : Fin 64) : ℝ := ∑ n, ∑ g, dscore Q CT K V n h g s * (1 / 8) * Q n h g d
/-- The gradient of the values. -/
def dv (s : Fin 8448) (h : Fin 4) (d : Fin 64) : ℝ := ∑ n, ∑ g, CT n h g d * prob Q K n h g s

theorem expo_lat (n : Fin 8192) (h g : Fin 4) (s : Fin 8448) :
    expo Q K (lat n) h g s = Real.exp (score Q K (lat n) h g s) := if_pos (Or.inl n.isLt)

theorem expo_ctx (n j : Fin 256) (h g : Fin 4) :
    expo Q K (ctx n) h g (ctx j) = Real.exp (score Q K (ctx n) h g (ctx j)) := if_pos (Or.inr (Nat.le_add_right _ _))

theorem expo_ctx_lat (n : Fin 256) (j : Fin 8192) (h g : Fin 4) : expo Q K (ctx n) h g (lat j) = 0 :=
  if_neg (by simp only [Sees, ctx, lat]; omega)

theorem prob_ctx_lat (n : Fin 256) (j : Fin 8192) (h g : Fin 4) : prob Q K (ctx n) h g (lat j) = 0 := by
  rw [prob, expo_ctx_lat, zero_div]

theorem dscore_ctx_lat (n : Fin 256) (j : Fin 8192) (h g : Fin 4) : dscore Q CT K V (ctx n) h g (lat j) = 0 := by
  rw [dscore, prob_ctx_lat, zero_mul]

theorem total_lat (n : Fin 8192) (h g : Fin 4) :
    total Q K (lat n) h g = ∑ s, Real.exp (score Q K (lat n) h g s) :=
  Finset.sum_congr rfl fun s _ => expo_lat Q K n h g s

theorem total_ctx (n : Fin 256) (h g : Fin 4) :
    total Q K (ctx n) h g = ∑ j, Real.exp (score Q K (ctx n) h g (ctx j)) := by
  rw [total, sum_ctx _ fun j => expo_ctx_lat Q K n j h g]
  exact Finset.sum_congr rfl fun s _ => expo_ctx Q K n s h g

/-- A row's number `delta` is the sum of its gradients weighted by its probabilities. -/
theorem delta_eq (n : Fin 8448) (h g : Fin 4) :
    delta Q CT K V n h g = ∑ s, prob Q K n h g s * dprob CT V n h g s := by
  simp only [delta, outp, dprob, Finset.mul_sum]
  rw [Finset.sum_comm]
  exact Finset.sum_congr rfl fun s _ => Finset.sum_congr rfl fun d _ => by ring

/-- The gradient of a latent row's scores by the quotient rule. -/
theorem dscore_lat (n : Fin 8192) (h g : Fin 4) (s : Fin 8448) (M : ℝ) :
    (dprob CT V (lat n) h g s / (∑ j, Real.exp (score Q K (lat n) h g j - M))
        + -(∑ j, dprob CT V (lat n) h g j * (1 / ((∑ j, Real.exp (score Q K (lat n) h g j - M))
            * ∑ j, Real.exp (score Q K (lat n) h g j - M))) * Real.exp (score Q K (lat n) h g j - M)))
        * Real.exp (score Q K (lat n) h g s - M) = dscore Q CT K V (lat n) h g s := by
  rw [softmax_grad (fun s => score Q K (lat n) h g s) (fun s => dprob CT V (lat n) h g s) M s, dscore, delta_eq]
  simp only [prob, total_lat, expo_lat]

/-- The gradient of a context row's scores by the quotient rule. -/
theorem dscore_ctx (n : Fin 256) (h g : Fin 4) (s : Fin 256) (M : ℝ) :
    (dprob CT V (ctx n) h g (ctx s) / (∑ j, Real.exp (score Q K (ctx n) h g (ctx j) - M))
        + -(∑ j, dprob CT V (ctx n) h g (ctx j) * (1 / ((∑ j, Real.exp (score Q K (ctx n) h g (ctx j) - M))
            * ∑ j, Real.exp (score Q K (ctx n) h g (ctx j) - M))) * Real.exp (score Q K (ctx n) h g (ctx j) - M)))
        * Real.exp (score Q K (ctx n) h g (ctx s) - M) = dscore Q CT K V (ctx n) h g (ctx s) := by
  rw [softmax_grad (fun s => score Q K (ctx n) h g (ctx s)) (fun s => dprob CT V (ctx n) h g (ctx s)) M s, dscore, delta_eq,
    sum_ctx _ fun j => by rw [prob_ctx_lat, zero_mul]]
  simp only [prob, total_ctx, expo_ctx]

theorem prob_lat (n : Fin 8192) (h g : Fin 4) (s : Fin 8448) (M : ℝ) :
    Real.exp (score Q K (lat n) h g s - M) / (∑ j, Real.exp (score Q K (lat n) h g j - M)) = prob Q K (lat n) h g s := by
  rw [softmax_shift (fun s => score Q K (lat n) h g s) M s, prob, total_lat, expo_lat]

theorem prob_ctx (n s : Fin 256) (h g : Fin 4) (M : ℝ) :
    Real.exp (score Q K (ctx n) h g (ctx s) - M) / (∑ j, Real.exp (score Q K (ctx n) h g (ctx j) - M))
      = prob Q K (ctx n) h g (ctx s) := by
  rw [softmax_shift (fun s => score Q K (ctx n) h g (ctx s)) M s, prob, total_ctx, expo_ctx]

theorem outp_ctx (n : Fin 256) (h g : Fin 4) (d : Fin 64) :
    outp Q K V (ctx n) h g d = ∑ j, V (ctx j) h d * prob Q K (ctx n) h g (ctx j) :=
  sum_ctx _ fun j => by rw [prob_ctx_lat, mul_zero]

theorem dq_ctx (n : Fin 256) (h g : Fin 4) (d : Fin 64) :
    dq Q CT K V (ctx n) h g d = ∑ j, dscore Q CT K V (ctx n) h g (ctx j) * K (ctx j) h d :=
  sum_ctx _ fun j => by rw [dscore_ctx_lat, zero_mul]

theorem dk_lat (s : Fin 8192) (h : Fin 4) (d : Fin 64) :
    dk Q CT K V (lat s) h d = ∑ n, ∑ g, dscore Q CT K V (lat n) h g (lat s) * (1 / 8) * Q (lat n) h g d := by
  rw [dk, sum_lat_ctx]
  simp only [dscore_ctx_lat, zero_mul, Finset.sum_const_zero, add_zero]

theorem dk_ctx (s : Fin 256) (h : Fin 4) (d : Fin 64) :
    dk Q CT K V (ctx s) h d = ∑ n, ∑ g, dscore Q CT K V (lat n) h g (ctx s) * (1 / 8) * Q (lat n) h g d
      + ∑ n, ∑ g, dscore Q CT K V (ctx n) h g (ctx s) * (1 / 8) * Q (ctx n) h g d := sum_lat_ctx _

theorem dv_lat (s : Fin 8192) (h : Fin 4) (d : Fin 64) :
    dv Q CT K (lat s) h d = ∑ n, ∑ g, CT (lat n) h g d * prob Q K (lat n) h g (lat s) := by
  rw [dv, sum_lat_ctx]
  simp only [prob_ctx_lat, mul_zero, Finset.sum_const_zero, add_zero]

theorem dv_ctx (s : Fin 256) (h : Fin 4) (d : Fin 64) :
    dv Q CT K (ctx s) h d = ∑ n, ∑ g, CT (lat n) h g d * prob Q K (lat n) h g (ctx s)
      + ∑ n, ∑ g, CT (ctx n) h g d * prob Q K (ctx n) h g (ctx s) := sum_lat_ctx _

theorem total_pos (n : Fin 8448) (h g : Fin 4) : 0 < total Q K n h g := by
  by_cases hn : n.val < 8192
  · rw [show n = lat ⟨n.val, hn⟩ from rfl, total_lat]; exact sum_exp_pos _
  · rw [show n = ctx ⟨n.val - 8192, by omega⟩ from Fin.ext (by simp only [ctx]; omega), total_ctx]; exact sum_exp_pos _

/-- The probability of a key that is seen, from the row's saved log-sum. -/
theorem prob_of_log (n : Fin 8448) (h g : Fin 4) (s : Fin 8448) (hs : Sees n s) :
    (2 : ℝ) ^ ((∑ d, Q n h g d * (1 / 8) / Real.log 2 * K s h d) - Real.log (total Q K n h g) / Real.log 2)
      = prob Q K n h g s := by
  have h2 : Real.log 2 ≠ 0 := (Real.log_pos one_lt_two).ne'
  have e : (∑ d, Q n h g d * (1 / 8) / Real.log 2 * K s h d) = score Q K n h g s / Real.log 2 := by
    rw [score, Finset.sum_mul, Finset.sum_div]
    exact Finset.sum_congr rfl fun d _ => by ring
  rw [e, Real.rpow_def_of_pos two_pos, ← sub_div, mul_div_cancel₀ _ h2, Real.exp_sub,
    Real.exp_log (total_pos Q K n h g), prob, expo, if_pos hs]

end Attention

end Cert.Spec

end
-- ==== Proof.Stores.lean ====
/- The stores of one grid point read back, over real numbers. -/
module

public import proofs.«01_k».proof.Proof.Chunk
public import proofs.«01_k».proof.Proof.Spec
public import Idealize.ShloMosaic.Lib.WholeRead

@[expose] public section

set_option maxRecDepth 16384

noncomputable section

namespace Cert.Steps

open Cert.KernelIdeal Cert.KernelIdeal.Gen Idealize.ShloMosaic Idealize.ShloMosaic.TcCoe Idealize.SL.Sem
open Idealize.ShloMosaic.ValueIdx Cert.Coe Cert.Spec

theorem row_split (s : Fin 8448) : s = row ⟨s.val / 256, by omega⟩ ⟨s.val % 256, by omega⟩ :=
  Fin.ext (by simp only [row]; omega)

theorem cols_idx (n : Fin 33) (d : Fin 64) (j : Fin 256) : (cols n).toLoadRect.idx (ix2 d j) = ix2 d (row n j) := by
  funext a; apply Fin.ext
  match a with
  | ⟨0, _⟩ => show 0 + 1 * d.val = d.val; omega
  | ⟨1, _⟩ => show 256 * n.val + 1 * j.val = 256 * n.val + j.val; omega

theorem heads_idx (g : Fin 4) (d : Fin 64) (i : Fin 256) : (heads g).toLoadRect.idx (ix2 d i) = ix2 (rowOf g d) i := by
  funext a; apply Fin.ext
  match a with
  | ⟨0, _⟩ => show 64 * g.val + 1 * d.val = 64 * g.val + d.val; omega
  | ⟨1, _⟩ => show 0 + 1 * i.val = i.val; omega

theorem rows_idx (n : Fin 33) (j : Fin 256) (d : Fin 64) : (rows n).toLoadRect.idx (ix3 0 j d) = ix3 0 (row n j) d := by
  funext a; apply Fin.ext
  match a with
  | ⟨0, _⟩ => rfl
  | ⟨1, _⟩ => show 256 * n.val + 1 * j.val = 256 * n.val + j.val; omega
  | ⟨2, _⟩ => show 0 + 1 * d.val = d.val; omega

theorem firstStores_zero (m : Memref sig .tc .vmem S64x8448 .f32) (step : Fin 33 → Vec Ideal S64x256 .f32 → FVec Ideal S64x256 .f32)
    (zero : FVec Ideal S64x8448 .f32) (h : 0 ≤ 33) : firstStores m step zero 0 h
      = [⟨Rect.unit ![0, 0] S64x8448.size inb_S64x8448_S64x8448_0_0, zero⟩] := rfl

theorem firstStores_succ (m : Memref sig .tc .vmem S64x8448 .f32) (step : Fin 33 → Vec Ideal S64x256 .f32 → FVec Ideal S64x256 .f32)
    (zero : FVec Ideal S64x8448 .f32) (n : ℕ) (h : n + 1 ≤ 33) : firstStores m step zero (n + 1) h
      = ⟨cols ⟨n, h⟩, step ⟨n, h⟩ (m.view.readCov (firstStores m step zero n (Nat.le_of_succ_le h)) (cols ⟨n, h⟩).toLoadRect)⟩
        :: firstStores m step zero n (Nat.le_of_succ_le h) := rfl

section Reads

variable {sp : Space} (v : View sig .tc sp S64x8448 .f32) (f : v.ty.Contents (Elt Ideal))
  (m : Memref sig .tc .vmem S64x8448 .f32) (hm : m.IsWhole)
  {step : Fin 33 → Vec Ideal S64x256 .f32 → FVec Ideal S64x256 .f32} {G : Fin 33 → Fin 64 → Fin 256 → ℝ}
  (hstep : ∀ (n : Fin 33) (old : Vec Ideal S64x256 .f32) (d : Fin 64) (j : Fin 256) (o : ℝ),
    old (ix2 d j) = (o : EReal) → step n old (ix2 d j) = ((o + G n d j : ℝ) : EReal))

/-- An entry of another chunk is not in the rectangle of chunk `n`. -/
theorem miss (n n' : Fin 33) (h : n' ≠ n) (j : Fin 256) :
    (row n j).val < 256 * n'.val ∨ 256 * n'.val + 256 ≤ (row n j).val := by
  have : n'.val ≠ n.val := fun e => h (Fin.ext e)
  show 256 * n.val + j.val < 256 * n'.val ∨ 256 * n'.val + 256 ≤ 256 * n.val + j.val
  omega

theorem hit (n : Fin 33) (d : Fin 64) (j : Fin 256) : ∀ a : Fin 2,
    ((ix2 d (row n j) : S64x8448.Idx) a).val = (![0, 256 * n.val] : Fin 2 → ℕ) a + ((ix2 d j : S64x256.Idx) a).val
  | ⟨0, _⟩ => (Nat.zero_add _).symm
  | ⟨1, _⟩ => rfl

include hstep

/-- A later block of latent rows: each entry is what the block before left with its chunk's part added. -/
theorem laterStores_apply (old : Vec Ideal S64x8448 .f32) (n : Fin 33) (d : Fin 64) (j : Fin 256) {o : ℝ}
    (ho : old (ix2 d (row n j)) = (o : EReal)) :
    v.read (Elt Ideal) (v.writes (Elt Ideal) f (laterStores m hm step old 33 (Nat.le_refl 33))) (ix2 d (row n j))
      = ((o + G n d j : ℝ) : EReal) := by
  refine (View.read_tilePieces v f S64x256.size (fun n : Fin 33 => ![0, 256 * n.val]) inb2 _ 33 (Nat.le_refl 33)
    (ix2 d (row n j)) n n.isLt (ix2 d j) (hit n d j) (1 : Fin 2) fun n' h => miss n n' h j).trans ?_
  refine hstep n _ d j o ?_
  exact (hm.readAt_unread old (cols n).toLoadRect (ix2 d j)).trans ((congrArg old (cols_idx n d j)).trans ho)

/-- The context rows: an entry of the last chunk gets its part, the others stay. -/
theorem lastStore_apply (old : Vec Ideal S64x8448 .f32) (n : Fin 33) (d : Fin 64) (j : Fin 256) {o : ℝ}
    (ho : old (ix2 d (row n j)) = (o : EReal)) (hf : v.read (Elt Ideal) f (ix2 d (row n j)) = (o : EReal)) :
    v.read (Elt Ideal) (v.writes (Elt Ideal) f (lastStore m hm step old)) (ix2 d (row n j))
      = ((o + if n = 32 then G 32 d j else 0 : ℝ) : EReal) := by
  by_cases h : n = 32
  · subst h
    rw [if_pos rfl]
    refine (View.read_writes_cons_unit_of_mem v f (inb2 32) _ [] (ix2 d (row 32 j)) (ix2 d j) rfl (hit 32 d j)).trans ?_
    refine hstep 32 _ d j o ?_
    exact (hm.readAt_unread old (cols 32).toLoadRect (ix2 d j)).trans ((congrArg old (cols_idx 32 d j)).trans ho)
  · rw [if_neg h, add_zero]
    exact (View.read_writes_cons_unit_of_not_mem v f (inb2 32) _ [] (ix2 d (row n j)) rfl (1 : Fin 2)
      (miss n 32 (Ne.symm h) j)).trans hf

/-- The first block of a head: each entry of the first `k` chunks is its chunk's part, the others are zero. -/
theorem firstStores_apply {zero : FVec Ideal S64x8448 .f32} (hz : ∀ y, zero y = ((0 : ℝ) : EReal)) :
    ∀ (k : ℕ) (hk : k ≤ 33) (n : Fin 33) (d : Fin 64) (j : Fin 256),
      View.canon (Val := Elt Ideal) (firstStores m step zero k hk) (ix2 d (row n j))
        = ((if n.val < k then G n d j else 0 : ℝ) : EReal)
  | 0, _, n, d, j => by
    rw [firstStores_zero, if_neg (Nat.not_lt_zero _), ← View.read_writes_junk_apply_eq_canon m.view]
    refine (View.read_writes_cons_unit_of_mem m.view _ inb_S64x8448_S64x8448_0_0 _ _ (ix2 d (row n j)) (ix2 d (row n j))
      rfl fun a => ?_).trans (hz (ix2 d (row n j)))
    match a with
    | ⟨0, _⟩ => exact (Nat.zero_add _).symm
    | ⟨1, _⟩ => exact (Nat.zero_add _).symm
  | k + 1, hk, n, d, j => by
    rw [firstStores_succ, ← View.read_writes_junk_apply_eq_canon m.view]
    by_cases h : (⟨k, hk⟩ : Fin 33) = n
    · subst h
      rw [if_pos (Nat.lt_succ_self k)]
      refine (View.read_writes_cons_unit_of_mem m.view _ (inb2 ⟨k, hk⟩) _ _ (ix2 d (row ⟨k, hk⟩ j)) (ix2 d j) rfl
        (hit ⟨k, hk⟩ d j)).trans ?_
      rw [← zero_add (G ⟨k, hk⟩ d j)]
      refine hstep ⟨k, hk⟩ _ d j 0 ?_
      rw [View.readCov_eq_canon']
      refine (congrArg (View.canon (Val := Elt Ideal) _) (cols_idx ⟨k, hk⟩ d j)).trans ?_
      refine (firstStores_apply hz k (Nat.le_of_succ_le hk) ⟨k, hk⟩ d j).trans ?_
      rw [if_neg (Nat.lt_irrefl k)]
    · refine (View.read_writes_cons_unit_of_not_mem m.view _ (inb2 ⟨k, hk⟩) _ _ (ix2 d (row n j)) rfl (1 : Fin 2)
        (miss n ⟨k, hk⟩ h j)).trans ?_
      rw [View.read_writes_junk_apply_eq_canon m.view]
      refine (firstStores_apply hz k (Nat.le_of_succ_le hk) n d j).trans ?_
      have : n.val ≠ k := fun e => h (Fin.ext e.symm)
      rw [if_congr (show n.val < k ↔ n.val < k + 1 by omega) rfl rfl]

/-- The context rows' stores of the keys' gradient, scaled. -/
theorem scaledStores_apply (old : Vec Ideal S64x8448 .f32) (n : Fin 33) (d : Fin 64) (j : Fin 256) {o : ℝ}
    (ho : old (ix2 d (row n j)) = (o : EReal)) :
    v.read (Elt Ideal) (v.writes (Elt Ideal) f (scaledStores m hm step old)) (ix2 d (row n j))
      = (((o + if n = 32 then G 32 d j else 0) * Real.log 2 : ℝ) : EReal) := by
  refine (View.read_writes_cons_unit_of_mem v f inb_S64x8448_S64x8448_0_0 _ _ (ix2 d (row n j)) (ix2 d (row n j))
      rfl fun a => ?_).trans ?_
  · match a with
    | ⟨0, _⟩ => exact (Nat.zero_add _).symm
    | ⟨1, _⟩ => exact (Nat.zero_add _).symm
  refine Coe.mulf ?_ (rfl : Named.named (F := Ideal) κ "ln2" (φ := .f32) 0x3F317218#32 = _)
  refine (shapeCast_apply (s := S64x8448) (t := S64x8448) _ _ _ (ix2 d (row n j)) rfl).trans ?_
  refine Eq.trans ?_ (lastStore_apply m.view (hm.unread old) m hm hstep old n d j ho
    ((congrFun (hm.read_unread old) _).trans ho))
  refine congrArg (m.view.read (Elt Ideal) _) ?_
  funext a; apply Fin.ext
  match a with
  | ⟨0, _⟩ => show 0 + 1 * d.val = d.val; omega
  | ⟨1, _⟩ => show 0 + 1 * (row n j).val = (row n j).val; omega

end Reads

theorem inbQ (g : Fin 4) : ∀ a : Fin 2, (![0, 64 * g.val] : Fin 2 → ℕ) a + S256x64.size a ≤ S256x256.size a
  | 0 => Nat.le_refl 256
  | 1 => by
    show 64 * g.val + 64 ≤ 256
    omega

theorem slicesQ (g : Fin 4) : S64x1024.Slices ![0, 256 * g.val] S64x256 := ⟨rfl, fun a => by
  match a with
  | ⟨0, _⟩ => exact Nat.le_refl 64
  | ⟨1, _⟩ =>
    show 256 * g.val + 256 ≤ 1024
    omega⟩

/-- What the store of head `g` stores. -/
def dqPart (D : FVec Ideal S64x1024 .f32) (g : Fin 4) : FVec Ideal S256x64 .f32 :=
  transpose S256x64 [1, 0] (extractStridedSlice S64x256 ![0, 256 * g.val] D (slicesQ g)) transposes_S64x256_p1_0_S256x64

theorem dqStores_eq (D : FVec Ideal S64x1024 .f32) : dqStores D
    = View.tilePieces (s := S256x256) (e := .f32) (Val := Elt Ideal) S256x64.size (fun g : Fin 4 => ![0, 64 * g.val]) inbQ (dqPart D) 4 (Nat.le_refl 4) := by sl_kernel_rfl

/-- The four stores of the gradient of the queries. -/
theorem dqStores_apply {sp : Space} (v : View sig .tc sp S256x256 .f32) (f : v.ty.Contents (Elt Ideal))
    {D : FVec Ideal S64x1024 .f32} {G : Fin 4 → Fin 256 → Fin 64 → ℝ} (hD : ∀ d g i, D (ix2 d (gi g i)) = (G g i d : EReal))
    (i : Fin 256) (g : Fin 4) (d : Fin 64) :
    v.read (Elt Ideal) (v.writes (Elt Ideal) f (dqStores D)) (ix2 i (rowOf g d)) = (G g i d : EReal) := by
  refine (congrArg (fun L => v.read (Elt Ideal) (v.writes (Elt Ideal) f L) (ix2 i (rowOf g d))) (dqStores_eq D)).trans ?_
  refine (View.read_tilePieces v f S256x64.size (fun g : Fin 4 => ![0, 64 * g.val]) inbQ (dqPart D) 4 (Nat.le_refl 4)
    (ix2 i (rowOf g d)) g g.isLt (ix2 i d) (fun a => ?_) (1 : Fin 2) fun g' h => ?_).trans ?_
  · match a with
    | ⟨0, _⟩ => exact (Nat.zero_add _).symm
    | ⟨1, _⟩ => rfl
  · have : g'.val ≠ g.val := fun e => h (Fin.ext e)
    show 64 * g.val + d.val < 64 * g'.val ∨ 64 * g'.val + 64 ≤ 64 * g.val + d.val
    omega
  · refine (transpose_apply (s := S64x256) (t := S256x64) [1, 0] _ transposes_S64x256_p1_0_S256x64 (ix2 i d) (ix2 d i) fun b => ?_).trans ?_
    · match b with
      | ⟨0, _⟩ => rfl
      | ⟨1, _⟩ => rfl
    refine (extractStridedSlice_apply (s := S64x1024) (t := S64x256) ![0, 256 * g.val] D (slicesQ g) (ix2 d i) (ix2 d (gi g i)) fun b => ?_).trans (hD d g i)
    match b with
    | ⟨0, _⟩ => exact (Nat.zero_add _).symm
    | ⟨1, _⟩ => rfl

end Cert.Steps
-- ==== Proof.Blocks.lean ====
/- The blocks a grid point loads, as entries of the arrays the call is given. Point `33 h + c` works on the key head
`h` and the block `c` of 256 rows. -/
module

public import proofs.«01_k».proof.Proof.Stores

@[expose] public section

set_option maxRecDepth 16384

noncomputable section

namespace Cert.Steps

open Cert.KernelIdeal Cert.KernelIdeal.Gen Idealize.ShloMosaic Idealize.ShloMosaic.TcCoe Idealize.SL.Sem
open Idealize.ShloMosaic.ValueIdx Cert.Coe Cert.Spec

variable (m : (ℓ : Loc nD τ sig) → Buf (Elt Ideal) ℓ) (c : Dev nD)

/-- The key head of a grid point. -/
def hd (t : Fin cfg0.N) : Fin 4 := ⟨t.val / 33, by have : t.val < 132 := t.isLt; omega⟩
/-- The block of rows of a grid point. -/
def bk (t : Fin cfg0.N) : Fin 33 := ⟨t.val % 33, by omega⟩

/-- The arrays the call is given hold real numbers: the queries (scaled), the cotangent, the keys, the values, and two
numbers per row and query head. -/
structure Given (Q CT : Fin 8448 → Fin 4 → Fin 4 → Fin 64 → ℝ) (K V : Fin 8448 → Fin 4 → Fin 64 → ℝ)
    (L D : Fin 8448 → Fin 4 → Fin 4 → ℝ) : Prop where
  g0 : ∀ n h g d, (Gen.V m c main_v55 : Vec Ideal S16x8448x64 .bf16) (ix3 (head h g) n d) = (Q n h g d : EReal)
  g1 : ∀ n h g d, (Gen.V m c main_v58 : Vec Ideal S1024x8448 .bf16) (ix2 (col h g d) n) = (Q n h g d : EReal)
  g2 : ∀ s h d, (Gen.V m c main_v60 : Vec Ideal S4x8448x64 .bf16) (ix3 h s d) = (K s h d : EReal)
  g3 : ∀ s h d, (Gen.V m c main_v63 : Vec Ideal S256x8448 .bf16) (ix2 (rowOf h d) s) = (K s h d : EReal)
  g4 : ∀ s h d, (Gen.V m c main_v65 : Vec Ideal S4x8448x64 .bf16) (ix3 h s d) = (V s h d : EReal)
  g5 : ∀ n h g d, (Gen.V m c main_v67 : Vec Ideal S16x8448x64 .bf16) (ix3 (head h g) n d) = (CT n h g d : EReal)
  g6 : ∀ n h g d, (Gen.V m c main_v70 : Vec Ideal S1024x8448 .bf16) (ix2 (col h g d) n) = (CT n h g d : EReal)
  g7 : ∀ n h g x, (Gen.V m c main_v72 : Vec Ideal S16x8448x128 .f32) (ix3 (head h g) n x) = (L n h g : EReal)
  g8 : ∀ n h g x, (Gen.V m c main_v74 : Vec Ideal S16x8448x128 .f32) (ix3 (head h g) n x) = (D n h g : EReal)

/-! Where each block lies. -/

theorem at0 : ∀ t : Fin cfg0.N, win0_0.index t (0 : Fin 3) = t.val / 33 ∧ win0_0.index t (1 : Fin 3) = t.val % 33 ∧ win0_0.index t (2 : Fin 3) = 0 :=
  (by decide +kernel : ∀ t : Fin grid0.N, win0_0.index t (0 : Fin 3) = t.val / 33 ∧ win0_0.index t (1 : Fin 3) = t.val % 33 ∧ win0_0.index t (2 : Fin 3) = 0)
theorem at1 : ∀ t : Fin cfg0.N, win0_1.index t (0 : Fin 2) = t.val / 33 ∧ win0_1.index t (1 : Fin 2) = t.val % 33 :=
  (by decide +kernel : ∀ t : Fin grid0.N, win0_1.index t (0 : Fin 2) = t.val / 33 ∧ win0_1.index t (1 : Fin 2) = t.val % 33)
theorem at2 : ∀ t : Fin cfg0.N, win0_2.index t (0 : Fin 3) = t.val / 33 ∧ win0_2.index t (1 : Fin 3) = 0 ∧ win0_2.index t (2 : Fin 3) = 0 :=
  (by decide +kernel : ∀ t : Fin grid0.N, win0_2.index t (0 : Fin 3) = t.val / 33 ∧ win0_2.index t (1 : Fin 3) = 0 ∧ win0_2.index t (2 : Fin 3) = 0)
theorem at3 : ∀ t : Fin cfg0.N, win0_3.index t (0 : Fin 2) = t.val / 33 ∧ win0_3.index t (1 : Fin 2) = 0 :=
  (by decide +kernel : ∀ t : Fin grid0.N, win0_3.index t (0 : Fin 2) = t.val / 33 ∧ win0_3.index t (1 : Fin 2) = 0)
theorem at9 : ∀ t : Fin cfg0.N, win0_9.index t (0 : Fin 2) = t.val % 33 ∧ win0_9.index t (1 : Fin 2) = t.val / 33 :=
  (by decide +kernel : ∀ t : Fin grid0.N, win0_9.index t (0 : Fin 2) = t.val % 33 ∧ win0_9.index t (1 : Fin 2) = t.val / 33)
theorem at10 : ∀ t : Fin cfg0.N, win0_10.index t (0 : Fin 2) = t.val / 33 ∧ win0_10.index t (1 : Fin 2) = 0 :=
  (by decide +kernel : ∀ t : Fin grid0.N, win0_10.index t (0 : Fin 2) = t.val / 33 ∧ win0_10.index t (1 : Fin 2) = 0)

theorem emb0 (t : Fin cfg0.N) (g : Fin 4) (i : Fin 256) (d : Fin 64) :
    ((cfg0.win 0).blk t).view.emb (ix3 g i d : S4x256x64.Idx) = (ix3 (head (hd t) g) (row (bk t) i) d : S16x8448x64.Idx) := by
  obtain ⟨e0, e1, e2⟩ := at0 t
  funext a; apply Fin.ext
  match a with
  | ⟨0, _⟩ => show win0_0.index t (0 : Fin 3) * 4 + 1 * g.val = 4 * (t.val / 33) + g.val; omega
  | ⟨1, _⟩ => show win0_0.index t (1 : Fin 3) * 256 + 1 * i.val = 256 * (t.val % 33) + i.val; omega
  | ⟨2, _⟩ => show win0_0.index t (2 : Fin 3) * 64 + 1 * d.val = d.val; omega

theorem emb1 (t : Fin cfg0.N) (g : Fin 4) (i : Fin 256) (d : Fin 64) :
    ((cfg0.win 1).blk t).view.emb (ix2 (rowOf g d) i : S256x256.Idx) = (ix2 (col (hd t) g d) (row (bk t) i) : S1024x8448.Idx) := by
  obtain ⟨e0, e1⟩ := at1 t
  funext a; apply Fin.ext
  match a with
  | ⟨0, _⟩ => show win0_1.index t (0 : Fin 2) * 256 + 1 * (64 * g.val + d.val) = 256 * (t.val / 33) + 64 * g.val + d.val; omega
  | ⟨1, _⟩ => show win0_1.index t (1 : Fin 2) * 256 + 1 * i.val = 256 * (t.val % 33) + i.val; omega

theorem emb2 (t : Fin cfg0.N) (s : Fin 8448) (d : Fin 64) :
    ((cfg0.win 2).blk t).view.emb (ix3 0 s d : S1x8448x64.Idx) = (ix3 (hd t) s d : S4x8448x64.Idx) := by
  obtain ⟨e0, e1, e2⟩ := at2 t
  funext a; apply Fin.ext
  match a with
  | ⟨0, _⟩ => show win0_2.index t (0 : Fin 3) * 1 + 1 * 0 = t.val / 33; omega
  | ⟨1, _⟩ => show win0_2.index t (1 : Fin 3) * 8448 + 1 * s.val = s.val; omega
  | ⟨2, _⟩ => show win0_2.index t (2 : Fin 3) * 64 + 1 * d.val = d.val; omega

theorem emb3 (t : Fin cfg0.N) (s : Fin 8448) (d : Fin 64) :
    ((cfg0.win 3).blk t).view.emb (ix2 d s : S64x8448.Idx) = (ix2 (rowOf (hd t) d) s : S256x8448.Idx) := by
  obtain ⟨e0, e1⟩ := at3 t
  funext a; apply Fin.ext
  match a with
  | ⟨0, _⟩ => show win0_3.index t (0 : Fin 2) * 64 + 1 * d.val = 64 * (t.val / 33) + d.val; omega
  | ⟨1, _⟩ => show win0_3.index t (1 : Fin 2) * 8448 + 1 * s.val = s.val; omega

theorem emb7 (t : Fin cfg0.N) (g : Fin 4) (i : Fin 256) (x : Fin 128) :
    ((cfg0.win 7).blk t).view.emb (ix3 g i x : S4x256x128.Idx) = (ix3 (head (hd t) g) (row (bk t) i) x : S16x8448x128.Idx) := by
  obtain ⟨e0, e1, e2⟩ := at0 t
  funext a; apply Fin.ext
  match a with
  | ⟨0, _⟩ => show win0_0.index t (0 : Fin 3) * 4 + 1 * g.val = 4 * (t.val / 33) + g.val; omega
  | ⟨1, _⟩ => show win0_0.index t (1 : Fin 3) * 256 + 1 * i.val = 256 * (t.val % 33) + i.val; omega
  | ⟨2, _⟩ => show win0_0.index t (2 : Fin 3) * 128 + 1 * x.val = x.val; omega

theorem emb9 (t : Fin cfg0.N) (i : Fin 256) (g : Fin 4) (d : Fin 64) :
    ((cfg0.win 9).blk t).view.emb (ix2 i (rowOf g d) : S256x256.Idx) = (ix2 (row (bk t) i) (col (hd t) g d) : S8448x1024.Idx) := by
  obtain ⟨e0, e1⟩ := at9 t
  funext a; apply Fin.ext
  match a with
  | ⟨0, _⟩ => show win0_9.index t (0 : Fin 2) * 256 + 1 * i.val = 256 * (t.val % 33) + i.val; omega
  | ⟨1, _⟩ => show win0_9.index t (1 : Fin 2) * 256 + 1 * (64 * g.val + d.val) = 256 * (t.val / 33) + 64 * g.val + d.val; omega

theorem emb10 (t : Fin cfg0.N) (s : Fin 8448) (d : Fin 64) :
    ((cfg0.win 10).blk t).view.emb (ix2 d s : S64x8448.Idx) = (ix2 (rowOf (hd t) d) s : S256x8448.Idx) := by
  obtain ⟨e0, e1⟩ := at10 t
  funext a; apply Fin.ext
  match a with
  | ⟨0, _⟩ => show win0_10.index t (0 : Fin 2) * 64 + 1 * d.val = 64 * (t.val / 33) + d.val; omega
  | ⟨1, _⟩ => show win0_10.index t (1 : Fin 2) * 8448 + 1 * s.val = s.val; omega

/-- What point `t` loads. -/
abbrev insAt (t : Fin cfg0.N) : Ins Ideal :=
  insOf (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (iblk m c 0 t) (iblk m c 1 t) (iblk m c 2 t) (iblk m c 3 t)
    (iblk m c 4 t) (iblk m c 5 t) (iblk m c 6 t) (iblk m c 7 t) (iblk m c 8 t)

theorem whole3 {a b e : ℕ} (inb : ∀ x : Fin 3, (![0, 0, 0] : Fin 3 → ℕ) x + (![a, b, e] : Fin 3 → ℕ) x ≤ (![a, b, e] : Fin 3 → ℕ) x)
    (y : (⟨3, ![a, b, e]⟩ : Shape).Idx) :
    (Rect.unit (s := ⟨3, ![a, b, e]⟩) ![0, 0, 0] ![a, b, e] inb).toLoadRect.idx y = y := by
  funext x; apply Fin.ext
  match x with
  | ⟨0, _⟩ => show 0 + 1 * (y 0).val = (y 0).val; omega
  | ⟨1, _⟩ => show 0 + 1 * (y 1).val = (y 1).val; omega
  | ⟨2, _⟩ => show 0 + 1 * (y 2).val = (y 2).val; omega

variable {Q CT : Fin 8448 → Fin 4 → Fin 4 → Fin 64 → ℝ} {K V : Fin 8448 → Fin 4 → Fin 64 → ℝ} {L D : Fin 8448 → Fin 4 → Fin 4 → ℝ}
variable {m c}

theorem blk0 (H : Given m c Q CT K V L D) (t : Fin cfg0.N) (g : Fin 4) (i : Fin 256) (d : Fin 64) :
    (iblk m c 0 t : Vec Ideal S4x256x64 .bf16) (ix3 g i d) = ((Q (row (bk t) i) (hd t) g d : ℝ) : EReal) :=
  (congrArg (Gen.V m c main_v55) (emb0 t g i d)).trans (H.g0 _ _ _ _)

theorem blk1 (H : Given m c Q CT K V L D) (t : Fin cfg0.N) (g : Fin 4) (i : Fin 256) (d : Fin 64) :
    (iblk m c 1 t : Vec Ideal S256x256 .bf16) (ix2 (rowOf g d) i) = ((Q (row (bk t) i) (hd t) g d : ℝ) : EReal) :=
  (congrArg (Gen.V m c main_v58) (emb1 t g i d)).trans (H.g1 _ _ _ _)

theorem blk2 (H : Given m c Q CT K V L D) (t : Fin cfg0.N) (s : Fin 8448) (d : Fin 64) :
    (iblk m c 2 t : Vec Ideal S1x8448x64 .bf16) (ix3 0 s d) = ((K s (hd t) d : ℝ) : EReal) :=
  (congrArg (Gen.V m c main_v60) (emb2 t s d)).trans (H.g2 _ _ _)

theorem blk3 (H : Given m c Q CT K V L D) (t : Fin cfg0.N) (s : Fin 8448) (d : Fin 64) :
    (iblk m c 3 t : Vec Ideal S64x8448 .bf16) (ix2 d s) = ((K s (hd t) d : ℝ) : EReal) :=
  (congrArg (Gen.V m c main_v63) (emb3 t s d)).trans (H.g3 _ _ _)

theorem blk4 (H : Given m c Q CT K V L D) (t : Fin cfg0.N) (s : Fin 8448) (d : Fin 64) :
    (iblk m c 4 t : Vec Ideal S1x8448x64 .bf16) (ix3 0 s d) = ((V s (hd t) d : ℝ) : EReal) :=
  (congrArg (Gen.V m c main_v65) (emb2 t s d)).trans (H.g4 _ _ _)

theorem blk5 (H : Given m c Q CT K V L D) (t : Fin cfg0.N) (g : Fin 4) (i : Fin 256) (d : Fin 64) :
    (iblk m c 5 t : Vec Ideal S4x256x64 .bf16) (ix3 g i d) = ((CT (row (bk t) i) (hd t) g d : ℝ) : EReal) :=
  (congrArg (Gen.V m c main_v67) (emb0 t g i d)).trans (H.g5 _ _ _ _)

theorem blk6 (H : Given m c Q CT K V L D) (t : Fin cfg0.N) (g : Fin 4) (i : Fin 256) (d : Fin 64) :
    (iblk m c 6 t : Vec Ideal S256x256 .bf16) (ix2 (rowOf g d) i) = ((CT (row (bk t) i) (hd t) g d : ℝ) : EReal) :=
  (congrArg (Gen.V m c main_v70) (emb1 t g i d)).trans (H.g6 _ _ _ _)

theorem blk7 (H : Given m c Q CT K V L D) (t : Fin cfg0.N) (g : Fin 4) (i : Fin 256) (x : Fin 128) :
    (iblk m c 7 t : Vec Ideal S4x256x128 .f32) (ix3 g i x) = ((L (row (bk t) i) (hd t) g : ℝ) : EReal) :=
  (congrArg (Gen.V m c main_v72) (emb7 t g i x)).trans (H.g7 _ _ _ _)

theorem blk8 (H : Given m c Q CT K V L D) (t : Fin cfg0.N) (g : Fin 4) (i : Fin 256) (x : Fin 128) :
    (iblk m c 8 t : Vec Ideal S4x256x128 .f32) (ix3 g i x) = ((D (row (bk t) i) (hd t) g : ℝ) : EReal) :=
  (congrArg (Gen.V m c main_v74) (emb7 t g i x)).trans (H.g8 _ _ _ _)

theorem holds (H : Given m c Q CT K V L D) (t : Fin cfg0.N) :
    Holds (insAt m c t) (fun g i d => Q (row (bk t) i) (hd t) g d) (fun g i d => CT (row (bk t) i) (hd t) g d)
      (fun n j d => K (row n j) (hd t) d) (fun n j d => V (row n j) (hd t) d)
      (fun g i => L (row (bk t) i) (hd t) g) (fun g i => D (row (bk t) i) (hd t) g) where
  hq g i d := by
    refine ((hs0_0 t).readAt_unread _ _ _).trans ?_
    rw [whole3]; exact blk0 H t g i d
  hqt g d i := by
    refine ((hs0_1 t).readAt_unread _ _ _).trans ?_
    rw [heads_idx]; exact blk1 H t g i d
  hk n j d := by
    refine ((hs0_2 t).readAt_unread _ _ _).trans ?_
    rw [rows_idx]; exact blk2 H t _ d
  hkt n d j := by
    refine ((hs0_3 t).readAt_unread _ _ _).trans ?_
    rw [cols_idx]; exact blk3 H t _ d
  hv n j d := by
    refine ((hs0_4 t).readAt_unread _ _ _).trans ?_
    rw [rows_idx]; exact blk4 H t _ d
  hct g i d := by
    refine ((hs0_5 t).readAt_unread _ _ _).trans ?_
    rw [whole3]; exact blk5 H t g i d
  hctt g d i := by
    refine ((hs0_6 t).readAt_unread _ _ _).trans ?_
    rw [heads_idx]; exact blk6 H t g i d
  hlse g i x := by
    refine ((hs0_7 t).readAt_unread _ _ _).trans ?_
    rw [whole3]; exact blk7 H t g i x
  hdelta g i x := by
    refine ((hs0_8 t).readAt_unread _ _ _).trans ?_
    rw [whole3]; exact blk8 H t g i x

end Cert.Steps
-- ==== Proof.Outs.lean ====
/- What each grid point leaves in its three result blocks, as real numbers. -/
module

public import proofs.«01_k».proof.Proof.Blocks

@[expose] public section

set_option maxRecDepth 16384

noncomputable section

namespace Cert.Steps

open Cert.KernelIdeal Cert.KernelIdeal.Gen Idealize.ShloMosaic Idealize.ShloMosaic.TcCoe Idealize.SL.Sem
open Idealize.ShloMosaic.ValueIdx Cert.Coe Cert.Spec

variable {m : (ℓ : Loc nD τ sig) → Buf (Elt Ideal) ℓ} {c : Dev nD}
variable {Q CT : Fin 8448 → Fin 4 → Fin 4 → Fin 64 → ℝ} {K V : Fin 8448 → Fin 4 → Fin 64 → ℝ} {L D : Fin 8448 → Fin 4 → Fin 4 → ℝ}

section Parts

variable (Q CT : Fin 8448 → Fin 4 → Fin 4 → Fin 64 → ℝ) (K V : Fin 8448 → Fin 4 → Fin 64 → ℝ) (L D : Fin 8448 → Fin 4 → Fin 4 → ℝ)

/-- The weight row `256 b + i` of a head gives key `256 n + j`. -/
def wt (h : Fin 4) (b n : Fin 33) (g : Fin 4) (i j : Fin 256) : ℝ :=
  weight (fun g i d => Q (row b i) h g d) (fun n j d => K (row n j) h d) (fun g i => L (row b i) h g) n g i j

/-- The gradient of that score. -/
def gr (h : Fin 4) (b n : Fin 33) (g : Fin 4) (i j : Fin 256) : ℝ :=
  grad (fun g i d => Q (row b i) h g d) (fun g i d => CT (row b i) h g d) (fun n j d => K (row n j) h d)
    (fun n j d => V (row n j) h d) (fun g i => L (row b i) h g) (fun g i => D (row b i) h g) n g i j

/-- What block `b` adds to the gradient of value `256 n + j`. -/
def addV (h : Fin 4) (b n : Fin 33) (d : Fin 64) (j : Fin 256) : ℝ := ∑ g, ∑ i, CT (row b i) h g d * wt Q K L h b n g i j

/-- What block `b` adds to the gradient of key `256 n + j`. -/
def addK (h : Fin 4) (b n : Fin 33) (d : Fin 64) (j : Fin 256) : ℝ :=
  ∑ g, ∑ i, Q (row b i) h g d * gr Q CT K V L D h b n g i j

/-- What chunk `n` of the keys adds to the gradient of query `256 b + i`. -/
def addQ (h : Fin 4) (b n : Fin 33) (g : Fin 4) (i : Fin 256) (d : Fin 64) : ℝ :=
  ∑ j, K (row n j) h d * gr Q CT K V L D h b n g i j

end Parts

variable (H : Given m c Q CT K V L D) (t : Fin cfg0.N)
include H

theorem stepV (n : Fin 33) (old : Vec Ideal S64x256 .f32) (d : Fin 64) (j : Fin 256) (o : ℝ) (ho : old (ix2 d j) = (o : EReal)) :
    dvStep (insAt m c t) n old (ix2 d j) = ((o + addV Q CT K L (hd t) (bk t) n d j : ℝ) : EReal) :=
  dvStep_apply (holds H t) n old d j ho

theorem stepK (n : Fin 33) (old : Vec Ideal S64x256 .f32) (d : Fin 64) (j : Fin 256) (o : ℝ) (ho : old (ix2 d j) = (o : EReal)) :
    dkStep (insAt m c t) n old (ix2 d j) = ((o + addK Q CT K V L D (hd t) (bk t) n d j : ℝ) : EReal) :=
  dkStep_apply (holds H t) n old d j ho

/-! The first block of a head. -/

section First
variable (h0 : t.val % 33 = 0) (h1 : t.val % 33 ≤ 31) (h2 : ¬t.val % 33 = 32)
include h0 h1 h2

theorem first_q (i : Fin 256) (g : Fin 4) (d : Fin 64) : (outsAt0 m c t.val t.isLt).1 (ix2 i (rowOf g d))
    = ((∑ n, addQ Q CT K V L D (hd t) (bk t) n g i d : ℝ) : EReal) := by
  rw [outsAt0_A m c t h0 h1 h2 h2]
  dsimp only
  unfold out0_A_9
  rw [first9]
  exact dqStores_apply _ _ (fun d g i => dqSum_apply (holds H t) d g i 33 (Nat.le_refl 33)) i g d

theorem first_k (n : Fin 33) (d : Fin 64) (j : Fin 256) : (outsAt0 m c t.val t.isLt).2.1 (ix2 d (row n j))
    = ((addK Q CT K V L D (hd t) (bk t) n d j : ℝ) : EReal) := by
  rw [outsAt0_A m c t h0 h1 h2 h2]
  dsimp only
  unfold out0_A_10
  rw [first10, View.read_writes_junk_apply_eq_canon]
  refine (firstStores_apply _ (stepK H t) (fun _ => Coe.zero) 33 (Nat.le_refl 33) n d j).trans ?_
  rw [if_pos n.isLt]

theorem first_v (n : Fin 33) (d : Fin 64) (j : Fin 256) : (outsAt0 m c t.val t.isLt).2.2 (ix2 d (row n j))
    = ((addV Q CT K L (hd t) (bk t) n d j : ℝ) : EReal) := by
  rw [outsAt0_A m c t h0 h1 h2 h2]
  dsimp only
  unfold out0_A_11
  rw [first11, View.read_writes_junk_apply_eq_canon]
  refine (firstStores_apply _ (stepV H t) (fun _ => Coe.zero) 33 (Nat.le_refl 33) n d j).trans ?_
  rw [if_pos n.isLt]

end First

/-! A later block of latent rows. -/

section Later
variable (h0 : ¬t.val % 33 = 0) (h1 : t.val % 33 ≤ 31) (h2 : ¬t.val % 33 = 32)
include h0 h1 h2

theorem later_q (i : Fin 256) (g : Fin 4) (d : Fin 64) : (outsAt0 m c t.val t.isLt).1 (ix2 i (rowOf g d))
    = ((∑ n, addQ Q CT K V L D (hd t) (bk t) n g i d : ℝ) : EReal) := by
  rw [outsAt0_B m c t h0 h1 h2 h2]
  dsimp only
  unfold out0_B_9
  rw [later9]
  exact dqStores_apply _ _ (fun d g i => dqSum_apply (holds H t) d g i 33 (Nat.le_refl 33)) i g d

theorem later_k (n : Fin 33) (d : Fin 64) (j : Fin 256) {o : ℝ}
    (ho : (outsAt0 m c (t.val - 1) (Nat.lt_of_le_of_lt (Nat.sub_le _ _) t.isLt)).2.1 (ix2 d (row n j)) = (o : EReal)) :
    (outsAt0 m c t.val t.isLt).2.1 (ix2 d (row n j)) = ((o + addK Q CT K V L D (hd t) (bk t) n d j : ℝ) : EReal) := by
  rw [outsAt0_B m c t h0 h1 h2 h2]
  dsimp only
  unfold out0_B_10
  rw [later10]
  exact laterStores_apply _ _ _ _ (stepK H t) _ n d j ho

theorem later_v (n : Fin 33) (d : Fin 64) (j : Fin 256) {o : ℝ}
    (ho : (outsAt0 m c (t.val - 1) (Nat.lt_of_le_of_lt (Nat.sub_le _ _) t.isLt)).2.2 (ix2 d (row n j)) = (o : EReal)) :
    (outsAt0 m c t.val t.isLt).2.2 (ix2 d (row n j)) = ((o + addV Q CT K L (hd t) (bk t) n d j : ℝ) : EReal) := by
  rw [outsAt0_B m c t h0 h1 h2 h2]
  dsimp only
  unfold out0_B_11
  rw [later11]
  exact laterStores_apply _ _ _ _ (stepV H t) _ n d j ho

end Later

/-! The context rows. -/

section Last
variable (h0 : ¬t.val % 33 = 0) (h1 : ¬t.val % 33 ≤ 31) (h2 : t.val % 33 = 32)
include h0 h1 h2

theorem last_q (i : Fin 256) (g : Fin 4) (d : Fin 64) : (outsAt0 m c t.val t.isLt).1 (ix2 i (rowOf g d))
    = ((0 + addQ Q CT K V L D (hd t) (bk t) 32 g i d : ℝ) : EReal) := by
  rw [outsAt0_C m c t h0 h1 h2 h2]
  dsimp only
  unfold out0_C_9
  rw [last9]
  exact dqStores_apply _ _ (fun d g i => dqStep_apply (holds H t) 32 _ d g i Coe.zero) i g d

theorem last_k (n : Fin 33) (d : Fin 64) (j : Fin 256) {o : ℝ}
    (ho : (outsAt0 m c (t.val - 1) (Nat.lt_of_le_of_lt (Nat.sub_le _ _) t.isLt)).2.1 (ix2 d (row n j)) = (o : EReal)) :
    (outsAt0 m c t.val t.isLt).2.1 (ix2 d (row n j))
      = (((o + if n = 32 then addK Q CT K V L D (hd t) (bk t) 32 d j else 0) * Real.log 2 : ℝ) : EReal) := by
  rw [outsAt0_C m c t h0 h1 h2 h2]
  dsimp only
  unfold out0_C_10
  rw [last10]
  exact scaledStores_apply _ _ _ _ (stepK H t) _ n d j ho

theorem last_v (n : Fin 33) (d : Fin 64) (j : Fin 256) {o : ℝ}
    (ho : (outsAt0 m c (t.val - 1) (Nat.lt_of_le_of_lt (Nat.sub_le _ _) t.isLt)).2.2 (ix2 d (row n j)) = (o : EReal)) :
    (outsAt0 m c t.val t.isLt).2.2 (ix2 d (row n j))
      = ((o + if n = 32 then addV Q CT K L (hd t) (bk t) 32 d j else 0 : ℝ) : EReal) := by
  rw [outsAt0_C m c t h0 h1 h2 h2]
  dsimp only
  unfold out0_C_11
  rw [last11]
  exact lastStore_apply _ _ _ _ (stepV H t) _ n d j ho ((congrFun ((hs0_11 t).read_unread _) _).trans ho)

end Last

end Cert.Steps
-- ==== Proof.Accum.lean ====
/- The arrays after the run: the blocks of a head's 33 grid points put together. -/
module

public import proofs.«01_k».proof.Proof.Outs
public import proofs.«01_k».proof.Proof.Gen.KernelIdeal.Value

@[expose] public section

set_option maxRecDepth 16384

noncomputable section

namespace Cert.Steps

open Cert.KernelIdeal Cert.KernelIdeal.Gen Idealize.ShloMosaic Idealize.ShloMosaic.TcCoe Idealize.SL.Sem
open Idealize.ShloMosaic.ValueIdx Cert.Coe Cert.Spec

variable {m : (ℓ : Loc nD τ sig) → Buf (Elt Ideal) ℓ} {c : Dev nD}
variable {Q CT : Fin 8448 → Fin 4 → Fin 4 → Fin 64 → ℝ} {K V : Fin 8448 → Fin 4 → Fin 64 → ℝ} {L D : Fin 8448 → Fin 4 → Fin 4 → ℝ}

/-- The grid point of key head `h` and block `b`. -/
def pt (h : Fin 4) (b : ℕ) (hb : b < 33) : Fin cfg0.N := ⟨33 * h.val + b, by show _ < 132; omega⟩

theorem hd_pt (h : Fin 4) (b : ℕ) (hb : b < 33) : hd (pt h b hb) = h := Fin.ext (by show (33 * h.val + b) / 33 = h.val; omega)
theorem bk_pt (h : Fin 4) (b : ℕ) (hb : b < 33) : bk (pt h b hb) = ⟨b, hb⟩ := Fin.ext (by show (33 * h.val + b) % 33 = b; omega)
theorem pt_mod (h : Fin 4) (b : ℕ) (hb : b < 33) : (pt h b hb).val % 33 = b := by show (33 * h.val + b) % 33 = b; omega

theorem outs_congr {a b : ℕ} (ha : a < cfg0.N) (hb : b < cfg0.N) (e : a = b) : outsAt0 m c a ha = outsAt0 m c b hb := by
  subst e; rfl

theorem pt_pred (h : Fin 4) (b : ℕ) (hb : b + 1 < 33) (hl : (pt h (b + 1) hb).val - 1 < cfg0.N) :
    outsAt0 m c ((pt h (b + 1) hb).val - 1) hl = outsAt0 m c (pt h b (Nat.lt_of_succ_lt hb)).val (pt h b (Nat.lt_of_succ_lt hb)).isLt :=
  outs_congr _ _ (by show 33 * h.val + (b + 1) - 1 = 33 * h.val + b; omega)

variable (H : Given m c Q CT K V L D)
include H

theorem upto_k (h : Fin 4) (n : Fin 33) (d : Fin 64) (j : Fin 256) : ∀ (b : ℕ) (hb : b < 32),
    (outsAt0 m c (pt h b (by omega)).val (pt h b (by omega)).isLt).2.1 (ix2 d (row n j))
      = ((∑ x : Fin (b + 1), addK Q CT K V L D h (x.castLE (by omega)) n d j : ℝ) : EReal)
  | 0, hb => by
    refine (first_k H (pt h 0 (by omega)) (pt_mod h 0 _) (by rw [pt_mod]; omega) (by rw [pt_mod]; omega) n d j).trans ?_
    rw [hd_pt, bk_pt, Fin.sum_univ_one]; rfl
  | b + 1, hb => by
    refine (later_k H (pt h (b + 1) (by omega)) (by rw [pt_mod]; omega) (by rw [pt_mod]; omega) (by rw [pt_mod]; omega) n d j
      ((congrArg (fun o => o.2.1 (ix2 d (row n j))) (pt_pred h b (by omega) _)).trans (upto_k h n d j b (by omega)))).trans ?_
    rw [hd_pt, bk_pt, Fin.sum_univ_castSucc (n := b + 1)]; rfl

theorem upto_v (h : Fin 4) (n : Fin 33) (d : Fin 64) (j : Fin 256) : ∀ (b : ℕ) (hb : b < 32),
    (outsAt0 m c (pt h b (by omega)).val (pt h b (by omega)).isLt).2.2 (ix2 d (row n j))
      = ((∑ x : Fin (b + 1), addV Q CT K L h (x.castLE (by omega)) n d j : ℝ) : EReal)
  | 0, hb => by
    refine (first_v H (pt h 0 (by omega)) (pt_mod h 0 _) (by rw [pt_mod]; omega) (by rw [pt_mod]; omega) n d j).trans ?_
    rw [hd_pt, bk_pt, Fin.sum_univ_one]; rfl
  | b + 1, hb => by
    refine (later_v H (pt h (b + 1) (by omega)) (by rw [pt_mod]; omega) (by rw [pt_mod]; omega) (by rw [pt_mod]; omega) n d j
      ((congrArg (fun o => o.2.2 (ix2 d (row n j))) (pt_pred h b (by omega) _)).trans (upto_v h n d j b (by omega)))).trans ?_
    rw [hd_pt, bk_pt, Fin.sum_univ_castSucc (n := b + 1)]; rfl

/-- What the head's last point leaves of the keys' gradient. -/
theorem total_k (h : Fin 4) (n : Fin 33) (d : Fin 64) (j : Fin 256) :
    (outsAt0 m c (pt h 32 (by omega)).val (pt h 32 (by omega)).isLt).2.1 (ix2 d (row n j))
      = ((((∑ x : Fin 32, addK Q CT K V L D h x.castSucc n d j) + if n = 32 then addK Q CT K V L D h 32 32 d j else 0) * Real.log 2 : ℝ) : EReal) := by
  refine (last_k H (pt h 32 (by omega)) (by rw [pt_mod]; omega) (by rw [pt_mod]; omega) (pt_mod h 32 _) n d j
      ((congrArg (fun o => o.2.1 (ix2 d (row n j))) (pt_pred h 31 (by omega) _)).trans (upto_k H h n d j 31 (by omega)))).trans ?_
  rw [hd_pt, bk_pt]; rfl

/-- What the head's last point leaves of the values' gradient. -/
theorem total_v (h : Fin 4) (n : Fin 33) (d : Fin 64) (j : Fin 256) :
    (outsAt0 m c (pt h 32 (by omega)).val (pt h 32 (by omega)).isLt).2.2 (ix2 d (row n j))
      = (((∑ x : Fin 32, addV Q CT K L h x.castSucc n d j) + if n = 32 then addV Q CT K L h 32 32 d j else 0 : ℝ) : EReal) := by
  refine (last_v H (pt h 32 (by omega)) (by rw [pt_mod]; omega) (by rw [pt_mod]; omega) (pt_mod h 32 _) n d j
      ((congrArg (fun o => o.2.2 (ix2 d (row n j))) (pt_pred h 31 (by omega) _)).trans (upto_v H h n d j 31 (by omega)))).trans ?_
  rw [hd_pt, bk_pt]; rfl

/-- What each point leaves of the queries' gradient. -/
theorem total_q (h : Fin 4) (b : Fin 33) (i : Fin 256) (g : Fin 4) (d : Fin 64) :
    (outsAt0 m c (pt h b b.isLt).val (pt h b b.isLt).isLt).1 (ix2 i (rowOf g d))
      = ((if b = 32 then addQ Q CT K V L D h 32 32 g i d else ∑ n, addQ Q CT K V L D h b n g i d : ℝ) : EReal) := by
  by_cases hb : b = 32
  · subst hb
    refine (last_q H (pt h 32 (by omega)) (by rw [pt_mod]; omega) (by rw [pt_mod]; omega) (pt_mod h 32 _) i g d).trans ?_
    rw [hd_pt, bk_pt, zero_add, if_pos rfl]; rfl
  · have hv : b.val ≠ 32 := fun e => hb (Fin.ext e)
    have hl := b.isLt
    rw [if_neg hb]
    by_cases h0 : b.val = 0
    · refine (first_q H (pt h b hl) (by rw [pt_mod]; omega) (by rw [pt_mod]; omega) (by rw [pt_mod]; omega) i g d).trans ?_
      rw [hd_pt, bk_pt]
    · refine (later_q H (pt h b hl) (by rw [pt_mod]; omega) (by rw [pt_mod]; omega) (by rw [pt_mod]; omega) i g d).trans ?_
      rw [hd_pt, bk_pt]

omit H

/-! Which points write back. -/

theorem flush9 : ∀ t : Fin cfg0.N, (cfg0.win 9).flush t = true :=
  (by decide +kernel : ∀ t : Fin grid0.N, win0_9.flush t = true)
theorem flush10 : ∀ t : Fin cfg0.N, t.val % 33 = 32 → (cfg0.win 10).flush t = true :=
  (by decide +kernel : ∀ t : Fin grid0.N, t.val % 33 = 32 → win0_10.flush t = true)
theorem flush11 : ∀ t : Fin cfg0.N, t.val % 33 = 32 → (cfg0.win 11).flush t = true :=
  (by decide +kernel : ∀ t : Fin grid0.N, t.val % 33 = 32 → win0_11.flush t = true)
theorem apart10 : ∀ t t' : Fin cfg0.N, (cfg0.win 10).flush t = true → (cfg0.win 10).flush t' = true → win0_10.index t = win0_10.index t' → t = t' :=
  (by decide +kernel : ∀ t t' : Fin grid0.N, win0_10.flush t = true → win0_10.flush t' = true → win0_10.index t = win0_10.index t' → t = t')
theorem apart11 : ∀ t t' : Fin cfg0.N, (cfg0.win 11).flush t = true → (cfg0.win 11).flush t' = true → win0_11.index t = win0_11.index t' → t = t' :=
  (by decide +kernel : ∀ t t' : Fin grid0.N, win0_11.flush t = true → win0_11.flush t' = true → win0_11.index t = win0_11.index t' → t = t')

include H

theorem array_q (h : Fin 4) (b : Fin 33) (i : Fin 256) (g : Fin 4) (d : Fin 64) :
    ((dats m 0 c).arrAt 9 cfg0.N : Vec Ideal S8448x1024 .f32) (ix2 (row b i) (col h g d))
      = ((if b = 32 then addQ Q CT K V L D h 32 32 g i d else ∑ n, addQ Q CT K V L D h b n g i d : ℝ) : EReal) := by
  have e := emb9 (pt h b b.isLt) i g d
  rw [hd_pt, bk_pt] at e
  refine (congrArg ((dats m 0 c).arrAt 9 cfg0.N) e).symm.trans ?_
  refine (congrFun (Value.blocks9 m c (pt h b b.isLt) (flush9 _)) (ix2 i (rowOf g d) : S256x256.Idx)).trans ?_
  rw [Value.flushed9]
  exact total_q H h b i g d

theorem array_k (h : Fin 4) (n : Fin 33) (d : Fin 64) (j : Fin 256) :
    ((dats m 0 c).arrAt 10 cfg0.N : Vec Ideal S256x8448 .f32) (ix2 (rowOf h d) (row n j))
      = ((((∑ x : Fin 32, addK Q CT K V L D h x.castSucc n d j) + if n = 32 then addK Q CT K V L D h 32 32 d j else 0) * Real.log 2 : ℝ) : EReal) := by
  have e := emb10 (pt h 32 (by omega)) (row n j) d
  rw [hd_pt] at e
  refine (congrArg ((dats m 0 c).arrAt 10 cfg0.N) e).symm.trans ?_
  refine (congrFun ((dats m 0 c).read_blk_arrAt_eq_flushed 10 (fun t t' hf hf' hne => (cfg0.win 10).disjoint_blk fun h => hne (apart10 t t' hf hf' h)) cfg0.N (pt h 32 (by omega)) (pt h 32 _).isLt
    (flush10 _ (pt_mod h 32 _))) (ix2 d (row n j) : S64x8448.Idx)).trans ?_
  rw [Value.flushed10]
  exact total_k H h n d j

theorem array_v (h : Fin 4) (n : Fin 33) (d : Fin 64) (j : Fin 256) :
    ((dats m 0 c).arrAt 11 cfg0.N : Vec Ideal S256x8448 .f32) (ix2 (rowOf h d) (row n j))
      = (((∑ x : Fin 32, addV Q CT K L h x.castSucc n d j) + if n = 32 then addV Q CT K L h 32 32 d j else 0 : ℝ) : EReal) := by
  have e := emb10 (pt h 32 (by omega)) (row n j) d
  rw [hd_pt] at e
  refine (congrArg ((dats m 0 c).arrAt 11 cfg0.N) e).symm.trans ?_
  refine (congrFun ((dats m 0 c).read_blk_arrAt_eq_flushed 11 (fun t t' hf hf' hne => (cfg0.win 11).disjoint_blk fun h => hne (apart11 t t' hf hf' h)) cfg0.N (pt h 32 (by omega)) (pt h 32 _).isLt
    (flush11 _ (pt_mod h 32 _))) (ix2 d (row n j) : S64x8448.Idx)).trans ?_
  rw [Value.flushed11]
  exact total_v H h n d j

end Cert.Steps
-- ==== Proof.Sums.lean ====
/- The blocks' sums are the attention's gradients. -/
module

public import proofs.«01_k».proof.Proof.Outs

@[expose] public section

noncomputable section

namespace Cert.Sums

open Cert.Coe Cert.Spec Cert.Steps

variable (Q CT : Fin 8448 → Fin 4 → Fin 4 → Fin 64 → ℝ) (K V : Fin 8448 → Fin 4 → Fin 64 → ℝ)

/-- The queries the call is given: over eight, in units of the logarithm of 2. -/
def scaledQ : Fin 8448 → Fin 4 → Fin 4 → Fin 64 → ℝ := fun n h g d => Q n h g d * (1 / 8) / Real.log 2
/-- Each row's logarithm of its sum, to base 2. -/
def lse : Fin 8448 → Fin 4 → Fin 4 → ℝ := fun n h g => Real.log (total Q K n h g) / Real.log 2

theorem row_last (i : Fin 256) : row 32 i = ctx i := Fin.ext rfl

theorem row_lat (b : Fin 33) (hb : b ≠ 32) (i : Fin 256) : ∃ n : Fin 8192, row b i = lat n := by
  have h : b.val < 32 := by
    have := b.isLt
    have h' : b.val ≠ 32 := fun e => hb (Fin.ext e)
    omega
  exact ⟨⟨256 * b.val + i.val, by omega⟩, rfl⟩

theorem sees_lat (b : Fin 33) (hb : b ≠ 32) (i : Fin 256) (s : Fin 8448) : Sees (row b i) s := by
  obtain ⟨n, e⟩ := row_lat b hb i
  rw [e]; exact Or.inl n.isLt

theorem sees_ctx (i j : Fin 256) : Sees (row 32 i) (row 32 j) := by
  rw [row_last, row_last]; exact Or.inr (Nat.le_add_right _ _)

theorem castSucc_ne (x : Fin 32) : (x.castSucc : Fin 33) ≠ 32 := Fin.castSucc_ne_last x

section

variable (h : Fin 4) (b n : Fin 33) (g : Fin 4) (i j : Fin 256)

theorem wt_eq (hs : Sees (row b i) (row n j)) : wt (scaledQ Q) K (lse Q K) h b n g i j = prob Q K (row b i) h g (row n j) :=
  prob_of_log Q K (row b i) h g (row n j) hs

theorem gr_eq (hs : Sees (row b i) (row n j)) :
    gr (scaledQ Q) CT K V (lse Q K) (delta Q CT K V) h b n g i j = dscore Q CT K V (row b i) h g (row n j) :=
  congrArg (· * (dprob CT V (row b i) h g (row n j) - delta Q CT K V (row b i) h g)) (wt_eq Q K h b n g i j hs)

end

/-! The queries' gradient. -/

theorem sum_q (h : Fin 4) (b : Fin 33) (i : Fin 256) (g : Fin 4) (d : Fin 64) :
    (if b = 32 then addQ (scaledQ Q) CT K V (lse Q K) (delta Q CT K V) h 32 32 g i d
      else ∑ n, addQ (scaledQ Q) CT K V (lse Q K) (delta Q CT K V) h b n g i d) = dq Q CT K V (row b i) h g d := by
  by_cases hb : b = 32
  · subst hb
    rw [if_pos rfl, row_last, dq_ctx]
    refine Finset.sum_congr rfl fun j _ => ?_
    rw [gr_eq Q CT K V h 32 32 g i j (sees_ctx i j), row_last, row_last, mul_comm]
  · rw [if_neg hb, dq, sum_row]
    refine Finset.sum_congr rfl fun n _ => Finset.sum_congr rfl fun j _ => ?_
    rw [gr_eq Q CT K V h b n g i j (sees_lat b hb i _), mul_comm]

/-! A sum over all rows, block by block: the latent blocks, then the context's, which reaches its own keys only. -/

theorem sum_blocks (f : Fin 8448 → Fin 4 → ℝ) (n : Fin 33) (hz : n ≠ 32 → ∀ i g, f (ctx i) g = 0) :
    ∑ r, ∑ g, f r g
      = (∑ x : Fin 32, ∑ g, ∑ i, f (row x.castSucc i) g) + if n = 32 then ∑ g, ∑ i, f (row 32 i) g else 0 := by
  rw [sum_row, Fin.sum_univ_castSucc]
  refine congrArg₂ (· + ·) (Finset.sum_congr rfl fun x _ => Finset.sum_comm) ?_
  by_cases hn : n = 32
  · rw [if_pos hn]; exact Finset.sum_comm
  · rw [if_neg hn]
    exact Finset.sum_eq_zero fun i _ => Finset.sum_eq_zero fun g _ => (congrArg (fun r => f r g) (row_last i)).trans (hz hn i g)

theorem sum_v (h : Fin 4) (n : Fin 33) (d : Fin 64) (j : Fin 256) :
    (∑ x : Fin 32, addV (scaledQ Q) CT K (lse Q K) h x.castSucc n d j)
      + (if n = 32 then addV (scaledQ Q) CT K (lse Q K) h 32 32 d j else 0) = dv Q CT K (row n j) h d := by
  rw [dv, sum_blocks (fun r g => CT r h g d * prob Q K r h g (row n j)) n fun hn i g => by
    obtain ⟨s, e⟩ := row_lat n hn j
    show CT (ctx i) h g d * prob Q K (ctx i) h g (row n j) = 0
    rw [e, prob_ctx_lat, mul_zero]]
  refine congrArg₂ (· + ·) (Finset.sum_congr rfl fun x _ => Finset.sum_congr rfl fun g _ => Finset.sum_congr rfl fun i _ => ?_) ?_
  · rw [wt_eq Q K h _ n g i j (sees_lat _ (castSucc_ne x) i _)]
  · by_cases hn : n = 32
    · subst hn
      rw [if_pos rfl, if_pos rfl]
      refine Finset.sum_congr rfl fun g _ => Finset.sum_congr rfl fun i _ => ?_
      rw [wt_eq Q K h 32 32 g i j (sees_ctx i j)]
    · rw [if_neg hn, if_neg hn]

theorem scaled_mul (n : Fin 8448) (h g : Fin 4) (d : Fin 64) (x : ℝ) :
    scaledQ Q n h g d * x * Real.log 2 = x * (1 / 8) * Q n h g d := by
  have h2 : Real.log 2 ≠ 0 := (Real.log_pos one_lt_two).ne'
  rw [scaledQ]; field_simp

theorem sum_k (h : Fin 4) (n : Fin 33) (d : Fin 64) (j : Fin 256) :
    ((∑ x : Fin 32, addK (scaledQ Q) CT K V (lse Q K) (delta Q CT K V) h x.castSucc n d j)
      + (if n = 32 then addK (scaledQ Q) CT K V (lse Q K) (delta Q CT K V) h 32 32 d j else 0)) * Real.log 2
      = dk Q CT K V (row n j) h d := by
  rw [dk, sum_blocks (fun r g => dscore Q CT K V r h g (row n j) * (1 / 8) * Q r h g d) n fun hn i g => by
    obtain ⟨s, e⟩ := row_lat n hn j
    show dscore Q CT K V (ctx i) h g (row n j) * (1 / 8) * Q (ctx i) h g d = 0
    rw [e, dscore_ctx_lat, zero_mul, zero_mul], add_mul, Finset.sum_mul]
  refine congrArg₂ (· + ·) (Finset.sum_congr rfl fun x _ => ?_) ?_
  · rw [addK, Finset.sum_mul]
    refine Finset.sum_congr rfl fun g _ => ?_
    rw [Finset.sum_mul]
    refine Finset.sum_congr rfl fun i _ => ?_
    rw [gr_eq Q CT K V h _ n g i j (sees_lat _ (castSucc_ne x) i _)]
    exact scaled_mul Q _ h g d _
  · by_cases hn : n = 32
    · subst hn
      rw [if_pos rfl, if_pos rfl, addK, Finset.sum_mul]
      refine Finset.sum_congr rfl fun g _ => ?_
      rw [Finset.sum_mul]
      refine Finset.sum_congr rfl fun i _ => ?_
      rw [gr_eq Q CT K V h 32 32 g i j (sees_ctx i j)]
      exact scaled_mul Q _ h g d _
    · rw [if_neg hn, if_neg hn, zero_mul]

end Cert.Sums
-- ==== Proof.Host.lean ====
/- The arrays the call is given, as terms over the program's arguments. -/
module

public import proofs.«01_k».proof.Proof.Gen.KernelIdeal.Frame
public import proofs.«01_k».proof.Proof.Gen.ReferenceIdeal.Read

@[expose] public section

set_option maxRecDepth 16384

noncomputable section

namespace Cert.Host

open Cert.KernelIdeal Cert.KernelIdeal.Gen Idealize.ShloMosaic Idealize.ShloMosaic.TcCoe Idealize.SL.Sem

variable {F : FTy → Type} [FloatOps F] [Named F]

/-- An array of the query rows' shape. -/
abbrev QRows (F : FTy → Type) : Type := (⟨S8448x16x64, .f32⟩ : BufTy).Contents (Elt F)
/-- An array of the key rows' shape. -/
abbrev KRows (F : FTy → Type) : Type := (⟨S8448x4x64, .f32⟩ : BufTy).Contents (Elt F)

variable (x0 x3 : QRows F) (x1 x2 : KRows F)

/-- The logarithm of 2. -/
def log2 : (⟨S_, .f32⟩ : BufTy).Contents (Elt F) := Host.log (constant S_ .f32 0x40000000#32)

/-- The queries over eight, in units of the logarithm of 2. -/
def scaled : QRows F :=
  Host.divf (mulf x0 (broadcastInDim S8448x16x64 ![] bcast_S_S8448x16x64 (constant S_ .f32 0x3E000000#32)))
    (broadcastInDim S8448x16x64 ![] bcast_S_S8448x16x64 log2)

/-! The latent rows' softmax. -/

def byGroup : (⟨S8448x4x4x64, .f32⟩ : BufTy).Contents (Elt F) := shapeCast S8448x4x4x64 x0 shapeCasts_S8448x16x64_S8448x4x4x64
def scoreLat : (⟨S4x4x8192x8448, .f32⟩ : BufTy).Contents (Elt F) :=
  mulf (transpose S4x4x8192x8448 [0, 3, 2, 1] (Host.dotGeneral dot_S8448x4x64_S8192x4x4x64_S4x8448x8192x4_2_3_0_02_1_1 none x1
      (extractStridedSlice S8192x4x4x64 ![0, 0, 0, 0] (byGroup x0) slices_S8448x4x4x64_S8192x4x4x64_0_0_0_0))
      transposes_S4x8448x8192x4_S4x4x8192x8448_0_3_2_1)
    (broadcastInDim S4x4x8192x8448 ![] bcast_S_S4x4x8192x8448 (constant S_ .f32 0x3E000000#32))
def topLat : (⟨S4x4x8192, .f32⟩ : BufTy).Contents (Elt F) :=
  Host.reduce FloatOps.maximumf (scoreLat x0 x1) (constant S_ .f32 0xFF800000#32) reducesTo_S4x4x8192x8448_S4x4x8192_d3 h_S_
def maxLat : (⟨S4x4x8192x1, .f32⟩ : BufTy).Contents (Elt F) :=
  broadcastInDim S4x4x8192x1 ![0, 1, 2] bcast_S4x4x8192_S4x4x8192x1_0_1_2 (topLat x0 x1)
def expLat : (⟨S4x4x8192x8448, .f32⟩ : BufTy).Contents (Elt F) :=
  Host.exp (subf (scoreLat x0 x1)
    (broadcastInDim S4x4x8192x8448 ![0, 1, 2, 3] bcast_S4x4x8192x1_S4x4x8192x8448_0_1_2_3 (maxLat x0 x1)))
def sumLat (p : (⟨S4x4x8192x8448, .f32⟩ : BufTy).Contents (Elt F)) : (⟨S4x4x8192x1, .f32⟩ : BufTy).Contents (Elt F) :=
  broadcastInDim S4x4x8192x1 ![0, 1, 2] bcast_S4x4x8192_S4x4x8192x1_0_1_2
    (Host.reduceAdd p (constant S_ .f32 0x00000000#32) reducesTo_S4x4x8192x8448_S4x4x8192_d3 h_S_)
def outLat (p : (⟨S4x4x8192x8448, .f32⟩ : BufTy).Contents (Elt F)) : (⟨S8192x4x4x64, .f32⟩ : BufTy).Contents (Elt F) :=
  transpose S8192x4x4x64 [3, 0, 2, 1] (Host.dotGeneral dot_S8448x4x64_S4x4x8192x8448_S4x64x4x8192_0_3_2_12_1_0 none x2
    (Host.divf p (broadcastInDim S4x4x8192x8448 ![0, 1, 2, 3] bcast_S4x4x8192x1_S4x4x8192x8448_0_1_2_3 (sumLat p))))
    transposes_S4x64x4x8192_S8192x4x4x64_3_0_2_1
def lseLat (p : (⟨S4x4x8192x8448, .f32⟩ : BufTy).Contents (Elt F)) : (⟨S16x8192, .f32⟩ : BufTy).Contents (Elt F) :=
  shapeCast S16x8192 (addf (maxLat x0 x1) (Host.log (sumLat p))) shapeCasts_S4x4x8192x1_S16x8192

/-! The context rows' softmax. -/

def scoreCtx : (⟨S4x4x256x256, .f32⟩ : BufTy).Contents (Elt F) :=
  mulf (transpose S4x4x256x256 [0, 3, 2, 1] (Host.dotGeneral dot_S256x4x64_S256x4x4x64_S4x256x256x4_2_3_0_02_1_1 none
      (extractStridedSlice S256x4x64 ![8192, 0, 0] x1 slices_S8448x4x64_S256x4x64_8192_0_0)
      (extractStridedSlice S256x4x4x64 ![8192, 0, 0, 0] (byGroup x0) slices_S8448x4x4x64_S256x4x4x64_8192_0_0_0))
      transposes_S4x256x256x4_S4x4x256x256_0_3_2_1)
    (broadcastInDim S4x4x256x256 ![] bcast_S_S4x4x256x256 (constant S_ .f32 0x3E000000#32))
def topCtx : (⟨S4x4x256, .f32⟩ : BufTy).Contents (Elt F) :=
  Host.reduce FloatOps.maximumf (scoreCtx x0 x1) (constant S_ .f32 0xFF800000#32) reducesTo_S4x4x256x256_S4x4x256_d3 h_S_
def maxCtx : (⟨S4x4x256x1, .f32⟩ : BufTy).Contents (Elt F) :=
  broadcastInDim S4x4x256x1 ![0, 1, 2] bcast_S4x4x256_S4x4x256x1_0_1_2 (topCtx x0 x1)
def expCtx : (⟨S4x4x256x256, .f32⟩ : BufTy).Contents (Elt F) :=
  Host.exp (subf (scoreCtx x0 x1)
    (broadcastInDim S4x4x256x256 ![0, 1, 2, 3] bcast_S4x4x256x1_S4x4x256x256_0_1_2_3 (maxCtx x0 x1)))
def sumCtx (p : (⟨S4x4x256x256, .f32⟩ : BufTy).Contents (Elt F)) : (⟨S4x4x256x1, .f32⟩ : BufTy).Contents (Elt F) :=
  broadcastInDim S4x4x256x1 ![0, 1, 2] bcast_S4x4x256_S4x4x256x1_0_1_2
    (Host.reduceAdd p (constant S_ .f32 0x00000000#32) reducesTo_S4x4x256x256_S4x4x256_d3 h_S_)
def outCtx (p : (⟨S4x4x256x256, .f32⟩ : BufTy).Contents (Elt F)) : (⟨S256x4x4x64, .f32⟩ : BufTy).Contents (Elt F) :=
  transpose S256x4x4x64 [3, 0, 2, 1] (Host.dotGeneral dot_S256x4x64_S4x4x256x256_S4x64x4x256_0_3_2_12_1_0 none
    (extractStridedSlice S256x4x64 ![8192, 0, 0] x2 slices_S8448x4x64_S256x4x64_8192_0_0)
    (Host.divf p (broadcastInDim S4x4x256x256 ![0, 1, 2, 3] bcast_S4x4x256x1_S4x4x256x256_0_1_2_3 (sumCtx p))))
    transposes_S4x64x4x256_S256x4x4x64_3_0_2_1
def lseCtx (p : (⟨S4x4x256x256, .f32⟩ : BufTy).Contents (Elt F)) : (⟨S16x256, .f32⟩ : BufTy).Contents (Elt F) :=
  shapeCast S16x256 (addf (maxCtx x0 x1) (Host.log (sumCtx p))) shapeCasts_S4x4x256x1_S16x256

/-! Both. -/

/-- The attention's output, from the exponentials. -/
def out (p : (⟨S4x4x8192x8448, .f32⟩ : BufTy).Contents (Elt F)) (p' : (⟨S4x4x256x256, .f32⟩ : BufTy).Contents (Elt F)) : QRows F :=
  shapeCast S8448x16x64 (concatenate S8448x4x4x64 0 [⟨S8192x4x4x64, outLat x2 p⟩, ⟨S256x4x4x64, outCtx x2 p'⟩]
    concatenates_S8192x4x4x64_S256x4x4x64_S8448x4x4x64_d0) shapeCasts_S8448x4x4x64_S8448x16x64

/-- Each row's logarithm of the sum of its exponentials, to base 2. -/
def lse (p : (⟨S4x4x8192x8448, .f32⟩ : BufTy).Contents (Elt F)) (p' : (⟨S4x4x256x256, .f32⟩ : BufTy).Contents (Elt F)) :
    (⟨S16x8448, .f32⟩ : BufTy).Contents (Elt F) :=
  Host.divf (concatenate S16x8448 1 [⟨S16x8192, lseLat x0 x1 p⟩, ⟨S16x256, lseCtx x0 x1 p'⟩] concatenates_S16x8192_S16x256_S16x8448_d1)
    (broadcastInDim S16x8448 ![] bcast_S_S16x8448 log2)

/-- Each row's product of the output with its cotangent. -/
def delta (o : QRows F) : (⟨S16x8448, .f32⟩ : BufTy).Contents (Elt F) :=
  transpose S16x8448 [1, 0] (Host.reduceAdd (mulf x3 o) (constant S_ .f32 0x00000000#32) reducesTo_S8448x16x64_S8448x16_d2 h_S_)
    transposes_S8448x16_S16x8448_1_0

/-- A row's number 128 times side by side. -/
def wide (x : (⟨S16x8448, .f32⟩ : BufTy).Contents (Elt F)) : (⟨S16x8448x128, .f32⟩ : BufTy).Contents (Elt F) :=
  broadcastInDim S16x8448x128 ![0, 1, 2] bcast_S16x8448x1_S16x8448x128_0_1_2
    (broadcastInDim S16x8448x1 ![0, 1] bcast_S16x8448_S16x8448x1_0_1 x)

/-- Query rows by head, and query rows transposed. -/
def heads (x : QRows F) : (⟨S16x8448x64, .bf16⟩ : BufTy).Contents (Elt F) :=
  truncf .bf16 (transpose S16x8448x64 [1, 0, 2] x transposes_S8448x16x64_S16x8448x64_1_0_2) bitsLt_bf16_f32
def headsT (x : QRows F) : (⟨S1024x8448, .bf16⟩ : BufTy).Contents (Elt F) :=
  truncf .bf16 (transpose S1024x8448 [1, 0] (shapeCast S8448x1024 x shapeCasts_S8448x16x64_S8448x1024) transposes_S8448x1024_S1024x8448_1_0) bitsLt_bf16_f32

/-- Key rows by head, and key rows transposed. -/
def keys (x : KRows F) : (⟨S4x8448x64, .bf16⟩ : BufTy).Contents (Elt F) :=
  truncf .bf16 (transpose S4x8448x64 [1, 0, 2] x transposes_S8448x4x64_S4x8448x64_1_0_2) bitsLt_bf16_f32
def keysT (x : KRows F) : (⟨S256x8448, .bf16⟩ : BufTy).Contents (Elt F) :=
  truncf .bf16 (transpose S256x8448 [1, 0] (shapeCast S8448x256 x shapeCasts_S8448x4x64_S8448x256) transposes_S8448x256_S256x8448_1_0) bitsLt_bf16_f32

variable (m : (ℓ : Loc nD τ sig) → Buf (Elt F) ℓ) (c : Dev nD)

theorem w0 : V m c main_v55 = heads (scaled (m (c.tc.loc main_arg0))) := by unfold V hostOps0; after_results_simp <;> rfl
theorem w1 : V m c main_v58 = headsT (scaled (m (c.tc.loc main_arg0))) := by unfold V hostOps0; after_results_simp <;> rfl
theorem w2 : V m c main_v60 = keys (m (c.tc.loc main_arg1)) := by unfold V hostOps0; after_results_simp <;> rfl
theorem w3 : V m c main_v63 = keysT (m (c.tc.loc main_arg1)) := by unfold V hostOps0; after_results_simp <;> rfl
theorem w4 : V m c main_v65 = keys (m (c.tc.loc main_arg2)) := by unfold V hostOps0; after_results_simp <;> rfl
theorem w5 : V m c main_v67 = heads (m (c.tc.loc main_arg3)) := by unfold V hostOps0; after_results_simp <;> rfl
theorem w6 : V m c main_v70 = headsT (m (c.tc.loc main_arg3)) := by unfold V hostOps0; after_results_simp <;> rfl
/-- Two arrays joined, from their parts. -/
theorem join {s₁ s₂ t : Shape} {a : Fin t.rank} {α : Type} {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

theorem w7 : V m c main_v72 = wide (lse (m (c.tc.loc main_arg0)) (m (c.tc.loc main_arg1))
    (expLat (m (c.tc.loc main_arg0)) (m (c.tc.loc main_arg1))) (expCtx (m (c.tc.loc main_arg0)) (m (c.tc.loc main_arg1)))) := by
  unfold V hostOps0
  after_results_simp
  refine congrArg wide (congrArg₂ Host.divf (join concatenates_S16x8192_S16x256_S16x8448_d1 ?_ ?_) rfl)
  · unfold lseLat sumLat expLat maxLat topLat scoreLat byGroup
    after_results_simp <;> rfl
  · unfold lseCtx sumCtx expCtx maxCtx topCtx scoreCtx byGroup
    after_results_simp <;> rfl

theorem w8 : V m c main_v74 = wide (delta (m (c.tc.loc main_arg3)) (out (m (c.tc.loc main_arg2))
    (expLat (m (c.tc.loc main_arg0)) (m (c.tc.loc main_arg1))) (expCtx (m (c.tc.loc main_arg0)) (m (c.tc.loc main_arg1))))) := by
  unfold V hostOps0
  after_results_simp
  refine congrArg (fun o => wide (delta (m (c.tc.loc main_arg3)) (shapeCast S8448x16x64 o shapeCasts_S8448x4x4x64_S8448x16x64)))
    (join concatenates_S8192x4x4x64_S256x4x4x64_S8448x4x4x64_d0 ?_ ?_)
  · unfold outLat sumLat expLat maxLat topLat scoreLat byGroup
    after_results_simp <;> rfl
  · unfold outCtx sumCtx expCtx maxCtx topCtx scoreCtx byGroup
    after_results_simp <;> rfl

/-! The reference's own arrays. -/

theorem byGroup_eq : byGroup x0 = Cert.ReferenceIdeal.Read.val_main_v0 x0 := rfl
theorem scoreLat_eq : scoreLat x0 x1 = Cert.ReferenceIdeal.Read.val_main_v5 x0 x1 := rfl
theorem topLat_eq : topLat x0 x1 = Cert.ReferenceIdeal.Read.val_main_v6 x0 x1 := rfl
theorem scoreCtx_eq : scoreCtx x0 x1 = Cert.ReferenceIdeal.Read.val_main_v42 x0 x1 := rfl
theorem topCtx_eq : topCtx x0 x1 = Cert.ReferenceIdeal.Read.val_main_v43 x0 x1 := rfl
theorem sumLat_eq : sumLat (Cert.ReferenceIdeal.Read.val_main_v26 x0 x1) = Cert.ReferenceIdeal.Read.val_main_v28 x0 x1 := rfl
theorem sumCtx_eq : sumCtx (Cert.ReferenceIdeal.Read.val_main_v63 x0 x1) = Cert.ReferenceIdeal.Read.val_main_v65 x0 x1 := rfl
theorem outLat_eq : outLat x2 (Cert.ReferenceIdeal.Read.val_main_v26 x0 x1) = Cert.ReferenceIdeal.Read.val_main_v35 x0 x1 x2 := rfl
theorem outCtx_eq : outCtx x2 (Cert.ReferenceIdeal.Read.val_main_v63 x0 x1) = Cert.ReferenceIdeal.Read.val_main_v72 x0 x1 x2 := rfl

end Cert.Host
-- ==== Proof.RefLat.lean ====
/- The reference, the latent rows: each array it computes, at real arguments, is the array of the same real numbers. -/
module

public import proofs.«01_k».proof.Proof.Spec
public import proofs.«01_k».proof.Proof.Coe
public import proofs.«01_k».proof.Proof.Gen.ReferenceIdeal.Read

@[expose] public section

set_option maxRecDepth 16384

noncomputable section

namespace Cert.Ref

open Cert.ReferenceIdeal Cert.ReferenceIdeal.Gen Cert.ReferenceIdeal.Read Cert.Coe Cert.Spec
open Idealize.ShloMosaic Idealize.ShloMosaic.ValueIdx

/-- An array of query rows, as real numbers. -/
def IsQ (x : S8448x16x64.Idx → EReal) (Q : Fin 8448 → Fin 4 → Fin 4 → Fin 64 → ℝ) : Prop :=
  ∀ n h g d, x (ix3 n (head h g) d) = ((Q n h g d : ℝ) : EReal)
/-- An array of key rows, as real numbers. -/
def IsK (x : S8448x4x64.Idx → EReal) (K : Fin 8448 → Fin 4 → Fin 64 → ℝ) : Prop :=
  ∀ n h d, x (ix3 n h d) = ((K n h d : ℝ) : EReal)

section Lat

variable {x0 x3 : S8448x16x64.Idx → EReal} {x1 x2 : S8448x4x64.Idx → EReal}
variable {Q CT : Fin 8448 → Fin 4 → Fin 4 → Fin 64 → ℝ} {K V : Fin 8448 → Fin 4 → Fin 64 → ℝ}

theorem v0 (hq : IsQ x0 Q) (n : Fin 8448) (h g : Fin 4) (d : Fin 64) :
    val_main_v0 (F := Ideal) x0 (ix4 n h g d) = ((Q n h g d : ℝ) : EReal) := by
  rw [val_main_v0_apply, ← hq]
  refine congrArg x0 (funext fun a => Fin.ext ?_)
  match a with
  | ⟨0, _⟩ => show (((n.val * 4 + h.val) * 4 + g.val) * 64 + d.val) / 1024 = n.val; omega
  | ⟨1, _⟩ => show (((n.val * 4 + h.val) * 4 + g.val) * 64 + d.val) / 64 % 16 = 4 * h.val + g.val; omega
  | ⟨2, _⟩ => show (((n.val * 4 + h.val) * 4 + g.val) * 64 + d.val) % 64 = d.val; omega

theorem v1 (hq : IsQ x0 Q) (n : Fin 8192) (h g : Fin 4) (d : Fin 64) :
    val_main_v1 (F := Ideal) x0 (ix4 n h g d) = ((Q (lat n) h g d : ℝ) : EReal) := by
  rw [val_main_v1_apply]; exact (rd4 (v0 hq) _).trans (by congr 4)

theorem v5 (hq : IsQ x0 Q) (hk : IsK x1 K) (h g : Fin 4) (n : Fin 8192) (s : Fin 8448) :
    val_main_v5 (F := Ideal) x0 x1 (ix4 h g n s) = ((score Q K (lat n) h g s : ℝ) : EReal) := by
  rw [val_main_v5_apply, val_main_v3_apply, val_main_v2_apply, val_main_v4_apply, score, EReal.coe_mul]
  refine congrArg₂ (· * ·) ?_ eighth
  exact dot (f := fun d => K s h d) (g := fun d => Q (lat n) h g d) (fun d => rd3 hk _) (fun d => rd4 (v1 hq) _)

/-- The row's maximum, which the softmax takes from the scores, is a real number. -/
theorem v6 (hq : IsQ x0 Q) (hk : IsK x1 K) : ∃ M : Fin 4 → Fin 4 → Fin 8192 → ℝ, ∀ h g n,
    val_main_v6 (F := Ideal) x0 x1 (ix3 h g n) = ((M h g n : ℝ) : EReal) := by
  have H : ∀ h g n, ∃ r : ℝ, val_main_v6 (F := Ideal) x0 x1 (ix3 h g n) = r := fun h g n =>
    reduce_max _ _ _ _ negInf (fun i => rd4 (v5 hq hk) i) (ix3 h g n) (ix4 h g n 0) (eq_ix3 _)
  choose M hM using H
  exact ⟨M, hM⟩

variable {M : Fin 4 → Fin 4 → Fin 8192 → ℝ}

/-- What a row's exponentials sum to. -/
def sumLat (Q : Fin 8448 → Fin 4 → Fin 4 → Fin 64 → ℝ) (K : Fin 8448 → Fin 4 → Fin 64 → ℝ) (M : Fin 4 → Fin 4 → Fin 8192 → ℝ)
    (h g : Fin 4) (n : Fin 8192) : ℝ := ∑ j, Real.exp (score Q K (lat n) h g j - M h g n)

theorem sumLat_ne (h g : Fin 4) (n : Fin 8192) : sumLat Q K M h g n ≠ 0 :=
  (sum_exp_pos fun j => score Q K (lat n) h g j - M h g n).ne'

theorem sumLat_grad (h g : Fin 4) (n : Fin 8192) (s : Fin 8448) :
    (dprob CT V (lat n) h g s / sumLat Q K M h g n
        + -(∑ j, dprob CT V (lat n) h g j * (1 / (sumLat Q K M h g n * sumLat Q K M h g n))
            * Real.exp (score Q K (lat n) h g j - M h g n)))
        * Real.exp (score Q K (lat n) h g s - M h g n) = dscore Q CT K V (lat n) h g s :=
  dscore_lat Q CT K V n h g s (M h g n)

theorem v26 (hq : IsQ x0 Q) (hk : IsK x1 K) (hM : ∀ h g n, val_main_v6 (F := Ideal) x0 x1 (ix3 h g n) = ((M h g n : ℝ) : EReal))
    (h g : Fin 4) (n : Fin 8192) (s : Fin 8448) :
    val_main_v26 (F := Ideal) x0 x1 (ix4 h g n s) = ((Real.exp (score Q K (lat n) h g s - M h g n) : ℝ) : EReal) := by
  rw [val_main_v26_apply, val_main_v25_apply, val_main_v24_apply, val_main_v23_apply, val_main_v13_apply]
  refine hostExp (subf (v5 hq hk h g n s) ?_)
  exact (congrArg₂ max ((val_main_v12_apply (F := Ideal) _).trans (show val_main_cst_2 (F := Ideal) _ = ⊥ from negInf)) (rd3 hM _)).trans (max_eq_right bot_le)

theorem v28 (hq : IsQ x0 Q) (hk : IsK x1 K) (hM : ∀ h g n, val_main_v6 (F := Ideal) x0 x1 (ix3 h g n) = ((M h g n : ℝ) : EReal))
    (h g : Fin 4) (n : Fin 8192) (z : Fin 1) :
    val_main_v28 (F := Ideal) x0 x1 (ix4 h g n z) = ((sumLat Q K M h g n : ℝ) : EReal) := by
  rw [val_main_v28_apply, val_main_v27_apply]
  exact sum0 zero fun j => rd4 (v26 hq hk hM) _

theorem v30 (hq : IsQ x0 Q) (hk : IsK x1 K) (hM : ∀ h g n, val_main_v6 (F := Ideal) x0 x1 (ix3 h g n) = ((M h g n : ℝ) : EReal))
    (h g : Fin 4) (n : Fin 8192) (s : Fin 8448) :
    val_main_v30 (F := Ideal) x0 x1 (ix4 h g n s) = ((prob Q K (lat n) h g s : ℝ) : EReal) := by
  rw [val_main_v30_apply, val_main_v29_apply, ← prob_lat Q K n h g s (M h g n)]
  exact hostDivf (v26 hq hk hM h g n s) (rd4 (v28 hq hk hM) _) (sumLat_ne h g n)

theorem v35 (hq : IsQ x0 Q) (hk : IsK x1 K) (hv : IsK x2 V)
    (hM : ∀ h g n, val_main_v6 (F := Ideal) x0 x1 (ix3 h g n) = ((M h g n : ℝ) : EReal))
    (n : Fin 8192) (h g : Fin 4) (d : Fin 64) :
    val_main_v35 (F := Ideal) x0 x1 x2 (ix4 n h g d) = ((outp Q K V (lat n) h g d : ℝ) : EReal) := by
  rw [val_main_v35_apply, val_main_v34_apply, outp]
  exact dot (f := fun s => V s h d) (g := fun s => prob Q K (lat n) h g s) (fun s => rd3 hv _) (fun s => rd4 (v30 hq hk hM) _)

/-! ### The backward pass -/

theorem v104 (hct : IsQ x3 CT) (h : Fin 4) (d : Fin 64) (g : Fin 4) (n : Fin 8192) :
    val_main_v104 (F := Ideal) x3 (ix4 h d g n) = ((CT (lat n) h g d : ℝ) : EReal) := by
  rw [val_main_v104_apply, val_main_v76_apply]
  exact (rd4 (v0 hct) _).trans (by congr 4)

theorem v105 (hv : IsK x2 V) (hct : IsQ x3 CT) (h g : Fin 4) (n : Fin 8192) (s : Fin 8448) :
    val_main_v105 (F := Ideal) x2 x3 (ix4 h g n s) = ((dprob CT V (lat n) h g s : ℝ) : EReal) := by
  rw [val_main_v105_apply, dprob]
  exact dot (f := fun d => CT (lat n) h g d) (g := fun d => V s h d) (fun d => rd4 (v104 hct) _) (fun d => rd3 hv _)

theorem v111 (hq : IsQ x0 Q) (hk : IsK x1 K) (hv : IsK x2 V) (hct : IsQ x3 CT)
    (hM : ∀ h g n, val_main_v6 (F := Ideal) x0 x1 (ix3 h g n) = ((M h g n : ℝ) : EReal))
    (h g : Fin 4) (n : Fin 8192) (s : Fin 8448) :
    val_main_v111 (F := Ideal) x0 x1 x2 x3 (ix4 h g n s) = ((dprob CT V (lat n) h g s
      * (1 / (sumLat Q K M h g n * sumLat Q K M h g n)) * Real.exp (score Q K (lat n) h g s - M h g n) : ℝ) : EReal) := by
  rw [val_main_v111_apply, val_main_v110_apply, val_main_v109_apply, val_main_v33_apply, val_main_v31_apply]
  have e : val_main_v28 (F := Ideal) x0 x1 (idx_main_v109 (ix4 h g n s)) = ((sumLat Q K M h g n : ℝ) : EReal) :=
    rd4 (v28 hq hk hM) _
  have e1 : val_main_v32 (F := Ideal) (idx_main_v109 (ix4 h g n s)) = ((1 : ℝ) : EReal) := (val_main_v32_apply _).trans one
  have hs : sumLat Q K M h g n ≠ 0 := sumLat_ne h g n
  exact mulf (mulf (v105 hv hct h g n s) (hostDivf e1 (mulf e e) (mul_ne_zero hs hs))) (v26 hq hk hM h g n s)

/-- A row's number kept on an axis of size one. -/
theorem idx_v113 (h g : Fin 4) (n : Fin 8192) (z : Fin 1) : idx_main_v113 (ix4 h g n z) = ix3 h g n := by
  refine funext fun a => Fin.ext ?_
  match a with
  | ⟨0, _⟩ => show (((h.val * 4 + g.val) * 8192 + n.val) * 1 + z.val) / 32768 = h.val; omega
  | ⟨1, _⟩ => show (((h.val * 4 + g.val) * 8192 + n.val) * 1 + z.val) / 8192 % 4 = g.val; omega
  | ⟨2, _⟩ => show (((h.val * 4 + g.val) * 8192 + n.val) * 1 + z.val) % 8192 = n.val; omega

theorem v117 (hq : IsQ x0 Q) (hk : IsK x1 K) (hv : IsK x2 V) (hct : IsQ x3 CT)
    (hM : ∀ h g n, val_main_v6 (F := Ideal) x0 x1 (ix3 h g n) = ((M h g n : ℝ) : EReal)) (h g : Fin 4) (n : Fin 8192) :
    val_main_v117 (F := Ideal) x0 x1 x2 x3 (ix3 h g n) = ((-(∑ s, dprob CT V (lat n) h g s
      * (1 / (sumLat Q K M h g n * sumLat Q K M h g n)) * Real.exp (score Q K (lat n) h g s - M h g n)) : ℝ) : EReal) := by
  rw [val_main_v117_apply]
  refine (sum0 (f := fun _ : Fin 1 => -(∑ s, dprob CT V (lat n) h g s * (1 / (sumLat Q K M h g n * sumLat Q K M h g n))
    * Real.exp (score Q K (lat n) h g s - M h g n))) zero fun z => ?_).trans (by rw [Fin.sum_univ_one])
  rw [val_main_v114_apply, val_main_v113_apply, show idx_main_v117 (ix3 h g n) z = ix4 h g n z from eq_ix4 _, idx_v113,
    val_main_v112_apply]
  exact hostNegf (sum0 zero fun s => rd4 (v111 hq hk hv hct hM) _)

theorem v120 (hq : IsQ x0 Q) (hk : IsK x1 K) (hv : IsK x2 V) (hct : IsQ x3 CT)
    (hM : ∀ h g n, val_main_v6 (F := Ideal) x0 x1 (ix3 h g n) = ((M h g n : ℝ) : EReal))
    (h g : Fin 4) (n : Fin 8192) (s : Fin 8448) :
    val_main_v120 (F := Ideal) x0 x1 x2 x3 (ix4 h g n s) = ((dscore Q CT K V (lat n) h g s : ℝ) : EReal) := by
  rw [val_main_v120_apply, val_main_v119_apply, val_main_v116_apply, val_main_v115_apply, val_main_v118_apply,
    ← sumLat_grad (M := M) h g n s]
  have e : val_main_v28 (F := Ideal) x0 x1 (idx_main_v115 (ix4 h g n s)) = ((sumLat Q K M h g n : ℝ) : EReal) :=
    rd4 (v28 hq hk hM) _
  have hs : sumLat Q K M h g n ≠ 0 := sumLat_ne h g n
  exact mulf (addf (hostDivf (v105 hv hct h g n s) e hs) (rd3 (v117 hq hk hv hct hM) _)) (v26 hq hk hM h g n s)

theorem v123 (hq : IsQ x0 Q) (hk : IsK x1 K) (hv : IsK x2 V) (hct : IsQ x3 CT)
    (hM : ∀ h g n, val_main_v6 (F := Ideal) x0 x1 (ix3 h g n) = ((M h g n : ℝ) : EReal))
    (h : Fin 4) (s : Fin 8448) (n : Fin 8192) (g : Fin 4) :
    val_main_v123 (F := Ideal) x0 x1 x2 x3 (ix4 h s n g) = ((dscore Q CT K V (lat n) h g s * (1 / 8) : ℝ) : EReal) := by
  rw [val_main_v123_apply, val_main_v122_apply, val_main_v121_apply]
  exact mulf (rd4 (v120 hq hk hv hct hM) _) eighth

/-- The gradient of the latent queries. -/
theorem v125 (hq : IsQ x0 Q) (hk : IsK x1 K) (hv : IsK x2 V) (hct : IsQ x3 CT)
    (hM : ∀ h g n, val_main_v6 (F := Ideal) x0 x1 (ix3 h g n) = ((M h g n : ℝ) : EReal))
    (n : Fin 8192) (h g : Fin 4) (d : Fin 64) :
    val_main_v125 (F := Ideal) x0 x1 x2 x3 (ix4 n h g d)
      = ((∑ s, dscore Q CT K V (lat n) h g s * (1 / 8) * K s h d : ℝ) : EReal) := by
  rw [val_main_v125_apply, val_main_v124_apply]
  exact dot (f := fun s => dscore Q CT K V (lat n) h g s * (1 / 8)) (g := fun s => K s h d)
    (fun s => rd4 (v123 hq hk hv hct hM) _) (fun s => rd3 hk _)

/-- What the latent rows give to the gradient of the keys. -/
theorem v127 (hq : IsQ x0 Q) (hk : IsK x1 K) (hv : IsK x2 V) (hct : IsQ x3 CT)
    (hM : ∀ h g n, val_main_v6 (F := Ideal) x0 x1 (ix3 h g n) = ((M h g n : ℝ) : EReal))
    (s : Fin 8448) (h : Fin 4) (d : Fin 64) :
    val_main_v127 (F := Ideal) x0 x1 x2 x3 (ix3 s h d)
      = ((∑ n : Fin 8192, ∑ g, dscore Q CT K V (lat n) h g s * (1 / 8) * Q (lat n) h g d : ℝ) : EReal) := by
  rw [val_main_v127_apply]
  unfold val_main_v126
  simp only [Host.dotGeneral]
  rw [Ideal.dotGeneral_apply, sum_contr2 _ 8192 4 rfl rfl rfl, sum]
  refine Finset.sum_congr rfl fun n _ => dot (f := fun g => dscore Q CT K V (lat n) h g s * (1 / 8))
    (g := fun g => Q (lat n) h g d) (fun g => (rd4 (v123 hq hk hv hct hM) _).trans ?_) (fun g => (rd4 (v1 hq) _).trans ?_)
  · rfl
  · rfl

/-- What the latent rows give to the gradient of the values. -/
theorem v107 (hq : IsQ x0 Q) (hk : IsK x1 K) (hct : IsQ x3 CT)
    (hM : ∀ h g n, val_main_v6 (F := Ideal) x0 x1 (ix3 h g n) = ((M h g n : ℝ) : EReal))
    (s : Fin 8448) (h : Fin 4) (d : Fin 64) :
    val_main_v107 (F := Ideal) x0 x1 x3 (ix3 s h d)
      = ((∑ n : Fin 8192, ∑ g, CT (lat n) h g d * prob Q K (lat n) h g s : ℝ) : EReal) := by
  rw [val_main_v107_apply, Finset.sum_comm]
  unfold val_main_v106
  simp only [Host.dotGeneral]
  rw [Ideal.dotGeneral_apply, sum_contr2 _ 4 8192 rfl rfl rfl, sum]
  refine Finset.sum_congr rfl fun g _ => dot (f := fun n => CT (lat n) h g d)
    (g := fun n => prob Q K (lat n) h g s) (fun n => (rd4 (v104 hct) _).trans ?_) (fun n => (rd4 (v30 hq hk hM) _).trans ?_)
  · rfl
  · rfl

end Lat

end Cert.Ref

end
-- ==== Proof.RefCtx.lean ====
/- The reference, the context rows: each array it computes, at real arguments, is the array of the same real numbers. -/
module

public import proofs.«01_k».proof.Proof.RefLat

@[expose] public section

set_option maxRecDepth 16384

noncomputable section

namespace Cert.Ref

open Cert.ReferenceIdeal Cert.ReferenceIdeal.Gen Cert.ReferenceIdeal.Read Cert.Coe Cert.Spec
open Idealize.ShloMosaic Idealize.ShloMosaic.ValueIdx

section Ctx

variable {x0 x3 : S8448x16x64.Idx → EReal} {x1 x2 : S8448x4x64.Idx → EReal}
variable {Q CT : Fin 8448 → Fin 4 → Fin 4 → Fin 64 → ℝ} {K V : Fin 8448 → Fin 4 → Fin 64 → ℝ}

theorem v36 (hq : IsQ x0 Q) (n : Fin 256) (h g : Fin 4) (d : Fin 64) :
    val_main_v36 (F := Ideal) x0 (ix4 n h g d) = ((Q (ctx n) h g d : ℝ) : EReal) := by
  rw [val_main_v36_apply]; exact (rd4 (v0 hq) _).trans (by congr 4)

theorem v37 (hk : IsK x1 K) (n : Fin 256) (h : Fin 4) (d : Fin 64) :
    val_main_v37 (F := Ideal) x1 (ix3 n h d) = ((K (ctx n) h d : ℝ) : EReal) := by
  rw [val_main_v37_apply]; exact (rd3 hk _).trans (by congr 4)

theorem v38 (hv : IsK x2 V) (n : Fin 256) (h : Fin 4) (d : Fin 64) :
    val_main_v38 (F := Ideal) x2 (ix3 n h d) = ((V (ctx n) h d : ℝ) : EReal) := by
  rw [val_main_v38_apply]; exact (rd3 hv _).trans (by congr 4)

theorem v42 (hq : IsQ x0 Q) (hk : IsK x1 K) (h g : Fin 4) (n : Fin 256) (s : Fin 256) :
    val_main_v42 (F := Ideal) x0 x1 (ix4 h g n s) = ((score Q K (ctx n) h g (ctx s) : ℝ) : EReal) := by
  rw [val_main_v42_apply, val_main_v40_apply, val_main_v39_apply, val_main_v41_apply, score, EReal.coe_mul]
  refine congrArg₂ (· * ·) ?_ eighth
  exact dot (f := fun d => K (ctx s) h d) (g := fun d => Q (ctx n) h g d) (fun d => rd3 (v37 hk) _) (fun d => rd4 (v36 hq) _)

/-- The row's maximum, which the softmax takes from the scores, is a real number. -/
theorem v43 (hq : IsQ x0 Q) (hk : IsK x1 K) : ∃ M : Fin 4 → Fin 4 → Fin 256 → ℝ, ∀ h g n,
    val_main_v43 (F := Ideal) x0 x1 (ix3 h g n) = ((M h g n : ℝ) : EReal) := by
  have H : ∀ h g n, ∃ r : ℝ, val_main_v43 (F := Ideal) x0 x1 (ix3 h g n) = r := fun h g n =>
    reduce_max _ _ _ _ negInf (fun i => rd4 (v42 hq hk) i) (ix3 h g n) (ix4 h g n 0) (eq_ix3 _)
  choose M hM using H
  exact ⟨M, hM⟩

variable {M : Fin 4 → Fin 4 → Fin 256 → ℝ}

/-- What a row's exponentials sum to. -/
def sumCtx (Q : Fin 8448 → Fin 4 → Fin 4 → Fin 64 → ℝ) (K : Fin 8448 → Fin 4 → Fin 64 → ℝ) (M : Fin 4 → Fin 4 → Fin 256 → ℝ)
    (h g : Fin 4) (n : Fin 256) : ℝ := ∑ j, Real.exp (score Q K (ctx n) h g (ctx j) - M h g n)

theorem sumCtx_ne (h g : Fin 4) (n : Fin 256) : sumCtx Q K M h g n ≠ 0 :=
  (sum_exp_pos fun j => score Q K (ctx n) h g (ctx j) - M h g n).ne'

theorem sumCtx_grad (h g : Fin 4) (n : Fin 256) (s : Fin 256) :
    (dprob CT V (ctx n) h g (ctx s) / sumCtx Q K M h g n
        + -(∑ j, dprob CT V (ctx n) h g (ctx j) * (1 / (sumCtx Q K M h g n * sumCtx Q K M h g n))
            * Real.exp (score Q K (ctx n) h g (ctx j) - M h g n)))
        * Real.exp (score Q K (ctx n) h g (ctx s) - M h g n) = dscore Q CT K V (ctx n) h g (ctx s) :=
  dscore_ctx Q CT K V n h g s (M h g n)

theorem v63 (hq : IsQ x0 Q) (hk : IsK x1 K) (hM : ∀ h g n, val_main_v43 (F := Ideal) x0 x1 (ix3 h g n) = ((M h g n : ℝ) : EReal))
    (h g : Fin 4) (n : Fin 256) (s : Fin 256) :
    val_main_v63 (F := Ideal) x0 x1 (ix4 h g n s) = ((Real.exp (score Q K (ctx n) h g (ctx s) - M h g n) : ℝ) : EReal) := by
  rw [val_main_v63_apply, val_main_v62_apply, val_main_v61_apply, val_main_v60_apply, val_main_v50_apply]
  refine hostExp (subf (v42 hq hk h g n s) ?_)
  exact (congrArg₂ max ((val_main_v49_apply (F := Ideal) _).trans (show val_main_cst_13 (F := Ideal) _ = ⊥ from negInf)) (rd3 hM _)).trans (max_eq_right bot_le)

theorem v65 (hq : IsQ x0 Q) (hk : IsK x1 K) (hM : ∀ h g n, val_main_v43 (F := Ideal) x0 x1 (ix3 h g n) = ((M h g n : ℝ) : EReal))
    (h g : Fin 4) (n : Fin 256) (z : Fin 1) :
    val_main_v65 (F := Ideal) x0 x1 (ix4 h g n z) = ((sumCtx Q K M h g n : ℝ) : EReal) := by
  rw [val_main_v65_apply, val_main_v64_apply]
  exact sum0 zero fun j => rd4 (v63 hq hk hM) _

theorem v67 (hq : IsQ x0 Q) (hk : IsK x1 K) (hM : ∀ h g n, val_main_v43 (F := Ideal) x0 x1 (ix3 h g n) = ((M h g n : ℝ) : EReal))
    (h g : Fin 4) (n : Fin 256) (s : Fin 256) :
    val_main_v67 (F := Ideal) x0 x1 (ix4 h g n s) = ((prob Q K (ctx n) h g (ctx s) : ℝ) : EReal) := by
  rw [val_main_v67_apply, val_main_v66_apply, ← prob_ctx Q K n s h g (M h g n)]
  exact hostDivf (v63 hq hk hM h g n s) (rd4 (v65 hq hk hM) _) (sumCtx_ne h g n)

theorem v72 (hq : IsQ x0 Q) (hk : IsK x1 K) (hv : IsK x2 V)
    (hM : ∀ h g n, val_main_v43 (F := Ideal) x0 x1 (ix3 h g n) = ((M h g n : ℝ) : EReal))
    (n : Fin 256) (h g : Fin 4) (d : Fin 64) :
    val_main_v72 (F := Ideal) x0 x1 x2 (ix4 n h g d) = ((outp Q K V (ctx n) h g d : ℝ) : EReal) := by
  rw [val_main_v72_apply, val_main_v71_apply, outp_ctx]
  exact dot (f := fun s => V (ctx s) h d) (g := fun s => prob Q K (ctx n) h g (ctx s)) (fun s => rd3 (v38 hv) _) (fun s => rd4 (v67 hq hk hM) _)

/-! ### The backward pass -/

theorem v78 (hct : IsQ x3 CT) (h : Fin 4) (d : Fin 64) (g : Fin 4) (n : Fin 256) :
    val_main_v78 (F := Ideal) x3 (ix4 h d g n) = ((CT (ctx n) h g d : ℝ) : EReal) := by
  rw [val_main_v78_apply, val_main_v77_apply]
  exact (rd4 (v0 hct) _).trans (by congr 4)

theorem v79 (hv : IsK x2 V) (hct : IsQ x3 CT) (h g : Fin 4) (n : Fin 256) (s : Fin 256) :
    val_main_v79 (F := Ideal) x2 x3 (ix4 h g n s) = ((dprob CT V (ctx n) h g (ctx s) : ℝ) : EReal) := by
  rw [val_main_v79_apply, dprob]
  exact dot (f := fun d => CT (ctx n) h g d) (g := fun d => V (ctx s) h d) (fun d => rd4 (v78 hct) _) (fun d => rd3 (v38 hv) _)

theorem v84 (hq : IsQ x0 Q) (hk : IsK x1 K) (hv : IsK x2 V) (hct : IsQ x3 CT)
    (hM : ∀ h g n, val_main_v43 (F := Ideal) x0 x1 (ix3 h g n) = ((M h g n : ℝ) : EReal))
    (h g : Fin 4) (n : Fin 256) (s : Fin 256) :
    val_main_v84 (F := Ideal) x0 x1 x2 x3 (ix4 h g n s) = ((dprob CT V (ctx n) h g (ctx s)
      * (1 / (sumCtx Q K M h g n * sumCtx Q K M h g n)) * Real.exp (score Q K (ctx n) h g (ctx s) - M h g n) : ℝ) : EReal) := by
  rw [val_main_v84_apply, val_main_v83_apply, val_main_v82_apply, val_main_v70_apply, val_main_v68_apply]
  have e : val_main_v65 (F := Ideal) x0 x1 (idx_main_v82 (ix4 h g n s)) = ((sumCtx Q K M h g n : ℝ) : EReal) :=
    rd4 (v65 hq hk hM) _
  have e1 : val_main_v69 (F := Ideal) (idx_main_v82 (ix4 h g n s)) = ((1 : ℝ) : EReal) := (val_main_v69_apply _).trans one
  have hs : sumCtx Q K M h g n ≠ 0 := sumCtx_ne h g n
  exact mulf (mulf (v79 hv hct h g n s) (hostDivf e1 (mulf e e) (mul_ne_zero hs hs))) (v63 hq hk hM h g n s)

/-- A row's number kept on an axis of size one. -/
theorem idx_v86 (h g : Fin 4) (n : Fin 256) (z : Fin 1) : idx_main_v86 (ix4 h g n z) = ix3 h g n := by
  refine funext fun a => Fin.ext ?_
  match a with
  | ⟨0, _⟩ => show (((h.val * 4 + g.val) * 256 + n.val) * 1 + z.val) / 1024 = h.val; omega
  | ⟨1, _⟩ => show (((h.val * 4 + g.val) * 256 + n.val) * 1 + z.val) / 256 % 4 = g.val; omega
  | ⟨2, _⟩ => show (((h.val * 4 + g.val) * 256 + n.val) * 1 + z.val) % 256 = n.val; omega

theorem v90 (hq : IsQ x0 Q) (hk : IsK x1 K) (hv : IsK x2 V) (hct : IsQ x3 CT)
    (hM : ∀ h g n, val_main_v43 (F := Ideal) x0 x1 (ix3 h g n) = ((M h g n : ℝ) : EReal)) (h g : Fin 4) (n : Fin 256) :
    val_main_v90 (F := Ideal) x0 x1 x2 x3 (ix3 h g n) = ((-(∑ s, dprob CT V (ctx n) h g (ctx s)
      * (1 / (sumCtx Q K M h g n * sumCtx Q K M h g n)) * Real.exp (score Q K (ctx n) h g (ctx s) - M h g n)) : ℝ) : EReal) := by
  rw [val_main_v90_apply]
  refine (sum0 (f := fun _ : Fin 1 => -(∑ s, dprob CT V (ctx n) h g (ctx s) * (1 / (sumCtx Q K M h g n * sumCtx Q K M h g n))
    * Real.exp (score Q K (ctx n) h g (ctx s) - M h g n))) zero fun z => ?_).trans (by rw [Fin.sum_univ_one])
  rw [val_main_v87_apply, val_main_v86_apply, show idx_main_v90 (ix3 h g n) z = ix4 h g n z from eq_ix4 _, idx_v86,
    val_main_v85_apply]
  exact hostNegf (sum0 zero fun s => rd4 (v84 hq hk hv hct hM) _)

theorem v93 (hq : IsQ x0 Q) (hk : IsK x1 K) (hv : IsK x2 V) (hct : IsQ x3 CT)
    (hM : ∀ h g n, val_main_v43 (F := Ideal) x0 x1 (ix3 h g n) = ((M h g n : ℝ) : EReal))
    (h g : Fin 4) (n : Fin 256) (s : Fin 256) :
    val_main_v93 (F := Ideal) x0 x1 x2 x3 (ix4 h g n s) = ((dscore Q CT K V (ctx n) h g (ctx s) : ℝ) : EReal) := by
  rw [val_main_v93_apply, val_main_v92_apply, val_main_v89_apply, val_main_v88_apply, val_main_v91_apply,
    ← sumCtx_grad (M := M) h g n s]
  have e : val_main_v65 (F := Ideal) x0 x1 (idx_main_v88 (ix4 h g n s)) = ((sumCtx Q K M h g n : ℝ) : EReal) :=
    rd4 (v65 hq hk hM) _
  have hs : sumCtx Q K M h g n ≠ 0 := sumCtx_ne h g n
  exact mulf (addf (hostDivf (v79 hv hct h g n s) e hs) (rd3 (v90 hq hk hv hct hM) _)) (v63 hq hk hM h g n s)

theorem v96 (hq : IsQ x0 Q) (hk : IsK x1 K) (hv : IsK x2 V) (hct : IsQ x3 CT)
    (hM : ∀ h g n, val_main_v43 (F := Ideal) x0 x1 (ix3 h g n) = ((M h g n : ℝ) : EReal))
    (h : Fin 4) (s : Fin 256) (n : Fin 256) (g : Fin 4) :
    val_main_v96 (F := Ideal) x0 x1 x2 x3 (ix4 h s n g) = ((dscore Q CT K V (ctx n) h g (ctx s) * (1 / 8) : ℝ) : EReal) := by
  rw [val_main_v96_apply, val_main_v95_apply, val_main_v94_apply]
  exact mulf (rd4 (v93 hq hk hv hct hM) _) eighth

/-- The gradient of the context queries. -/
theorem v98 (hq : IsQ x0 Q) (hk : IsK x1 K) (hv : IsK x2 V) (hct : IsQ x3 CT)
    (hM : ∀ h g n, val_main_v43 (F := Ideal) x0 x1 (ix3 h g n) = ((M h g n : ℝ) : EReal))
    (n : Fin 256) (h g : Fin 4) (d : Fin 64) :
    val_main_v98 (F := Ideal) x0 x1 x2 x3 (ix4 n h g d)
      = ((∑ s, dscore Q CT K V (ctx n) h g (ctx s) * (1 / 8) * K (ctx s) h d : ℝ) : EReal) := by
  rw [val_main_v98_apply, val_main_v97_apply]
  exact dot (f := fun s => dscore Q CT K V (ctx n) h g (ctx s) * (1 / 8)) (g := fun s => K (ctx s) h d)
    (fun s => rd4 (v96 hq hk hv hct hM) _) (fun s => rd3 (v37 hk) _)

/-- What the context rows give to the gradient of the keys. -/
theorem v100 (hq : IsQ x0 Q) (hk : IsK x1 K) (hv : IsK x2 V) (hct : IsQ x3 CT)
    (hM : ∀ h g n, val_main_v43 (F := Ideal) x0 x1 (ix3 h g n) = ((M h g n : ℝ) : EReal))
    (s : Fin 256) (h : Fin 4) (d : Fin 64) :
    val_main_v100 (F := Ideal) x0 x1 x2 x3 (ix3 s h d)
      = ((∑ n : Fin 256, ∑ g, dscore Q CT K V (ctx n) h g (ctx s) * (1 / 8) * Q (ctx n) h g d : ℝ) : EReal) := by
  rw [val_main_v100_apply]
  unfold val_main_v99
  simp only [Host.dotGeneral]
  rw [Ideal.dotGeneral_apply, sum_contr2 _ 256 4 rfl rfl rfl, sum]
  refine Finset.sum_congr rfl fun n _ => dot (f := fun g => dscore Q CT K V (ctx n) h g (ctx s) * (1 / 8))
    (g := fun g => Q (ctx n) h g d) (fun g => (rd4 (v96 hq hk hv hct hM) _).trans ?_) (fun g => (rd4 (v36 hq) _).trans ?_)
  · rfl
  · rfl

/-- What the context rows give to the gradient of the values. -/
theorem v81 (hq : IsQ x0 Q) (hk : IsK x1 K) (hct : IsQ x3 CT)
    (hM : ∀ h g n, val_main_v43 (F := Ideal) x0 x1 (ix3 h g n) = ((M h g n : ℝ) : EReal))
    (s : Fin 256) (h : Fin 4) (d : Fin 64) :
    val_main_v81 (F := Ideal) x0 x1 x3 (ix3 s h d)
      = ((∑ n : Fin 256, ∑ g, CT (ctx n) h g d * prob Q K (ctx n) h g (ctx s) : ℝ) : EReal) := by
  rw [val_main_v81_apply, Finset.sum_comm]
  unfold val_main_v80
  simp only [Host.dotGeneral]
  rw [Ideal.dotGeneral_apply, sum_contr2 _ 4 256 rfl rfl rfl, sum]
  refine Finset.sum_congr rfl fun g _ => dot (f := fun n => CT (ctx n) h g d)
    (g := fun n => prob Q K (ctx n) h g (ctx s)) (fun n => (rd4 (v78 hct) _).trans ?_) (fun n => (rd4 (v67 hq hk hM) _).trans ?_)
  · rfl
  · rfl

end Ctx

end Cert.Ref

end
-- ==== Proof.RefRes.lean ====
/- The reference's results at real arguments. -/
module

public import proofs.«01_k».proof.Proof.RefCtx

@[expose] public section

set_option maxRecDepth 16384

noncomputable section

namespace Cert.Ref

open Cert.ReferenceIdeal Cert.ReferenceIdeal.Gen Cert.ReferenceIdeal.Read Cert.Coe Cert.Spec
open Idealize.ShloMosaic Idealize.ShloMosaic.ValueIdx

/-- A row is a latent row or a row of the context. -/
theorem lat_or_ctx (n : Fin 8448) : (∃ m, n = lat m) ∨ ∃ m, n = ctx m := by
  by_cases hn : n.val < 8192
  · exact Or.inl ⟨⟨n.val, hn⟩, rfl⟩
  · exact Or.inr ⟨⟨n.val - 8192, by omega⟩, Fin.ext (by simp only [ctx]; omega)⟩

section Pads

/-! ### The pads: the latent rows' array with zeros after it, the context rows' with zeros before it -/

variable {x : S256x4x64.Idx → EReal} {y : S256x4x4x64.Idx → EReal} {y' : S8192x4x4x64.Idx → EReal} {z : S_.Idx → EReal}

theorem pad_ctx3 (s : Fin 256) (h : Fin 4) (d : Fin 64) :
    pad S8448x4x64 ![8192, 0, 0] ![0, 0, 0] ![0, 0, 0] x z pads_S256x4x64_S8448x4x64_819200_000_000 h_S_ (ix3 (ctx s) h d)
      = x (ix3 s h d) :=
  pad_apply_of_inside _ _ _ _ _ _ _ _ _ fun a => by
    match a with
    | ⟨0, _⟩ => show 8192 + s.val = 8192 + s.val * 1; omega
    | ⟨1, _⟩ => show h.val = 0 + h.val * 1; omega
    | ⟨2, _⟩ => show d.val = 0 + d.val * 1; omega

theorem pad_lat3 (s : Fin 8192) (h : Fin 4) (d : Fin 64) :
    pad S8448x4x64 ![8192, 0, 0] ![0, 0, 0] ![0, 0, 0] x z pads_S256x4x64_S8448x4x64_819200_000_000 h_S_ (ix3 (lat s) h d)
      = z (Shape.Idx.first h_S_) :=
  pad_apply_of_not_inside _ _ _ _ _ _ _ _ 0 fun hh => by
    have h1 : 8192 ≤ s.val := hh.1
    omega

theorem pad_ctx4 (s : Fin 256) (h g : Fin 4) (d : Fin 64) :
    pad S8448x4x4x64 ![8192, 0, 0, 0] ![0, 0, 0, 0] ![0, 0, 0, 0] y z pads_S256x4x4x64_S8448x4x4x64_819200_000_000_000 h_S_
      (ix4 (ctx s) h g d) = y (ix4 s h g d) :=
  pad_apply_of_inside _ _ _ _ _ _ _ _ _ fun a => by
    match a with
    | ⟨0, _⟩ => show 8192 + s.val = 8192 + s.val * 1; omega
    | ⟨1, _⟩ => show h.val = 0 + h.val * 1; omega
    | ⟨2, _⟩ => show g.val = 0 + g.val * 1; omega
    | ⟨3, _⟩ => show d.val = 0 + d.val * 1; omega

theorem pad_lat4 (s : Fin 8192) (h g : Fin 4) (d : Fin 64) :
    pad S8448x4x4x64 ![8192, 0, 0, 0] ![0, 0, 0, 0] ![0, 0, 0, 0] y z pads_S256x4x4x64_S8448x4x4x64_819200_000_000_000 h_S_
      (ix4 (lat s) h g d) = z (Shape.Idx.first h_S_) :=
  pad_apply_of_not_inside _ _ _ _ _ _ _ _ 0 fun hh => by
    have h1 : 8192 ≤ s.val := hh.1
    omega

theorem pad_after_lat4 (s : Fin 8192) (h g : Fin 4) (d : Fin 64) :
    pad S8448x4x4x64 ![0, 0, 0, 0] ![256, 0, 0, 0] ![0, 0, 0, 0] y' z pads_S8192x4x4x64_S8448x4x4x64_02560_000_000_000 h_S_
      (ix4 (lat s) h g d) = y' (ix4 s h g d) :=
  pad_apply_of_inside _ _ _ _ _ _ _ _ _ fun a => by
    match a with
    | ⟨0, _⟩ => show s.val = 0 + s.val * 1; omega
    | ⟨1, _⟩ => show h.val = 0 + h.val * 1; omega
    | ⟨2, _⟩ => show g.val = 0 + g.val * 1; omega
    | ⟨3, _⟩ => show d.val = 0 + d.val * 1; omega

theorem pad_after_ctx4 (s : Fin 256) (h g : Fin 4) (d : Fin 64) :
    pad S8448x4x4x64 ![0, 0, 0, 0] ![256, 0, 0, 0] ![0, 0, 0, 0] y' z pads_S8192x4x4x64_S8448x4x4x64_02560_000_000_000 h_S_
      (ix4 (ctx s) h g d) = z (Shape.Idx.first h_S_) :=
  pad_apply_of_not_inside _ _ _ _ _ _ _ _ 0 fun hh => by
    have h1 : (8192 + s.val - 0) / (0 + 1) < 8192 := hh.2.2
    omega

end Pads

section Results

variable {x0 x3 : S8448x16x64.Idx → EReal} {x1 x2 : S8448x4x64.Idx → EReal}
variable {Q CT : Fin 8448 → Fin 4 → Fin 4 → Fin 64 → ℝ} {K V : Fin 8448 → Fin 4 → Fin 64 → ℝ}

/-- The attention's output. -/
theorem v74 (hq : IsQ x0 Q) (hk : IsK x1 K) (hv : IsK x2 V) (n : Fin 8448) (h g : Fin 4) (d : Fin 64) :
    val_main_v74 (F := Ideal) x0 x1 x2 (ix3 n (head h g) d) = ((outp Q K V n h g d : ℝ) : EReal) := by
  obtain ⟨M, hM⟩ := v6 hq hk
  obtain ⟨M', hM'⟩ := v43 hq hk
  have e : idx_main_v74 (ix3 n (head h g) d) = ix4 n h g d := by
    refine funext fun a => Fin.ext ?_
    match a with
    | ⟨0, _⟩ => show ((n.val * 16 + (4 * h.val + g.val)) * 64 + d.val) / 1024 = n.val; omega
    | ⟨1, _⟩ => show ((n.val * 16 + (4 * h.val + g.val)) * 64 + d.val) / 256 % 4 = h.val; omega
    | ⟨2, _⟩ => show ((n.val * 16 + (4 * h.val + g.val)) * 64 + d.val) / 64 % 4 = g.val; omega
    | ⟨3, _⟩ => show ((n.val * 16 + (4 * h.val + g.val)) * 64 + d.val) % 64 = d.val; omega
  rw [val_main_v74_apply, e]
  unfold val_main_v73
  rcases lat_or_ctx n with ⟨m, rfl⟩ | ⟨m, rfl⟩
  · refine (concatenate_pair_apply_left (t := S8448x4x4x64) (s₁ := S8192x4x4x64) (s₂ := S256x4x4x64) 0 _ _ _ _ rfl
      (ix4 m h g d) fun b => ?_).trans (v35 hq hk hv hM m h g d)
    match b with | ⟨0, _⟩ => rfl | ⟨1, _⟩ => rfl | ⟨2, _⟩ => rfl | ⟨3, _⟩ => rfl
  · refine (concatenate_pair_apply_right (t := S8448x4x4x64) (s₁ := S8192x4x4x64) (s₂ := S256x4x4x64) 0 _ _ _ _ rfl rfl
      (ix4 m h g d) (fun b hb => ?_) ?_).trans (v72 hq hk hv hM' m h g d)
    · match b with | ⟨0, _⟩ => exact absurd rfl hb | ⟨1, _⟩ => rfl | ⟨2, _⟩ => rfl | ⟨3, _⟩ => rfl
    · show m.val + 8192 = 8192 + m.val; omega

/-- The gradient of the queries, with the scores' factor. -/
theorem v130 (hq : IsQ x0 Q) (hk : IsK x1 K) (hv : IsK x2 V) (hct : IsQ x3 CT) (n : Fin 8448) (h g : Fin 4) (d : Fin 64) :
    val_main_v130 (F := Ideal) x0 x1 x2 x3 (ix4 n h g d) = ((dq Q CT K V n h g d * (1 / 8) : ℝ) : EReal) := by
  obtain ⟨M, hM⟩ := v6 hq hk
  obtain ⟨M', hM'⟩ := v43 hq hk
  rw [val_main_v130_apply]
  unfold val_main_v103 val_main_v129
  rcases lat_or_ctx n with ⟨m, rfl⟩ | ⟨m, rfl⟩
  · rw [pad_lat4, pad_after_lat4, v125 hq hk hv hct hM]
    refine (addf zero rfl).trans (congrArg _ ?_)
    rw [zero_add, dq, Finset.sum_mul]
    exact Finset.sum_congr rfl fun s _ => by ring
  · rw [pad_ctx4, pad_after_ctx4, v98 hq hk hv hct hM']
    refine (addf rfl zero).trans (congrArg _ ?_)
    rw [add_zero, dq_ctx, Finset.sum_mul]
    exact Finset.sum_congr rfl fun s _ => by ring

/-- The first result: the gradient of the queries without the scores' factor. -/
theorem res_dq (hq : IsQ x0 Q) (hk : IsK x1 K) (hv : IsK x2 V) (hct : IsQ x3 CT) (n : Fin 8448) (h g : Fin 4) (d : Fin 64) :
    val_main_v134 (F := Ideal) x0 x1 x2 x3 (ix2 n (col h g d)) = ((dq Q CT K V n h g d : ℝ) : EReal) := by
  have e : idx_main_v131 (idx_main_v134 (ix2 n (col h g d))) = ix4 n h g d := by
    have e0 : (n.val * 1024 + (256 * h.val + 64 * g.val + d.val)) / 1024 = n.val := by omega
    have e1 : (n.val * 1024 + (256 * h.val + 64 * g.val + d.val)) / 64 % 16 = 4 * h.val + g.val := by omega
    have e2 : (n.val * 1024 + (256 * h.val + 64 * g.val + d.val)) % 64 = d.val := by omega
    refine funext fun a => Fin.ext ?_
    match a with
    | ⟨0, _⟩ =>
      show ((((n.val * 1024 + (256 * h.val + 64 * g.val + d.val)) / 1024) * 16
        + (n.val * 1024 + (256 * h.val + 64 * g.val + d.val)) / 64 % 16) * 64
        + (n.val * 1024 + (256 * h.val + 64 * g.val + d.val)) % 64) / 1024 = n.val
      rw [e0, e1, e2]; omega
    | ⟨1, _⟩ =>
      show ((((n.val * 1024 + (256 * h.val + 64 * g.val + d.val)) / 1024) * 16
        + (n.val * 1024 + (256 * h.val + 64 * g.val + d.val)) / 64 % 16) * 64
        + (n.val * 1024 + (256 * h.val + 64 * g.val + d.val)) % 64) / 256 % 4 = h.val
      rw [e0, e1, e2]; omega
    | ⟨2, _⟩ =>
      show ((((n.val * 1024 + (256 * h.val + 64 * g.val + d.val)) / 1024) * 16
        + (n.val * 1024 + (256 * h.val + 64 * g.val + d.val)) / 64 % 16) * 64
        + (n.val * 1024 + (256 * h.val + 64 * g.val + d.val)) % 64) / 64 % 4 = g.val
      rw [e0, e1, e2]; omega
    | ⟨3, _⟩ =>
      show ((((n.val * 1024 + (256 * h.val + 64 * g.val + d.val)) / 1024) * 16
        + (n.val * 1024 + (256 * h.val + 64 * g.val + d.val)) / 64 % 16) * 64
        + (n.val * 1024 + (256 * h.val + 64 * g.val + d.val)) % 64) % 64 = d.val
      rw [e0, e1, e2]; omega
  rw [val_main_v134_apply, val_main_v133_apply, val_main_v131_apply, e]
  have e8 : val_main_v132 (F := Ideal) (idx_main_v134 (ix2 n (col h g d))) = ((1 / 8 : ℝ) : EReal) :=
    (val_main_v132_apply _).trans eighth
  refine (hostDivf (v130 hq hk hv hct n h g d) e8 (by norm_num)).trans (congrArg _ ?_)
  ring

/-- The second result: the gradient of the keys, a column a row. -/
theorem res_dk (hq : IsQ x0 Q) (hk : IsK x1 K) (hv : IsK x2 V) (hct : IsQ x3 CT) (h : Fin 4) (d : Fin 64) (s : Fin 8448) :
    val_main_v136 (F := Ideal) x0 x1 x2 x3 (ix2 (rowOf h d) s) = ((dk Q CT K V s h d : ℝ) : EReal) := by
  obtain ⟨M, hM⟩ := v6 hq hk
  obtain ⟨M', hM'⟩ := v43 hq hk
  have e : idx_main_v135 (idx_main_v136 (ix2 (rowOf h d) s)) = ix3 s h d := by
    refine funext fun a => Fin.ext ?_
    match a with
    | ⟨0, _⟩ => show (s.val * 256 + (64 * h.val + d.val)) / 256 = s.val; omega
    | ⟨1, _⟩ => show (s.val * 256 + (64 * h.val + d.val)) / 64 % 4 = h.val; omega
    | ⟨2, _⟩ => show (s.val * 256 + (64 * h.val + d.val)) % 64 = d.val; omega
  rw [val_main_v136_apply, val_main_v135_apply, e, val_main_v128_apply]
  unfold val_main_v102
  rcases lat_or_ctx s with ⟨m, rfl⟩ | ⟨m, rfl⟩
  · rw [pad_lat3, v127 hq hk hv hct hM]
    exact (addf zero rfl).trans (congrArg _ ((zero_add _).trans (dk_lat Q CT K V m h d).symm))
  · rw [pad_ctx3, v127 hq hk hv hct hM, v100 hq hk hv hct hM']
    exact (addf rfl rfl).trans (congrArg _ ((add_comm _ _).trans (dk_ctx Q CT K V m h d).symm))

/-- The third result: the gradient of the values, a column a row. -/
theorem res_dv (hq : IsQ x0 Q) (hk : IsK x1 K) (hct : IsQ x3 CT) (h : Fin 4) (d : Fin 64) (s : Fin 8448) :
    val_main_v138 (F := Ideal) x0 x1 x3 (ix2 (rowOf h d) s) = ((dv Q CT K s h d : ℝ) : EReal) := by
  obtain ⟨M, hM⟩ := v6 hq hk
  obtain ⟨M', hM'⟩ := v43 hq hk
  have e : idx_main_v137 (idx_main_v138 (ix2 (rowOf h d) s)) = ix3 s h d := by
    refine funext fun a => Fin.ext ?_
    match a with
    | ⟨0, _⟩ => show (s.val * 256 + (64 * h.val + d.val)) / 256 = s.val; omega
    | ⟨1, _⟩ => show (s.val * 256 + (64 * h.val + d.val)) / 64 % 4 = h.val; omega
    | ⟨2, _⟩ => show (s.val * 256 + (64 * h.val + d.val)) % 64 = d.val; omega
  rw [val_main_v138_apply, val_main_v137_apply, e, val_main_v108_apply]
  unfold val_main_v101
  rcases lat_or_ctx s with ⟨m, rfl⟩ | ⟨m, rfl⟩
  · rw [pad_lat3, v107 hq hk hct hM]
    exact (addf zero rfl).trans (congrArg _ ((zero_add _).trans (dv_lat Q CT K m h d).symm))
  · rw [pad_ctx3, v107 hq hk hct hM, v81 hq hk hct hM']
    exact (addf rfl rfl).trans (congrArg _ ((add_comm _ _).trans (dv_ctx Q CT K m h d).symm))

end Results

end Cert.Ref

end
-- ==== Proof.HostRead.lean ====
/- The arrays the call is given, at real arguments. -/
module

public import proofs.«01_k».proof.Proof.Host
public import proofs.«01_k».proof.Proof.RefRes
public import proofs.«01_k».proof.Proof.Blocks

@[expose] public section

set_option maxRecDepth 16384

noncomputable section

namespace Cert.Host

open Cert.KernelIdeal Cert.KernelIdeal.Gen Cert.ReferenceIdeal.Read Cert.Coe Cert.Spec Cert.Ref Cert.Steps
open Idealize.ShloMosaic Idealize.ShloMosaic.TcCoe Idealize.ShloMosaic.ValueIdx Idealize.SL.Sem

variable {x0 x3 : QRows Ideal} {x1 x2 : KRows Ideal}
variable {Q CT : Fin 8448 → Fin 4 → Fin 4 → Fin 64 → ℝ} {K V : Fin 8448 → Fin 4 → Fin 64 → ℝ}
variable {M : Fin 4 → Fin 4 → Fin 8192 → ℝ} {M' : Fin 4 → Fin 4 → Fin 256 → ℝ}

/-! ## Layouts -/

theorem heads_apply (hq : IsQ x0 Q) (n : Fin 8448) (h g : Fin 4) (d : Fin 64) :
    heads x0 (ix3 (head h g) n d) = ((Q n h g d : ℝ) : EReal) :=
  (transpose_apply (s := S8448x16x64) (t := S16x8448x64) [1, 0, 2] x0 _ (ix3 (head h g) n d) (ix3 n (head h g) d) (fun b => by
    match b with | ⟨0, _⟩ => rfl | ⟨1, _⟩ => rfl | ⟨2, _⟩ => rfl)).trans (hq n h g d)

theorem headsT_apply (hq : IsQ x0 Q) (n : Fin 8448) (h g : Fin 4) (d : Fin 64) :
    headsT x0 (ix2 (col h g d) n) = ((Q n h g d : ℝ) : EReal) := by
  refine (transpose_apply (s := S8448x1024) (t := S1024x8448) [1, 0]
    (shapeCast S8448x1024 x0 shapeCasts_S8448x16x64_S8448x1024) transposes_S8448x1024_S1024x8448_1_0 (ix2 (col h g d) n) (ix2 n (col h g d)) (fun b => by
    match b with | ⟨0, _⟩ => rfl | ⟨1, _⟩ => rfl)).trans (Eq.trans ?_ (hq n h g d))
  exact shapeCast_apply (s := S8448x16x64) (t := S8448x1024) x0 _ _ _
    ((pos3 n (head h g) d).trans (Eq.trans (by
      show (n.val * 16 + (4 * h.val + g.val)) * 64 + d.val = n.val * 1024 + (256 * h.val + 64 * g.val + d.val); omega) (pos2 n (col h g d)).symm))

theorem keys_apply (hk : IsK x1 K) (s : Fin 8448) (h : Fin 4) (d : Fin 64) : keys x1 (ix3 h s d) = ((K s h d : ℝ) : EReal) :=
  (transpose_apply (s := S8448x4x64) (t := S4x8448x64) [1, 0, 2] x1 _ (ix3 h s d) (ix3 s h d) (fun b => by
    match b with | ⟨0, _⟩ => rfl | ⟨1, _⟩ => rfl | ⟨2, _⟩ => rfl)).trans (hk s h d)

theorem keysT_apply (hk : IsK x1 K) (s : Fin 8448) (h : Fin 4) (d : Fin 64) : keysT x1 (ix2 (rowOf h d) s) = ((K s h d : ℝ) : EReal) := by
  refine (transpose_apply (s := S8448x256) (t := S256x8448) [1, 0]
    (shapeCast S8448x256 x1 shapeCasts_S8448x4x64_S8448x256) transposes_S8448x256_S256x8448_1_0 (ix2 (rowOf h d) s) (ix2 s (rowOf h d)) (fun b => by
    match b with | ⟨0, _⟩ => rfl | ⟨1, _⟩ => rfl)).trans (Eq.trans ?_ (hk s h d))
  exact shapeCast_apply (s := S8448x4x64) (t := S8448x256) x1 _ _ _
    ((pos3 s h d).trans (Eq.trans (by
      show (s.val * 4 + h.val) * 64 + d.val = s.val * 256 + (64 * h.val + d.val); omega) (pos2 s (rowOf h d)).symm))

theorem wide_apply (x : S16x8448.Idx → EReal) (a : Fin 16) (n : Fin 8448) (z : Fin 128) :
    wide (F := Ideal) x (ix3 a n z) = x (ix2 a n) := by
  refine (broadcastInDim_apply (s := S16x8448x1) (t := S16x8448x128) _ _ _ _ (ix3 a n 0) (fun b => by
    match b with
    | ⟨0, _⟩ => show a.val = if (16 : Nat) = 1 then 0 else a.val; rw [if_neg (by decide)]
    | ⟨1, _⟩ => show n.val = if (8448 : Nat) = 1 then 0 else n.val; rw [if_neg (by decide)]
    | ⟨2, _⟩ => show 0 = if (1 : Nat) = 1 then 0 else z.val; rw [if_pos rfl])).trans ?_
  exact broadcastInDim_apply (s := S16x8448) (t := S16x8448x1) _ _ _ _ (ix2 a n) (fun b => by
    match b with
    | ⟨0, _⟩ => show a.val = if (16 : Nat) = 1 then 0 else a.val; rw [if_neg (by decide)]
    | ⟨1, _⟩ => show n.val = if (8448 : Nat) = 1 then 0 else n.val; rw [if_neg (by decide)])

/-- A scalar over all of an array. -/
theorem fill_apply {t : Shape} (hb : S_.BroadcastsInDim t ![]) (x : S_.Idx → EReal) (j : t.Idx) (i : S_.Idx) : broadcastInDim t ![] hb x j = x i :=
  broadcastInDim_apply _ hb x j i (fun a => a.elim0)

theorem log2_apply (i : S_.Idx) : log2 (F := Ideal) i = ((Real.log 2 : ℝ) : EReal) := hostLog two two_pos

theorem log2_ne : Real.log 2 ≠ 0 := (Real.log_pos one_lt_two).ne'

theorem scaled_isQ (hq : IsQ x0 Q) : IsQ (scaled x0) fun n h g d => Q n h g d * (1 / 8) / Real.log 2 := fun n h g d =>
  hostDivf (mulf (hq n h g d) ((fill_apply _ _ _ ix0).trans eighth)) ((fill_apply _ _ _ ix0).trans (log2_apply _)) log2_ne

/-! ## The softmax's parts -/

theorem maxLat_apply (hM : ∀ h g n, val_main_v6 (F := Ideal) x0 x1 (ix3 h g n) = ((M h g n : ℝ) : EReal)) (h g : Fin 4) (n : Fin 8192) (z : Fin 1) :
    maxLat x0 x1 (ix4 h g n z) = ((M h g n : ℝ) : EReal) := by
  unfold maxLat
  rw [topLat_eq]
  generalize val_main_v6 (F := Ideal) x0 x1 = y at hM
  exact (broadcastInDim_apply (s := S4x4x8192) (t := S4x4x8192x1) _ _ y _ (ix3 h g n) (fun b => by
    match b with
    | ⟨0, _⟩ => show h.val = if (4 : Nat) = 1 then 0 else h.val; rw [if_neg (by decide)]
    | ⟨1, _⟩ => show g.val = if (4 : Nat) = 1 then 0 else g.val; rw [if_neg (by decide)]
    | ⟨2, _⟩ => show n.val = if (8192 : Nat) = 1 then 0 else n.val; rw [if_neg (by decide)])).trans (hM h g n)

theorem maxCtx_apply (hM : ∀ h g n, val_main_v43 (F := Ideal) x0 x1 (ix3 h g n) = ((M' h g n : ℝ) : EReal)) (h g : Fin 4) (n : Fin 256) (z : Fin 1) :
    maxCtx x0 x1 (ix4 h g n z) = ((M' h g n : ℝ) : EReal) := by
  unfold maxCtx
  rw [topCtx_eq]
  generalize val_main_v43 (F := Ideal) x0 x1 = y at hM
  exact (broadcastInDim_apply (s := S4x4x256) (t := S4x4x256x1) _ _ y _ (ix3 h g n) (fun b => by
    match b with
    | ⟨0, _⟩ => show h.val = if (4 : Nat) = 1 then 0 else h.val; rw [if_neg (by decide)]
    | ⟨1, _⟩ => show g.val = if (4 : Nat) = 1 then 0 else g.val; rw [if_neg (by decide)]
    | ⟨2, _⟩ => show n.val = if (256 : Nat) = 1 then 0 else n.val; rw [if_neg (by decide)])).trans (hM h g n)

/-- Taking the maximum with −∞ first changes nothing. -/
theorem expLat_eq (hq : IsQ x0 Q) (hk : IsK x1 K) : expLat x0 x1 = val_main_v26 (F := Ideal) x0 x1 := by
  obtain ⟨M, hM⟩ := v6 hq hk
  funext i
  refine Eq.trans ?_ (rd4 (v26 hq hk hM) i).symm
  refine hostExp (subf ?_ ?_)
  · rw [scoreLat_eq]; exact rd4 (v5 hq hk) i
  · exact (broadcastInDim_apply (s := S4x4x8192x1) (t := S4x4x8192x8448) _ _ _ i (ix4 (i 0) (i 1) (i 2) 0) (fun b => by
      match b with
      | ⟨0, _⟩ => show (i 0).val = if (4 : Nat) = 1 then 0 else (i 0).val; rw [if_neg (by decide)]
      | ⟨1, _⟩ => show (i 1).val = if (4 : Nat) = 1 then 0 else (i 1).val; rw [if_neg (by decide)]
      | ⟨2, _⟩ => show (i 2).val = if (8192 : Nat) = 1 then 0 else (i 2).val; rw [if_neg (by decide)]
      | ⟨3, _⟩ => show 0 = if (1 : Nat) = 1 then 0 else (i 3).val; rw [if_pos rfl])).trans (maxLat_apply hM _ _ _ _)

theorem expCtx_eq (hq : IsQ x0 Q) (hk : IsK x1 K) : expCtx x0 x1 = val_main_v63 (F := Ideal) x0 x1 := by
  obtain ⟨M, hM⟩ := v43 hq hk
  funext i
  refine Eq.trans ?_ (rd4 (v63 hq hk hM) i).symm
  refine hostExp (subf ?_ ?_)
  · rw [scoreCtx_eq]; exact rd4 (v42 hq hk) i
  · exact (broadcastInDim_apply (s := S4x4x256x1) (t := S4x4x256x256) _ _ _ i (ix4 (i 0) (i 1) (i 2) 0) (fun b => by
      match b with
      | ⟨0, _⟩ => show (i 0).val = if (4 : Nat) = 1 then 0 else (i 0).val; rw [if_neg (by decide)]
      | ⟨1, _⟩ => show (i 1).val = if (4 : Nat) = 1 then 0 else (i 1).val; rw [if_neg (by decide)]
      | ⟨2, _⟩ => show (i 2).val = if (256 : Nat) = 1 then 0 else (i 2).val; rw [if_neg (by decide)]
      | ⟨3, _⟩ => show 0 = if (1 : Nat) = 1 then 0 else (i 3).val; rw [if_pos rfl])).trans (maxCtx_apply hM _ _ _ _)

/-- The output of the exponentials is the reference's. -/
theorem out_eq : out x2 (val_main_v26 (F := Ideal) x0 x1) (val_main_v63 (F := Ideal) x0 x1) = val_main_v74 (F := Ideal) x0 x1 x2 := by
  unfold out val_main_v74 val_main_v73
  rw [outLat_eq, outCtx_eq]

theorem pos4 {n0 n1 n2 n3 : ℕ} (a : Fin n0) (b : Fin n1) (c : Fin n2) (d : Fin n3) :
    ((⟨4, ![n0, n1, n2, n3]⟩ : Shape).rowMajor (ix4 a b c d)).val = ((a.val * n1 + b.val) * n2 + c.val) * n3 + d.val :=
  Shape.rowMajor_val_four _

theorem flatLat_apply (x : S4x4x8192x1.Idx → EReal) (n : Fin 8192) (h g : Fin 4) :
    shapeCast S16x8192 x shapeCasts_S4x4x8192x1_S16x8192 (ix2 (head h g) n) = x (ix4 h g n 0) :=
  shapeCast_apply (s := S4x4x8192x1) (t := S16x8192) x _ _ _
    ((pos4 h g n 0).trans (Eq.trans (by
      show ((h.val * 4 + g.val) * 8192 + n.val) * 1 + 0 = (4 * h.val + g.val) * 8192 + n.val; omega) (pos2 (head h g) n).symm))

theorem flatCtx_apply (x : S4x4x256x1.Idx → EReal) (n : Fin 256) (h g : Fin 4) :
    shapeCast S16x256 x shapeCasts_S4x4x256x1_S16x256 (ix2 (head h g) n) = x (ix4 h g n 0) :=
  shapeCast_apply (s := S4x4x256x1) (t := S16x256) x _ _ _
    ((pos4 h g n 0).trans (Eq.trans (by
      show ((h.val * 4 + g.val) * 256 + n.val) * 1 + 0 = (4 * h.val + g.val) * 256 + n.val; omega) (pos2 (head h g) n).symm))

/-- A maximum plus the logarithm of a sum. -/
theorem add_log {s : Shape} (z y : s.Idx → EReal) (i : s.Idx) {T m : ℝ} (a : z i = (m : EReal)) (b : y i = (T : EReal)) (p : 0 < T) :
    Idealize.ShloMosaic.addf (F := Ideal) (φ := .f32) z (Host.log (F := Ideal) (φ := .f32) y) i = ((m + Real.log T : ℝ) : EReal) :=
  Coe.addf a (hostLog b p)

theorem logLat (n : Fin 8192) (h g : Fin 4) : M h g n + Real.log (Cert.Ref.sumLat Q K M h g n) = Real.log (total Q K (lat n) h g) := by
  rw [total_lat, Cert.Ref.sumLat]
  exact log_sum_shift (fun s => score Q K (lat n) h g s) (M h g n)

theorem sumLat_pos (n : Fin 8192) (h g : Fin 4) : 0 < Cert.Ref.sumLat Q K M h g n :=
  sum_exp_pos fun j => score Q K (lat n) h g j - M h g n

theorem lseLat_eq (x0 : QRows Ideal) (x1 : KRows Ideal) (n : Fin 8192) (h g : Fin 4) : lseLat x0 x1 (val_main_v26 (F := Ideal) x0 x1) (ix2 (head h g) n)
  = Idealize.ShloMosaic.addf (F := Ideal) (φ := .f32) (maxLat x0 x1) (Host.log (F := Ideal) (φ := .f32) (val_main_v28 x0 x1)) (ix4 h g n 0) := by
  unfold lseLat
  rw [sumLat_eq]
  exact flatLat_apply _ n h g

theorem lseLat_apply (hq : IsQ x0 Q) (hk : IsK x1 K) (n : Fin 8192) (h g : Fin 4) :
    lseLat x0 x1 (val_main_v26 (F := Ideal) x0 x1) (ix2 (head h g) n) = ((Real.log (total Q K (lat n) h g) : ℝ) : EReal) := by
  obtain ⟨M, hM⟩ := v6 hq hk
  rw [← logLat (M := M), lseLat_eq]
  exact add_log _ _ _ (maxLat_apply hM h g n 0) (v28 hq hk hM h g n 0) (sumLat_pos n h g)

theorem logCtx (n : Fin 256) (h g : Fin 4) : M' h g n + Real.log (Cert.Ref.sumCtx Q K M' h g n) = Real.log (total Q K (ctx n) h g) := by
  rw [total_ctx, Cert.Ref.sumCtx]
  exact log_sum_shift (fun s => score Q K (ctx n) h g (ctx s)) (M' h g n)

theorem sumCtx_pos (n : Fin 256) (h g : Fin 4) : 0 < Cert.Ref.sumCtx Q K M' h g n :=
  sum_exp_pos fun j => score Q K (ctx n) h g (ctx j) - M' h g n

theorem lseCtx_eq (x0 : QRows Ideal) (x1 : KRows Ideal) (n : Fin 256) (h g : Fin 4) : lseCtx x0 x1 (val_main_v63 (F := Ideal) x0 x1) (ix2 (head h g) n)
  = Idealize.ShloMosaic.addf (F := Ideal) (φ := .f32) (maxCtx x0 x1) (Host.log (F := Ideal) (φ := .f32) (val_main_v65 x0 x1)) (ix4 h g n 0) := by
  unfold lseCtx
  rw [sumCtx_eq]
  exact flatCtx_apply _ n h g

theorem lseCtx_apply (hq : IsQ x0 Q) (hk : IsK x1 K) (n : Fin 256) (h g : Fin 4) :
    lseCtx x0 x1 (val_main_v63 (F := Ideal) x0 x1) (ix2 (head h g) n) = ((Real.log (total Q K (ctx n) h g) : ℝ) : EReal) := by
  obtain ⟨M, hM⟩ := v43 hq hk
  rw [← logCtx (M' := M), lseCtx_eq]
  exact add_log _ _ _ (maxCtx_apply hM h g n 0) (v65 hq hk hM h g n 0) (sumCtx_pos n h g)

theorem lse_apply (hq : IsQ x0 Q) (hk : IsK x1 K) (n : Fin 8448) (h g : Fin 4) :
    lse x0 x1 (val_main_v26 (F := Ideal) x0 x1) (val_main_v63 (F := Ideal) x0 x1) (ix2 (head h g) n)
      = ((Real.log (total Q K n h g) / Real.log 2 : ℝ) : EReal) := by
  refine hostDivf ?_ ((fill_apply _ _ _ ix0).trans (log2_apply _)) log2_ne
  rcases lat_or_ctx n with ⟨m, rfl⟩ | ⟨m, rfl⟩
  · refine (concatenate_pair_apply_left (t := S16x8448) (s₁ := S16x8192) (s₂ := S16x256) 1 _ _ _ _ rfl
      (ix2 (head h g) m) fun b => ?_).trans (lseLat_apply hq hk m h g)
    match b with | ⟨0, _⟩ => rfl | ⟨1, _⟩ => rfl
  · refine (concatenate_pair_apply_right (t := S16x8448) (s₁ := S16x8192) (s₂ := S16x256) 1 _ _ _ _ rfl rfl
      (ix2 (head h g) m) (fun b hb => ?_) ?_).trans (lseCtx_apply hq hk m h g)
    · match b with | ⟨0, _⟩ => rfl | ⟨1, _⟩ => exact absurd rfl hb
    · show m.val + 8192 = 8192 + m.val; omega

theorem delta_apply (hct : IsQ x3 CT) {O : Fin 8448 → Fin 4 → Fin 4 → Fin 64 → ℝ} (ho : IsQ x0 O) (n : Fin 8448) (h g : Fin 4) :
    delta x3 x0 (ix2 (head h g) n) = ((∑ d, CT n h g d * O n h g d : ℝ) : EReal) := by
  refine (transpose_apply (s := S8448x16) (t := S16x8448) [1, 0] _ _ (ix2 (head h g) n) (ix2 n (head h g)) (fun b => by
    match b with | ⟨0, _⟩ => rfl | ⟨1, _⟩ => rfl)).trans ?_
  simp only [Host.reduceAdd, Ideal.hostReduceAdd_def]
  rw [Ideal.hostReduceAdd_single reducesTo_S8448x16x64_S8448x16_d2 (by decide)]
  refine sum0 zero fun d => ?_
  refine Eq.trans (congrArg (Idealize.ShloMosaic.mulf (F := Ideal) x3 x0) (a₂ := ix3 n (head h g) d) (funext fun a => Fin.ext (by
    match a with | ⟨0, _⟩ => rfl | ⟨1, _⟩ => rfl | ⟨2, _⟩ => rfl))) (Coe.mulf (hct n h g d) (ho n h g d))

/-- What the call is given. -/
theorem given (m : (ℓ : Loc nD τ sig) → Buf (Elt Ideal) ℓ) (c : Dev nD)
    (hq : IsQ (m (c.tc.loc main_arg0)) Q) (hk : IsK (m (c.tc.loc main_arg1)) K) (hv : IsK (m (c.tc.loc main_arg2)) V)
    (hct : IsQ (m (c.tc.loc main_arg3)) CT) :
    Given m c (fun n h g d => Q n h g d * (1 / 8) / Real.log 2) CT K V (fun n h g => Real.log (total Q K n h g) / Real.log 2)
      (Spec.delta Q CT K V) where
  g0 n h g d := (congrFun (w0 m c) _).trans (heads_apply (scaled_isQ hq) n h g d)
  g1 n h g d := (congrFun (w1 m c) _).trans (headsT_apply (scaled_isQ hq) n h g d)
  g2 s h d := (congrFun (w2 m c) _).trans (keys_apply hk s h d)
  g3 s h d := (congrFun (w3 m c) _).trans (keysT_apply hk s h d)
  g4 s h d := (congrFun (w4 m c) _).trans (keys_apply hv s h d)
  g5 n h g d := (congrFun (w5 m c) _).trans (heads_apply hct n h g d)
  g6 n h g d := (congrFun (w6 m c) _).trans (headsT_apply hct n h g d)
  g7 n h g x := by
    refine (congrFun (w7 m c) _).trans ?_
    rw [expLat_eq hq hk, expCtx_eq hq hk]
    exact (wide_apply _ _ _ _).trans (lse_apply hq hk n h g)
  g8 n h g x := by
    refine (congrFun (w8 m c) _).trans ?_
    rw [expLat_eq hq hk, expCtx_eq hq hk, out_eq]
    exact (wide_apply _ _ _ _).trans (delta_apply hct (v74 hq hk hv) n h g)

end Cert.Host
-- ==== Proof.AttnGrad.lean ====
/- The attention's gradient: the claims about `Kernel`, `KernelIdeal` and `ReferenceIdeal`. -/
module

public import proofs.«01_k».proof.Defs
public import proofs.«01_k».proof.Proof.Gen.Kernel.Frame
public import proofs.«01_k».proof.Proof.Gen.ReferenceIdeal.Run
public import proofs.«01_k».proof.Proof.Accum
public import proofs.«01_k».proof.Proof.Sums
public import proofs.«01_k».proof.Proof.HostRead

@[expose] public section

set_option maxRecDepth 16384

noncomputable section

namespace Cert.AttnGrad

open Cert.KernelIdeal Cert.KernelIdeal.Gen Cert.Coe Cert.Spec Cert.Ref Cert.Steps
open Idealize.ShloMosaic Idealize.ShloMosaic.TcCoe Idealize.ShloMosaic.ValueIdx Idealize.SL.Sem

/-! ## The precondition -/

instance facts_finite : Cert.Pre_finite.Facts where
  bcast_S_S8448x16x64 := bcast_S_S8448x16x64
  bcast_S_S8448x4x64 := by decide

theorem of_olt {x y : EReal} (h : Ideal.cmp .olt x y = 1#1) : x < y := by
  by_contra hn
  simp [Ideal.cmp, hn] at h

/-- Where the comparison with infinity holds, the numbers are real. -/
theorem real_of {s : Shape} (hb : S_.BroadcastsInDim s ![]) (x : FVec Ideal s .f32)
    (h : cmpf (F := Ideal) .olt (Host.absf x) (broadcastInDim s ![] hb (constant S_ .f32 0x7F800000#32)) = fun _ => 1#1) (i : s.Idx) :
    x i = ((EReal.toReal (x i) : ℝ) : EReal) := by
  refine of_abs_lt ?_
  have e := of_olt (congrFun h i)
  exact lt_of_lt_of_eq e posInf

variable (m : (ℓ : Loc nD τ sig) → Buf (Elt Ideal) ℓ)

/-- Every argument holds real numbers. -/
theorem reals (hp : Cert.Pre_KernelIdeal_finite m) (c : Dev nD) :
    ∃ Q CT : Fin 8448 → Fin 4 → Fin 4 → Fin 64 → ℝ, ∃ K V : Fin 8448 → Fin 4 → Fin 64 → ℝ,
      IsQ (m (c.tc.loc main_arg0)) Q ∧ IsK (m (c.tc.loc main_arg1)) K ∧ IsK (m (c.tc.loc main_arg2)) V ∧ IsQ (m (c.tc.loc main_arg3)) CT :=
  ⟨_, _, _, _, fun _ _ _ _ => real_of _ _ (hp c).1 _, fun _ _ _ => real_of _ _ (hp c).2.1 _, fun _ _ _ => real_of _ _ (hp c).2.2.1 _,
    fun _ _ _ _ => real_of _ _ (hp c).2.2.2 _⟩

/-! ## Every coordinate is one of a block's -/

theorem exists_row (n : Fin 8448) : ∃ b i, n = row b i :=
  ⟨⟨n.val / 256, by omega⟩, ⟨n.val % 256, by omega⟩, Fin.ext (by simp only [row]; omega)⟩

theorem exists_col (a : Fin 1024) : ∃ h g d, a = col h g d :=
  ⟨⟨a.val / 256, by omega⟩, ⟨a.val / 64 % 4, by omega⟩, ⟨a.val % 64, by omega⟩, Fin.ext (by simp only [col]; omega)⟩

theorem exists_rowOf (a : Fin 256) : ∃ h d, a = rowOf h d :=
  ⟨⟨a.val / 64, by omega⟩, ⟨a.val % 64, by omega⟩, Fin.ext (by simp only [rowOf]; omega)⟩

/-! ## The results -/

section Results

variable {Q CT : Fin 8448 → Fin 4 → Fin 4 → Fin 64 → ℝ} {K V : Fin 8448 → Fin 4 → Fin 64 → ℝ} (c : Dev nD)
variable (hq : IsQ (m (c.tc.loc main_arg0)) Q) (hk : IsK (m (c.tc.loc main_arg1)) K) (hv : IsK (m (c.tc.loc main_arg2)) V)
  (hct : IsQ (m (c.tc.loc main_arg3)) CT)
include hq hk hv hct

theorem queries : (dats m 0 c).arrAt 9 cfg0.N = Cert.ReferenceIdeal.Read.val_main_v134 (F := Ideal) (m (c.tc.loc main_arg0))
    (m (c.tc.loc main_arg1)) (m (c.tc.loc main_arg2)) (m (c.tc.loc main_arg3)) := by
  funext (i : S8448x1024.Idx)
  obtain ⟨b, r, eb⟩ := exists_row (i 0)
  obtain ⟨h, g, d, ea⟩ := exists_col (i 1)
  have e : i = ix2 (row b r) (col h g d) := (eq_ix2 i).trans (congrArg₂ ix2 eb ea)
  rw [e]
  exact ((array_q (Host.given m c hq hk hv hct) h b r g d).trans (congrArg _ (Sums.sum_q Q CT K V h b r g d))).trans
    (res_dq hq hk hv hct (row b r) h g d).symm

theorem keys : (dats m 0 c).arrAt 10 cfg0.N = Cert.ReferenceIdeal.Read.val_main_v136 (F := Ideal) (m (c.tc.loc main_arg0))
    (m (c.tc.loc main_arg1)) (m (c.tc.loc main_arg2)) (m (c.tc.loc main_arg3)) := by
  funext (i : S256x8448.Idx)
  obtain ⟨h, d, ea⟩ := exists_rowOf (i 0)
  obtain ⟨n, j, eb⟩ := exists_row (i 1)
  have e : i = ix2 (rowOf h d) (row n j) := (eq_ix2 i).trans (congrArg₂ ix2 ea eb)
  rw [e]
  exact ((array_k (Host.given m c hq hk hv hct) h n d j).trans (congrArg _ (Sums.sum_k Q CT K V h n d j))).trans
    (res_dk hq hk hv hct h d (row n j)).symm

theorem values : (dats m 0 c).arrAt 11 cfg0.N = Cert.ReferenceIdeal.Read.val_main_v138 (F := Ideal) (m (c.tc.loc main_arg0))
    (m (c.tc.loc main_arg1)) (m (c.tc.loc main_arg3)) := by
  funext (i : S256x8448.Idx)
  obtain ⟨h, d, ea⟩ := exists_rowOf (i 0)
  obtain ⟨n, j, eb⟩ := exists_row (i 1)
  have e : i = ix2 (rowOf h d) (row n j) := (eq_ix2 i).trans (congrArg₂ ix2 ea eb)
  rw [e]
  exact ((array_v (Host.given m c hq hk hv hct) h n d j).trans (congrArg _ (Sums.sum_v Q CT K h n d j))).trans
    (res_dv hq hk hct h d (row n j)).symm

end Results

/-! ## The claims -/

theorem frame_kernel : Cert.quiescent_Kernel := fun m ρ _ => Cert.Kernel.Gen.frame m ρ
theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem frame_reference_finite : Cert.quiescent_ReferenceIdeal_pre_finite := fun m ρ _ => frame_reference m ρ trivial

theorem preserves : Cert.preserves_Kernel_KernelIdeal :=
  IdealRules.named_const.statement Cert.KernelIdeal.κ "ln2" .f32 0x3F317218#32 ((Real.log 2 : ℝ) : EReal) rfl

theorem algebraic : Cert.algebraic_KernelIdeal_ReferenceIdeal_pre_finite := by
  intro m ρ m' ρ' hp hagree
  refine ⟨_, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨Q, CT, K, V, hq, hk, hv, hct⟩ := reals m hp c
  refine ⟨(h c).1.trans ?_, (h c).2.1.trans ?_, (h c).2.2.1.trans ?_, (h c).2.2.2⟩
  · rw [Cert.ReferenceIdeal.Read.val_main_v134_eq, (hagree c).1, (hagree c).2.1, (hagree c).2.2.1, (hagree c).2.2.2]
    exact (queries m c hq hk hv hct).symm
  · rw [Cert.ReferenceIdeal.Read.val_main_v136_eq, (hagree c).1, (hagree c).2.1, (hagree c).2.2.1, (hagree c).2.2.2]
    exact (keys m c hq hk hv hct).symm
  · rw [Cert.ReferenceIdeal.Read.val_main_v138_eq, (hagree c).1, (hagree c).2.1, (hagree c).2.2.2]
    exact (values m c hq hk hv hct).symm

end Cert.AttnGrad
-- ==== Proof.FwdSteps.lean ====
/-
  The body of the attention's forward kernel as a recursion over the chunks of keys. A grid point works on 1024 rows, in
  eight groups of 128 (two of each query head); each group keeps the largest score so far and the sums of the exponentials
  times the values so far. A latent block goes over all 33 chunks, the block of context rows over the last one alone.
-/
module

public import proofs.«01_k».proof.Proof.Gen.KernelFwdIdeal.Skeleton
public import Idealize.ShloMosaic.Lib.WritesUnit
public import Idealize.ShloMosaic.Lib.WholeRead

@[expose] public section

set_option maxRecDepth 16384

noncomputable section

namespace Cert.Fwd

open Cert.KernelFwdIdeal Cert.KernelFwdIdeal.Gen Idealize.ShloMosaic Idealize.ShloMosaic.TcCoe Idealize.SL.Sem

variable {F : FTy → Type} [FloatOps F] [Named F]

/-- What a group of 128 rows computes from: its queries, and the chunks of the keys and of the values, `J + 1` of each. -/
structure Ins (F : FTy → Type) (J : ℕ) where
  q : FVec F S128x64 .bf16
  k : Fin (J + 1) → Vec F S1x256x64 .bf16
  v : Fin (J + 1) → Vec F S1x256x128 .bf16

variable {J : ℕ}

/-- The largest score after the first `n` chunks. -/
def top (I : Ins F J) : (n : ℕ) → n ≤ J + 1 → FVec F S128x128 .f32
  | 0, _ => broadcast S128x128 (Named.named κ "mask" 0xF149F2CA#32)
  | n + 1, h => k0_pay2 I.q (top I n (Nat.le_of_succ_le h)) (I.k ⟨n, h⟩)

/-- The sums after the first `n` chunks. -/
def acc (I : Ins F J) : (n : ℕ) → n ≤ J + 1 → FVec F S128x128 .f32
  | 0, _ => broadcast S128x128 (Scalar.ofBits .f32 0x00000000#32)
  | n + 1, h => k0_pay3 I.q (top I n (Nat.le_of_succ_le h)) (acc I n (Nat.le_of_succ_le h)) (I.k ⟨n, h⟩) (I.v ⟨n, h⟩)

/-- The rows' output. -/
def out (I : Ins F J) : FVec F S128x64 .f32 :=
  k0_pay5 I.q (top I J (Nat.le_succ J)) (acc I J (Nat.le_succ J)) (I.k (Fin.last J)) (I.v (Fin.last J))

/-- The rows' logarithms of their sums. -/
def logs (I : Ins F J) : FVec F S1x128x128 .f32 :=
  k0_pay6 I.q (top I J (Nat.le_succ J)) (acc I J (Nat.le_succ J)) (I.k (Fin.last J)) (I.v (Fin.last J))

theorem inbQ (x : Fin 8) : ∀ a : Fin 3, (![x.val / 2, 128 * (x.val % 2), 0] : Fin 3 → ℕ) a + S1x128x64.size a ≤ S4x256x64.size a
  | 0 => by show x.val / 2 + 1 ≤ 4; omega
  | 1 => by show 128 * (x.val % 2) + 128 ≤ 256; omega
  | 2 => Nat.le_refl 64

theorem inbL (x : Fin 8) : ∀ a : Fin 3, (![x.val / 2, 128 * (x.val % 2), 0] : Fin 3 → ℕ) a + S1x128x128.size a ≤ S4x256x128.size a
  | 0 => by show x.val / 2 + 1 ≤ 4; omega
  | 1 => by show 128 * (x.val % 2) + 128 ≤ 256; omega
  | 2 => Nat.le_refl 128

theorem inbO (x : Fin 8) : ∀ a : Fin 2, (![128 * (x.val % 2), 64 * (x.val / 2)] : Fin 2 → ℕ) a + S128x64.size a ≤ S256x256.size a
  | 0 => by show 128 * (x.val % 2) + 128 ≤ 256; omega
  | 1 => by show 64 * (x.val / 2) + 64 ≤ 256; omega

theorem inbK (n : Fin 33) : ∀ a : Fin 3, (![0, 256 * n.val, 0] : Fin 3 → ℕ) a + S1x256x64.size a ≤ S1x8448x64.size a
  | 0 => Nat.le_refl 1
  | 1 => by show 256 * n.val + 256 ≤ 8448; omega
  | 2 => Nat.le_refl 64

theorem inbV (n : Fin 33) : ∀ a : Fin 3, (![0, 256 * n.val, 0] : Fin 3 → ℕ) a + S1x256x128.size a ≤ S1x8448x128.size a
  | 0 => Nat.le_refl 1
  | 1 => by show 256 * n.val + 256 ≤ 8448; omega
  | 2 => Nat.le_refl 128

/-- The queries of group `x`, rows `128 (x mod 2)` on of query head `x / 2`. -/
abbrev group (x : Fin 8) : Rect S4x256x64 := Rect.unit ![x.val / 2, 128 * (x.val % 2), 0] S1x128x64.size (inbQ x)
/-- Chunk `n` of the keys. -/
abbrev chunkK (n : Fin 33) : Rect S1x8448x64 := Rect.unit ![0, 256 * n.val, 0] S1x256x64.size (inbK n)
/-- Chunk `n` of the values. -/
abbrev chunkV (n : Fin 33) : Rect S1x8448x128 := Rect.unit ![0, 256 * n.val, 0] S1x256x128.size (inbV n)

/-- The stores of the output, one per group. -/
abbrev outStores (P : Fin 8 → FVec F S128x64 .f32) : List (View.Piece (Elt F) S256x256 .f32) :=
  View.tilePieces S128x64.size (fun x : Fin 8 => ![128 * (x.val % 2), 64 * (x.val / 2)]) inbO P 8 (Nat.le_refl 8)

/-- The stores of the logarithms, one per group. -/
abbrev logStores (P : Fin 8 → FVec F S1x128x128 .f32) : List (View.Piece (Elt F) S4x256x128 .f32) :=
  View.tilePieces S1x128x128.size (fun x : Fin 8 => ![x.val / 2, 128 * (x.val % 2), 0]) inbL P 8 (Nat.le_refl 8)

section Loads

variable (arg2 : Memref sig .tc .vmem S4x256x64 .bf16) (harg2 : arg2.IsWhole) (arg3 : Memref sig .tc .vmem S1x8448x64 .bf16)
  (harg3 : arg3.IsWhole) (arg4 : Memref sig .tc .vmem S1x8448x128 .bf16) (harg4 : arg4.IsWhole)
  (x0 : Vec F S4x256x64 .bf16) (x1 : Vec F S1x8448x64 .bf16) (x2 : Vec F S1x8448x128 .bf16)

/-- What group `x` loads, its chunks being those named by `f`. -/
abbrev insOf (f : Fin (J + 1) → Fin 33) (x : Fin 8) : Ins F J where
  q := shapeCast S128x64 (View.readAt (Elt F) arg2.view (group x).toLoadRect (harg2.unread x0)) shapeCasts_S1x128x64_S128x64
  k n := View.readAt (Elt F) arg3.view (chunkK (f n)).toLoadRect (harg3.unread x1)
  v n := View.readAt (Elt F) arg4.view (chunkV (f n)).toLoadRect (harg4.unread x2)

end Loads

end Cert.Fwd
-- ==== Proof.FwdBridge.lean ====
/- The stores that one run of the attention's forward kernel makes are those of the recursion over the chunks. -/
module

public import proofs.«01_k».proof.Proof.Gen.KernelFwdIdeal.Frame
public import proofs.«01_k».proof.Proof.FwdSteps

@[expose] public section

set_option maxRecDepth 16384

noncomputable section

namespace Cert.Fwd

open Cert.KernelFwdIdeal Cert.KernelFwdIdeal.Gen Idealize.ShloMosaic Idealize.ShloMosaic.TcCoe Idealize.SL.Sem

variable {F : FTy → Type} [FloatOps F] [Named F]

variable (arg2 : Memref sig .tc .vmem S4x256x64 .bf16) (harg2 : arg2.IsWhole) (arg3 : Memref sig .tc .vmem S1x8448x64 .bf16)
  (harg3 : arg3.IsWhole) (arg4 : Memref sig .tc .vmem S1x8448x128 .bf16) (harg4 : arg4.IsWhole)
  (x0 : Vec F S4x256x64 .bf16) (x1 : Vec F S1x8448x64 .bf16) (x2 : Vec F S1x8448x128 .bf16)

variable (c : Dev nD) (i : grid0.Coords) (arg5 : Memref sig .tc .vmem S256x256 .f32) (harg5 : arg5.IsWhole)
  (arg6 : Memref sig .tc .vmem S4x256x128 .f32) (harg6 : arg6.IsWhole)

/-- The context rows' stores of the output. -/
theorem ctx3 (hc0 : ¬cond0_0 i) (hc1 : cond0_1 i) :
    (kernelRun0_B c i arg2 harg2 arg3 harg3 arg4 harg4 arg5 harg5 arg6 harg6 hc0 hc1 x0 x1 x2).1
      = outStores fun x => out (insOf arg2 harg2 arg3 harg3 arg4 harg4 x0 x1 x2 (fun _ : Fin 1 => 32) x) := by sl_kernel_rfl

/-- The context rows' stores of the logarithms. -/
theorem ctx4 (hc0 : ¬cond0_0 i) (hc1 : cond0_1 i) :
    (kernelRun0_B c i arg2 harg2 arg3 harg3 arg4 harg4 arg5 harg5 arg6 harg6 hc0 hc1 x0 x1 x2).2.1
      = logStores fun x => logs (insOf arg2 harg2 arg3 harg3 arg4 harg4 x0 x1 x2 (fun _ : Fin 1 => 32) x) := by sl_kernel_rfl

/-- A latent block's stores of the output. -/
theorem lat3 (hc0 : cond0_0 i) (hc1 : ¬cond0_1 i) :
    (kernelRun0_A c i arg2 harg2 arg3 harg3 arg4 harg4 arg5 harg5 arg6 harg6 hc0 hc1 x0 x1 x2).1
      = outStores fun x => out (insOf arg2 harg2 arg3 harg3 arg4 harg4 x0 x1 x2 (fun n : Fin 33 => n) x) := by sl_kernel_rfl

/-- A latent block's stores of the logarithms. -/
theorem lat4 (hc0 : cond0_0 i) (hc1 : ¬cond0_1 i) :
    (kernelRun0_A c i arg2 harg2 arg3 harg3 arg4 harg4 arg5 harg5 arg6 harg6 hc0 hc1 x0 x1 x2).2.1
      = logStores fun x => logs (insOf arg2 harg2 arg3 harg3 arg4 harg4 x0 x1 x2 (fun n : Fin 33 => n) x) := by sl_kernel_rfl

end Cert.Fwd
-- ==== Proof.FwdChunk.lean ====
/- What a group of rows computes of the chunks of keys, over real numbers. -/
module

public import proofs.«01_k».proof.Proof.FwdSteps
public import proofs.«01_k».proof.Proof.Chunk

@[expose] public section

set_option maxRecDepth 16384

noncomputable section

namespace Cert.Fwd

open Cert.KernelFwdIdeal Cert.KernelFwdIdeal.Gen Idealize.ShloMosaic Idealize.ShloMosaic.TcCoe Idealize.SL.Sem
open Idealize.ShloMosaic.ValueIdx Cert.Coe
open Cert.Steps (pos2 pos3 zero_add_dot exp2_of)

/-! ## Layouts -/

section Layout

variable {α : Type}

theorem dropK (x : S1x256x64.Idx → α) (j : Fin 256) (d : Fin 64) :
    shapeCast S256x64 x shapeCasts_S1x256x64_S256x64 (ix2 j d) = x (ix3 0 j d) :=
  shapeCast_apply (s := S1x256x64) (t := S256x64) _ _ _ _
    ((pos3 0 j d).trans (Eq.trans (by show (0 * 256 + j.val) * 64 + d.val = j.val * 64 + d.val; omega) (pos2 j d).symm))

theorem dropV (x : S1x256x128.Idx → α) (j : Fin 256) (z : Fin 128) :
    shapeCast S256x128 x shapeCasts_S1x256x128_S256x128 (ix2 j z) = x (ix3 0 j z) :=
  shapeCast_apply (s := S1x256x128) (t := S256x128) _ _ _ _
    ((pos3 0 j z).trans (Eq.trans (by show (0 * 256 + j.val) * 128 + z.val = j.val * 128 + z.val; omega) (pos2 j z).symm))

theorem addUnit (x : S128x128.Idx → α) (i z : Fin 128) :
    shapeCast S1x128x128 x shapeCasts_S128x128_S1x128x128 (ix3 0 i z) = x (ix2 i z) :=
  shapeCast_apply (s := S128x128) (t := S1x128x128) _ _ _ _
    ((pos2 i z).trans (Eq.trans (by show i.val * 128 + z.val = (0 * 128 + i.val) * 128 + z.val; omega) (pos3 0 i z).symm))

/-- A column's entries as a matrix of one column. -/
theorem column (x : S128.Idx → α) (i : Fin 128) : shapeCast S128x1 x shapeCasts_S128_S128x1 (ix2 i 0) = x (ix1 i) :=
  shapeCast_apply (s := S128) (t := S128x1) _ _ _ _
    ((Shape.rowMajor_val_one (d := ![128]) (ix1 i)).trans (Eq.trans (by show i.val = i.val * 1 + 0; omega) (pos2 i 0).symm))

theorem spreadL (x : S128x1.Idx → α) (i z : Fin 128) : broadcastTo S128x128 x broadcasts_S128x1_S128x128 (ix2 i z) = x (ix2 i 0) :=
  broadcastTo_apply (s := S128x1) (t := S128x128) _ _ _ _ fun a => by
    match a with
    | ⟨0, _⟩ => show i.val = if (128 : ℕ) = 1 then 0 else i.val; rw [if_neg (by decide)]
    | ⟨1, _⟩ => show 0 = if (1 : ℕ) = 1 then 0 else z.val; rw [if_pos rfl]

theorem spreadO (x : S128x1.Idx → α) (i : Fin 128) (d : Fin 64) : broadcastTo S128x64 x broadcasts_S128x1_S128x64 (ix2 i d) = x (ix2 i 0) :=
  broadcastTo_apply (s := S128x1) (t := S128x64) _ _ _ _ fun a => by
    match a with
    | ⟨0, _⟩ => show i.val = if (128 : ℕ) = 1 then 0 else i.val; rw [if_neg (by decide)]
    | ⟨1, _⟩ => show 0 = if (1 : ℕ) = 1 then 0 else d.val; rw [if_pos rfl]

/-- The same matrix twice side by side. -/
theorem twice (x : S128x128.Idx → α) (i : Fin 128) (j : Fin 256) :
    concatenate S128x256 1 [⟨S128x128, x⟩, ⟨S128x128, x⟩] concatenates_S128x128_S128x128_S128x256_d1 (ix2 i j)
      = x (ix2 i ⟨j.val % 128, by omega⟩) :=
  concatenate_replicate_apply (t := S128x256) (s₁ := S128x128) 1 2 _ concatenates_S128x128_S128x128_S128x256_d1
    rfl (ix2 i j) (ix2 i ⟨j.val % 128, by omega⟩) rfl fun b hb => by
      match b with
      | ⟨0, _⟩ => rfl
      | ⟨1, _⟩ => exact absurd rfl hb

/-- The first 64 columns. -/
theorem left64 (x : S128x128.Idx → α) (i : Fin 128) (d : Fin 64) :
    extractStridedSlice S128x64 ![0, 0] x slices_S128x128_o0_0_S128x64 (ix2 i d) = x (ix2 i ⟨d.val, by omega⟩) :=
  extractStridedSlice_apply (s := S128x128) (t := S128x64) _ _ _ _ _ fun a => by
    match a with
    | ⟨0, _⟩ => exact (Nat.zero_add _).symm
    | ⟨1, _⟩ => exact (Nat.zero_add _).symm

/-- Column 64. -/
theorem at64 (x : S128x128.Idx → α) (i : Fin 128) :
    extractStridedSlice S128x1 ![0, 64] x slices_S128x128_o0_64_S128x1 (ix2 i 0) = x (ix2 i 64) :=
  extractStridedSlice_apply (s := S128x128) (t := S128x1) _ _ _ _ _ fun a => by
    match a with
    | ⟨0, _⟩ => exact (Nat.zero_add _).symm
    | ⟨1, _⟩ => rfl

end Layout

/-- The maximum of real numbers, at least one, is a real number. -/
theorem fold_max {ι : Type} (f : ι → ℝ) (s : Finset ι) (hs : s.Nonempty) :
    ∃ r : ℝ, s.fold (max : EReal → EReal → EReal) ⊥ (fun j => ((f j : ℝ) : EReal)) = r := by
  induction hs using Finset.Nonempty.cons_induction with
  | singleton a => exact ⟨f a, (Finset.fold_singleton).trans (max_eq_left bot_le)⟩
  | cons a s ha hs ih =>
    obtain ⟨r, hr⟩ := ih
    exact ⟨max (f a) r, (Finset.fold_cons ha).trans ((congrArg (max ((f a : ℝ) : EReal)) hr).trans (max_coe _ _))⟩

/-- A row's maximum, over real numbers, is a real number. -/
theorem rowMax (x : FVec Ideal S128x256 .f32) (i : Fin 128) {f : Fin 256 → ℝ} (hx : ∀ j, x (ix2 i j) = f j) :
    ∃ R : ℝ, multiReduction .maximumf [1] S128 x 0xFF800000#32 reduces_S128x256_S128 (.inl rfl) rfl (ix1 i) = (R : EReal) := by
  obtain ⟨R, hR⟩ := fold_max f Finset.univ Finset.univ_nonempty
  have e : (fun j : Fin 256 => x (reduces_S128x256_S128.lift (ix1 i) j)) = fun j : Fin 256 => ((f j : ℝ) : EReal) := by
    funext j
    refine (congrArg x (funext fun a => Fin.ext ?_)).trans (hx j)
    match a with
    | ⟨0, _⟩ => rfl
    | ⟨1, _⟩ => rfl
  refine ⟨R, (Ideal.multiReduction_maximumf_single (s := S128x256) (t := S128) (a := 1) x _ reduces_S128x256_S128 (.inl rfl) rfl
    (ix1 i)).trans (Eq.trans ?_ hR)⟩
  exact congrArg₂ (fun b g => (Finset.univ : Finset (Fin 256)).fold (max : EReal → EReal → EReal) b g) negInf e

/-! ## The steps -/

section Steps

variable {J : ℕ} {I : Ins Ideal J} {q : Fin 128 → Fin 64 → ℝ} {k : Fin (J + 1) → Fin 256 → Fin 64 → ℝ}
  {v : Fin (J + 1) → Fin 256 → Fin 128 → ℝ}

/-- The loaded arrays hold real numbers. -/
structure Holds (I : Ins Ideal J) (q : Fin 128 → Fin 64 → ℝ) (k : Fin (J + 1) → Fin 256 → Fin 64 → ℝ)
    (v : Fin (J + 1) → Fin 256 → Fin 128 → ℝ) : Prop where
  hq : ∀ i d, I.q (ix2 i d) = (q i d : EReal)
  hk : ∀ n j d, I.k n (ix3 0 j d) = (k n j d : EReal)
  hv : ∀ n j z, I.v n (ix3 0 j z) = (v n j z : EReal)

/-- The score of row `i` against key `j` of chunk `n`, to base 2. -/
def sc (q : Fin 128 → Fin 64 → ℝ) (k : Fin (J + 1) → Fin 256 → Fin 64 → ℝ) (n : Fin (J + 1)) (i : Fin 128) (j : Fin 256) : ℝ :=
  ∑ d, q i d * k n j d

/-- What chunk `n` adds to a row's sums, a number `M` being taken from every score. -/
def part (q : Fin 128 → Fin 64 → ℝ) (k : Fin (J + 1) → Fin 256 → Fin 64 → ℝ) (v : Fin (J + 1) → Fin 256 → Fin 128 → ℝ)
    (M : ℝ) (n : Fin (J + 1)) (i z : Fin 128) : ℝ := ∑ j, (2 : ℝ) ^ (sc q k n i j - M) * v n j z

/-- What the first `n` chunks add. -/
def upTo (q : Fin 128 → Fin 64 → ℝ) (k : Fin (J + 1) → Fin 256 → Fin 64 → ℝ) (v : Fin (J + 1) → Fin 256 → Fin 128 → ℝ)
    (M : ℝ) (n : ℕ) (h : n ≤ J + 1) (i z : Fin 128) : ℝ := ∑ m : Fin n, part q k v M (Fin.castLE h m) i z

theorem part_shift (M M' : ℝ) (n : Fin (J + 1)) (i z : Fin 128) :
    part q k v M n i z * (2 : ℝ) ^ (M - M') = part q k v M' n i z := by
  rw [part, part, Finset.sum_mul]
  refine Finset.sum_congr rfl fun j _ => ?_
  rw [mul_right_comm, ← Real.rpow_add two_pos]
  congr 2; ring

theorem upTo_shift (M M' : ℝ) (n : ℕ) (h : n ≤ J + 1) (i z : Fin 128) :
    upTo q k v M n h i z * (2 : ℝ) ^ (M - M') = upTo q k v M' n h i z := by
  rw [upTo, upTo, Finset.sum_mul]
  exact Finset.sum_congr rfl fun m _ => part_shift M M' _ i z

theorem upTo_succ (M : ℝ) (n : ℕ) (h : n + 1 ≤ J + 1) (i z : Fin 128) :
    upTo q k v M (n + 1) h i z = upTo q k v M n (Nat.le_of_succ_le h) i z + part q k v M ⟨n, h⟩ i z :=
  Fin.sum_univ_castSucc _

variable (H : Holds I q k v)
include H

theorem scores (n : Fin (J + 1)) (i : Fin 128) (j : Fin 256) : k0_pay1 (F := Ideal) I.q (I.k n) (ix2 i j) = (sc q k n i j : EReal) :=
  (Ideal.matmul_transposedRhs_apply (M := 128) (K := 64) (N := 256) (φ₁ := .bf16) (φ₂ := .bf16) none I.q
    (shapeCast S256x64 (I.k n) shapeCasts_S1x256x64_S256x64) (constant S128x256 .f32 0x00000000#32) i j).trans
    (zero_add_dot (fun d => H.hq i d) fun d => (dropK (I.k n) j d).trans (H.hk n j d))

theorem newTop (n : Fin (J + 1)) (i : Fin 128) : ∃ R : ℝ, ∀ (m : FVec Ideal S128x128 .f32) (z : Fin 128),
    k0_pay2 (F := Ideal) I.q m (I.k n) (ix2 i z) = max (m (ix2 i z)) (R : EReal) := by
  obtain ⟨R, hR⟩ := rowMax (k0_pay1 I.q (I.k n)) i (fun j => scores H n i j)
  exact ⟨R, fun m z => congrArg (max (m (ix2 i z))) ((spreadL _ i z).trans ((column _ i).trans hR))⟩

/-- A chunk's step, where the largest score has become `M` and the factor on the old sums is `α`. -/
theorem newAcc (n : Fin (J + 1)) (m a : FVec Ideal S128x128 .f32) (i z : Fin 128) {M α A : ℝ}
    (hM : ∀ z, k0_pay2 (F := Ideal) I.q m (I.k n) (ix2 i z) = (M : EReal))
    (hα : Ideal.exp2 (m (ix2 i z) - (M : EReal)) = (α : EReal)) (hA : a (ix2 i z) = (A : EReal)) :
    k0_pay3 (F := Ideal) I.q m a (I.k n) (I.v n) (ix2 i z) = ((A * α + part q k v M n i z : ℝ) : EReal) := by
  refine Coe.addf (Coe.mulf hA ?_) ?_
  · refine Eq.trans ?_ hα
    exact congrArg (fun e => Ideal.exp2 (m (ix2 i z) - e)) (hM z)
  · refine (Ideal.matmul_plain_apply (M := 128) (K := 256) (N := 128) (φ₁ := .bf16) (φ₂ := .bf16) none _
      (shapeCast S256x128 (I.v n) shapeCasts_S1x256x128_S256x128) (constant S128x128 .f32 0x00000000#32) i z).trans
      (zero_add_dot (fun j => ?_) fun j => (dropV (I.v n) j z).trans (H.hv n j z))
    exact exp2_of (Coe.subf (scores H n i j) ((twice _ i j).trans (hM _)))

/-- After a chunk the largest score is a real number. -/
theorem top_real (i : Fin 128) : ∀ (n : ℕ) (h : n + 1 ≤ J + 1), ∃ M : ℝ, ∀ z, top I (n + 1) h (ix2 i z) = (M : EReal)
  | 0, h => by
    obtain ⟨R, hR⟩ := newTop H ⟨0, h⟩ i
    exact ⟨R, fun z => (hR _ z).trans (max_eq_right bot_le)⟩
  | n + 1, h => by
    obtain ⟨R, hR⟩ := newTop H ⟨n + 1, h⟩ i
    obtain ⟨M, hM⟩ := top_real i n (Nat.le_of_succ_le h)
    exact ⟨max M R, fun z => (hR _ z).trans ((congrArg (max · (R : EReal)) (hM z)).trans (max_coe M R))⟩

/-- The sums after `n` chunks, brought to any number `M` taken from every score. -/
theorem acc_shift (i z : Fin 128) : ∀ (n : ℕ) (h : n ≤ J + 1) (M : ℝ), ∃ a α : ℝ, acc I n h (ix2 i z) = (a : EReal)
    ∧ Ideal.exp2 (top I n h (ix2 i z) - (M : EReal)) = (α : EReal) ∧ a * α = upTo q k v M n h i z
  | 0, h, M => ⟨0, 0, Coe.zero, rfl, by rw [upTo, Finset.univ_eq_empty, Finset.sum_empty, mul_zero]⟩
  | n + 1, h, M => by
    obtain ⟨T, hT⟩ := top_real H i n h
    obtain ⟨a, α, ha, hα, e⟩ := acc_shift i z n (Nat.le_of_succ_le h) T
    refine ⟨a * α + part q k v T ⟨n, h⟩ i z, (2 : ℝ) ^ (T - M), newAcc H ⟨n, h⟩ _ _ i z hT hα ha, exp2_of ?_, ?_⟩
    · rw [hT z, EReal.coe_sub]
    · rw [e, ← upTo_succ, upTo_shift]

/-- The sums after a chunk. -/
theorem acc_real (i : Fin 128) {M : ℝ} (hM : ∀ z, top I (J + 1) (Nat.le_refl _) (ix2 i z) = (M : EReal)) (z : Fin 128) :
    acc I (J + 1) (Nat.le_refl _) (ix2 i z) = ((∑ n, part q k v M n i z : ℝ) : EReal) := by
  obtain ⟨a, α, ha, hα, e⟩ := acc_shift H i z J (Nat.le_succ J) M
  refine (newAcc H ⟨J, Nat.lt_succ_self J⟩ _ _ i z hM hα ha).trans (congrArg _ ?_)
  rw [e, ← upTo_succ]; rfl

/-- A row's output: its weighted sums over the sum of its weights, which column 64 holds. -/
theorem out_apply (i : Fin 128) : ∃ M : ℝ, (0 < ∑ n, part q k v M n i 64 →
    (∀ d : Fin 64, out I (ix2 i d) = (((∑ n, part q k v M n i ⟨d.val, by omega⟩) / ∑ n, part q k v M n i 64 : ℝ) : EReal))
    ∧ ∀ z : Fin 128, logs I (ix3 0 i z) = ((M + Real.log (∑ n, part q k v M n i 64) * (Real.log 2)⁻¹ : ℝ) : EReal)) := by
  obtain ⟨M, hM⟩ := top_real H i J (Nat.le_refl _)
  have ha := acc_real H i hM
  refine ⟨M, fun hp => ⟨fun d => ?_, fun z => ?_⟩⟩
  · have e1 := (left64 (acc I (J + 1) (Nat.le_refl _)) i d).trans (ha _)
    have e2 := (spreadO _ i d).trans ((at64 (acc I (J + 1) (Nat.le_refl _)) i).trans (ha 64))
    exact (congrArg₂ Ideal.div e1 e2).trans (Coe.div hp.ne')
  · have e2 := (at64 (acc I (J + 1) (Nat.le_refl _)) i).trans (ha 64)
    unfold logs k0_pay6
    refine Eq.trans (addUnit _ i z) ?_
    refine Coe.addf (hM z) (Eq.trans (spreadL _ i z) (Coe.mulf ?_ rfl))
    exact (congrArg Ideal.log e2).trans (Coe.log hp)

end Steps

end Cert.Fwd
-- ==== Proof.FwdBlocks.lean ====
/- What a grid point of the attention's forward kernel loads, as entries of the arrays the call is given, and what it
stores. Point `33 h + c` works on the key head `h` and the block `c` of 256 rows. -/
module

public import proofs.«01_k».proof.Proof.Gen.KernelFwdIdeal.Value
public import proofs.«01_k».proof.Proof.FwdBridge
public import proofs.«01_k».proof.Proof.FwdChunk
public import proofs.«01_k».proof.Proof.Spec

@[expose] public section

set_option maxRecDepth 16384

noncomputable section

namespace Cert.Fwd

open Cert.KernelFwdIdeal Cert.KernelFwdIdeal.Gen Idealize.ShloMosaic Idealize.ShloMosaic.TcCoe Idealize.SL.Sem
open Idealize.ShloMosaic.ValueIdx Cert.Coe Cert.Spec
open Cert.Steps (pos2 pos3)

/-! ## Where each block lies -/

/-- The key head of a grid point. -/
def hd (t : Fin cfg0.N) : Fin 4 := ⟨t.val / 33, by have : t.val < 132 := t.isLt; omega⟩
/-- The block of rows of a grid point. -/
def bk (t : Fin cfg0.N) : Fin 33 := ⟨t.val % 33, by omega⟩
/-- The query head of a group of rows, among its key head's. -/
def gh (x : Fin 8) : Fin 4 := ⟨x.val / 2, by omega⟩
/-- Row `i` of a group, in its block. -/
def gr (x : Fin 8) (i : Fin 128) : Fin 256 := ⟨128 * (x.val % 2) + i.val, by omega⟩
/-- The group of row `i` of a block. -/
def grp (g : Fin 4) (i : Fin 256) : Fin 8 := ⟨2 * g.val + i.val / 128, by omega⟩
/-- A block's row, in its group. -/
def low (i : Fin 256) : Fin 128 := ⟨i.val % 128, by omega⟩

theorem gh_grp (g : Fin 4) (i : Fin 256) : gh (grp g i) = g := Fin.ext (by simp only [gh, grp]; omega)
theorem gr_grp (g : Fin 4) (i : Fin 256) : gr (grp g i) (low i) = i := Fin.ext (by simp only [gr, grp, low]; omega)

theorem at0 : ∀ t : Fin cfg0.N, win0_0.index t (0 : Fin 3) = t.val / 33 ∧ win0_0.index t (1 : Fin 3) = t.val % 33 ∧ win0_0.index t (2 : Fin 3) = 0 :=
  (by decide +kernel : ∀ t : Fin grid0.N, win0_0.index t (0 : Fin 3) = t.val / 33 ∧ win0_0.index t (1 : Fin 3) = t.val % 33 ∧ win0_0.index t (2 : Fin 3) = 0)
theorem at1 : ∀ t : Fin cfg0.N, win0_1.index t (0 : Fin 3) = t.val / 33 ∧ win0_1.index t (1 : Fin 3) = 0 ∧ win0_1.index t (2 : Fin 3) = 0 :=
  (by decide +kernel : ∀ t : Fin grid0.N, win0_1.index t (0 : Fin 3) = t.val / 33 ∧ win0_1.index t (1 : Fin 3) = 0 ∧ win0_1.index t (2 : Fin 3) = 0)
theorem at2 : ∀ t : Fin cfg0.N, win0_2.index t (0 : Fin 3) = t.val / 33 ∧ win0_2.index t (1 : Fin 3) = 0 ∧ win0_2.index t (2 : Fin 3) = 0 :=
  (by decide +kernel : ∀ t : Fin grid0.N, win0_2.index t (0 : Fin 3) = t.val / 33 ∧ win0_2.index t (1 : Fin 3) = 0 ∧ win0_2.index t (2 : Fin 3) = 0)
theorem at3 : ∀ t : Fin cfg0.N, win0_3.index t (0 : Fin 2) = t.val % 33 ∧ win0_3.index t (1 : Fin 2) = t.val / 33 :=
  (by decide +kernel : ∀ t : Fin grid0.N, win0_3.index t (0 : Fin 2) = t.val % 33 ∧ win0_3.index t (1 : Fin 2) = t.val / 33)
theorem at4 : ∀ t : Fin cfg0.N, win0_4.index t (0 : Fin 3) = t.val / 33 ∧ win0_4.index t (1 : Fin 3) = t.val % 33 ∧ win0_4.index t (2 : Fin 3) = 0 :=
  (by decide +kernel : ∀ t : Fin grid0.N, win0_4.index t (0 : Fin 3) = t.val / 33 ∧ win0_4.index t (1 : Fin 3) = t.val % 33 ∧ win0_4.index t (2 : Fin 3) = 0)

theorem emb0 (t : Fin cfg0.N) (g : Fin 4) (i : Fin 256) (d : Fin 64) :
    ((cfg0.win 0).blk t).view.emb (ix3 g i d : S4x256x64.Idx) = (ix3 (head (hd t) g) (row (bk t) i) d : S16x8448x64.Idx) := by
  obtain ⟨e0, e1, e2⟩ := at0 t
  funext a; apply Fin.ext
  match a with
  | ⟨0, _⟩ => show win0_0.index t (0 : Fin 3) * 4 + 1 * g.val = 4 * (t.val / 33) + g.val; omega
  | ⟨1, _⟩ => show win0_0.index t (1 : Fin 3) * 256 + 1 * i.val = 256 * (t.val % 33) + i.val; omega
  | ⟨2, _⟩ => show win0_0.index t (2 : Fin 3) * 64 + 1 * d.val = d.val; omega

theorem emb1 (t : Fin cfg0.N) (s : Fin 8448) (d : Fin 64) :
    ((cfg0.win 1).blk t).view.emb (ix3 0 s d : S1x8448x64.Idx) = (ix3 (hd t) s d : S4x8448x64.Idx) := by
  obtain ⟨e0, e1, e2⟩ := at1 t
  funext a; apply Fin.ext
  match a with
  | ⟨0, _⟩ => show win0_1.index t (0 : Fin 3) * 1 + 1 * 0 = t.val / 33; omega
  | ⟨1, _⟩ => show win0_1.index t (1 : Fin 3) * 8448 + 1 * s.val = s.val; omega
  | ⟨2, _⟩ => show win0_1.index t (2 : Fin 3) * 64 + 1 * d.val = d.val; omega

theorem emb2 (t : Fin cfg0.N) (s : Fin 8448) (z : Fin 128) :
    ((cfg0.win 2).blk t).view.emb (ix3 0 s z : S1x8448x128.Idx) = (ix3 (hd t) s z : S4x8448x128.Idx) := by
  obtain ⟨e0, e1, e2⟩ := at2 t
  funext a; apply Fin.ext
  match a with
  | ⟨0, _⟩ => show win0_2.index t (0 : Fin 3) * 1 + 1 * 0 = t.val / 33; omega
  | ⟨1, _⟩ => show win0_2.index t (1 : Fin 3) * 8448 + 1 * s.val = s.val; omega
  | ⟨2, _⟩ => show win0_2.index t (2 : Fin 3) * 128 + 1 * z.val = z.val; omega

theorem emb3 (t : Fin cfg0.N) (i : Fin 256) (g : Fin 4) (d : Fin 64) :
    ((cfg0.win 3).blk t).view.emb (ix2 i (rowOf g d) : S256x256.Idx) = (ix2 (row (bk t) i) (col (hd t) g d) : S8448x1024.Idx) := by
  obtain ⟨e0, e1⟩ := at3 t
  funext a; apply Fin.ext
  match a with
  | ⟨0, _⟩ => show win0_3.index t (0 : Fin 2) * 256 + 1 * i.val = 256 * (t.val % 33) + i.val; omega
  | ⟨1, _⟩ => show win0_3.index t (1 : Fin 2) * 256 + 1 * (64 * g.val + d.val) = 256 * (t.val / 33) + 64 * g.val + d.val; omega

theorem emb4 (t : Fin cfg0.N) (g : Fin 4) (i : Fin 256) (z : Fin 128) :
    ((cfg0.win 4).blk t).view.emb (ix3 g i z : S4x256x128.Idx) = (ix3 (head (hd t) g) (row (bk t) i) z : S16x8448x128.Idx) := by
  obtain ⟨e0, e1, e2⟩ := at4 t
  funext a; apply Fin.ext
  match a with
  | ⟨0, _⟩ => show win0_4.index t (0 : Fin 3) * 4 + 1 * g.val = 4 * (t.val / 33) + g.val; omega
  | ⟨1, _⟩ => show win0_4.index t (1 : Fin 3) * 256 + 1 * i.val = 256 * (t.val % 33) + i.val; omega
  | ⟨2, _⟩ => show win0_4.index t (2 : Fin 3) * 128 + 1 * z.val = z.val; omega

theorem group_idx (x : Fin 8) (i : Fin 128) (d : Fin 64) : (group x).toLoadRect.idx (ix3 0 i d) = ix3 (gh x) (gr x i) d := by
  funext a; apply Fin.ext
  match a with
  | ⟨0, _⟩ => show x.val / 2 + 1 * 0 = x.val / 2; omega
  | ⟨1, _⟩ => show 128 * (x.val % 2) + 1 * i.val = 128 * (x.val % 2) + i.val; omega
  | ⟨2, _⟩ => show 0 + 1 * d.val = d.val; omega

theorem chunkK_idx (n : Fin 33) (j : Fin 256) (d : Fin 64) : (chunkK n).toLoadRect.idx (ix3 0 j d) = ix3 0 (row n j) d := by
  funext a; apply Fin.ext
  match a with
  | ⟨0, _⟩ => rfl
  | ⟨1, _⟩ => show 256 * n.val + 1 * j.val = 256 * n.val + j.val; omega
  | ⟨2, _⟩ => show 0 + 1 * d.val = d.val; omega

theorem chunkV_idx (n : Fin 33) (j : Fin 256) (z : Fin 128) : (chunkV n).toLoadRect.idx (ix3 0 j z) = ix3 0 (row n j) z := by
  funext a; apply Fin.ext
  match a with
  | ⟨0, _⟩ => rfl
  | ⟨1, _⟩ => show 256 * n.val + 1 * j.val = 256 * n.val + j.val; omega
  | ⟨2, _⟩ => show 0 + 1 * z.val = z.val; omega

theorem dropQ {α : Type} (x : S1x128x64.Idx → α) (i : Fin 128) (d : Fin 64) :
    shapeCast S128x64 x shapeCasts_S1x128x64_S128x64 (ix2 i d) = x (ix3 0 i d) :=
  shapeCast_apply (s := S1x128x64) (t := S128x64) _ _ _ _
    ((pos3 0 i d).trans (Eq.trans (by show (0 * 128 + i.val) * 64 + d.val = i.val * 64 + d.val; omega) (pos2 i d).symm))

/-! ## The stores -/

section Tiles

variable {κ : Kind} {sp : Space} {s : Shape} {e : EltTy} {NT : ℕ}
variable (v : View sig κ sp s e) (f : v.ty.Contents (Elt Ideal)) (tsz : Fin s.rank → ℕ) (off : Fin NT → Fin s.rank → ℕ)
  (inb : ∀ i a, off i a + tsz a ≤ s.size a) (P : Fin NT → (⟨s.rank, tsz⟩ : Shape).Idx → Elt Ideal e)

/-- An entry at position `x` of tile `i`, which each other tile misses on an axis of its own, is tile `i`'s at `x`. -/
theorem read_tiles (y : s.Idx) (i : Fin NT) (x : (⟨s.rank, tsz⟩ : Shape).Idx) (hx : ∀ a, (y a).val = off i a + (x a).val)
    (hdis : ∀ i' : Fin NT, i' ≠ i → ∃ a, (y a).val < off i' a ∨ off i' a + tsz a ≤ (y a).val) :
    ∀ (j : ℕ) (hj : j ≤ NT), i.val < j →
      v.read (Elt Ideal) (v.writes (Elt Ideal) f (View.tilePieces tsz off inb P j hj)) y = P i x
  | 0, _, hi => absurd hi (Nat.not_lt_zero _)
  | j + 1, hj, hi => by
    rw [View.tilePieces_succ]
    by_cases hn : (⟨j, hj⟩ : Fin NT) = i
    · subst hn
      exact View.read_writes_cons_unit_of_mem v f (inb ⟨j, hj⟩) (P ⟨j, hj⟩) _ y x rfl hx
    · obtain ⟨a, ha⟩ := hdis ⟨j, hj⟩ hn
      refine (View.read_writes_cons_unit_of_not_mem v f (inb ⟨j, hj⟩) (P ⟨j, hj⟩) _ y rfl a ha).trans
        (read_tiles y i x hx hdis j (Nat.le_of_succ_le hj) ?_)
      have : i.val ≠ j := fun h => hn (Fin.ext h.symm)
      omega

end Tiles

theorem apart_grp {g : Fin 4} {i : Fin 256} {x : Fin 8} (hx : x ≠ grp g i) : x.val / 2 ≠ g.val ∨ x.val % 2 ≠ i.val / 128 := by
  by_contra hn
  refine hx (Fin.ext ?_)
  show x.val = 2 * g.val + i.val / 128
  omega

theorem out_stores {κ : Kind} {sp : Space} (v : View sig κ sp S256x256 .f32) (f : v.ty.Contents (Elt Ideal))
    (P : Fin 8 → FVec Ideal S128x64 .f32) (i : Fin 256) (g : Fin 4) (d : Fin 64) :
    v.read (Elt Ideal) (v.writes (Elt Ideal) f (outStores P)) (ix2 i (rowOf g d)) = P (grp g i) (ix2 (low i) d) := by
  refine read_tiles v f S128x64.size (fun x : Fin 8 => ![128 * (x.val % 2), 64 * (x.val / 2)]) inbO P
    (ix2 i (rowOf g d)) (grp g i) (ix2 (low i) d) (fun a => ?_) (fun x hx => ?_) 8 (Nat.le_refl 8) (grp g i).isLt
  · match a with
    | ⟨0, _⟩ => show i.val = 128 * ((2 * g.val + i.val / 128) % 2) + i.val % 128; omega
    | ⟨1, _⟩ => show 64 * g.val + d.val = 64 * ((2 * g.val + i.val / 128) / 2) + d.val; omega
  · rcases apart_grp hx with h | h
    · refine ⟨(1 : Fin 2), ?_⟩
      show 64 * g.val + d.val < 64 * (x.val / 2) ∨ 64 * (x.val / 2) + 64 ≤ 64 * g.val + d.val
      omega
    · refine ⟨(0 : Fin 2), ?_⟩
      show i.val < 128 * (x.val % 2) ∨ 128 * (x.val % 2) + 128 ≤ i.val
      omega

theorem log_stores {κ : Kind} {sp : Space} (v : View sig κ sp S4x256x128 .f32) (f : v.ty.Contents (Elt Ideal))
    (P : Fin 8 → FVec Ideal S1x128x128 .f32) (g : Fin 4) (i : Fin 256) (z : Fin 128) :
    v.read (Elt Ideal) (v.writes (Elt Ideal) f (logStores P)) (ix3 g i z) = P (grp g i) (ix3 0 (low i) z) := by
  refine read_tiles v f S1x128x128.size (fun x : Fin 8 => ![x.val / 2, 128 * (x.val % 2), 0]) inbL P
    (ix3 g i z) (grp g i) (ix3 0 (low i) z) (fun a => ?_) (fun x hx => ?_) 8 (Nat.le_refl 8) (grp g i).isLt
  · match a with
    | ⟨0, _⟩ => show g.val = (2 * g.val + i.val / 128) / 2 + 0; omega
    | ⟨1, _⟩ => show i.val = 128 * ((2 * g.val + i.val / 128) % 2) + i.val % 128; omega
    | ⟨2, _⟩ => show z.val = 0 + z.val; omega
  · rcases apart_grp hx with h | h
    · refine ⟨(0 : Fin 3), ?_⟩
      show g.val < x.val / 2 ∨ x.val / 2 + 1 ≤ g.val
      omega
    · refine ⟨(1 : Fin 3), ?_⟩
      show i.val < 128 * (x.val % 2) ∨ 128 * (x.val % 2) + 128 ≤ i.val
      omega

/-! ## The loads -/

variable (m : (ℓ : Loc nD τ sig) → Buf (Elt Ideal) ℓ) (c : Dev nD)

/-- The arrays the call is given hold real numbers: the queries (scaled), the keys, and the values with further columns. -/
structure Given (Q : Fin 8448 → Fin 4 → Fin 4 → Fin 64 → ℝ) (K : Fin 8448 → Fin 4 → Fin 64 → ℝ) (V : Fin 8448 → Fin 4 → Fin 128 → ℝ) : Prop where
  g0 : ∀ n h g d, (Gen.V m c main_v9 : Vec Ideal S16x8448x64 .bf16) (ix3 (head h g) n d) = (Q n h g d : EReal)
  g1 : ∀ s h d, (Gen.V m c main_v11 : Vec Ideal S4x8448x64 .bf16) (ix3 h s d) = (K s h d : EReal)
  g2 : ∀ s h z, (Gen.V m c main_v13 : Vec Ideal S4x8448x128 .bf16) (ix3 h s z) = (V s h z : EReal)

/-- What a group of point `t` loads, its chunks being those named by `f`. -/
abbrev insAt {J : ℕ} (f : Fin (J + 1) → Fin 33) (t : Fin cfg0.N) (x : Fin 8) : Ins Ideal J :=
  insOf (ms0_0 t) (hs0_0 t) (ms0_1 t) (hs0_1 t) (ms0_2 t) (hs0_2 t) (iblk m c 0 t) (iblk m c 1 t) (iblk m c 2 t) f x

variable {m c}
variable {Q : Fin 8448 → Fin 4 → Fin 4 → Fin 64 → ℝ} {K : Fin 8448 → Fin 4 → Fin 64 → ℝ} {V : Fin 8448 → Fin 4 → Fin 128 → ℝ}

theorem holds (H : Given m c Q K V) {J : ℕ} (f : Fin (J + 1) → Fin 33) (t : Fin cfg0.N) (x : Fin 8) :
    Holds (insAt m c f t x) (fun i d => Q (row (bk t) (gr x i)) (hd t) (gh x) d) (fun n j d => K (row (f n) j) (hd t) d)
      (fun n j z => V (row (f n) j) (hd t) z) where
  hq i d := by
    refine (dropQ (View.readAt (Elt Ideal) (ms0_0 t).view (group x).toLoadRect ((hs0_0 t).unread (iblk m c 0 t))) i d).trans ?_
    refine ((hs0_0 t).readAt_unread _ _ _).trans ?_
    rw [group_idx]
    exact (congrArg (Gen.V m c main_v9) (emb0 t (gh x) (gr x i) d)).trans (H.g0 _ _ _ _)
  hk n j d := by
    refine ((hs0_1 t).readAt_unread _ _ _).trans ?_
    rw [chunkK_idx]
    exact (congrArg (Gen.V m c main_v11) (emb1 t (row (f n) j) d)).trans (H.g1 _ _ _)
  hv n j z := by
    refine ((hs0_2 t).readAt_unread _ _ _).trans ?_
    rw [chunkV_idx]
    exact (congrArg (Gen.V m c main_v13) (emb2 t (row (f n) j) z)).trans (H.g2 _ _ _)

end Cert.Fwd
-- ==== Proof.FwdOut.lean ====
/- The arrays after the run of the attention's forward kernel: the attention's output and the logarithms of its sums. -/
module

public import proofs.«01_k».proof.Proof.FwdBlocks
public import proofs.«01_k».proof.Proof.Sums

@[expose] public section

set_option maxRecDepth 16384

noncomputable section

namespace Cert.Fwd

open Cert.KernelFwdIdeal Cert.KernelFwdIdeal.Gen Idealize.ShloMosaic Idealize.ShloMosaic.TcCoe Idealize.SL.Sem
open Idealize.ShloMosaic.ValueIdx Cert.Coe Cert.Spec

/-! ## A row's sums are its probabilities' -/

section Rows

variable {J : ℕ} (Q : Fin 8448 → Fin 4 → Fin 4 → Fin 64 → ℝ) (K : Fin 8448 → Fin 4 → Fin 64 → ℝ)
variable (V : Fin 8448 → Fin 4 → Fin 128 → ℝ) (f : Fin (J + 1) → Fin 33) (r : Fin 128 → Fin 8448) (h g : Fin 4) (i : Fin 128)

/-- A row's sums, in units of what its probabilities add up to. -/
theorem part_prob (M : ℝ) (n : Fin (J + 1)) (z : Fin 128) (hs : ∀ j, Sees (r i) (row (f n) j)) :
    part (fun i d => Sums.scaledQ Q (r i) h g d) (fun n j d => K (row (f n) j) h d) (fun n j z => V (row (f n) j) h z) M n i z
      = (2 : ℝ) ^ (Sums.lse Q K (r i) h g - M) * ∑ j, V (row (f n) j) h z * prob Q K (r i) h g (row (f n) j) := by
  rw [part, Finset.mul_sum]
  refine Finset.sum_congr rfl fun j _ => ?_
  rw [← prob_of_log Q K (r i) h g (row (f n) j) (hs j), mul_comm (V (row (f n) j) h z), ← mul_assoc,
    ← Real.rpow_add two_pos]
  refine congrArg (fun x : ℝ => (2 : ℝ) ^ x * V (row (f n) j) h z) ?_
  show sc _ _ n i j - M = (Sums.lse Q K (r i) h g - M) + ((∑ d, Sums.scaledQ Q (r i) h g d * K (row (f n) j) h d) - Sums.lse Q K (r i) h g)
  rw [sc]; ring

theorem sum_part (M : ℝ) (z : Fin 128) (hs : ∀ n j, Sees (r i) (row (f n) j)) :
    ∑ n, part (fun i d => Sums.scaledQ Q (r i) h g d) (fun n j d => K (row (f n) j) h d) (fun n j z => V (row (f n) j) h z) M n i z
      = (2 : ℝ) ^ (Sums.lse Q K (r i) h g - M) * ∑ n, ∑ j, V (row (f n) j) h z * prob Q K (r i) h g (row (f n) j) := by
  rw [Finset.mul_sum]
  exact Finset.sum_congr rfl fun n _ => part_prob Q K V f r h g i M n z (hs n)

/-- Dividing by the sums' own column leaves the probabilities' sums; its logarithm completes the largest score's. -/
theorem row_out {I : Ins Ideal J} (hs : ∀ n j, Sees (r i) (row (f n) j))
    (H : Holds I (fun i d => Sums.scaledQ Q (r i) h g d) (fun n j d => K (row (f n) j) h d) (fun n j z => V (row (f n) j) h z))
    (h1 : ∑ n, ∑ j, V (row (f n) j) h 64 * prob Q K (r i) h g (row (f n) j) = 1) :
    (∀ d : Fin 64, out I (ix2 i d)
        = ((∑ n, ∑ j, V (row (f n) j) h ⟨d.val, by omega⟩ * prob Q K (r i) h g (row (f n) j) : ℝ) : EReal))
      ∧ ∀ z : Fin 128, logs I (ix3 0 i z) = ((Sums.lse Q K (r i) h g : ℝ) : EReal) := by
  obtain ⟨M, hM⟩ := out_apply H i
  simp only [sum_part Q K V f r h g i M _ hs] at hM
  rw [h1, mul_one] at hM
  have hp : (0 : ℝ) < (2 : ℝ) ^ (Sums.lse Q K (r i) h g - M) := Real.rpow_pos_of_pos two_pos _
  obtain ⟨ho, hl⟩ := hM hp
  refine ⟨fun d => (ho d).trans (congrArg _ ?_), fun z => (hl z).trans (congrArg _ ?_)⟩
  · rw [mul_div_assoc, mul_comm, div_mul_cancel₀ _ hp.ne']
  · have h2 : Real.log 2 ≠ 0 := (Real.log_pos one_lt_two).ne'
    rw [Real.log_rpow two_pos, mul_assoc, mul_inv_cancel₀ h2]; ring

end Rows

/-! ## The sums over what a row sees -/

section Seen

variable (Q : Fin 8448 → Fin 4 → Fin 4 → Fin 64 → ℝ) (K : Fin 8448 → Fin 4 → Fin 64 → ℝ) (h g : Fin 4)

theorem prob_sum (n : Fin 8448) : ∑ s, prob Q K n h g s = 1 := by
  simp only [prob, ← Finset.sum_div]
  exact div_self (total_pos Q K n h g).ne'

theorem sum_last (w : Fin 8448 → ℝ) (i : Fin 256) :
    ∑ _n : Fin 1, ∑ j, w (row 32 j) * prob Q K (row 32 i) h g (row 32 j) = ∑ s, w s * prob Q K (row 32 i) h g s := by
  rw [Fin.sum_univ_one, Sums.row_last, sum_ctx _ fun j => by rw [prob_ctx_lat, mul_zero]]
  exact Finset.sum_congr rfl fun j _ => by rw [Sums.row_last]

end Seen

/-! ## The blocks -/

variable {m : (ℓ : Loc nD τ sig) → Buf (Elt Ideal) ℓ} {c : Dev nD}
variable {Q : Fin 8448 → Fin 4 → Fin 4 → Fin 64 → ℝ} {K V : Fin 8448 → Fin 4 → Fin 64 → ℝ} {W : Fin 8448 → Fin 4 → Fin 128 → ℝ}

/-- Both results of a group of a latent block. -/
theorem lat_group (H : Given m c (Sums.scaledQ Q) K W) (h1 : ∀ s h, W s h 64 = 1) (hV : ∀ s h (d : Fin 64), W s h ⟨d.val, by omega⟩ = V s h d)
    (t : Fin cfg0.N) (ht : bk t ≠ 32) (x : Fin 8) (i : Fin 128) :
    (∀ d : Fin 64, out (insAt m c (fun n : Fin 33 => n) t x) (ix2 i d) = ((outp Q K V (row (bk t) (gr x i)) (hd t) (gh x) d : ℝ) : EReal))
      ∧ ∀ z : Fin 128, logs (insAt m c (fun n : Fin 33 => n) t x) (ix3 0 i z) = ((Sums.lse Q K (row (bk t) (gr x i)) (hd t) (gh x) : ℝ) : EReal) := by
  obtain ⟨ho, hl⟩ := row_out Q K W (fun n : Fin 33 => n) (fun i => row (bk t) (gr x i)) (hd t) (gh x) i
    (fun n j => Sums.sees_lat (bk t) ht (gr x i) (row n j)) (holds H _ t x) (by
      simp only [h1, one_mul]
      exact (sum_row _).symm.trans (prob_sum Q K (hd t) (gh x) _))
  refine ⟨fun d => (ho d).trans (congrArg _ ?_), hl⟩
  simp only [hV]
  exact (sum_row (fun s => V s (hd t) d * prob Q K (row (bk t) (gr x i)) (hd t) (gh x) s)).symm

/-- Both results of a group of the context's block. -/
theorem ctx_group (H : Given m c (Sums.scaledQ Q) K W) (h1 : ∀ s h, W s h 64 = 1) (hV : ∀ s h (d : Fin 64), W s h ⟨d.val, by omega⟩ = V s h d)
    (t : Fin cfg0.N) (ht : bk t = 32) (x : Fin 8) (i : Fin 128) :
    (∀ d : Fin 64, out (insAt m c (fun _ : Fin 1 => 32) t x) (ix2 i d) = ((outp Q K V (row (bk t) (gr x i)) (hd t) (gh x) d : ℝ) : EReal))
      ∧ ∀ z : Fin 128, logs (insAt m c (fun _ : Fin 1 => 32) t x) (ix3 0 i z) = ((Sums.lse Q K (row (bk t) (gr x i)) (hd t) (gh x) : ℝ) : EReal) := by
  obtain ⟨ho, hl⟩ := row_out Q K W (fun _ : Fin 1 => 32) (fun i => row (bk t) (gr x i)) (hd t) (gh x) i
    (fun _ j => by rw [ht]; exact Sums.sees_ctx _ _) (holds H _ t x) (by
      simp only [h1, ht]
      exact (sum_last Q K (hd t) (gh x) (fun _ => 1) (gr x i)).trans (by simp only [one_mul]; exact prob_sum Q K (hd t) (gh x) _))
  refine ⟨fun d => (ho d).trans (congrArg _ ?_), hl⟩
  simp only [hV, ht]
  exact sum_last Q K (hd t) (gh x) (fun s => V s (hd t) d) (gr x i)

/-! Which points write back: all. -/

theorem flush3 : ∀ t : Fin cfg0.N, (cfg0.win 3).flush t = true :=
  (by decide +kernel : ∀ t : Fin grid0.N, win0_3.flush t = true)
theorem flush4 : ∀ t : Fin cfg0.N, (cfg0.win 4).flush t = true :=
  (by decide +kernel : ∀ t : Fin grid0.N, win0_4.flush t = true)

section Points

variable (H : Given m c (Sums.scaledQ Q) K W) (h1 : ∀ s h, W s h 64 = 1) (hV : ∀ s h (d : Fin 64), W s h ⟨d.val, by omega⟩ = V s h d)
include H h1 hV

theorem point3 (t : Fin cfg0.N) (i : Fin 256) (g : Fin 4) (d : Fin 64) :
    ((dats m 0 c).flushed 3 t : Vec Ideal S256x256 .f32) (ix2 i (rowOf g d)) = ((outp Q K V (row (bk t) i) (hd t) g d : ℝ) : EReal) := by
  by_cases ht : t.val % 33 = 32
  · rw [Value.flushed3_B m c t (by omega) ht]
    refine Eq.trans (b := out0_B_3 c (grid0.coords t) _ _ _ _ _ _ _ _ _ _ _ _ _ _ _ (ix2 i (rowOf g d))) rfl ?_
    unfold out0_B_3
    rw [ctx3, out_stores]
    refine ((ctx_group H h1 hV t (Fin.ext ht) (grp g i) (low i)).1 d).trans ?_
    rw [gr_grp, gh_grp]
  · have hb : bk t ≠ 32 := fun e => ht (congrArg Fin.val e)
    rw [Value.flushed3_A m c t (by omega) ht]
    refine Eq.trans (b := out0_A_3 c (grid0.coords t) _ _ _ _ _ _ _ _ _ _ _ _ _ _ _ (ix2 i (rowOf g d))) rfl ?_
    unfold out0_A_3
    rw [lat3, out_stores]
    refine ((lat_group H h1 hV t hb (grp g i) (low i)).1 d).trans ?_
    rw [gr_grp, gh_grp]

theorem point4 (t : Fin cfg0.N) (g : Fin 4) (i : Fin 256) (z : Fin 128) :
    ((dats m 0 c).flushed 4 t : Vec Ideal S4x256x128 .f32) (ix3 g i z) = ((Sums.lse Q K (row (bk t) i) (hd t) g : ℝ) : EReal) := by
  by_cases ht : t.val % 33 = 32
  · rw [Value.flushed4_B m c t (by omega) ht]
    refine Eq.trans (b := out0_B_4 c (grid0.coords t) _ _ _ _ _ _ _ _ _ _ _ _ _ _ _ (ix3 g i z)) rfl ?_
    unfold out0_B_4
    rw [ctx4, log_stores]
    refine ((ctx_group H h1 hV t (Fin.ext ht) (grp g i) (low i)).2 z).trans ?_
    rw [gr_grp, gh_grp]
  · have hb : bk t ≠ 32 := fun e => ht (congrArg Fin.val e)
    rw [Value.flushed4_A m c t (by omega) ht]
    refine Eq.trans (b := out0_A_4 c (grid0.coords t) _ _ _ _ _ _ _ _ _ _ _ _ _ _ _ (ix3 g i z)) rfl ?_
    unfold out0_A_4
    rw [lat4, log_stores]
    refine ((lat_group H h1 hV t hb (grp g i) (low i)).2 z).trans ?_
    rw [gr_grp, gh_grp]

/-- The grid point of key head `h` and block `b`. -/
def pt (h : Fin 4) (b : Fin 33) : Fin cfg0.N := ⟨33 * h.val + b.val, by show _ < 132; omega⟩

omit H h1 hV in
theorem hd_pt (h : Fin 4) (b : Fin 33) : hd (pt h b) = h := Fin.ext (by show (33 * h.val + b.val) / 33 = h.val; omega)
omit H h1 hV in
theorem bk_pt (h : Fin 4) (b : Fin 33) : bk (pt h b) = b := Fin.ext (by show (33 * h.val + b.val) % 33 = b.val; omega)

theorem array3 (h : Fin 4) (b : Fin 33) (i : Fin 256) (g : Fin 4) (d : Fin 64) :
    ((dats m 0 c).arrAt 3 cfg0.N : Vec Ideal S8448x1024 .f32) (ix2 (row b i) (col h g d)) = ((outp Q K V (row b i) h g d : ℝ) : EReal) := by
  have e := emb3 (pt h b) i g d
  rw [hd_pt, bk_pt] at e
  refine (congrArg ((dats m 0 c).arrAt 3 cfg0.N) e).symm.trans ?_
  refine (congrFun (Value.blocks3 m c (pt h b) (flush3 _)) (ix2 i (rowOf g d) : S256x256.Idx)).trans ?_
  refine (point3 H h1 hV (pt h b) i g d).trans ?_
  rw [hd_pt, bk_pt]

theorem array4 (h g : Fin 4) (b : Fin 33) (i : Fin 256) (z : Fin 128) :
    ((dats m 0 c).arrAt 4 cfg0.N : Vec Ideal S16x8448x128 .f32) (ix3 (head h g) (row b i) z) = ((Sums.lse Q K (row b i) h g : ℝ) : EReal) := by
  have e := emb4 (pt h b) g i z
  rw [hd_pt, bk_pt] at e
  refine (congrArg ((dats m 0 c).arrAt 4 cfg0.N) e).symm.trans ?_
  refine (congrFun (Value.blocks4 m c (pt h b) (flush4 _)) (ix3 g i z : S4x256x128.Idx)).trans ?_
  refine (point4 H h1 hV (pt h b) g i z).trans ?_
  rw [hd_pt, bk_pt]

end Points

end Cert.Fwd
-- ==== Proof.AttnFwd.lean ====
/- The attention's forward pass: the claims about `KernelFwd`, `KernelFwdIdeal` and `ReferenceFwdIdeal`. -/
module

public import proofs.«01_k».proof.Defs
public import proofs.«01_k».proof.Proof.Gen.KernelFwd.Frame
public import proofs.«01_k».proof.Proof.Gen.ReferenceFwdIdeal.Run
public import proofs.«01_k».proof.Proof.Gen.ReferenceFwdIdeal.Read
public import proofs.«01_k».proof.Proof.FwdOut
public import proofs.«01_k».proof.Proof.AttnGrad

@[expose] public section

set_option maxRecDepth 16384

noncomputable section

namespace Cert.AttnFwd

open Cert.KernelFwdIdeal Cert.KernelFwdIdeal.Gen Cert.Coe Cert.Spec Cert.Ref Cert.Fwd
open Idealize.ShloMosaic Idealize.ShloMosaic.TcCoe Idealize.ShloMosaic.ValueIdx Idealize.SL.Sem

variable (m : (ℓ : Loc nD τ sig) → Buf (Elt Ideal) ℓ)

/-! ## What the call is given -/

section Arguments

variable {F : FTy → Type} [FloatOps F] [Named F] (x : Host.KRows F)

/-- The values, a column of ones, and zeros, to be put side by side. -/
abbrev pieces : List ((s : Shape) × (s.Idx → F .f32)) :=
  [⟨S8448x4x64, x⟩, ⟨S8448x4x1, broadcastInDim S8448x4x1 ![] bcast_S_S8448x4x1 (constant S_ .f32 0x3F800000#32)⟩,
    ⟨S8448x4x63, broadcastInDim S8448x4x63 ![] bcast_S_S8448x4x63 (constant S_ .f32 0x00000000#32)⟩]

/-- These side by side. -/
def padded : (⟨S8448x4x128, .f32⟩ : BufTy).Contents (Elt F) :=
  concatenate S8448x4x128 2 (pieces x) concatenates_S8448x4x64_S8448x4x1_S8448x4x63_S8448x4x128_d2

/-- These by head. -/
def paddedHeads : (⟨S4x8448x128, .bf16⟩ : BufTy).Contents (Elt F) :=
  truncf .bf16 (transpose S4x8448x128 [1, 0, 2] (padded x) transposes_S8448x4x128_S4x8448x128_1_0_2) bitsLt_bf16_f32

variable (m : (ℓ : Loc nD τ sig) → Buf (Elt F) ℓ) (c : Dev nD)

theorem w0 : V m c main_v9 = Host.heads (Host.scaled (m (c.tc.loc main_arg0))) := by unfold V hostOps0; after_results_simp <;> rfl
theorem w1 : V m c main_v11 = Host.keys (m (c.tc.loc main_arg1)) := by unfold V hostOps0; after_results_simp <;> rfl
theorem w2 : V m c main_v13 = paddedHeads (m (c.tc.loc main_arg2)) := by unfold V hostOps0; after_results_simp <;> rfl

end Arguments

/-- The values' columns, a column of ones, and zeros. -/
def cols (v : Fin 8448 → Fin 4 → Fin 64 → ℝ) (s : Fin 8448) (h : Fin 4) (z : Fin 128) : ℝ :=
  if hz : z.val < 64 then v s h ⟨z.val, hz⟩ else if z.val = 64 then 1 else 0

theorem cols_one (v : Fin 8448 → Fin 4 → Fin 64 → ℝ) (s : Fin 8448) (h : Fin 4) : cols v s h 64 = 1 := by
  show (if hz : 64 < 64 then v s h ⟨64, hz⟩ else if 64 = 64 then 1 else 0) = (1 : ℝ)
  rw [dif_neg (Nat.lt_irrefl 64), if_pos rfl]

theorem cols_val (v : Fin 8448 → Fin 4 → Fin 64 → ℝ) (s : Fin 8448) (h : Fin 4) (d : Fin 64) : cols v s h ⟨d.val, by omega⟩ = v s h d :=
  dif_pos d.isLt

theorem padded_apply {x : Host.KRows Ideal} {v : Fin 8448 → Fin 4 → Fin 64 → ℝ} (hx : IsK x v) (s : Fin 8448) (h : Fin 4) (z : Fin 128) :
    padded x (ix3 s h z) = ((cols v s h z : ℝ) : EReal) := by
  unfold padded cols
  by_cases hz : z.val < 64
  · rw [dif_pos hz]
    refine (concatenate_apply_piece (t := S8448x4x128) 2 (pieces x) concatenates_S8448x4x64_S8448x4x1_S8448x4x63_S8448x4x128_d2 (ix3 s h z) 0 (Nat.succ_pos 2 : 0 < 3) S8448x4x64 x rfl rfl 0 rfl
      (ix3 s h ⟨z.val, hz⟩) (fun b hb => ?_) ?_).trans (hx s h _)
    · match b with | ⟨0, _⟩ => rfl | ⟨1, _⟩ => rfl | ⟨2, _⟩ => exact absurd rfl hb
    · show 0 + z.val = z.val; omega
  · rw [dif_neg hz]
    by_cases h1 : z.val = 64
    · rw [if_pos h1]
      refine (concatenate_apply_piece (t := S8448x4x128) 2 (pieces x) concatenates_S8448x4x64_S8448x4x1_S8448x4x63_S8448x4x128_d2 (ix3 s h z) 1 (by omega : 1 < 3) S8448x4x1 _ rfl rfl 64 rfl
        (ix3 s h 0) (fun b hb => ?_) ?_).trans ((Host.fill_apply _ _ _ ix0).trans Coe.one)
      · match b with | ⟨0, _⟩ => rfl | ⟨1, _⟩ => rfl | ⟨2, _⟩ => exact absurd rfl hb
      · show 64 + 0 = z.val; omega
    · rw [if_neg h1]
      refine (concatenate_apply_piece (t := S8448x4x128) 2 (pieces x) concatenates_S8448x4x64_S8448x4x1_S8448x4x63_S8448x4x128_d2 (ix3 s h z) 2 (by omega : 2 < 3) S8448x4x63 _ rfl rfl 65 rfl
        (ix3 s h ⟨z.val - 65, by omega⟩) (fun b hb => ?_) ?_).trans ((Host.fill_apply _ _ _ ix0).trans Coe.zero)
      · match b with | ⟨0, _⟩ => rfl | ⟨1, _⟩ => rfl | ⟨2, _⟩ => exact absurd rfl hb
      · show 65 + (z.val - 65) = z.val; omega

variable {Q : Fin 8448 → Fin 4 → Fin 4 → Fin 64 → ℝ} {K v : Fin 8448 → Fin 4 → Fin 64 → ℝ} (c : Dev nD)

theorem given (hq : IsQ (m (c.tc.loc main_arg0)) Q) (hk : IsK (m (c.tc.loc main_arg1)) K) (hv : IsK (m (c.tc.loc main_arg2)) v) :
    Given m c (Sums.scaledQ Q) K (cols v) where
  g0 n h g d := (congrFun (w0 m c) _).trans (Host.heads_apply (Host.scaled_isQ hq) n h g d)
  g1 s h d := (congrFun (w1 m c) _).trans (Host.keys_apply hk s h d)
  g2 s h z := (congrFun (w2 m c) _).trans ((transpose_apply (s := S8448x4x128) (t := S4x8448x128) [1, 0, 2] (padded (F := Ideal) (m (c.tc.loc main_arg2))) _
    (ix3 h s z) (ix3 s h z) (fun b => by match b with | ⟨0, _⟩ => rfl | ⟨1, _⟩ => rfl | ⟨2, _⟩ => rfl)).trans (padded_apply hv s h z))

/-! ## The reference's results -/

section Reference

variable {x0 : Host.QRows Ideal} {x1 x2 : Host.KRows Ideal}

theorem ref_out (hq : IsQ x0 Q) (hk : IsK x1 K) (hv : IsK x2 v) (n : Fin 8448) (h g : Fin 4) (d : Fin 64) :
    Cert.ReferenceFwdIdeal.Read.val_main_v41 (F := Ideal) x0 x1 x2 (ix2 n (col h g d)) = ((outp Q K v n h g d : ℝ) : EReal) := by
  refine (shapeCast_apply (s := S8448x16x64) (t := S8448x1024) (Cert.ReferenceFwdIdeal.Read.val_main_v40 (F := Ideal) x0 x1 x2) _ _ (ix3 n (head h g) d)
    ((Steps.pos3 n (head h g) d).trans (Eq.trans (by
      show (n.val * 16 + (4 * h.val + g.val)) * 64 + d.val = n.val * 1024 + (256 * h.val + 64 * g.val + d.val); omega) (Steps.pos2 n (col h g d)).symm))).trans ?_
  exact Eq.trans (congrFun (show Cert.ReferenceFwdIdeal.Read.val_main_v40 (F := Ideal) x0 x1 x2
    = Cert.ReferenceIdeal.Read.val_main_v74 (F := Ideal) x0 x1 x2 from rfl) _) (v74 hq hk hv n h g d)

theorem ref_log_eq : Cert.ReferenceFwdIdeal.Read.val_main_v79 (F := Ideal) x0 x1
    = Host.wide (Host.lse x0 x1 (Host.expLat x0 x1) (Host.expCtx x0 x1)) := rfl

theorem ref_log (hq : IsQ x0 Q) (hk : IsK x1 K) (n : Fin 8448) (h g : Fin 4) (z : Fin 128) :
    Cert.ReferenceFwdIdeal.Read.val_main_v79 (F := Ideal) x0 x1 (ix3 (head h g) n z) = ((Sums.lse Q K n h g : ℝ) : EReal) := by
  rw [ref_log_eq, Host.expLat_eq hq hk, Host.expCtx_eq hq hk]
  exact (Host.wide_apply _ _ _ _).trans (Host.lse_apply hq hk n h g)

end Reference

/-! ## The results -/

section Results

variable (hq : IsQ (m (c.tc.loc main_arg0)) Q) (hk : IsK (m (c.tc.loc main_arg1)) K) (hv : IsK (m (c.tc.loc main_arg2)) v)
include hq hk hv

theorem output : (dats m 0 c).arrAt 3 cfg0.N = Cert.ReferenceFwdIdeal.Read.val_main_v41 (F := Ideal) (m (c.tc.loc main_arg0))
    (m (c.tc.loc main_arg1)) (m (c.tc.loc main_arg2)) := by
  funext (i : S8448x1024.Idx)
  obtain ⟨b, r, eb⟩ := AttnGrad.exists_row (i 0)
  obtain ⟨h, g, d, ea⟩ := AttnGrad.exists_col (i 1)
  have e : i = ix2 (row b r) (col h g d) := (eq_ix2 i).trans (congrArg₂ ix2 eb ea)
  rw [e]
  exact (array3 (given m c hq hk hv) (cols_one v) (cols_val v) h b r g d).trans (ref_out hq hk hv (row b r) h g d).symm

theorem logarithms : (dats m 0 c).arrAt 4 cfg0.N = Cert.ReferenceFwdIdeal.Read.val_main_v79 (F := Ideal) (m (c.tc.loc main_arg0))
    (m (c.tc.loc main_arg1)) := by
  funext (i : S16x8448x128.Idx)
  obtain ⟨b, r, eb⟩ := AttnGrad.exists_row (i 1)
  have e : i = ix3 (head ⟨(i 0).val / 4, by have := (i 0).isLt; change _ < 16 at this; omega⟩ ⟨(i 0).val % 4, by omega⟩) (row b r) (i 2) := by
    refine (eq_ix3 i).trans ?_
    rw [head_div (i 0), ← eb]; rfl
  rw [e]
  exact (array4 (given m c hq hk hv) (cols_one v) (cols_val v) _ _ b r (i 2)).trans (ref_log hq hk (row b r) _ _ (i 2)).symm

end Results

/-! ## The claims -/

instance facts_finite : Cert.Pre_finite_fwd.Facts where
  bcast_S_S8448x16x64 := bcast_S_S8448x16x64
  bcast_S_S8448x4x64 := by decide

/-- Every argument holds real numbers. -/
theorem reals (hp : Cert.Pre_KernelFwdIdeal_finite_fwd m) (c : Dev nD) :
    ∃ Q : Fin 8448 → Fin 4 → Fin 4 → Fin 64 → ℝ, ∃ K v : Fin 8448 → Fin 4 → Fin 64 → ℝ,
      IsQ (m (c.tc.loc main_arg0)) Q ∧ IsK (m (c.tc.loc main_arg1)) K ∧ IsK (m (c.tc.loc main_arg2)) v :=
  ⟨_, _, _, fun _ _ _ _ => AttnGrad.real_of _ _ (hp c).1 _, fun _ _ _ => AttnGrad.real_of _ _ (hp c).2.1 _,
    fun _ _ _ => AttnGrad.real_of _ _ (hp c).2.2 _⟩

theorem frame_kernel : Cert.quiescent_KernelFwd := fun m ρ _ => Cert.KernelFwd.Gen.frame m ρ
theorem frame_ideal : Cert.quiescent_KernelFwdIdeal := fun m ρ _ => Cert.KernelFwdIdeal.Gen.frame m ρ
theorem frame_ideal_finite : Cert.quiescent_KernelFwdIdeal_pre_finite_fwd := fun m ρ _ => Cert.KernelFwdIdeal.Gen.frame m ρ
theorem frame_reference : Cert.quiescent_ReferenceFwdIdeal := fun m ρ _ =>
  (θ_run Cert.ReferenceFwdIdeal.defs _ _).mono (fun r h => ⟨fun c => (h c).2.2, sem_eq_zero_of_no_sems (by decide) r.2⟩)
    (Cert.ReferenceFwdIdeal.Value.run (F := Ideal) m ρ)
theorem frame_reference_finite : Cert.quiescent_ReferenceFwdIdeal_pre_finite_fwd := fun m ρ _ => frame_reference m ρ trivial

theorem preserves : Cert.preserves_KernelFwd_KernelFwdIdeal :=
  ⟨IdealRules.named_const.statement Cert.KernelFwdIdeal.κ "mask" .f32 0xF149F2CA#32 ⊥ rfl,
    IdealRules.named_const.statement Cert.KernelFwdIdeal.κ "log2e" .f32 0x3FB8AA3B#32 (((Real.log 2)⁻¹ : ℝ) : EReal) rfl⟩

theorem algebraic : Cert.algebraic_KernelFwdIdeal_ReferenceFwdIdeal_pre_finite_fwd := by
  intro m ρ m' ρ' hp hagree
  refine ⟨_, _, Cert.KernelFwdIdeal.Value.run_blocks (F := Ideal) m ρ, ?_⟩
  refine (θ_run Cert.ReferenceFwdIdeal.defs _ _).mono (fun _ h c => ?_) (Cert.ReferenceFwdIdeal.Value.run (F := Ideal) m' ρ')
  obtain ⟨Q, K, v, hq, hk, hv⟩ := reals m hp c
  refine ⟨(h c).1.trans ?_, (h c).2.1.trans ?_, (h c).2.2⟩
  · rw [Cert.ReferenceFwdIdeal.Read.val_main_v41_eq, (hagree c).1, (hagree c).2.1, (hagree c).2.2]
    exact (output m c hq hk hv).symm
  · rw [Cert.ReferenceFwdIdeal.Read.val_main_v79_eq, (hagree c).1, (hagree c).2.1]
    exact (logarithms m c hq hk hv).symm

end Cert.AttnFwd
-- ==== Proof.Products.lean ====
/- Products of matrices over the extended reals, read at their coordinates, and sums cut into blocks: what the modules on
the projections share. -/
module

public import Idealize.ShloMosaic.Lib.Pipeline.Value
public import Idealize.ShloMosaic.Lib.ValueIdx
public import Idealize.ShloMosaic.Lib.ValueIdxCore
public import Idealize.ShloMosaic.Lib.MatmulPlain
public import Idealize.ShloMosaic.Lib.WholeRead
public import Idealize.ShloMosaic.PureOps.Ideal.Laws

@[expose] public section

noncomputable section

namespace Cert.Products

open Idealize.ShloMosaic Idealize.ShloMosaic.ValueIdx

/-! ## Sums -/

/-- The index `b x + y` of the entry `y` of block `x`. -/
def at' {n b : ℕ} (x : Fin n) (y : Fin b) : Fin (n * b) := ⟨b * x.val + y.val, by
  have h : b * (x.val + 1) ≤ b * n := Nat.mul_le_mul_left b x.isLt
  rw [Nat.mul_comm n b]; have := y.isLt; rw [Nat.mul_add] at h; omega⟩

/-- A sum is the sum of its blocks' sums. -/
theorem sum_blocks {n b : ℕ} (f : Fin (n * b) → EReal) : ∑ k, f k = ∑ x : Fin n, ∑ y : Fin b, f (at' x y) := by
  rw [← Equiv.sum_comp finProdFinEquiv, Fintype.sum_prod_type]
  refine Finset.sum_congr rfl fun x _ => Finset.sum_congr rfl fun y _ => congrArg f (Fin.ext ?_)
  simp only [finProdFinEquiv_apply_val, at']; omega

/-- A number is one of its block's. -/
theorem exists_at {n b : ℕ} (hb : 0 < b) (k : Fin (n * b)) : ∃ (x : Fin n) (y : Fin b), k = at' x y :=
  ⟨⟨k.val / b, Nat.div_lt_of_lt_mul (k.isLt.trans_eq (Nat.mul_comm n b))⟩, ⟨k.val % b, Nat.mod_lt _ hb⟩,
    Fin.ext (Nat.div_add_mod k.val b).symm⟩

/-! ## Products from zero -/

section Mul

variable {M K N : ℕ} {φ₁ φ₂ : FTy}

/-- Rows by columns. -/
def nn (a : (⟨2, ![M, K]⟩ : Shape).Idx → EReal) (b : (⟨2, ![K, N]⟩ : Shape).Idx → EReal) (i : Fin M) (j : Fin N) : EReal :=
  ∑ k : Fin K, a (ix2 i k) * b (ix2 k j)
/-- Rows by rows. -/
def nt (a : (⟨2, ![M, K]⟩ : Shape).Idx → EReal) (b : (⟨2, ![N, K]⟩ : Shape).Idx → EReal) (i : Fin M) (j : Fin N) : EReal :=
  ∑ k : Fin K, a (ix2 i k) * b (ix2 j k)
/-- Columns by columns. -/
def tn (a : (⟨2, ![K, M]⟩ : Shape).Idx → EReal) (b : (⟨2, ![K, N]⟩ : Shape).Idx → EReal) (i : Fin M) (j : Fin N) : EReal :=
  ∑ k : Fin K, a (ix2 k i) * b (ix2 k j)

theorem zero_add' (z : EReal) : Ideal.ofBits .f32 0x00000000#32 + z = z := by rw [Ideal.ofBits_zero_f32, zero_add]

theorem matmul_nn (a : FVec Ideal ⟨2, ![M, K]⟩ φ₁) (b : FVec Ideal ⟨2, ![K, N]⟩ φ₂) (i : Fin M) (j : Fin N) :
    FloatOps.matmul (DotDims.plain M K N) none a b (constant ⟨2, ![M, N]⟩ .f32 0x00000000#32) (ix2 i j) = nn a b i j :=
  (Ideal.matmul_plain_apply none a b _ i j).trans (zero_add' _)

theorem matmul_nt (a : FVec Ideal ⟨2, ![M, K]⟩ φ₁) (b : FVec Ideal ⟨2, ![N, K]⟩ φ₂) (i : Fin M) (j : Fin N) :
    FloatOps.matmul (DotDims.transposedRhs M K N) none a b (constant ⟨2, ![M, N]⟩ .f32 0x00000000#32) (ix2 i j) = nt a b i j :=
  (Ideal.matmul_transposedRhs_apply none a b _ i j).trans (zero_add' _)

/-- The dimensions of a product of columns by columns. -/
def dims (M K N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

theorem matmul_tn (wf : DotDims.WF ⟨2, ![K, M]⟩ ⟨2, ![K, N]⟩ ⟨2, ![M, N]⟩ [0] [0] [1] [1] [] [])
    (a : FVec Ideal ⟨2, ![K, M]⟩ φ₁) (b : FVec Ideal ⟨2, ![K, N]⟩ φ₂) (i : Fin M) (j : Fin N) :
    FloatOps.matmul (dims M K N wf) none a b (constant ⟨2, ![M, N]⟩ .f32 0x00000000#32) (ix2 i j) = tn a b i j := by
  rw [Ideal.matmul_constant_zero_apply, ← Equiv.sum_comp (contrEquiv1 (dims M K N wf) K rfl rfl).symm]
  refine Finset.sum_congr rfl fun k _ => ?_
  have hk := contrEquiv1_symm_val (dims M K N wf) K rfl rfl k
  have el : (dims M K N wf).lhsIdx (ix2 i j) ((contrEquiv1 (dims M K N wf) K rfl rfl).symm k) = ix2 k i := by
    funext x; apply Fin.ext
    match x with
    | ⟨0, _⟩ => exact ((dims M K N wf).lhsIdx_val_of_single rfl _ _).trans hk
    | ⟨1, _⟩ =>
      show ((dims M K N wf).lhsIdx (ix2 i j) _ 1).val = i.val
      unfold DotDims.lhsIdx
      rw [dif_neg (by simp [dims]), dif_pos (by simp [dims])]
      rfl
  have er : (dims M K N wf).rhsIdx (ix2 i j) ((contrEquiv1 (dims M K N wf) K rfl rfl).symm k) = ix2 k j := by
    funext x; apply Fin.ext
    match x with
    | ⟨0, _⟩ => exact ((dims M K N wf).rhsIdx_val_of_single rfl _ _).trans hk
    | ⟨1, _⟩ =>
      show ((dims M K N wf).rhsIdx (ix2 i j) _ 1).val = j.val
      unfold DotDims.rhsIdx
      rw [dif_neg (by simp [dims]), dif_pos (by simp [dims])]
      rfl
  rw [el, er]

end Mul

/-! ## Whole loads and stores -/

theorem off2 : (![0, 0] : Fin 2 → ℕ) = fun _ => 0 := by
  funext a
  match a with
  | ⟨0, _⟩ => rfl
  | ⟨1, _⟩ => rfl

/-- A load of a whole buffer reads what it holds. -/
theorem read_whole {Val : EltTy → Type} {sig : RefSig} {κ : Kind} {sp : Space} {S : Shape} {e : EltTy} {mr : Memref sig κ sp S e} (hm : mr.IsWhole)
    {off : Fin S.rank → ℕ} (h : off = fun _ => 0) (inb : ∀ a, off a + S.size a ≤ S.size a) (X : S.Idx → Val e) :
    View.readAt Val mr.view (Rect.unit off S.size inb).toLoadRect (hm.unread X) = X :=
  funext fun x => (hm.readAt_unread X _ x).trans (congrFun (View.ld_unit_zero h inb X) x)

/-- The one entry of a shape is where it stands. -/
theorem cast_same {a b : ℕ} {α : Type} (x : (⟨2, ![a, b]⟩ : Shape).Idx → α) (h : (⟨2, ![a, b]⟩ : Shape).ShapeCasts ⟨2, ![a, b]⟩) :
    shapeCast ⟨2, ![a, b]⟩ x h = x := funext fun y => shapeCast_apply _ _ _ _ rfl

end Cert.Products

end
-- ==== Proof.ProdInDx.lean ====
/- The gradient of the projection into queries, keys, values and gates with respect to its input: the claims about
`KernelInDx`, `KernelInDxIdeal` and `ReferenceInDxIdeal`. Point `5 a + x` adds the product over the columns of block `x` to
the block of 1408 rows `a`, which it carries beside the result and rounds at the last of its points. -/
module

public import proofs.«01_k».proof.Defs
public import proofs.«01_k».proof.Proof.Products
public import proofs.«01_k».proof.Proof.Gen.KernelInDx
public import proofs.«01_k».proof.Proof.Gen.KernelInDxIdeal.Value
public import proofs.«01_k».proof.Proof.Gen.ReferenceInDxIdeal.Read

@[expose] public section

set_option maxRecDepth 16384

noncomputable section

namespace Cert.ProdInDx

open Cert.KernelInDxIdeal Cert.KernelInDxIdeal.Gen Cert.Products
open Idealize.ShloMosaic Idealize.ShloMosaic.TcCoe Idealize.ShloMosaic.ValueIdx Idealize.ShloMosaic.Tactic Idealize.SL.Sem

variable (m : (ℓ : Loc nD τ sig) → Buf (Elt Ideal) ℓ) (c : Dev nD)

theorem at_ : ∀ t : Fin cfg0.N, (win0_0.index t (0 : Fin 2) = t.val / 5 ∧ win0_0.index t (1 : Fin 2) = t.val % 5)
    ∧ (win0_1.index t (0 : Fin 2) = 0 ∧ win0_1.index t (1 : Fin 2) = t.val % 5)
    ∧ win0_2.index t (0 : Fin 2) = t.val / 5 ∧ win0_2.index t (1 : Fin 2) = 0 :=
  (by decide +kernel : ∀ t : Fin grid0.N, (win0_0.index t (0 : Fin 2) = t.val / 5 ∧ win0_0.index t (1 : Fin 2) = t.val % 5)
    ∧ (win0_1.index t (0 : Fin 2) = 0 ∧ win0_1.index t (1 : Fin 2) = t.val % 5)
    ∧ win0_2.index t (0 : Fin 2) = t.val / 5 ∧ win0_2.index t (1 : Fin 2) = 0)

/-- The grid point of a block of rows and a block of columns. -/
def pt (a : Fin 6) (x : Fin 5) : Fin cfg0.N := ⟨5 * a.val + x.val, by show _ < 30; omega⟩
/-- The rows of a block, and the columns. -/
def rw_ (a : Fin 6) (r : Fin 1408) : Fin 8448 := ⟨1408 * a.val + r.val, by omega⟩
def cl (x : Fin 5) (y : Fin 1536) : Fin 7680 := at' x y

theorem load0 (a : Fin 6) (x : Fin 5) (r : Fin 1408) (y : Fin 1536) :
    (iblk m c 0 (pt a x) : Vec Ideal S1408x1536 .bf16) (ix2 r y) = (m (c.tc.loc main_arg1) : Vec Ideal S8448x7680 .bf16) (ix2 (rw_ a r) (cl x y)) := by
  obtain ⟨⟨e0, e1⟩, -⟩ := at_ (pt a x)
  have e : (pt a x).val = 5 * a.val + x.val := rfl
  refine congrArg (m (c.tc.loc main_arg1) : Vec Ideal S8448x7680 .bf16) (funext fun z => Fin.ext ?_)
  match z with
  | ⟨0, _⟩ => show win0_0.index (pt a x) (0 : Fin 2) * 1408 + 1 * r.val = 1408 * a.val + r.val; omega
  | ⟨1, _⟩ => show win0_0.index (pt a x) (1 : Fin 2) * 1536 + 1 * y.val = 1536 * x.val + y.val; omega

theorem load1 (a : Fin 6) (x : Fin 5) (q : Fin 1024) (y : Fin 1536) :
    (iblk m c 1 (pt a x) : Vec Ideal S1024x1536 .bf16) (ix2 q y) = (m (c.tc.loc main_arg0) : Vec Ideal S1024x7680 .bf16) (ix2 q (cl x y)) := by
  obtain ⟨-, ⟨e0, e1⟩, -⟩ := at_ (pt a x)
  have e : (pt a x).val = 5 * a.val + x.val := rfl
  refine congrArg (m (c.tc.loc main_arg0) : Vec Ideal S1024x7680 .bf16) (funext fun z => Fin.ext ?_)
  match z with
  | ⟨0, _⟩ => show win0_1.index (pt a x) (0 : Fin 2) * 1024 + 1 * q.val = q.val; omega
  | ⟨1, _⟩ => show win0_1.index (pt a x) (1 : Fin 2) * 1536 + 1 * y.val = 1536 * x.val + y.val; omega

theorem emb2 (a : Fin 6) (x : Fin 5) (r : Fin 1408) (q : Fin 1024) :
    ((cfg0.win 2).blk (pt a x)).view.emb (ix2 r q : S1408x1024.Idx) = (ix2 (rw_ a r) q : S8448x1024.Idx) := by
  obtain ⟨-, -, e0, e1⟩ := at_ (pt a x)
  have e : (pt a x).val = 5 * a.val + x.val := rfl
  funext z; apply Fin.ext
  match z with
  | ⟨0, _⟩ => show win0_2.index (pt a x) (0 : Fin 2) * 1408 + 1 * r.val = 1408 * a.val + r.val; omega
  | ⟨1, _⟩ => show win0_2.index (pt a x) (1 : Fin 2) * 1024 + 1 * q.val = q.val; omega

/-! ## What a grid point leaves -/

/-- A whole load of each of the two operands, and of what is carried. -/
abbrev R0 : Rect S1408x1536 := Rect.unit (s := S1408x1536) ![0, 0] S1408x1536.size inb_S1408x1536_S1408x1536_0_0
abbrev R1 : Rect S1024x1536 := Rect.unit (s := S1024x1536) ![0, 0] S1024x1536.size inb_S1024x1536_S1024x1536_0_0
abbrev R2 : Rect S1408x1024 := Rect.unit (s := S1408x1024) ![0, 0] S1408x1024.size inb_S1408x1024_S1408x1024_0_0

section Body

variable (i : grid0.Coords) (arg3 : Memref sig .tc .vmem S1408x1536 .bf16) (harg3 : arg3.IsWhole) (arg4 : Memref sig .tc .vmem S1024x1536 .bf16)
  (harg4 : arg4.IsWhole) (arg5 : Memref sig .tc .vmem S1408x1024 .bf16) (harg5 : arg5.IsWhole) (arg6 : Memref sig .tc .vmem S1408x1024 .f32)
  (harg6 : arg6.IsWhole) (x0 : Vec Ideal S1408x1536 .bf16) (x1 : Vec Ideal S1024x1536 .bf16) (xs : Vec Ideal S1408x1024 .f32)

theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  have e : (kernelRun0_A (F := Ideal) c i arg3 harg3 arg4 harg4 arg5 harg5 arg6 harg6 hc0 hc1 hc2 x0 x1).2.1
      = [⟨R2, k0_pay2 (View.readAt (Elt Ideal) arg3.view R0.toLoadRect (harg3.unread x0)) (View.readAt (Elt Ideal) arg4.view R1.toLoadRect (harg4.unread x1))⟩] := by
    sl_kernel_rfl
  unfold sout0_A_0
  rw [e, read_whole harg3 off2, read_whole harg4 off2]
  funext y
  rw [View.read_writes_junk_apply_eq_canon, View.canon_unit_zero off2]

theorem later (hc0 : ¬cond0_0 i) (hc1 : cond0_1 i) (hc2 : ¬cond0_2 i) :
    sout0_B_0 c i arg3 harg3 arg4 harg4 arg5 harg5 arg6 harg6 hc0 hc1 hc2 x0 x1 xs = k0_pay3 x0 x1 xs := by
  have e : (kernelRun0_B (F := Ideal) c i arg3 harg3 arg4 harg4 arg5 harg5 arg6 harg6 hc0 hc1 hc2 x0 x1 xs).2.1
      = [⟨R2, k0_pay3 (View.readAt (Elt Ideal) arg3.view R0.toLoadRect (harg3.unread x0)) (View.readAt (Elt Ideal) arg4.view R1.toLoadRect (harg4.unread x1))
          (View.readAt (Elt Ideal) arg6.view R2.toLoadRect (harg6.unread xs))⟩] := by
    sl_kernel_rfl
  unfold sout0_B_0
  rw [e, read_whole harg3 off2, read_whole harg4 off2, read_whole harg6 off2]
  funext y
  rw [View.read_writes_junk_apply_eq_canon, View.canon_unit_zero off2]

theorem last (hc0 : ¬cond0_0 i) (hc1 : cond0_1 i) (hc2 : cond0_2 i) :
    out0_C_2 c i arg3 harg3 arg4 harg4 arg5 harg5 arg6 harg6 hc0 hc1 hc2 x0 x1 xs = k0_pay4 (k0_pay3 x0 x1 xs) := by
  have e : (kernelRun0_C (F := Ideal) c i arg3 harg3 arg4 harg4 arg5 harg5 arg6 harg6 hc0 hc1 hc2 x0 x1 xs).1
      = [⟨R2, k0_pay4 (F := Ideal) (View.readCov arg6.view [⟨R2, k0_pay3 (F := Ideal) (View.readAt (Elt Ideal) arg3.view R0.toLoadRect (harg3.unread x0))
          (View.readAt (Elt Ideal) arg4.view R1.toLoadRect (harg4.unread x1)) (View.readAt (Elt Ideal) arg6.view R2.toLoadRect (harg6.unread xs))⟩] R2.toLoadRect)⟩] := by
    sl_kernel_rfl
  unfold out0_C_2
  rw [e, View.readCov_unit_zero _ off2, read_whole harg3 off2, read_whole harg4 off2, read_whole harg6 off2]
  funext y
  rw [View.read_writes_junk_apply_eq_canon, View.canon_unit_zero off2]

end Body

theorem pay1_apply (x0 : Vec Ideal S1408x1536 .bf16) (x1 : Vec Ideal S1024x1536 .bf16) (r : Fin 1408) (q : Fin 1024) :
    k0_pay1 x0 x1 (ix2 r q) = nt (M := 1408) (K := 1536) (N := 1024) x0 x1 r q :=
  matmul_nt (M := 1408) (K := 1536) (N := 1024) (φ₁ := .bf16) (φ₂ := .bf16) x0 x1 r q

theorem pay2_apply (x0 : Vec Ideal S1408x1536 .bf16) (x1 : Vec Ideal S1024x1536 .bf16) (r : Fin 1408) (q : Fin 1024) :
    k0_pay2 x0 x1 (ix2 r q) = nt (M := 1408) (K := 1536) (N := 1024) x0 x1 r q :=
  (shapeCast_apply _ _ _ _ rfl).trans (pay1_apply x0 x1 r q)

theorem pay3_apply (x0 : Vec Ideal S1408x1536 .bf16) (x1 : Vec Ideal S1024x1536 .bf16) (xs : Vec Ideal S1408x1024 .f32) (r : Fin 1408) (q : Fin 1024) :
    k0_pay3 x0 x1 xs (ix2 r q) = (xs (ix2 r q) : EReal) + nt (M := 1408) (K := 1536) (N := 1024) x0 x1 r q := by
  have e : k0_pay3 x0 x1 xs = addf xs (k0_pay1 x0 x1) := by
    unfold k0_pay3
    exact cast_same (a := 1408) (b := 1024) (α := EReal) _ _
  rw [e]
  exact congrArg ((xs (ix2 r q) : EReal) + ·) (pay1_apply x0 x1 r q)

/-- The product over the columns of one block. -/
def part (a : Fin 6) (x : Fin 5) (r : Fin 1408) (q : Fin 1024) : EReal :=
  nt (M := 1408) (K := 1536) (N := 1024) (iblk m c 0 (pt a x)) (iblk m c 1 (pt a x)) r q

theorem pt_mod (a : Fin 6) (x : Fin 5) : (pt a x).val % 5 = x.val := by show (5 * a.val + x.val) % 5 = x.val; omega

theorem start (a : Fin 6) (r : Fin 1408) (q : Fin 1024) : (outsAt0 m c (pt a 0).val (pt a 0).isLt).2 (ix2 r q) = part m c a 0 r q := by
  have e : (pt a 0).val % 5 = 0 := pt_mod a 0
  rw [outsAt0_A m c (pt a 0) e (by omega) (by omega)]
  dsimp only
  rw [first]
  exact pay2_apply _ _ r q

theorem step (a : Fin 6) (x y : Fin 5) (hx : y.val = x.val + 1) (hy : y.val < 4) (r : Fin 1408) (q : Fin 1024) :
    ((outsAt0 m c (pt a y).val (pt a y).isLt).2 (ix2 r q) : EReal) = ((outsAt0 m c (pt a x).val (pt a x).isLt).2 (ix2 r q) : EReal) + part m c a y r q := by
  have e := pt_mod a y
  have e' : (pt a y).val - 1 = (pt a x).val := by show 5 * a.val + y.val - 1 = 5 * a.val + x.val; omega
  rw [outsAt0_B m c (pt a y) (by omega) (by omega) (by omega)]
  dsimp only
  rw [later]
  refine (pay3_apply _ _ _ r q).trans ?_
  simp only [e']
  rfl

theorem finish (a : Fin 6) (r : Fin 1408) (q : Fin 1024) :
    ((outsAt0 m c (pt a 4).val (pt a 4).isLt).1 (ix2 r q) : EReal) = ((outsAt0 m c (pt a 3).val (pt a 3).isLt).2 (ix2 r q) : EReal) + part m c a 4 r q := by
  have e : (pt a 4).val % 5 = 4 := pt_mod a 4
  have e' : (pt a 4).val - 1 = (pt a 3).val := by show 5 * a.val + 4 - 1 = 5 * a.val + 3; omega
  rw [outsAt0_C m c (pt a 4) (by omega) (by omega) e]
  dsimp only
  rw [last]
  refine (pay3_apply _ _ _ r q).trans ?_
  simp only [e']
  rfl

theorem total (a : Fin 6) (r : Fin 1408) (q : Fin 1024) : ((outsAt0 m c (pt a 4).val (pt a 4).isLt).1 (ix2 r q) : EReal) = ∑ x : Fin 5, part m c a x r q := by
  rw [finish, step m c a 2 3 rfl (by decide), step m c a 1 2 rfl (by decide), step m c a 0 1 rfl (by decide), start, Fin.sum_univ_five]

/-! ## The array -/

theorem flushes : ∀ t : Fin cfg0.N, t.val % 5 = 4 → (cfg0.win 2).flush t = true :=
  (by decide +kernel : ∀ t : Fin grid0.N, t.val % 5 = 4 → win0_2.flush t = true)

theorem apart : ∀ t t' : Fin cfg0.N, (cfg0.win 2).flush t = true → (cfg0.win 2).flush t' = true → win0_2.index t = win0_2.index t' → t = t' :=
  (by decide +kernel : ∀ t t' : Fin grid0.N, win0_2.flush t = true → win0_2.flush t' = true → win0_2.index t = win0_2.index t' → t = t')

theorem point (a : Fin 6) (r : Fin 1408) (q : Fin 1024) :
    ((dats m 0 c).arrAt 2 cfg0.N : Vec Ideal S8448x1024 .bf16) (ix2 (rw_ a r) q)
      = nt (M := 8448) (K := 7680) (N := 1024) (m (c.tc.loc main_arg1)) (m (c.tc.loc main_arg0)) (rw_ a r) q := by
  refine (congrArg (β := Elt Ideal .bf16) ((dats m 0 c).arrAt 2 cfg0.N) (emb2 a 4 r q)).symm.trans ?_
  refine (congrFun ((dats m 0 c).read_blk_arrAt_eq_flushed 2 (fun t t' hf hf' hne => (cfg0.win 2).disjoint_blk fun h => hne (apart t t' hf hf' h)) cfg0.N (pt a 4) (pt a 4).isLt
    (flushes _ (pt_mod a 4))) (ix2 r q : S1408x1024.Idx)).trans ?_
  rw [Value.flushed2]
  refine (total m c a r q).trans (Eq.symm ((sum_blocks (n := 5) (b := 1536) _).trans ?_))
  exact Finset.sum_congr rfl fun x _ => Finset.sum_congr rfl fun y _ =>
    (congrArg₂ (HMul.hMul : EReal → EReal → EReal) (load0 m c a x r y) (load1 m c a x q y)).symm

theorem array : (dats m 0 c).arrAt 2 cfg0.N = Cert.ReferenceInDxIdeal.Read.val_main_v5 (F := Ideal) (m (c.tc.loc main_arg0)) (m (c.tc.loc main_arg1)) := by
  funext (i : S8448x1024.Idx)
  have h0 : (i 0).val < 8448 := (i 0).isLt
  have e : i = ix2 (rw_ ⟨(i 0).val / 1408, by omega⟩ ⟨(i 0).val % 1408, by omega⟩) (i 1) :=
    (eq_ix2 i).trans (congrArg (ix2 · (i 1)) (Fin.ext (by simp only [rw_]; omega)))
  rw [e]
  refine (point m c _ _ _).trans (Eq.symm ?_)
  refine (Cert.ReferenceInDxIdeal.Read.val_main_v4_apply _ _ _).trans (Finset.sum_congr rfl fun k _ => ?_)
  exact congrArg₂ (HMul.hMul : EReal → EReal → EReal) (congrArg (m (c.tc.loc main_arg1) : Vec Ideal S8448x7680 .bf16) (eq_ix2 _))
    (congrArg (m (c.tc.loc main_arg0) : Vec Ideal S1024x7680 .bf16) (eq_ix2 _))

/-! ## The claims -/

/-! The two kernel programs have one text: their bodies are the same. -/

theorem body (p ℓ a) : Cert.KernelInDx.defs₀ (F := Bits) p ℓ a = Cert.KernelInDxIdeal.defs₀ (F := Bits) p ℓ a := by
  cases p <;> (match ℓ, a with
    | (0 : Fin 1), (_, _) => rfl)
theorem same : Cert.KernelInDx.defs (F := Bits) = Cert.KernelInDxIdeal.defs (F := Bits) :=
  congrArg (Pipeline.defs (Cert.KernelInDxIdeal.pcfgs (F := Bits))) (funext fun p => funext fun ℓ => funext fun a => body p ℓ a)

theorem frame_kernel : Cert.quiescent_KernelInDx := fun m ρ _ => by rw [same]; exact Cert.KernelInDxIdeal.Gen.frame (F := Bits) m ρ
theorem frame_ideal : Cert.quiescent_KernelInDxIdeal := fun m ρ _ => Cert.KernelInDxIdeal.Gen.frame m ρ
theorem frame_reference : Cert.quiescent_ReferenceInDxIdeal := fun m ρ _ =>
  (θ_run Cert.ReferenceInDxIdeal.defs _ _).mono (fun r h => ⟨fun c => (h c).2, sem_eq_zero_of_no_sems (by decide) r.2⟩)
    (Cert.ReferenceInDxIdeal.Value.run (F := Ideal) m ρ)

theorem algebraic : Cert.algebraic_KernelInDxIdeal_ReferenceInDxIdeal := by
  intro m ρ m' ρ' _ hagree
  refine ⟨_, Cert.KernelInDxIdeal.Value.run_blocks (F := Ideal) m ρ, ?_⟩
  refine (θ_run Cert.ReferenceInDxIdeal.defs _ _).mono (fun _ h c => ?_) (Cert.ReferenceInDxIdeal.Value.run (F := Ideal) m' ρ')
  refine ⟨(h c).1.trans ?_, (h c).2⟩
  rw [Cert.ReferenceInDxIdeal.Read.val_main_v5_eq, (hagree c).1, (hagree c).2]
  exact (array m c).symm

end Cert.ProdInDx

end
-- ==== Proof.ProdInDw.lean ====
/- The gradient of the projection into queries, keys, values and gates with respect to its matrix: the claims about
`KernelInDw`, `KernelInDwIdeal` and `ReferenceInDwIdeal`. Point `3 j + x` adds the product of the rows of block `x` to the
block of 1280 columns `j`. -/
module

public import proofs.«01_k».proof.Defs
public import proofs.«01_k».proof.Proof.Products
public import proofs.«01_k».proof.Proof.Gen.KernelInDw
public import proofs.«01_k».proof.Proof.Gen.KernelInDwIdeal.Value
public import proofs.«01_k».proof.Proof.Gen.ReferenceInDwIdeal.Read

@[expose] public section

set_option maxRecDepth 16384

noncomputable section

namespace Cert.ProdInDw

open Cert.KernelInDwIdeal Cert.KernelInDwIdeal.Gen Cert.Products
open Idealize.ShloMosaic Idealize.ShloMosaic.TcCoe Idealize.ShloMosaic.ValueIdx Idealize.ShloMosaic.Tactic Idealize.SL.Sem

variable (m : (ℓ : Loc nD τ sig) → Buf (Elt Ideal) ℓ) (c : Dev nD)

theorem at_ : ∀ t : Fin cfg0.N, (win0_0.index t (0 : Fin 2) = t.val % 3 ∧ win0_0.index t (1 : Fin 2) = 0)
    ∧ (win0_1.index t (0 : Fin 2) = t.val % 3 ∧ win0_1.index t (1 : Fin 2) = t.val / 3)
    ∧ win0_2.index t (0 : Fin 2) = 0 ∧ win0_2.index t (1 : Fin 2) = t.val / 3 :=
  (by decide +kernel : ∀ t : Fin grid0.N, (win0_0.index t (0 : Fin 2) = t.val % 3 ∧ win0_0.index t (1 : Fin 2) = 0)
    ∧ (win0_1.index t (0 : Fin 2) = t.val % 3 ∧ win0_1.index t (1 : Fin 2) = t.val / 3)
    ∧ win0_2.index t (0 : Fin 2) = 0 ∧ win0_2.index t (1 : Fin 2) = t.val / 3)

/-- The grid point of a block of columns and a block of rows. -/
def pt (j : Fin 6) (x : Fin 3) : Fin cfg0.N := ⟨3 * j.val + x.val, by show _ < 18; omega⟩
/-- The columns of a block, and the rows. -/
def cl (j : Fin 6) (q : Fin 1280) : Fin 7680 := ⟨1280 * j.val + q.val, by omega⟩
def rw_ (x : Fin 3) (y : Fin 2816) : Fin 8448 := at' x y

theorem load0 (j : Fin 6) (x : Fin 3) (y : Fin 2816) (i : Fin 1024) :
    (iblk m c 0 (pt j x) : Vec Ideal S2816x1024 .bf16) (ix2 y i) = (m (c.tc.loc main_arg0) : Vec Ideal S8448x1024 .bf16) (ix2 (rw_ x y) i) := by
  obtain ⟨⟨e0, e1⟩, -⟩ := at_ (pt j x)
  have e : (pt j x).val = 3 * j.val + x.val := rfl
  refine congrArg (m (c.tc.loc main_arg0) : Vec Ideal S8448x1024 .bf16) (funext fun a => Fin.ext ?_)
  match a with
  | ⟨0, _⟩ => show win0_0.index (pt j x) (0 : Fin 2) * 2816 + 1 * y.val = 2816 * x.val + y.val; omega
  | ⟨1, _⟩ => show win0_0.index (pt j x) (1 : Fin 2) * 1024 + 1 * i.val = i.val; omega

theorem load1 (j : Fin 6) (x : Fin 3) (y : Fin 2816) (q : Fin 1280) :
    (iblk m c 1 (pt j x) : Vec Ideal S2816x1280 .bf16) (ix2 y q) = (m (c.tc.loc main_arg1) : Vec Ideal S8448x7680 .bf16) (ix2 (rw_ x y) (cl j q)) := by
  obtain ⟨-, ⟨e0, e1⟩, -⟩ := at_ (pt j x)
  have e : (pt j x).val = 3 * j.val + x.val := rfl
  refine congrArg (m (c.tc.loc main_arg1) : Vec Ideal S8448x7680 .bf16) (funext fun a => Fin.ext ?_)
  match a with
  | ⟨0, _⟩ => show win0_1.index (pt j x) (0 : Fin 2) * 2816 + 1 * y.val = 2816 * x.val + y.val; omega
  | ⟨1, _⟩ => show win0_1.index (pt j x) (1 : Fin 2) * 1280 + 1 * q.val = 1280 * j.val + q.val; omega

theorem emb2 (j : Fin 6) (x : Fin 3) (i : Fin 1024) (q : Fin 1280) :
    ((cfg0.win 2).blk (pt j x)).view.emb (ix2 i q : S1024x1280.Idx) = (ix2 i (cl j q) : S1024x7680.Idx) := by
  obtain ⟨-, -, e0, e1⟩ := at_ (pt j x)
  have e : (pt j x).val = 3 * j.val + x.val := rfl
  funext a; apply Fin.ext
  match a with
  | ⟨0, _⟩ => show win0_2.index (pt j x) (0 : Fin 2) * 1024 + 1 * i.val = i.val; omega
  | ⟨1, _⟩ => show win0_2.index (pt j x) (1 : Fin 2) * 1280 + 1 * q.val = 1280 * j.val + q.val; omega

/-! ## What a grid point leaves -/

section Body

variable (i : grid0.Coords) (arg3 : Memref sig .tc .vmem S2816x1024 .bf16) (harg3 : arg3.IsWhole) (arg4 : Memref sig .tc .vmem S2816x1280 .bf16)
  (harg4 : arg4.IsWhole) (arg5 : Memref sig .tc .vmem S1024x1280 .f32) (harg5 : arg5.IsWhole) (x0 : Vec Ideal S2816x1024 .bf16) (x1 : Vec Ideal S2816x1280 .bf16)
  (xo : Vec Ideal S1024x1280 .f32)

theorem first (hc0 : cond0_0 i) (hc1 : ¬cond0_1 i) :
    out0_A_2 c i arg3 harg3 arg4 harg4 arg5 harg5 hc0 hc1 x0 x1 = k0_pay1 x0 x1 := by
  have e : (kernelRun0_A (F := Ideal) c i arg3 harg3 arg4 harg4 arg5 harg5 hc0 hc1 x0 x1).1
      = [⟨Rect.unit (s := S1024x1280) ![0, 0] S1024x1280.size inb_S1024x1280_S1024x1280_0_0,
          k0_pay1 (View.readAt (Elt Ideal) arg3.view (Rect.unit (s := S2816x1024) ![0, 0] S2816x1024.size inb_S2816x1024_S2816x1024_0_0).toLoadRect (harg3.unread x0))
            (View.readAt (Elt Ideal) arg4.view (Rect.unit (s := S2816x1280) ![0, 0] S2816x1280.size inb_S2816x1280_S2816x1280_0_0).toLoadRect (harg4.unread x1))⟩] := by
    sl_kernel_rfl
  unfold out0_A_2
  rw [e, read_whole harg3 off2, read_whole harg4 off2]
  funext y
  rw [View.read_writes_junk_apply_eq_canon, View.canon_unit_zero off2]

theorem later (hc0 : ¬cond0_0 i) (hc1 : cond0_1 i) :
    out0_B_2 c i arg3 harg3 arg4 harg4 arg5 harg5 hc0 hc1 x0 x1 xo = k0_pay2 x0 x1 xo := by
  have e : (kernelRun0_B (F := Ideal) c i arg3 harg3 arg4 harg4 arg5 harg5 hc0 hc1 x0 x1 xo).1
      = [⟨Rect.unit (s := S1024x1280) ![0, 0] S1024x1280.size inb_S1024x1280_S1024x1280_0_0,
          k0_pay2 (View.readAt (Elt Ideal) arg3.view (Rect.unit (s := S2816x1024) ![0, 0] S2816x1024.size inb_S2816x1024_S2816x1024_0_0).toLoadRect (harg3.unread x0))
            (View.readAt (Elt Ideal) arg4.view (Rect.unit (s := S2816x1280) ![0, 0] S2816x1280.size inb_S2816x1280_S2816x1280_0_0).toLoadRect (harg4.unread x1))
            (View.readAt (Elt Ideal) arg5.view (Rect.unit (s := S1024x1280) ![0, 0] S1024x1280.size inb_S1024x1280_S1024x1280_0_0).toLoadRect (harg5.unread xo))⟩] := by
    sl_kernel_rfl
  unfold out0_B_2
  rw [e, read_whole harg3 off2, read_whole harg4 off2, read_whole harg5 off2]
  funext y
  rw [View.read_writes_junk_apply_eq_canon, View.canon_unit_zero off2]

end Body

theorem pay1_apply (x0 : Vec Ideal S2816x1024 .bf16) (x1 : Vec Ideal S2816x1280 .bf16) (i : Fin 1024) (q : Fin 1280) :
    k0_pay1 x0 x1 (ix2 i q) = tn (K := 2816) (M := 1024) (N := 1280) x0 x1 i q :=
  matmul_tn (M := 1024) (K := 2816) (N := 1280) (φ₁ := .bf16) (φ₂ := .bf16) _ x0 x1 i q

theorem pay2_apply (x0 : Vec Ideal S2816x1024 .bf16) (x1 : Vec Ideal S2816x1280 .bf16) (xo : Vec Ideal S1024x1280 .f32) (i : Fin 1024) (q : Fin 1280) :
    k0_pay2 x0 x1 xo (ix2 i q) = (xo (ix2 i q) : EReal) + tn (K := 2816) (M := 1024) (N := 1280) x0 x1 i q :=
  congrArg₂ (HAdd.hAdd : EReal → EReal → EReal) (shapeCast_apply _ _ _ _ rfl) (pay1_apply x0 x1 i q)

/-- The product of the rows of one block. -/
def part (j : Fin 6) (x : Fin 3) (i : Fin 1024) (q : Fin 1280) : EReal :=
  tn (K := 2816) (M := 1024) (N := 1280) (iblk m c 0 (pt j x)) (iblk m c 1 (pt j x)) i q

theorem start (j : Fin 6) (i : Fin 1024) (q : Fin 1280) : outsAt0 m c (pt j 0).val (pt j 0).isLt (ix2 i q) = part m c j 0 i q := by
  have e : (pt j 0).val % 3 = 0 := by show (3 * j.val + 0) % 3 = 0; omega
  rw [outsAt0_A m c (pt j 0) e (by omega), first]
  exact pay1_apply _ _ i q

theorem step (j : Fin 6) (x y : Fin 3) (hx : y.val = x.val + 1) (i : Fin 1024) (q : Fin 1280) : (outsAt0 m c (pt j y).val (pt j y).isLt (ix2 i q) : EReal)
    = (outsAt0 m c (pt j x).val (pt j x).isLt (ix2 i q) : EReal) + part m c j y i q := by
  have e : (pt j y).val % 3 = y.val := by show (3 * j.val + y.val) % 3 = y.val; omega
  have e' : (pt j y).val - 1 = (pt j x).val := by show 3 * j.val + y.val - 1 = 3 * j.val + x.val; omega
  rw [outsAt0_B m c (pt j y) (by omega) (by omega), later]
  refine (pay2_apply _ _ _ i q).trans ?_
  simp only [e']
  rfl

theorem total (j : Fin 6) (i : Fin 1024) (q : Fin 1280) : (outsAt0 m c (pt j 2).val (pt j 2).isLt (ix2 i q) : EReal) = ∑ x : Fin 3, part m c j x i q := by
  rw [step m c j 1 2 rfl, step m c j 0 1 rfl, start, Fin.sum_univ_three]

/-! ## The array -/

theorem flushes : ∀ t : Fin cfg0.N, t.val % 3 = 2 → (cfg0.win 2).flush t = true :=
  (by decide +kernel : ∀ t : Fin grid0.N, t.val % 3 = 2 → win0_2.flush t = true)

theorem apart : ∀ t t' : Fin cfg0.N, (cfg0.win 2).flush t = true → (cfg0.win 2).flush t' = true → win0_2.index t = win0_2.index t' → t = t' :=
  (by decide +kernel : ∀ t t' : Fin grid0.N, win0_2.flush t = true → win0_2.flush t' = true → win0_2.index t = win0_2.index t' → t = t')

theorem point (j : Fin 6) (i : Fin 1024) (q : Fin 1280) :
    ((dats m 0 c).arrAt 2 cfg0.N : Vec Ideal S1024x7680 .f32) (ix2 i (cl j q))
      = tn (K := 8448) (M := 1024) (N := 7680) (m (c.tc.loc main_arg0)) (m (c.tc.loc main_arg1)) i (cl j q) := by
  refine (congrArg (β := Elt Ideal .f32) ((dats m 0 c).arrAt 2 cfg0.N) (emb2 j 2 i q)).symm.trans ?_
  refine (congrFun ((dats m 0 c).read_blk_arrAt_eq_flushed 2 (fun t t' hf hf' hne => (cfg0.win 2).disjoint_blk fun h => hne (apart t t' hf hf' h)) cfg0.N (pt j 2) (pt j 2).isLt
    (flushes _ (by show (3 * j.val + 2) % 3 = 2; omega))) (ix2 i q : S1024x1280.Idx)).trans ?_
  rw [Value.flushed2]
  refine (total m c j i q).trans (Eq.symm ((sum_blocks (n := 3) (b := 2816) _).trans ?_))
  exact Finset.sum_congr rfl fun x _ => Finset.sum_congr rfl fun y _ => (congrArg₂ (HMul.hMul : EReal → EReal → EReal) (load0 m c j x y i) (load1 m c j x y q)).symm

theorem array : (dats m 0 c).arrAt 2 cfg0.N = Cert.ReferenceInDwIdeal.Read.val_main_v5 (F := Ideal) (m (c.tc.loc main_arg0)) (m (c.tc.loc main_arg1)) := by
  funext (i : S1024x7680.Idx)
  have h1 : (i 1).val < 7680 := (i 1).isLt
  have e : i = ix2 (i 0) (cl ⟨(i 1).val / 1280, by omega⟩ ⟨(i 1).val % 1280, by omega⟩) :=
    (eq_ix2 i).trans (congrArg (ix2 (i 0)) (Fin.ext (by simp only [cl]; omega)))
  rw [e]
  refine (point m c _ _ _).trans (Eq.symm ?_)
  refine (Cert.ReferenceInDwIdeal.Read.val_main_v5_apply _ _ _).trans ?_
  refine (Cert.ReferenceInDwIdeal.Read.val_main_v4_apply _ _ _).trans (Finset.sum_congr rfl fun k _ => ?_)
  refine (mul_comm (G := EReal) _ _).trans ?_
  exact congrArg₂ (HMul.hMul : EReal → EReal → EReal) (congrArg (m (c.tc.loc main_arg0) : Vec Ideal S8448x1024 .bf16) (eq_ix2 _))
    (congrArg (m (c.tc.loc main_arg1) : Vec Ideal S8448x7680 .bf16) (eq_ix2 _))

/-! ## The claims -/

/-! The two kernel programs have one text: their bodies are the same. -/

theorem body (p ℓ a) : Cert.KernelInDw.defs₀ (F := Bits) p ℓ a = Cert.KernelInDwIdeal.defs₀ (F := Bits) p ℓ a := by
  cases p <;> (match ℓ, a with
    | (0 : Fin 1), (_, _) => rfl)
theorem same : Cert.KernelInDw.defs (F := Bits) = Cert.KernelInDwIdeal.defs (F := Bits) :=
  congrArg (Pipeline.defs (Cert.KernelInDwIdeal.pcfgs (F := Bits))) (funext fun p => funext fun ℓ => funext fun a => body p ℓ a)

theorem frame_kernel : Cert.quiescent_KernelInDw := fun m ρ _ => by rw [same]; exact Cert.KernelInDwIdeal.Gen.frame (F := Bits) m ρ
theorem frame_ideal : Cert.quiescent_KernelInDwIdeal := fun m ρ _ => Cert.KernelInDwIdeal.Gen.frame m ρ
theorem frame_reference : Cert.quiescent_ReferenceInDwIdeal := fun m ρ _ =>
  (θ_run Cert.ReferenceInDwIdeal.defs _ _).mono (fun r h => ⟨fun c => (h c).2, sem_eq_zero_of_no_sems (by decide) r.2⟩)
    (Cert.ReferenceInDwIdeal.Value.run (F := Ideal) m ρ)

theorem algebraic : Cert.algebraic_KernelInDwIdeal_ReferenceInDwIdeal := by
  intro m ρ m' ρ' _ hagree
  refine ⟨_, Cert.KernelInDwIdeal.Value.run_blocks (F := Ideal) m ρ, ?_⟩
  refine (θ_run Cert.ReferenceInDwIdeal.defs _ _).mono (fun _ h c => ?_) (Cert.ReferenceInDwIdeal.Value.run (F := Ideal) m' ρ')
  refine ⟨(h c).1.trans ?_, (h c).2⟩
  rw [Cert.ReferenceInDwIdeal.Read.val_main_v5_eq, (hagree c).1, (hagree c).2]
  exact (array m c).symm

end Cert.ProdInDw

end
-- ==== Proof.ProdOutDx.lean ====
/- The gradient of a projection of 1024 columns to 1024 with respect to its input: the claims about `KernelOutDx`, `KernelOutDxIdeal` and `ReferenceOutDxIdeal`. Point `i`
computes the block of 1408 rows `i`. -/
module

public import proofs.«01_k».proof.Defs
public import proofs.«01_k».proof.Proof.Products
public import proofs.«01_k».proof.Proof.Gen.KernelOutDx
public import proofs.«01_k».proof.Proof.Gen.KernelOutDxIdeal.Value
public import proofs.«01_k».proof.Proof.Gen.ReferenceOutDxIdeal.Read

@[expose] public section

set_option maxRecDepth 16384

noncomputable section

namespace Cert.ProdOutDx

open Cert.KernelOutDxIdeal Cert.KernelOutDxIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

theorem at_ : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0)

/-- The rows of a grid point's block. -/
def rw_ (t : Fin cfg0.N) (r : Fin 1408) : Fin 8448 := ⟨1408 * t.val + r.val, by have : t.val < 6 := t.isLt; omega⟩

theorem load0 (t : Fin cfg0.N) (r : Fin 1408) (k : Fin 1024) :
    (iblk m c 0 t : Vec Ideal S1408x1024 .bf16) (ix2 r k) = (m (c.tc.loc main_arg1) : Vec Ideal S8448x1024 .bf16) (ix2 (rw_ t r) k) := by
  obtain ⟨⟨e0, e1⟩, -⟩ := at_ t
  refine congrArg (m (c.tc.loc main_arg1) : Vec Ideal S8448x1024 .bf16) (funext fun a => Fin.ext ?_)
  match a with
  | ⟨0, _⟩ => show win0_0.index t (0 : Fin 2) * 1408 + 1 * r.val = 1408 * t.val + r.val; omega
  | ⟨1, _⟩ => show win0_0.index t (1 : Fin 2) * 1024 + 1 * k.val = k.val; omega

theorem load1 (t : Fin cfg0.N) (j : Fin 1024) (k : Fin 1024) :
    (iblk m c 1 t : Vec Ideal S1024x1024 .bf16) (ix2 j k) = (m (c.tc.loc main_arg0) : Vec Ideal S1024x1024 .bf16) (ix2 j k) := by
  obtain ⟨-, ⟨e0, e1⟩, -⟩ := at_ t
  refine congrArg (m (c.tc.loc main_arg0) : Vec Ideal S1024x1024 .bf16) (funext fun a => Fin.ext ?_)
  match a with
  | ⟨0, _⟩ => show win0_1.index t (0 : Fin 2) * 1024 + 1 * j.val = j.val; omega
  | ⟨1, _⟩ => show win0_1.index t (1 : Fin 2) * 1024 + 1 * k.val = k.val; omega

theorem emb2 (t : Fin cfg0.N) (r : Fin 1408) (j : Fin 1024) :
    ((cfg0.win 2).blk t).view.emb (ix2 r j : S1408x1024.Idx) = (ix2 (rw_ t r) j : S8448x1024.Idx) := by
  obtain ⟨-, -, e0, e1⟩ := at_ t
  funext a; apply Fin.ext
  match a with
  | ⟨0, _⟩ => show win0_2.index t (0 : Fin 2) * 1408 + 1 * r.val = 1408 * t.val + r.val; omega
  | ⟨1, _⟩ => show win0_2.index t (1 : Fin 2) * 1024 + 1 * j.val = j.val; omega

/-- What a grid point stores. -/
theorem stored (x0 : Vec Ideal S1408x1024 .bf16) (x1 : Vec Ideal S1024x1024 .bf16) (r : Fin 1408) (j : Fin 1024) :
    out0_2 x0 x1 (ix2 r j) = nt (M := 1408) (K := 1024) (N := 1024) x0 x1 r j := by
  unfold out0_2
  rw [View.canon_unit_zero off2, View.ld_unit_zero off2, View.ld_unit_zero off2]
  exact matmul_nt (M := 1408) (K := 1024) (N := 1024) (φ₁ := .bf16) (φ₂ := .bf16) x0 x1 r j

theorem flushes : ∀ t : Fin cfg0.N, (cfg0.win 2).flush t = true := (by decide +kernel : ∀ t : Fin grid0.N, win0_2.flush t = true)

theorem point (t : Fin cfg0.N) (r : Fin 1408) (j : Fin 1024) :
    ((dats m 0 c).arrAt 2 cfg0.N : Vec Ideal S8448x1024 .bf16) (ix2 (rw_ t r) j)
      = nt (M := 8448) (K := 1024) (N := 1024) (m (c.tc.loc main_arg1)) (m (c.tc.loc main_arg0)) (rw_ t r) j := by
  refine (congrArg (β := Elt Ideal .bf16) ((dats m 0 c).arrAt 2 cfg0.N) (emb2 t r j)).symm.trans ?_
  refine (congrFun ((Value.blocks2 m c t (flushes t)).trans (Value.flushed2 m c t)) (ix2 r j)).trans ?_
  exact (stored _ _ r j).trans (Finset.sum_congr rfl fun k _ => congrArg₂ HMul.hMul (load0 m c t r k) (load1 m c t j k))

theorem array : (dats m 0 c).arrAt 2 cfg0.N = Cert.ReferenceOutDxIdeal.Read.val_main_v5 (F := Ideal) (m (c.tc.loc main_arg0)) (m (c.tc.loc main_arg1)) := by
  funext (i : S8448x1024.Idx)
  have h0 : (i 0).val < 8448 := (i 0).isLt
  have e : i = ix2 (rw_ ⟨(i 0).val / 1408, by show _ < 6; omega⟩ ⟨(i 0).val % 1408, by omega⟩) (i 1) :=
    (eq_ix2 i).trans (congrArg (ix2 · (i 1)) (Fin.ext (by simp only [rw_]; omega)))
  rw [e]
  refine (point m c _ _ _).trans (Eq.symm ?_)
  refine (Cert.ReferenceOutDxIdeal.Read.val_main_v4_apply _ _ _).trans (Finset.sum_congr rfl fun k _ => ?_)
  exact congrArg₂ (HMul.hMul : EReal → EReal → EReal) (congrArg (m (c.tc.loc main_arg1) : Vec Ideal S8448x1024 .bf16) (eq_ix2 _))
    (congrArg (m (c.tc.loc main_arg0) : Vec Ideal S1024x1024 .bf16) (eq_ix2 _))

/-! The two kernel programs have one text: their bodies are the same. -/

theorem body (p ℓ a) : Cert.KernelOutDx.defs₀ (F := Bits) p ℓ a = Cert.KernelOutDxIdeal.defs₀ (F := Bits) p ℓ a := by
  cases p <;> (match ℓ, a with
    | (0 : Fin 1), (_, _) => rfl)
theorem same : Cert.KernelOutDx.defs (F := Bits) = Cert.KernelOutDxIdeal.defs (F := Bits) :=
  congrArg (Pipeline.defs (Cert.KernelOutDxIdeal.pcfgs (F := Bits))) (funext fun p => funext fun ℓ => funext fun a => body p ℓ a)

theorem frame_kernel : Cert.quiescent_KernelOutDx := fun m ρ _ => by rw [same]; exact Cert.KernelOutDxIdeal.Gen.frame (F := Bits) m ρ
theorem frame_ideal : Cert.quiescent_KernelOutDxIdeal := fun m ρ _ => Cert.KernelOutDxIdeal.Gen.frame m ρ
theorem frame_reference : Cert.quiescent_ReferenceOutDxIdeal := fun m ρ _ =>
  (θ_run Cert.ReferenceOutDxIdeal.defs _ _).mono (fun r h => ⟨fun c => (h c).2, sem_eq_zero_of_no_sems (by decide) r.2⟩)
    (Cert.ReferenceOutDxIdeal.Value.run (F := Ideal) m ρ)

theorem algebraic : Cert.algebraic_KernelOutDxIdeal_ReferenceOutDxIdeal := by
  intro m ρ m' ρ' _ hagree
  refine ⟨_, Cert.KernelOutDxIdeal.Value.run_blocks (F := Ideal) m ρ, ?_⟩
  refine (θ_run Cert.ReferenceOutDxIdeal.defs _ _).mono (fun _ h c => ?_) (Cert.ReferenceOutDxIdeal.Value.run (F := Ideal) m' ρ')
  refine ⟨(h c).1.trans ?_, (h c).2⟩
  rw [Cert.ReferenceOutDxIdeal.Read.val_main_v5_eq, (hagree c).1, (hagree c).2]
  exact (array m c).symm

end Cert.ProdOutDx

end
-- ==== Proof.ProdOutDw.lean ====
/- The gradient of a projection of 1024 columns to 1024 with respect to its matrix: the claims about `KernelOutDw`,
`KernelOutDwIdeal` and `ReferenceOutDwIdeal`. Point `x` adds the product of the rows of block `x`. -/
module

public import proofs.«01_k».proof.Defs
public import proofs.«01_k».proof.Proof.Products
public import proofs.«01_k».proof.Proof.Gen.KernelOutDw
public import proofs.«01_k».proof.Proof.Gen.KernelOutDwIdeal.Value
public import proofs.«01_k».proof.Proof.Gen.ReferenceOutDwIdeal.Read

@[expose] public section

set_option maxRecDepth 16384

noncomputable section

namespace Cert.ProdOutDw

open Cert.KernelOutDwIdeal Cert.KernelOutDwIdeal.Gen Cert.Products
open Idealize.ShloMosaic Idealize.ShloMosaic.TcCoe Idealize.ShloMosaic.ValueIdx Idealize.ShloMosaic.Tactic Idealize.SL.Sem

variable (m : (ℓ : Loc nD τ sig) → Buf (Elt Ideal) ℓ) (c : Dev nD)

theorem at_ : ∀ t : Fin cfg0.N, (win0_0.index t (0 : Fin 2) = t.val ∧ win0_0.index t (1 : Fin 2) = 0)
    ∧ (win0_1.index t (0 : Fin 2) = t.val ∧ win0_1.index t (1 : Fin 2) = 0)
    ∧ win0_2.index t (0 : Fin 2) = 0 ∧ win0_2.index t (1 : Fin 2) = 0 :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 0)
    ∧ win0_2.index t (0 : Fin 2) = 0 ∧ win0_2.index t (1 : Fin 2) = 0)

/-- The grid point of a block of rows. -/
def pt (x : Fin 3) : Fin cfg0.N := ⟨x.val, x.isLt⟩
/-- The rows of a block. -/
def rw_ (x : Fin 3) (y : Fin 2816) : Fin 8448 := at' x y

theorem load0 (x : Fin 3) (y : Fin 2816) (i : Fin 1024) :
    (iblk m c 0 (pt x) : Vec Ideal S2816x1024 .bf16) (ix2 y i) = (m (c.tc.loc main_arg0) : Vec Ideal S8448x1024 .bf16) (ix2 (rw_ x y) i) := by
  obtain ⟨⟨e0, e1⟩, -⟩ := at_ (pt x)
  have e : (pt x).val = x.val := rfl
  refine congrArg (m (c.tc.loc main_arg0) : Vec Ideal S8448x1024 .bf16) (funext fun a => Fin.ext ?_)
  match a with
  | ⟨0, _⟩ => show win0_0.index (pt x) (0 : Fin 2) * 2816 + 1 * y.val = 2816 * x.val + y.val; omega
  | ⟨1, _⟩ => show win0_0.index (pt x) (1 : Fin 2) * 1024 + 1 * i.val = i.val; omega

theorem load1 (x : Fin 3) (y : Fin 2816) (q : Fin 1024) :
    (iblk m c 1 (pt x) : Vec Ideal S2816x1024 .bf16) (ix2 y q) = (m (c.tc.loc main_arg1) : Vec Ideal S8448x1024 .bf16) (ix2 (rw_ x y) q) := by
  obtain ⟨-, ⟨e0, e1⟩, -⟩ := at_ (pt x)
  have e : (pt x).val = x.val := rfl
  refine congrArg (m (c.tc.loc main_arg1) : Vec Ideal S8448x1024 .bf16) (funext fun a => Fin.ext ?_)
  match a with
  | ⟨0, _⟩ => show win0_1.index (pt x) (0 : Fin 2) * 2816 + 1 * y.val = 2816 * x.val + y.val; omega
  | ⟨1, _⟩ => show win0_1.index (pt x) (1 : Fin 2) * 1024 + 1 * q.val = q.val; omega

theorem emb2 (x : Fin 3) (i : Fin 1024) (q : Fin 1024) :
    ((cfg0.win 2).blk (pt x)).view.emb (ix2 i q : S1024x1024.Idx) = (ix2 i q : S1024x1024.Idx) := by
  obtain ⟨-, -, e0, e1⟩ := at_ (pt x)
  have e : (pt x).val = x.val := rfl
  funext a; apply Fin.ext
  match a with
  | ⟨0, _⟩ => show win0_2.index (pt x) (0 : Fin 2) * 1024 + 1 * i.val = i.val; omega
  | ⟨1, _⟩ => show win0_2.index (pt x) (1 : Fin 2) * 1024 + 1 * q.val = q.val; omega

/-! ## What a grid point leaves -/

section Body

variable (i : grid0.Coords) (arg3 : Memref sig .tc .vmem S2816x1024 .bf16) (harg3 : arg3.IsWhole) (arg4 : Memref sig .tc .vmem S2816x1024 .bf16)
  (harg4 : arg4.IsWhole) (arg5 : Memref sig .tc .vmem S1024x1024 .f32) (harg5 : arg5.IsWhole) (x0 : Vec Ideal S2816x1024 .bf16) (x1 : Vec Ideal S2816x1024 .bf16)
  (xo : Vec Ideal S1024x1024 .f32)

theorem first (hc0 : cond0_0 i) (hc1 : ¬cond0_1 i) :
    out0_A_2 c i arg3 harg3 arg4 harg4 arg5 harg5 hc0 hc1 x0 x1 = k0_pay1 x0 x1 := by
  have e : (kernelRun0_A (F := Ideal) c i arg3 harg3 arg4 harg4 arg5 harg5 hc0 hc1 x0 x1).1
      = [⟨Rect.unit (s := S1024x1024) ![0, 0] S1024x1024.size inb_S1024x1024_S1024x1024_0_0,
          k0_pay1 (View.readAt (Elt Ideal) arg3.view (Rect.unit (s := S2816x1024) ![0, 0] S2816x1024.size inb_S2816x1024_S2816x1024_0_0).toLoadRect (harg3.unread x0))
            (View.readAt (Elt Ideal) arg4.view (Rect.unit (s := S2816x1024) ![0, 0] S2816x1024.size inb_S2816x1024_S2816x1024_0_0).toLoadRect (harg4.unread x1))⟩] := by
    sl_kernel_rfl
  unfold out0_A_2
  rw [e, read_whole harg3 off2, read_whole harg4 off2]
  funext y
  rw [View.read_writes_junk_apply_eq_canon, View.canon_unit_zero off2]

theorem later (hc0 : ¬cond0_0 i) (hc1 : cond0_1 i) :
    out0_B_2 c i arg3 harg3 arg4 harg4 arg5 harg5 hc0 hc1 x0 x1 xo = k0_pay2 x0 x1 xo := by
  have e : (kernelRun0_B (F := Ideal) c i arg3 harg3 arg4 harg4 arg5 harg5 hc0 hc1 x0 x1 xo).1
      = [⟨Rect.unit (s := S1024x1024) ![0, 0] S1024x1024.size inb_S1024x1024_S1024x1024_0_0,
          k0_pay2 (View.readAt (Elt Ideal) arg3.view (Rect.unit (s := S2816x1024) ![0, 0] S2816x1024.size inb_S2816x1024_S2816x1024_0_0).toLoadRect (harg3.unread x0))
            (View.readAt (Elt Ideal) arg4.view (Rect.unit (s := S2816x1024) ![0, 0] S2816x1024.size inb_S2816x1024_S2816x1024_0_0).toLoadRect (harg4.unread x1))
            (View.readAt (Elt Ideal) arg5.view (Rect.unit (s := S1024x1024) ![0, 0] S1024x1024.size inb_S1024x1024_S1024x1024_0_0).toLoadRect (harg5.unread xo))⟩] := by
    sl_kernel_rfl
  unfold out0_B_2
  rw [e, read_whole harg3 off2, read_whole harg4 off2, read_whole harg5 off2]
  funext y
  rw [View.read_writes_junk_apply_eq_canon, View.canon_unit_zero off2]

end Body

theorem pay1_apply (x0 : Vec Ideal S2816x1024 .bf16) (x1 : Vec Ideal S2816x1024 .bf16) (i : Fin 1024) (q : Fin 1024) :
    k0_pay1 x0 x1 (ix2 i q) = tn (K := 2816) (M := 1024) (N := 1024) x0 x1 i q :=
  matmul_tn (M := 1024) (K := 2816) (N := 1024) (φ₁ := .bf16) (φ₂ := .bf16) _ x0 x1 i q

theorem pay2_apply (x0 : Vec Ideal S2816x1024 .bf16) (x1 : Vec Ideal S2816x1024 .bf16) (xo : Vec Ideal S1024x1024 .f32) (i : Fin 1024) (q : Fin 1024) :
    k0_pay2 x0 x1 xo (ix2 i q) = (xo (ix2 i q) : EReal) + tn (K := 2816) (M := 1024) (N := 1024) x0 x1 i q :=
  congrArg₂ (HAdd.hAdd : EReal → EReal → EReal) (shapeCast_apply _ _ _ _ rfl) (pay1_apply x0 x1 i q)

/-- The product of the rows of one block. -/
def part (x : Fin 3) (i : Fin 1024) (q : Fin 1024) : EReal :=
  tn (K := 2816) (M := 1024) (N := 1024) (iblk m c 0 (pt x)) (iblk m c 1 (pt x)) i q

theorem start (i : Fin 1024) (q : Fin 1024) : outsAt0 m c (pt 0).val (pt 0).isLt (ix2 i q) = part m c 0 i q := by
  have e : (pt 0).val = 0 := by show (0) = 0; omega
  rw [outsAt0_A m c (pt 0) e (by omega), first]
  exact pay1_apply _ _ i q

theorem step (x y : Fin 3) (hx : y.val = x.val + 1) (i : Fin 1024) (q : Fin 1024) : (outsAt0 m c (pt y).val (pt y).isLt (ix2 i q) : EReal)
    = (outsAt0 m c (pt x).val (pt x).isLt (ix2 i q) : EReal) + part m c y i q := by
  have e : (pt y).val = y.val := by show (y.val) = y.val; omega
  have e' : (pt y).val - 1 = (pt x).val := by show y.val - 1 = x.val; omega
  rw [outsAt0_B m c (pt y) (by omega) (by omega), later]
  refine (pay2_apply _ _ _ i q).trans ?_
  simp only [e']
  rfl

theorem total (i : Fin 1024) (q : Fin 1024) : (outsAt0 m c (pt 2).val (pt 2).isLt (ix2 i q) : EReal) = ∑ x : Fin 3, part m c x i q := by
  rw [step m c 1 2 rfl, step m c 0 1 rfl, start, Fin.sum_univ_three]

/-! ## The array -/

theorem flushes : ∀ t : Fin cfg0.N, t.val = 2 → (cfg0.win 2).flush t = true :=
  (by decide +kernel : ∀ t : Fin grid0.N, t.val = 2 → win0_2.flush t = true)

theorem apart : ∀ t t' : Fin cfg0.N, (cfg0.win 2).flush t = true → (cfg0.win 2).flush t' = true → win0_2.index t = win0_2.index t' → t = t' :=
  (by decide +kernel : ∀ t t' : Fin grid0.N, win0_2.flush t = true → win0_2.flush t' = true → win0_2.index t = win0_2.index t' → t = t')

theorem point (i : Fin 1024) (q : Fin 1024) :
    ((dats m 0 c).arrAt 2 cfg0.N : Vec Ideal S1024x1024 .f32) (ix2 i q)
      = tn (K := 8448) (M := 1024) (N := 1024) (m (c.tc.loc main_arg0)) (m (c.tc.loc main_arg1)) i q := by
  refine (congrArg (β := Elt Ideal .f32) ((dats m 0 c).arrAt 2 cfg0.N) (emb2 2 i q)).symm.trans ?_
  refine (congrFun ((dats m 0 c).read_blk_arrAt_eq_flushed 2 (fun t t' hf hf' hne => (cfg0.win 2).disjoint_blk fun h => hne (apart t t' hf hf' h)) cfg0.N (pt 2) (pt 2).isLt
    (flushes _ (by show (2) = 2; omega))) (ix2 i q : S1024x1024.Idx)).trans ?_
  rw [Value.flushed2]
  refine (total m c i q).trans (Eq.symm ((sum_blocks (n := 3) (b := 2816) _).trans ?_))
  exact Finset.sum_congr rfl fun x _ => Finset.sum_congr rfl fun y _ => (congrArg₂ (HMul.hMul : EReal → EReal → EReal) (load0 m c x y i) (load1 m c x y q)).symm

theorem array : (dats m 0 c).arrAt 2 cfg0.N = Cert.ReferenceOutDwIdeal.Read.val_main_v5 (F := Ideal) (m (c.tc.loc main_arg0)) (m (c.tc.loc main_arg1)) := by
  funext (i : S1024x1024.Idx)
  rw [eq_ix2 i]
  refine (point m c _ _).trans (Eq.symm ?_)
  refine (Cert.ReferenceOutDwIdeal.Read.val_main_v5_apply _ _ _).trans ?_
  refine (Cert.ReferenceOutDwIdeal.Read.val_main_v4_apply _ _ _).trans (Finset.sum_congr rfl fun k _ => ?_)
  refine (mul_comm (G := EReal) _ _).trans ?_
  exact congrArg₂ (HMul.hMul : EReal → EReal → EReal) (congrArg (m (c.tc.loc main_arg0) : Vec Ideal S8448x1024 .bf16) (eq_ix2 _))
    (congrArg (m (c.tc.loc main_arg1) : Vec Ideal S8448x1024 .bf16) (eq_ix2 _))

/-! ## The claims -/

/-! The two kernel programs have one text: their bodies are the same. -/

theorem body (p ℓ a) : Cert.KernelOutDw.defs₀ (F := Bits) p ℓ a = Cert.KernelOutDwIdeal.defs₀ (F := Bits) p ℓ a := by
  cases p <;> (match ℓ, a with
    | (0 : Fin 1), (_, _) => rfl)
theorem same : Cert.KernelOutDw.defs (F := Bits) = Cert.KernelOutDwIdeal.defs (F := Bits) :=
  congrArg (Pipeline.defs (Cert.KernelOutDwIdeal.pcfgs (F := Bits))) (funext fun p => funext fun ℓ => funext fun a => body p ℓ a)

theorem frame_kernel : Cert.quiescent_KernelOutDw := fun m ρ _ => by rw [same]; exact Cert.KernelOutDwIdeal.Gen.frame (F := Bits) m ρ
theorem frame_ideal : Cert.quiescent_KernelOutDwIdeal := fun m ρ _ => Cert.KernelOutDwIdeal.Gen.frame m ρ
theorem frame_reference : Cert.quiescent_ReferenceOutDwIdeal := fun m ρ _ =>
  (θ_run Cert.ReferenceOutDwIdeal.defs _ _).mono (fun r h => ⟨fun c => (h c).2, sem_eq_zero_of_no_sems (by decide) r.2⟩)
    (Cert.ReferenceOutDwIdeal.Value.run (F := Ideal) m ρ)

theorem algebraic : Cert.algebraic_KernelOutDwIdeal_ReferenceOutDwIdeal := by
  intro m ρ m' ρ' _ hagree
  refine ⟨_, Cert.KernelOutDwIdeal.Value.run_blocks (F := Ideal) m ρ, ?_⟩
  refine (θ_run Cert.ReferenceOutDwIdeal.defs _ _).mono (fun _ h c => ?_) (Cert.ReferenceOutDwIdeal.Value.run (F := Ideal) m' ρ')
  refine ⟨(h c).1.trans ?_, (h c).2⟩
  rw [Cert.ReferenceOutDwIdeal.Read.val_main_v5_eq, (hagree c).1, (hagree c).2]
  exact (array m c).symm

end Cert.ProdOutDw

end
-- ==== Proof.ProdIn.lean ====
/- The projection into queries, keys, values and gates: the claims about `KernelIn`, `KernelInIdeal` and
`ReferenceInIdeal`. Point `6 i + j` computes the block of 1408 rows `i` and 1280 columns `j`. -/
module

public import proofs.«01_k».proof.Defs
public import proofs.«01_k».proof.Proof.Products
public import proofs.«01_k».proof.Proof.Gen.KernelIn
public import proofs.«01_k».proof.Proof.Gen.KernelInIdeal.Value
public import proofs.«01_k».proof.Proof.Gen.ReferenceInIdeal.Read

@[expose] public section

set_option maxRecDepth 16384

noncomputable section

namespace Cert.ProdIn

open Cert.KernelInIdeal Cert.KernelInIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

theorem at_ : ∀ t : Fin cfg0.N, (win0_0.index t (0 : Fin 2) = t.val / 6 ∧ win0_0.index t (1 : Fin 2) = 0)
    ∧ (win0_1.index t (0 : Fin 2) = 0 ∧ win0_1.index t (1 : Fin 2) = t.val % 6)
    ∧ win0_2.index t (0 : Fin 2) = t.val / 6 ∧ win0_2.index t (1 : Fin 2) = t.val % 6 :=
  (by decide +kernel : ∀ t : Fin grid0.N, (win0_0.index t (0 : Fin 2) = t.val / 6 ∧ win0_0.index t (1 : Fin 2) = 0)
    ∧ (win0_1.index t (0 : Fin 2) = 0 ∧ win0_1.index t (1 : Fin 2) = t.val % 6)
    ∧ win0_2.index t (0 : Fin 2) = t.val / 6 ∧ win0_2.index t (1 : Fin 2) = t.val % 6)

/-- The rows and the columns of a grid point's block. -/
def rw_ (t : Fin cfg0.N) (r : Fin 1408) : Fin 8448 := ⟨1408 * (t.val / 6) + r.val, by have : t.val < 36 := t.isLt; omega⟩
def cl (t : Fin cfg0.N) (j : Fin 1280) : Fin 7680 := ⟨1280 * (t.val % 6) + j.val, by omega⟩

theorem load0 (t : Fin cfg0.N) (r : Fin 1408) (k : Fin 1024) :
    (iblk m c 0 t : Vec Ideal S1408x1024 .bf16) (ix2 r k) = (m (c.tc.loc main_arg0) : Vec Ideal S8448x1024 .bf16) (ix2 (rw_ t r) k) := by
  obtain ⟨⟨e0, e1⟩, -⟩ := at_ t
  refine congrArg (m (c.tc.loc main_arg0) : Vec Ideal S8448x1024 .bf16) (funext fun a => Fin.ext ?_)
  match a with
  | ⟨0, _⟩ => show win0_0.index t (0 : Fin 2) * 1408 + 1 * r.val = 1408 * (t.val / 6) + r.val; omega
  | ⟨1, _⟩ => show win0_0.index t (1 : Fin 2) * 1024 + 1 * k.val = k.val; omega

theorem load1 (t : Fin cfg0.N) (k : Fin 1024) (j : Fin 1280) :
    (iblk m c 1 t : Vec Ideal S1024x1280 .bf16) (ix2 k j) = (m (c.tc.loc main_arg1) : Vec Ideal S1024x7680 .bf16) (ix2 k (cl t j)) := by
  obtain ⟨-, ⟨e0, e1⟩, -⟩ := at_ t
  refine congrArg (m (c.tc.loc main_arg1) : Vec Ideal S1024x7680 .bf16) (funext fun a => Fin.ext ?_)
  match a with
  | ⟨0, _⟩ => show win0_1.index t (0 : Fin 2) * 1024 + 1 * k.val = k.val; omega
  | ⟨1, _⟩ => show win0_1.index t (1 : Fin 2) * 1280 + 1 * j.val = 1280 * (t.val % 6) + j.val; omega

theorem emb2 (t : Fin cfg0.N) (r : Fin 1408) (j : Fin 1280) :
    ((cfg0.win 2).blk t).view.emb (ix2 r j : S1408x1280.Idx) = (ix2 (rw_ t r) (cl t j) : S8448x7680.Idx) := by
  obtain ⟨-, -, e0, e1⟩ := at_ t
  funext a; apply Fin.ext
  match a with
  | ⟨0, _⟩ => show win0_2.index t (0 : Fin 2) * 1408 + 1 * r.val = 1408 * (t.val / 6) + r.val; omega
  | ⟨1, _⟩ => show win0_2.index t (1 : Fin 2) * 1280 + 1 * j.val = 1280 * (t.val % 6) + j.val; omega

/-- What a grid point stores. -/
theorem stored (x0 : Vec Ideal S1408x1024 .bf16) (x1 : Vec Ideal S1024x1280 .bf16) (r : Fin 1408) (j : Fin 1280) :
    out0_2 x0 x1 (ix2 r j) = nn (M := 1408) (K := 1024) (N := 1280) x0 x1 r j := by
  unfold out0_2
  rw [View.canon_unit_zero off2, View.ld_unit_zero off2, View.ld_unit_zero off2]
  exact matmul_nn (M := 1408) (K := 1024) (N := 1280) (φ₁ := .bf16) (φ₂ := .bf16) x0 x1 r j

theorem flushes : ∀ t : Fin cfg0.N, (cfg0.win 2).flush t = true := (by decide +kernel : ∀ t : Fin grid0.N, win0_2.flush t = true)

theorem point (t : Fin cfg0.N) (r : Fin 1408) (j : Fin 1280) :
    ((dats m 0 c).arrAt 2 cfg0.N : Vec Ideal S8448x7680 .bf16) (ix2 (rw_ t r) (cl t j))
      = nn (M := 8448) (K := 1024) (N := 7680) (m (c.tc.loc main_arg0)) (m (c.tc.loc main_arg1)) (rw_ t r) (cl t j) := by
  refine (congrArg (β := Elt Ideal .bf16) ((dats m 0 c).arrAt 2 cfg0.N) (emb2 t r j)).symm.trans ?_
  refine (congrFun ((Value.blocks2 m c t (flushes t)).trans (Value.flushed2 m c t)) (ix2 r j)).trans ?_
  exact (stored _ _ r j).trans (Finset.sum_congr rfl fun k _ => congrArg₂ HMul.hMul (load0 m c t r k) (load1 m c t k j))

theorem array : (dats m 0 c).arrAt 2 cfg0.N = Cert.ReferenceInIdeal.Read.val_main_v3 (F := Ideal) (m (c.tc.loc main_arg0)) (m (c.tc.loc main_arg1)) := by
  funext (i : S8448x7680.Idx)
  have h0 : (i 0).val < 8448 := (i 0).isLt
  have h1 : (i 1).val < 7680 := (i 1).isLt
  have e : i = ix2 (rw_ ⟨6 * ((i 0).val / 1408) + (i 1).val / 1280, by show _ < 36; omega⟩ ⟨(i 0).val % 1408, by omega⟩)
      (cl ⟨6 * ((i 0).val / 1408) + (i 1).val / 1280, by show _ < 36; omega⟩ ⟨(i 1).val % 1280, by omega⟩) :=
    (eq_ix2 i).trans (congrArg₂ ix2 (Fin.ext (by simp only [rw_]; omega)) (Fin.ext (by simp only [cl]; omega)))
  rw [e]
  refine (point m c _ _ _).trans (Eq.symm ?_)
  refine (Cert.ReferenceInIdeal.Read.val_main_v2_apply _ _ _).trans (Finset.sum_congr rfl fun k _ => ?_)
  exact congrArg₂ (HMul.hMul : EReal → EReal → EReal) (congrArg (m (c.tc.loc main_arg0) : Vec Ideal S8448x1024 .bf16) (eq_ix2 _))
    (congrArg (m (c.tc.loc main_arg1) : Vec Ideal S1024x7680 .bf16) (eq_ix2 _))

/-! The two kernel programs have one text: their bodies are the same. -/

theorem body (p ℓ a) : Cert.KernelIn.defs₀ (F := Bits) p ℓ a = Cert.KernelInIdeal.defs₀ (F := Bits) p ℓ a := by
  cases p <;> (match ℓ, a with
    | (0 : Fin 1), (_, _) => rfl)
theorem same : Cert.KernelIn.defs (F := Bits) = Cert.KernelInIdeal.defs (F := Bits) :=
  congrArg (Pipeline.defs (Cert.KernelInIdeal.pcfgs (F := Bits))) (funext fun p => funext fun ℓ => funext fun a => body p ℓ a)

theorem frame_kernel : Cert.quiescent_KernelIn := fun m ρ _ => by rw [same]; exact Cert.KernelInIdeal.Gen.frame (F := Bits) m ρ
theorem frame_ideal : Cert.quiescent_KernelInIdeal := fun m ρ _ => Cert.KernelInIdeal.Gen.frame m ρ
theorem frame_reference : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

theorem algebraic : Cert.algebraic_KernelInIdeal_ReferenceInIdeal := by
  intro m ρ m' ρ' _ hagree
  refine ⟨_, Cert.KernelInIdeal.Value.run_blocks (F := Ideal) m ρ, ?_⟩
  refine (θ_run Cert.ReferenceInIdeal.defs _ _).mono (fun _ h c => ?_) (Cert.ReferenceInIdeal.Value.run (F := Ideal) m' ρ')
  refine ⟨(h c).1.trans ?_, (h c).2⟩
  rw [Cert.ReferenceInIdeal.Read.val_main_v3_eq, (hagree c).1, (hagree c).2]
  exact (array m c).symm

end Cert.ProdIn

end
-- ==== Proof.ProdOut.lean ====
/- A projection of 1024 columns to 1024: the claims about `KernelOut`, `KernelOutIdeal` and `ReferenceOutIdeal`. Point `i`
computes the block of 1408 rows `i`. -/
module

public import proofs.«01_k».proof.Defs
public import proofs.«01_k».proof.Proof.Products
public import proofs.«01_k».proof.Proof.Gen.KernelOut
public import proofs.«01_k».proof.Proof.Gen.KernelOutIdeal.Value
public import proofs.«01_k».proof.Proof.Gen.ReferenceOutIdeal.Read

@[expose] public section

set_option maxRecDepth 16384

noncomputable section

namespace Cert.ProdOut

open Cert.KernelOutIdeal Cert.KernelOutIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

theorem at_ : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0)

/-- The rows of a grid point's block. -/
def rw_ (t : Fin cfg0.N) (r : Fin 1408) : Fin 8448 := ⟨1408 * t.val + r.val, by have : t.val < 6 := t.isLt; omega⟩

theorem load0 (t : Fin cfg0.N) (r : Fin 1408) (k : Fin 1024) :
    (iblk m c 0 t : Vec Ideal S1408x1024 .bf16) (ix2 r k) = (m (c.tc.loc main_arg0) : Vec Ideal S8448x1024 .bf16) (ix2 (rw_ t r) k) := by
  obtain ⟨⟨e0, e1⟩, -⟩ := at_ t
  refine congrArg (m (c.tc.loc main_arg0) : Vec Ideal S8448x1024 .bf16) (funext fun a => Fin.ext ?_)
  match a with
  | ⟨0, _⟩ => show win0_0.index t (0 : Fin 2) * 1408 + 1 * r.val = 1408 * t.val + r.val; omega
  | ⟨1, _⟩ => show win0_0.index t (1 : Fin 2) * 1024 + 1 * k.val = k.val; omega

theorem load1 (t : Fin cfg0.N) (k : Fin 1024) (j : Fin 1024) :
    (iblk m c 1 t : Vec Ideal S1024x1024 .bf16) (ix2 k j) = (m (c.tc.loc main_arg1) : Vec Ideal S1024x1024 .bf16) (ix2 k j) := by
  obtain ⟨-, ⟨e0, e1⟩, -⟩ := at_ t
  refine congrArg (m (c.tc.loc main_arg1) : Vec Ideal S1024x1024 .bf16) (funext fun a => Fin.ext ?_)
  match a with
  | ⟨0, _⟩ => show win0_1.index t (0 : Fin 2) * 1024 + 1 * k.val = k.val; omega
  | ⟨1, _⟩ => show win0_1.index t (1 : Fin 2) * 1024 + 1 * j.val = j.val; omega

theorem emb2 (t : Fin cfg0.N) (r : Fin 1408) (j : Fin 1024) :
    ((cfg0.win 2).blk t).view.emb (ix2 r j : S1408x1024.Idx) = (ix2 (rw_ t r) j : S8448x1024.Idx) := by
  obtain ⟨-, -, e0, e1⟩ := at_ t
  funext a; apply Fin.ext
  match a with
  | ⟨0, _⟩ => show win0_2.index t (0 : Fin 2) * 1408 + 1 * r.val = 1408 * t.val + r.val; omega
  | ⟨1, _⟩ => show win0_2.index t (1 : Fin 2) * 1024 + 1 * j.val = j.val; omega

/-- What a grid point stores. -/
theorem stored (x0 : Vec Ideal S1408x1024 .bf16) (x1 : Vec Ideal S1024x1024 .bf16) (r : Fin 1408) (j : Fin 1024) :
    out0_2 x0 x1 (ix2 r j) = nn (M := 1408) (K := 1024) (N := 1024) x0 x1 r j := by
  unfold out0_2
  rw [View.canon_unit_zero off2, View.ld_unit_zero off2, View.ld_unit_zero off2]
  exact matmul_nn (M := 1408) (K := 1024) (N := 1024) (φ₁ := .bf16) (φ₂ := .bf16) x0 x1 r j

theorem flushes : ∀ t : Fin cfg0.N, (cfg0.win 2).flush t = true := (by decide +kernel : ∀ t : Fin grid0.N, win0_2.flush t = true)

theorem point (t : Fin cfg0.N) (r : Fin 1408) (j : Fin 1024) :
    ((dats m 0 c).arrAt 2 cfg0.N : Vec Ideal S8448x1024 .bf16) (ix2 (rw_ t r) j)
      = nn (M := 8448) (K := 1024) (N := 1024) (m (c.tc.loc main_arg0)) (m (c.tc.loc main_arg1)) (rw_ t r) j := by
  refine (congrArg (β := Elt Ideal .bf16) ((dats m 0 c).arrAt 2 cfg0.N) (emb2 t r j)).symm.trans ?_
  refine (congrFun ((Value.blocks2 m c t (flushes t)).trans (Value.flushed2 m c t)) (ix2 r j)).trans ?_
  exact (stored _ _ r j).trans (Finset.sum_congr rfl fun k _ => congrArg₂ HMul.hMul (load0 m c t r k) (load1 m c t k j))

theorem array : (dats m 0 c).arrAt 2 cfg0.N = Cert.ReferenceOutIdeal.Read.val_main_v3 (F := Ideal) (m (c.tc.loc main_arg0)) (m (c.tc.loc main_arg1)) := by
  funext (i : S8448x1024.Idx)
  have h0 : (i 0).val < 8448 := (i 0).isLt
  have e : i = ix2 (rw_ ⟨(i 0).val / 1408, by show _ < 6; omega⟩ ⟨(i 0).val % 1408, by omega⟩) (i 1) :=
    (eq_ix2 i).trans (congrArg (ix2 · (i 1)) (Fin.ext (by simp only [rw_]; omega)))
  rw [e]
  refine (point m c _ _ _).trans (Eq.symm ?_)
  refine (Cert.ReferenceOutIdeal.Read.val_main_v2_apply _ _ _).trans (Finset.sum_congr rfl fun k _ => ?_)
  exact congrArg₂ (HMul.hMul : EReal → EReal → EReal) (congrArg (m (c.tc.loc main_arg0) : Vec Ideal S8448x1024 .bf16) (eq_ix2 _))
    (congrArg (m (c.tc.loc main_arg1) : Vec Ideal S1024x1024 .bf16) (eq_ix2 _))

/-! The two kernel programs have one text: their bodies are the same. -/

theorem body (p ℓ a) : Cert.KernelOut.defs₀ (F := Bits) p ℓ a = Cert.KernelOutIdeal.defs₀ (F := Bits) p ℓ a := by
  cases p <;> (match ℓ, a with
    | (0 : Fin 1), (_, _) => rfl)
theorem same : Cert.KernelOut.defs (F := Bits) = Cert.KernelOutIdeal.defs (F := Bits) :=
  congrArg (Pipeline.defs (Cert.KernelOutIdeal.pcfgs (F := Bits))) (funext fun p => funext fun ℓ => funext fun a => body p ℓ a)

theorem frame_kernel : Cert.quiescent_KernelOut := fun m ρ _ => by rw [same]; exact Cert.KernelOutIdeal.Gen.frame (F := Bits) m ρ
theorem frame_ideal : Cert.quiescent_KernelOutIdeal := fun m ρ _ => Cert.KernelOutIdeal.Gen.frame m ρ
theorem frame_reference : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

theorem algebraic : Cert.algebraic_KernelOutIdeal_ReferenceOutIdeal := by
  intro m ρ m' ρ' _ hagree
  refine ⟨_, Cert.KernelOutIdeal.Value.run_blocks (F := Ideal) m ρ, ?_⟩
  refine (θ_run Cert.ReferenceOutIdeal.defs _ _).mono (fun _ h c => ?_) (Cert.ReferenceOutIdeal.Value.run (F := Ideal) m' ρ')
  refine ⟨(h c).1.trans ?_, (h c).2⟩
  rw [Cert.ReferenceOutIdeal.Read.val_main_v3_eq, (hagree c).1, (hagree c).2]
  exact (array m c).symm

end Cert.ProdOut

end
-- ==== Proof.MergeBwd.lean ====
/- The gates' gradient: the claims about `KernelMergeBwd`, `KernelMergeBwdIdeal` and `ReferenceMergeBwdIdeal`. Point `i` computes
the block of 256 rows `i`, and is pointwise: the logistic function of the two gates, read from four blocks of 512 columns. -/
module

public import proofs.«01_k».proof.Defs
public import proofs.«01_k».proof.Proof.Coe
public import proofs.«01_k».proof.Proof.Products
public import proofs.«01_k».proof.Proof.Gen.KernelMergeBwd
public import proofs.«01_k».proof.Proof.Gen.KernelMergeBwdIdeal.Value
public import proofs.«01_k».proof.Proof.Gen.ReferenceMergeBwdIdeal.Read

@[expose] public section

set_option maxRecDepth 16384

noncomputable section

namespace Cert.MergeBwd

open Cert.KernelMergeBwdIdeal Cert.KernelMergeBwdIdeal.Gen Cert.Products
open Idealize.ShloMosaic Idealize.ShloMosaic.TcCoe Idealize.ShloMosaic.ValueIdx Idealize.SL.Sem

variable (m : (ℓ : Loc nD τ sig) → Buf (Elt Ideal) ℓ) (c : Dev nD)

/-! ## Where a grid point's blocks lie -/

theorem at_ : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 11)
    ∧ (win0_4.index t (0 : Fin 2) = t.val ∧ win0_4.index t (1 : Fin 2) = 12)
    ∧ (win0_5.index t (0 : Fin 2) = t.val ∧ win0_5.index t (1 : Fin 2) = 13)
    ∧ (win0_6.index t (0 : Fin 2) = t.val ∧ win0_6.index t (1 : Fin 2) = 14)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) := by decide +kernel

/-- The rows of a grid point's block. -/
def rw_ (t : Fin cfg0.N) (r : Fin 256) : Fin 8448 := ⟨256 * t.val + r.val, by have : t.val < 33 := t.isLt; omega⟩

/-- An index of an array of 8448 rows, by its coordinates. -/
theorem place {N : ℕ} (R : Fin 8448) (J : Fin N) (i : (⟨2, ![8448, N]⟩ : Shape).Idx) (h0 : (i 0).val = R.val) (h1 : (i 1).val = J.val) :
    i = ix2 R J := (eq_ix2 i).trans (congrArg₂ ix2 (Fin.ext h0) (Fin.ext h1))

theorem load0 (t : Fin cfg0.N) (r : Fin 256) (j : Fin 1024) :
    (iblk m c 0 t : Vec Ideal S256x1024 .bf16) (ix2 r j) = (m (c.tc.loc main_arg0) : Vec Ideal S8448x1024 .bf16) (ix2 (rw_ t r) j) := by
  obtain ⟨⟨e0, e1⟩, -⟩ := at_ t
  refine congrArg (m (c.tc.loc main_arg0) : Vec Ideal S8448x1024 .bf16) (place _ _ _ ?_ ?_)
  · show win0_0.index t (0 : Fin 2) * 256 + 1 * r.val = 256 * t.val + r.val; omega
  · show win0_0.index t (1 : Fin 2) * 1024 + 1 * j.val = j.val; omega

theorem load1 (t : Fin cfg0.N) (r : Fin 256) (j : Fin 1024) :
    (iblk m c 1 t : Vec Ideal S256x1024 .bf16) (ix2 r j) = (m (c.tc.loc main_arg1) : Vec Ideal S8448x1024 .bf16) (ix2 (rw_ t r) j) := by
  obtain ⟨-, ⟨e0, e1⟩, -⟩ := at_ t
  refine congrArg (m (c.tc.loc main_arg1) : Vec Ideal S8448x1024 .bf16) (place _ _ _ ?_ ?_)
  · show win0_1.index t (0 : Fin 2) * 256 + 1 * r.val = 256 * t.val + r.val; omega
  · show win0_1.index t (1 : Fin 2) * 1024 + 1 * j.val = j.val; omega

theorem load2 (t : Fin cfg0.N) (r : Fin 256) (j : Fin 1024) :
    (iblk m c 2 t : Vec Ideal S256x1024 .bf16) (ix2 r j) = (m (c.tc.loc main_arg2) : Vec Ideal S8448x1024 .bf16) (ix2 (rw_ t r) j) := by
  obtain ⟨-, -, ⟨e0, e1⟩, -⟩ := at_ t
  refine congrArg (m (c.tc.loc main_arg2) : Vec Ideal S8448x1024 .bf16) (place _ _ _ ?_ ?_)
  · show win0_2.index t (0 : Fin 2) * 256 + 1 * r.val = 256 * t.val + r.val; omega
  · show win0_2.index t (1 : Fin 2) * 1024 + 1 * j.val = j.val; omega

/-- The column of the projections that gate `b` reads at column `j`. -/
def gcol (b : Fin 2) (j : Fin 1024) : Fin 7680 := ⟨5632 + 1024 * b.val + j.val, by omega⟩

/-- A gate's row, by its columns. -/
def gate (b : Fin 2) (R : Fin 8448) (j : Fin 1024) : EReal := (m (c.tc.loc main_arg3) : Vec Ideal S8448x7680 .bf16) (ix2 R (gcol b j))

theorem load3 (t : Fin cfg0.N) (r : Fin 256) (k : Fin 512) :
    (iblk m c 3 t : Vec Ideal S256x512 .bf16) (ix2 r k) = gate m c 0 (rw_ t r) ⟨k.val, by omega⟩ := by
  obtain ⟨-, -, -, ⟨e0, e1⟩, -⟩ := at_ t
  refine congrArg (m (c.tc.loc main_arg3) : Vec Ideal S8448x7680 .bf16) (place _ _ _ ?_ ?_)
  · show win0_3.index t (0 : Fin 2) * 256 + 1 * r.val = 256 * t.val + r.val; omega
  · show win0_3.index t (1 : Fin 2) * 512 + 1 * k.val = 5632 + 1024 * 0 + k.val; omega
theorem load4 (t : Fin cfg0.N) (r : Fin 256) (k : Fin 512) :
    (iblk m c 4 t : Vec Ideal S256x512 .bf16) (ix2 r k) = gate m c 0 (rw_ t r) ⟨512 + k.val, by omega⟩ := by
  obtain ⟨-, -, -, -, ⟨e0, e1⟩, -⟩ := at_ t
  refine congrArg (m (c.tc.loc main_arg3) : Vec Ideal S8448x7680 .bf16) (place _ _ _ ?_ ?_)
  · show win0_4.index t (0 : Fin 2) * 256 + 1 * r.val = 256 * t.val + r.val; omega
  · show win0_4.index t (1 : Fin 2) * 512 + 1 * k.val = 5632 + 1024 * 0 + (512 + k.val); omega
theorem load5 (t : Fin cfg0.N) (r : Fin 256) (k : Fin 512) :
    (iblk m c 5 t : Vec Ideal S256x512 .bf16) (ix2 r k) = gate m c 1 (rw_ t r) ⟨k.val, by omega⟩ := by
  obtain ⟨-, -, -, -, -, ⟨e0, e1⟩, -⟩ := at_ t
  refine congrArg (m (c.tc.loc main_arg3) : Vec Ideal S8448x7680 .bf16) (place _ _ _ ?_ ?_)
  · show win0_5.index t (0 : Fin 2) * 256 + 1 * r.val = 256 * t.val + r.val; omega
  · show win0_5.index t (1 : Fin 2) * 512 + 1 * k.val = 5632 + 1024 * 1 + k.val; omega
theorem load6 (t : Fin cfg0.N) (r : Fin 256) (k : Fin 512) :
    (iblk m c 6 t : Vec Ideal S256x512 .bf16) (ix2 r k) = gate m c 1 (rw_ t r) ⟨512 + k.val, by omega⟩ := by
  obtain ⟨-, -, -, -, -, -, ⟨e0, e1⟩, -⟩ := at_ t
  refine congrArg (m (c.tc.loc main_arg3) : Vec Ideal S8448x7680 .bf16) (place _ _ _ ?_ ?_)
  · show win0_6.index t (0 : Fin 2) * 256 + 1 * r.val = 256 * t.val + r.val; omega
  · show win0_6.index t (1 : Fin 2) * 512 + 1 * k.val = 5632 + 1024 * 1 + (512 + k.val); omega

theorem emb7 (t : Fin cfg0.N) (r : Fin 256) (j : Fin 1024) :
    ((cfg0.win 7).blk t).view.emb (ix2 r j : S256x1024.Idx) = (ix2 (rw_ t r) j : S8448x1024.Idx) := by
  obtain ⟨-, -, -, -, -, -, -, ⟨e0, e1⟩, -⟩ := at_ t
  refine place _ _ _ ?_ ?_
  · show win0_7.index t (0 : Fin 2) * 256 + 1 * r.val = 256 * t.val + r.val; omega
  · show win0_7.index t (1 : Fin 2) * 1024 + 1 * j.val = j.val; omega
theorem emb8 (t : Fin cfg0.N) (r : Fin 256) (j : Fin 1024) :
    ((cfg0.win 8).blk t).view.emb (ix2 r j : S256x1024.Idx) = (ix2 (rw_ t r) j : S8448x1024.Idx) := by
  obtain ⟨-, -, -, -, -, -, -, -, ⟨e0, e1⟩, -⟩ := at_ t
  refine place _ _ _ ?_ ?_
  · show win0_8.index t (0 : Fin 2) * 256 + 1 * r.val = 256 * t.val + r.val; omega
  · show win0_8.index t (1 : Fin 2) * 1024 + 1 * j.val = j.val; omega
theorem emb9 (t : Fin cfg0.N) (r : Fin 256) (j : Fin 2048) :
    ((cfg0.win 9).blk t).view.emb (ix2 r j : S256x2048.Idx) = (ix2 (rw_ t r) j : S8448x2048.Idx) := by
  obtain ⟨-, -, -, -, -, -, -, -, -, e0, e1⟩ := at_ t
  refine place _ _ _ ?_ ?_
  · show win0_9.index t (0 : Fin 2) * 256 + 1 * r.val = 256 * t.val + r.val; omega
  · show win0_9.index t (1 : Fin 2) * 2048 + 1 * j.val = j.val; omega

/-! ## What a grid point stores -/

/-- Two blocks of 512 columns side by side, when they are the halves of a row. -/
theorem cat (a b : Vec Ideal S256x512 .bf16) (r : Fin 256) (G : Fin 1024 → EReal) (ha : ∀ k : Fin 512, a (ix2 r k) = G ⟨k.val, by omega⟩)
    (hb : ∀ k : Fin 512, b (ix2 r k) = G ⟨512 + k.val, by omega⟩) (j : Fin 1024) :
    concatenate S256x1024 1 [⟨S256x512, a⟩, ⟨S256x512, b⟩] concatenates_S256x512_S256x512_S256x1024_d1 (ix2 r j) = G j := by
  by_cases hj : j.val < 512
  · refine (concatenate_apply_piece (t := S256x1024) 1 [⟨S256x512, a⟩, ⟨S256x512, b⟩] concatenates_S256x512_S256x512_S256x1024_d1 (ix2 r j)
      0 (Nat.succ_pos 1 : 0 < 2) S256x512 a rfl rfl 0 rfl (ix2 r ⟨j.val, hj⟩) (fun x hx => ?_) ?_).trans (ha ⟨j.val, hj⟩)
    · match x with | ⟨0, _⟩ => rfl | ⟨1, _⟩ => exact absurd rfl hx
    · show 0 + j.val = j.val; omega
  · have hk : j.val - 512 < 512 := by omega
    refine (concatenate_apply_piece (t := S256x1024) 1 [⟨S256x512, a⟩, ⟨S256x512, b⟩] concatenates_S256x512_S256x512_S256x1024_d1 (ix2 r j)
      1 (by omega : 1 < 2) S256x512 b rfl rfl 512 rfl (ix2 r ⟨j.val - 512, hk⟩) (fun x hx => ?_) ?_).trans ((hb ⟨j.val - 512, hk⟩).trans (congrArg G (Fin.ext ?_)))
    · match x with | ⟨0, _⟩ => rfl | ⟨1, _⟩ => exact absurd rfl hx
    · show 512 + (j.val - 512) = j.val; omega
    · show 512 + (j.val - 512) = j.val; omega

/-- The gradient of a gated branch, and that of its gate. -/
def branch (dm g : EReal) : EReal := dm * Ideal.logistic g
def slope (dm y g : EReal) : EReal := dm * y * (Ideal.logistic g * (1 - Ideal.logistic g))

theorem one_sub (u v g : EReal) : u * v * Ideal.logistic g * (Ideal.ofBits .f32 0x3F800000#32 - Ideal.logistic g) = slope u v g := by
  rw [Coe.one, EReal.coe_one]; exact mul_assoc _ _ _

section Stored

variable (a b : Vec Ideal S256x512 .bf16) (r : Fin 256) (G : Fin 1024 → EReal) (ha : ∀ k : Fin 512, a (ix2 r k) = G ⟨k.val, by omega⟩)
  (hb : ∀ k : Fin 512, b (ix2 r k) = G ⟨512 + k.val, by omega⟩) (x y : Vec Ideal S256x1024 .bf16) (j : Fin 1024)

include ha hb

theorem pay5 : k0_pay5 x a b (ix2 r j) = branch (x (ix2 r j)) (G j) :=
  congrArg (fun z => (x (ix2 r j) : EReal) * Ideal.logistic z) (cat a b r G ha hb j)
theorem pay6 : k0_pay6 x a b (ix2 r j) = branch (x (ix2 r j)) (G j) :=
  congrArg (fun z => (x (ix2 r j) : EReal) * Ideal.logistic z) (cat a b r G ha hb j)
theorem pay7 : k0_pay7 x a b y (ix2 r j) = slope (x (ix2 r j)) (y (ix2 r j)) (G j) :=
  (congrArg (fun z => (x (ix2 r j) : EReal) * (y (ix2 r j) : EReal) * Ideal.logistic z * (Ideal.ofBits .f32 0x3F800000#32 - Ideal.logistic z))
    (cat a b r G ha hb j)).trans (one_sub _ _ _)
theorem pay8 : k0_pay1 (k0_pay8 x a b y) (ix2 r j) = slope (x (ix2 r j)) (y (ix2 r j)) (G j) :=
  (congrArg (fun z => (x (ix2 r j) : EReal) * (y (ix2 r j) : EReal) * Ideal.logistic z * (Ideal.ofBits .f32 0x3F800000#32 - Ideal.logistic z))
    (cat a b r G ha hb j)).trans (one_sub _ _ _)

end Stored

theorem stored7 (t : Fin cfg0.N) (r : Fin 256) (j : Fin 1024) :
    out0_7 (iblk m c 0 t) (iblk m c 1 t) (iblk m c 2 t) (iblk m c 3 t) (iblk m c 4 t) (iblk m c 5 t) (iblk m c 6 t) (ix2 r j)
      = branch ((m (c.tc.loc main_arg0) : Vec Ideal S8448x1024 .bf16) (ix2 (rw_ t r) j)) (gate m c 0 (rw_ t r) j) := by
  unfold out0_7
  rw [View.canon_unit_zero off2, View.ld_unit_zero off2, View.ld_unit_zero off2, View.ld_unit_zero off2]
  exact (pay5 _ _ r (gate m c 0 (rw_ t r)) (load3 m c t r) (load4 m c t r) _ j).trans (congrArg (branch · _) (load0 m c t r j))

theorem stored8 (t : Fin cfg0.N) (r : Fin 256) (j : Fin 1024) :
    out0_8 (iblk m c 0 t) (iblk m c 1 t) (iblk m c 2 t) (iblk m c 3 t) (iblk m c 4 t) (iblk m c 5 t) (iblk m c 6 t) (ix2 r j)
      = branch ((m (c.tc.loc main_arg0) : Vec Ideal S8448x1024 .bf16) (ix2 (rw_ t r) j)) (gate m c 1 (rw_ t r) j) := by
  unfold out0_8
  rw [View.canon_unit_zero off2, View.ld_unit_zero off2, View.ld_unit_zero off2, View.ld_unit_zero off2]
  exact (pay6 _ _ r (gate m c 1 (rw_ t r)) (load5 m c t r) (load6 m c t r) _ j).trans (congrArg (branch · _) (load0 m c t r j))

/-- The two gates' gradients side by side. -/
def slopes (R : Fin 8448) (j : Fin 2048) : EReal :=
  if h : j.val < 1024 then slope ((m (c.tc.loc main_arg0) : Vec Ideal S8448x1024 .bf16) (ix2 R ⟨j.val, h⟩))
    ((m (c.tc.loc main_arg1) : Vec Ideal S8448x1024 .bf16) (ix2 R ⟨j.val, h⟩)) (gate m c 0 R ⟨j.val, h⟩)
  else slope ((m (c.tc.loc main_arg0) : Vec Ideal S8448x1024 .bf16) (ix2 R ⟨j.val - 1024, by omega⟩))
    ((m (c.tc.loc main_arg2) : Vec Ideal S8448x1024 .bf16) (ix2 R ⟨j.val - 1024, by omega⟩)) (gate m c 1 R ⟨j.val - 1024, by omega⟩)

theorem stored9 (t : Fin cfg0.N) (r : Fin 256) (j : Fin 2048) :
    out0_9 (iblk m c 0 t) (iblk m c 1 t) (iblk m c 2 t) (iblk m c 3 t) (iblk m c 4 t) (iblk m c 5 t) (iblk m c 6 t) (ix2 r j)
      = slopes m c (rw_ t r) j := by
  unfold out0_9
  rw [View.ld_unit_zero off2, View.ld_unit_zero off2, View.ld_unit_zero off2, View.ld_unit_zero off2, View.ld_unit_zero off2,
    View.ld_unit_zero off2, View.ld_unit_zero off2]
  refine (View.canon_apply_of_pieces (Val := Elt Ideal) (e := .bf16) (fun i : S256x2048.Idx => (show Elt Ideal .bf16 from slopes m c (rw_ t (i 0)) (i 1))) _ (fun p hp => ?_) _ (cover0_9 _ _ _))
  rcases List.mem_cons.1 hp with rfl | hp
  · intro (x : S256x1024.Idx)
    obtain ⟨u, v, rfl⟩ : ∃ u v, x = ix2 u v := ⟨x 0, x 1, eq_ix2 x⟩
    refine (pay8 _ _ u (gate m c 1 (rw_ t u)) (load5 m c t u) (load6 m c t u) _ _ v).trans ?_
    rw [load0, load2]
    have e0 : r0_3.emb (ix2 u v) 0 = u := Fin.ext (by show 0 + 1 * u.val = u.val; omega)
    have e1 : r0_3.emb (ix2 u v) 1 = (⟨1024 + v.val, by omega⟩ : Fin 2048) := Fin.ext (by show 1024 + 1 * v.val = 1024 + v.val; omega)
    show _ = slopes m c (rw_ t (r0_3.emb (ix2 u v) 0)) (r0_3.emb (ix2 u v) 1)
    have e2 : (⟨1024 + v.val - 1024, by omega⟩ : Fin 1024) = v := Fin.ext (by show 1024 + v.val - 1024 = v.val; omega)
    rw [e0, e1, slopes, dif_neg (by show ¬ 1024 + v.val < 1024; omega)]
    simp only [e2]
  · obtain rfl := List.mem_singleton.1 hp
    intro (x : S256x1024.Idx)
    obtain ⟨u, v, rfl⟩ : ∃ u v, x = ix2 u v := ⟨x 0, x 1, eq_ix2 x⟩
    refine (pay7 _ _ u (gate m c 0 (rw_ t u)) (load3 m c t u) (load4 m c t u) _ _ v).trans ?_
    rw [load0, load1]
    have e0 : r0_2.emb (ix2 u v) 0 = u := Fin.ext (by show 0 + 1 * u.val = u.val; omega)
    have e1 : r0_2.emb (ix2 u v) 1 = (⟨v.val, by omega⟩ : Fin 2048) := Fin.ext (by show 0 + 1 * v.val = v.val; omega)
    show _ = slopes m c (rw_ t (r0_2.emb (ix2 u v) 0)) (r0_2.emb (ix2 u v) 1)
    rw [e0, e1, slopes, dif_pos (show v.val < 1024 from v.isLt)]

/-! ## The arrays -/

theorem flushes7 : ∀ t : Fin cfg0.N, (cfg0.win 7).flush t = true := (by decide +kernel : ∀ t : Fin grid0.N, win0_7.flush t = true)
theorem flushes8 : ∀ t : Fin cfg0.N, (cfg0.win 8).flush t = true := (by decide +kernel : ∀ t : Fin grid0.N, win0_8.flush t = true)
theorem flushes9 : ∀ t : Fin cfg0.N, (cfg0.win 9).flush t = true := (by decide +kernel : ∀ t : Fin grid0.N, win0_9.flush t = true)

/-- Every row is a row of some point's block. -/
theorem row (R : Fin 8448) : ∃ (t : Fin cfg0.N) (r : Fin 256), R = rw_ t r :=
  ⟨⟨R.val / 256, by show _ < 33; omega⟩, ⟨R.val % 256, by omega⟩, Fin.ext (by simp only [rw_]; omega)⟩

theorem array7 (R : Fin 8448) (j : Fin 1024) : ((dats m 0 c).arrAt 7 cfg0.N : Vec Ideal S8448x1024 .bf16) (ix2 R j)
    = branch ((m (c.tc.loc main_arg0) : Vec Ideal S8448x1024 .bf16) (ix2 R j)) (gate m c 0 R j) := by
  obtain ⟨t, r, rfl⟩ := row R
  refine (congrArg (β := Elt Ideal .bf16) ((dats m 0 c).arrAt 7 cfg0.N) (emb7 t r j)).symm.trans ?_
  exact (congrFun ((Value.blocks7 m c t (flushes7 t)).trans (Value.flushed7 m c t)) (ix2 r j)).trans (stored7 m c t r j)
theorem array8 (R : Fin 8448) (j : Fin 1024) : ((dats m 0 c).arrAt 8 cfg0.N : Vec Ideal S8448x1024 .bf16) (ix2 R j)
    = branch ((m (c.tc.loc main_arg0) : Vec Ideal S8448x1024 .bf16) (ix2 R j)) (gate m c 1 R j) := by
  obtain ⟨t, r, rfl⟩ := row R
  refine (congrArg (β := Elt Ideal .bf16) ((dats m 0 c).arrAt 8 cfg0.N) (emb8 t r j)).symm.trans ?_
  exact (congrFun ((Value.blocks8 m c t (flushes8 t)).trans (Value.flushed8 m c t)) (ix2 r j)).trans (stored8 m c t r j)
theorem array9 (R : Fin 8448) (j : Fin 2048) : ((dats m 0 c).arrAt 9 cfg0.N : Vec Ideal S8448x2048 .bf16) (ix2 R j) = slopes m c R j := by
  obtain ⟨t, r, rfl⟩ := row R
  refine (congrArg (β := Elt Ideal .bf16) ((dats m 0 c).arrAt 9 cfg0.N) (emb9 t r j)).symm.trans ?_
  exact (congrFun ((Value.blocks9 m c t (flushes9 t)).trans (Value.flushed9 m c t)) (ix2 r j)).trans (stored9 m c t r j)

/-! ## The reference -/

open Cert.ReferenceMergeBwdIdeal.Read

/-- The quotient that the reference writes is the logistic function. -/
theorem quotient (x : EReal) : Ideal.div (Ideal.ofBits .f32 0x3F800000#32) (Ideal.ofBits .f32 0x3F800000#32 + Ideal.exp (-x)) = Ideal.logistic x := by
  rw [Coe.one, EReal.coe_one]; rfl

theorem gate0 (R : Fin 8448) (j : Fin 1024) : val_main_v4 (F := Ideal) (m (c.tc.loc main_arg3)) (ix2 R j) = gate m c 0 R j := by
  refine (val_main_v4_apply _ _).trans ((val_main_v3_apply _ _).trans ((val_main_v2_apply _ _).trans ?_))
  refine congrArg (m (c.tc.loc main_arg3) : Vec Ideal S8448x7680 .bf16) (place _ _ _ rfl ?_)
  show 5632 + j.val = 5632 + 1024 * 0 + j.val; omega
theorem gate1 (R : Fin 8448) (j : Fin 1024) : val_main_v5 (F := Ideal) (m (c.tc.loc main_arg3)) (ix2 R j) = gate m c 1 R j := by
  refine (val_main_v5_apply _ _).trans ((val_main_v3_apply _ _).trans ((val_main_v2_apply _ _).trans ?_))
  refine congrArg (m (c.tc.loc main_arg3) : Vec Ideal S8448x7680 .bf16) (place _ _ _ rfl ?_)
  show 5632 + (1024 + j.val) = 5632 + 1024 * 1 + j.val; omega

theorem sig0 (R : Fin 8448) (j : Fin 1024) : val_main_v11 (F := Ideal) (m (c.tc.loc main_arg3)) (ix2 R j) = Ideal.logistic (gate m c 0 R j) := by
  refine (val_main_v11_apply _ _).trans ?_
  rw [val_main_v10_apply, val_main_v9_apply, val_main_v8_apply, val_main_v7_apply, val_main_v6_apply, gate0]
  exact quotient _
theorem sig1 (R : Fin 8448) (j : Fin 1024) : val_main_v21 (F := Ideal) (m (c.tc.loc main_arg3)) (ix2 R j) = Ideal.logistic (gate m c 1 R j) := by
  refine (val_main_v21_apply _ _).trans ?_
  rw [val_main_v20_apply, val_main_v19_apply, val_main_v18_apply, val_main_v17_apply, val_main_v16_apply, gate1]
  exact quotient _

theorem ref7 : (dats m 0 c).arrAt 7 cfg0.N = val_main_v35 (F := Ideal) (m (c.tc.loc main_arg0)) (m (c.tc.loc main_arg3)) := by
  funext (i : S8448x1024.Idx)
  obtain ⟨R, j, rfl⟩ : ∃ R j, i = ix2 R j := ⟨i 0, i 1, eq_ix2 i⟩
  refine (array7 m c R j).trans (Eq.symm ?_)
  exact (congrArg (fun z : EReal => z * ((m (c.tc.loc main_arg0) : Vec Ideal S8448x1024 .bf16) (ix2 R j) : EReal)) (sig0 m c R j)).trans (mul_comm (G := EReal) _ _)
theorem ref8 : (dats m 0 c).arrAt 8 cfg0.N = val_main_v36 (F := Ideal) (m (c.tc.loc main_arg0)) (m (c.tc.loc main_arg3)) := by
  funext (i : S8448x1024.Idx)
  obtain ⟨R, j, rfl⟩ : ∃ R j, i = ix2 R j := ⟨i 0, i 1, eq_ix2 i⟩
  refine (array8 m c R j).trans (Eq.symm ?_)
  exact (congrArg (fun z : EReal => z * ((m (c.tc.loc main_arg0) : Vec Ideal S8448x1024 .bf16) (ix2 R j) : EReal)) (sig1 m c R j)).trans (mul_comm (G := EReal) _ _)

theorem one_sub' (u v g : EReal) : u * v * (Ideal.logistic g * (Ideal.ofBits .f32 0x3F800000#32 - Ideal.logistic g)) = slope u v g := by
  rw [Coe.one, EReal.coe_one]; rfl

theorem slope0 (R : Fin 8448) (j : Fin 1024) :
    val_main_v33 (F := Ideal) (m (c.tc.loc main_arg0)) (m (c.tc.loc main_arg1)) (m (c.tc.loc main_arg3)) (ix2 R j)
      = slope ((m (c.tc.loc main_arg0) : Vec Ideal S8448x1024 .bf16) (ix2 R j)) ((m (c.tc.loc main_arg1) : Vec Ideal S8448x1024 .bf16) (ix2 R j)) (gate m c 0 R j) := by
  refine (val_main_v33_apply _ _ _ _).trans ?_
  rw [val_main_v14_apply, val_main_v13_apply, val_main_v12_apply, sig0]
  exact one_sub' _ _ _
theorem slope1 (R : Fin 8448) (j : Fin 1024) :
    val_main_v30 (F := Ideal) (m (c.tc.loc main_arg0)) (m (c.tc.loc main_arg2)) (m (c.tc.loc main_arg3)) (ix2 R j)
      = slope ((m (c.tc.loc main_arg0) : Vec Ideal S8448x1024 .bf16) (ix2 R j)) ((m (c.tc.loc main_arg2) : Vec Ideal S8448x1024 .bf16) (ix2 R j)) (gate m c 1 R j) := by
  refine (val_main_v30_apply _ _ _ _).trans ?_
  rw [val_main_v24_apply, val_main_v23_apply, val_main_v22_apply, sig1]
  exact one_sub' _ _ _

/-- The two gates' gradients of the reference, to be laid side by side. -/
abbrev halves : List ((s : Shape) × (s.Idx → Ideal .f32)) :=
  [⟨S8448x1024, val_main_v33 (F := Ideal) (m (c.tc.loc main_arg0)) (m (c.tc.loc main_arg1)) (m (c.tc.loc main_arg3))⟩,
    ⟨S8448x1024, val_main_v30 (F := Ideal) (m (c.tc.loc main_arg0)) (m (c.tc.loc main_arg2)) (m (c.tc.loc main_arg3))⟩]

theorem ref9 : (dats m 0 c).arrAt 9 cfg0.N
    = val_main_v37 (F := Ideal) (m (c.tc.loc main_arg0)) (m (c.tc.loc main_arg1)) (m (c.tc.loc main_arg2)) (m (c.tc.loc main_arg3)) := by
  funext (i : S8448x2048.Idx)
  obtain ⟨R, j, rfl⟩ : ∃ R j, i = ix2 R j := ⟨i 0, i 1, eq_ix2 i⟩
  refine (array9 m c R j).trans (Eq.symm ?_)
  refine (val_main_v37_apply _ _ _ _ _).trans ?_
  unfold slopes
  split_ifs with h
  · refine (concatenate_apply_piece (t := S8448x2048) 1 (halves m c) Cert.ReferenceMergeBwdIdeal.Facts₀.concatenates_S8448x1024_S8448x1024_S8448x2048_d1 (ix2 R j)
      0 (Nat.succ_pos 1 : 0 < 2) S8448x1024 _ rfl rfl 0 rfl (ix2 R ⟨j.val, h⟩) (fun x hx => ?_) ?_).trans (slope0 m c R ⟨j.val, h⟩)
    · match x with | ⟨0, _⟩ => rfl | ⟨1, _⟩ => exact absurd rfl hx
    · show 0 + j.val = j.val; omega
  · refine (concatenate_apply_piece (t := S8448x2048) 1 (halves m c) Cert.ReferenceMergeBwdIdeal.Facts₀.concatenates_S8448x1024_S8448x1024_S8448x2048_d1 (ix2 R j)
      1 (by omega : 1 < 2) S8448x1024 _ rfl rfl 1024 rfl (ix2 R ⟨j.val - 1024, by omega⟩) (fun x hx => ?_) ?_).trans (slope1 m c R ⟨j.val - 1024, by omega⟩)
    · match x with | ⟨0, _⟩ => rfl | ⟨1, _⟩ => exact absurd rfl hx
    · show 1024 + (j.val - 1024) = j.val; omega

/-! ## The claims -/

theorem same : Cert.KernelMergeBwd.defs (F := Bits) = Cert.KernelMergeBwdIdeal.defs (F := Bits) :=
  congrArg (Pipeline.defs (Cert.KernelMergeBwdIdeal.pcfgs (F := Bits))) (funext fun p => funext fun ℓ => funext fun a => by
    cases p <;> (match ℓ, a with
      | (0 : Fin 1), (_, _) => rfl))

theorem frame_kernel : Cert.quiescent_KernelMergeBwd := fun m ρ _ => by rw [same]; exact Cert.KernelMergeBwdIdeal.Gen.frame (F := Bits) m ρ
theorem frame_ideal : Cert.quiescent_KernelMergeBwdIdeal := fun m ρ _ => Cert.KernelMergeBwdIdeal.Gen.frame m ρ
theorem frame_reference : Cert.quiescent_ReferenceMergeBwdIdeal := fun m ρ _ =>
  (θ_run Cert.ReferenceMergeBwdIdeal.defs _ _).mono (fun r h => ⟨fun c => (h c).2.2.2, sem_eq_zero_of_no_sems (by decide) r.2⟩)
    (Cert.ReferenceMergeBwdIdeal.Value.run (F := Ideal) m ρ)

theorem algebraic : Cert.algebraic_KernelMergeBwdIdeal_ReferenceMergeBwdIdeal := by
  intro m ρ m' ρ' _ hagree
  refine ⟨_, _, _, Cert.KernelMergeBwdIdeal.Value.run_blocks (F := Ideal) m ρ, ?_⟩
  refine (θ_run Cert.ReferenceMergeBwdIdeal.defs _ _).mono (fun _ h c => ?_) (Cert.ReferenceMergeBwdIdeal.Value.run (F := Ideal) m' ρ')
  obtain ⟨e0, e1, e2, e3⟩ := hagree c
  obtain ⟨h0, h1, h2, h3⟩ := h c
  rw [val_main_v35_eq, e0, e3] at h0
  rw [val_main_v36_eq, e0, e3] at h1
  rw [val_main_v37_eq, e0, e1, e2, e3] at h2
  exact ⟨h0.trans (ref7 m c).symm, h1.trans (ref8 m c).symm, h2.trans (ref9 m c).symm, h3⟩

end Cert.MergeBwd

end
-- ==== Proof.Merge.lean ====
/- The merge of the two branches: the claims about `KernelMerge`, `KernelMergeIdeal` and `ReferenceMergeIdeal`. Point `i`
computes the block of 256 rows `i`, pointwise; the gates are read as in the gradient of the merge. -/
module

public import proofs.«01_k».proof.Proof.MergeBwd
public import proofs.«01_k».proof.Proof.Gen.KernelMerge
public import proofs.«01_k».proof.Proof.Gen.KernelMergeIdeal.Value
public import proofs.«01_k».proof.Proof.Gen.ReferenceMergeIdeal.Read

@[expose] public section

set_option maxRecDepth 16384

noncomputable section

namespace Cert.Merge

open Cert.KernelMergeIdeal Cert.KernelMergeIdeal.Gen Cert.Products
open Cert.MergeBwd (place gcol quotient)
open Idealize.ShloMosaic Idealize.ShloMosaic.TcCoe Idealize.ShloMosaic.ValueIdx Idealize.SL.Sem

variable (m : (ℓ : Loc nD τ sig) → Buf (Elt Ideal) ℓ) (c : Dev nD)

theorem at_ : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 11)
    ∧ (win0_3.index t (0 : Fin 2) = t.val ∧ win0_3.index t (1 : Fin 2) = 12)
    ∧ (win0_4.index t (0 : Fin 2) = t.val ∧ win0_4.index t (1 : Fin 2) = 13)
    ∧ (win0_5.index t (0 : Fin 2) = t.val ∧ win0_5.index t (1 : Fin 2) = 14)
    ∧ (win0_6.index t (0 : Fin 2) = t.val ∧ win0_6.index t (1 : Fin 2) = 0) := by decide +kernel

/-- The rows of a grid point's block. -/
def rw_ (t : Fin cfg0.N) (r : Fin 256) : Fin 8448 := ⟨256 * t.val + r.val, by have : t.val < 33 := t.isLt; omega⟩

theorem load0 (t : Fin cfg0.N) (r : Fin 256) (j : Fin 1024) :
    (iblk m c 0 t : Vec Ideal S256x1024 .bf16) (ix2 r j) = (m (c.tc.loc main_arg0) : Vec Ideal S8448x1024 .bf16) (ix2 (rw_ t r) j) := by
  obtain ⟨⟨e0, e1⟩, -⟩ := at_ t
  refine congrArg (m (c.tc.loc main_arg0) : Vec Ideal S8448x1024 .bf16) (place _ _ _ ?_ ?_)
  · show win0_0.index t (0 : Fin 2) * 256 + 1 * r.val = 256 * t.val + r.val; omega
  · show win0_0.index t (1 : Fin 2) * 1024 + 1 * j.val = j.val; omega
theorem load1 (t : Fin cfg0.N) (r : Fin 256) (j : Fin 1024) :
    (iblk m c 1 t : Vec Ideal S256x1024 .bf16) (ix2 r j) = (m (c.tc.loc main_arg1) : Vec Ideal S8448x1024 .bf16) (ix2 (rw_ t r) j) := by
  obtain ⟨-, ⟨e0, e1⟩, -⟩ := at_ t
  refine congrArg (m (c.tc.loc main_arg1) : Vec Ideal S8448x1024 .bf16) (place _ _ _ ?_ ?_)
  · show win0_1.index t (0 : Fin 2) * 256 + 1 * r.val = 256 * t.val + r.val; omega
  · show win0_1.index t (1 : Fin 2) * 1024 + 1 * j.val = j.val; omega

/-- A gate's row, by its columns. -/
def gate (b : Fin 2) (R : Fin 8448) (j : Fin 1024) : EReal := (m (c.tc.loc main_arg2) : Vec Ideal S8448x7680 .bf16) (ix2 R (gcol b j))

theorem load2 (t : Fin cfg0.N) (r : Fin 256) (k : Fin 512) :
    (iblk m c 2 t : Vec Ideal S256x512 .bf16) (ix2 r k) = gate m c 0 (rw_ t r) ⟨k.val, by omega⟩ := by
  obtain ⟨-, -, ⟨e0, e1⟩, -⟩ := at_ t
  refine congrArg (m (c.tc.loc main_arg2) : Vec Ideal S8448x7680 .bf16) (place _ _ _ ?_ ?_)
  · show win0_2.index t (0 : Fin 2) * 256 + 1 * r.val = 256 * t.val + r.val; omega
  · show win0_2.index t (1 : Fin 2) * 512 + 1 * k.val = 5632 + 1024 * 0 + k.val; omega
theorem load3 (t : Fin cfg0.N) (r : Fin 256) (k : Fin 512) :
    (iblk m c 3 t : Vec Ideal S256x512 .bf16) (ix2 r k) = gate m c 0 (rw_ t r) ⟨512 + k.val, by omega⟩ := by
  obtain ⟨-, -, -, ⟨e0, e1⟩, -⟩ := at_ t
  refine congrArg (m (c.tc.loc main_arg2) : Vec Ideal S8448x7680 .bf16) (place _ _ _ ?_ ?_)
  · show win0_3.index t (0 : Fin 2) * 256 + 1 * r.val = 256 * t.val + r.val; omega
  · show win0_3.index t (1 : Fin 2) * 512 + 1 * k.val = 5632 + 1024 * 0 + (512 + k.val); omega
theorem load4 (t : Fin cfg0.N) (r : Fin 256) (k : Fin 512) :
    (iblk m c 4 t : Vec Ideal S256x512 .bf16) (ix2 r k) = gate m c 1 (rw_ t r) ⟨k.val, by omega⟩ := by
  obtain ⟨-, -, -, -, ⟨e0, e1⟩, -⟩ := at_ t
  refine congrArg (m (c.tc.loc main_arg2) : Vec Ideal S8448x7680 .bf16) (place _ _ _ ?_ ?_)
  · show win0_4.index t (0 : Fin 2) * 256 + 1 * r.val = 256 * t.val + r.val; omega
  · show win0_4.index t (1 : Fin 2) * 512 + 1 * k.val = 5632 + 1024 * 1 + k.val; omega
theorem load5 (t : Fin cfg0.N) (r : Fin 256) (k : Fin 512) :
    (iblk m c 5 t : Vec Ideal S256x512 .bf16) (ix2 r k) = gate m c 1 (rw_ t r) ⟨512 + k.val, by omega⟩ := by
  obtain ⟨-, -, -, -, -, ⟨e0, e1⟩, -⟩ := at_ t
  refine congrArg (m (c.tc.loc main_arg2) : Vec Ideal S8448x7680 .bf16) (place _ _ _ ?_ ?_)
  · show win0_5.index t (0 : Fin 2) * 256 + 1 * r.val = 256 * t.val + r.val; omega
  · show win0_5.index t (1 : Fin 2) * 512 + 1 * k.val = 5632 + 1024 * 1 + (512 + k.val); omega

theorem emb6 (t : Fin cfg0.N) (r : Fin 256) (j : Fin 1024) :
    ((cfg0.win 6).blk t).view.emb (ix2 r j : S256x1024.Idx) = (ix2 (rw_ t r) j : S8448x1024.Idx) := by
  obtain ⟨-, -, -, -, -, -, e0, e1⟩ := at_ t
  refine place _ _ _ ?_ ?_
  · show win0_6.index t (0 : Fin 2) * 256 + 1 * r.val = 256 * t.val + r.val; omega
  · show win0_6.index t (1 : Fin 2) * 1024 + 1 * j.val = j.val; omega

/-- The gated sum, at one row and column. -/
def merged (a b ya yb : EReal) : EReal := Ideal.logistic a * ya + Ideal.logistic b * yb

theorem stored (t : Fin cfg0.N) (r : Fin 256) (j : Fin 1024) :
    out0_6 (iblk m c 0 t) (iblk m c 1 t) (iblk m c 2 t) (iblk m c 3 t) (iblk m c 4 t) (iblk m c 5 t) (ix2 r j)
      = merged (gate m c 0 (rw_ t r) j) (gate m c 1 (rw_ t r) j) ((m (c.tc.loc main_arg0) : Vec Ideal S8448x1024 .bf16) (ix2 (rw_ t r) j))
        ((m (c.tc.loc main_arg1) : Vec Ideal S8448x1024 .bf16) (ix2 (rw_ t r) j)) := by
  unfold out0_6
  rw [View.canon_unit_zero off2, View.ld_unit_zero off2, View.ld_unit_zero off2, View.ld_unit_zero off2, View.ld_unit_zero off2,
    View.ld_unit_zero off2, View.ld_unit_zero off2]
  refine (congrArg₂ (fun a b => merged a b ((iblk m c 0 t : Vec Ideal S256x1024 .bf16) (ix2 r j)) ((iblk m c 1 t : Vec Ideal S256x1024 .bf16) (ix2 r j)))
    (Cert.MergeBwd.cat _ _ r (gate m c 0 (rw_ t r)) (load2 m c t r) (load3 m c t r) j)
    (Cert.MergeBwd.cat _ _ r (gate m c 1 (rw_ t r)) (load4 m c t r) (load5 m c t r) j)).trans ?_
  exact congrArg₂ (merged _ _) (load0 m c t r j) (load1 m c t r j)

theorem flushes : ∀ t : Fin cfg0.N, (cfg0.win 6).flush t = true := (by decide +kernel : ∀ t : Fin grid0.N, win0_6.flush t = true)

theorem array (R : Fin 8448) (j : Fin 1024) : ((dats m 0 c).arrAt 6 cfg0.N : Vec Ideal S8448x1024 .bf16) (ix2 R j)
    = merged (gate m c 0 R j) (gate m c 1 R j) ((m (c.tc.loc main_arg0) : Vec Ideal S8448x1024 .bf16) (ix2 R j))
      ((m (c.tc.loc main_arg1) : Vec Ideal S8448x1024 .bf16) (ix2 R j)) := by
  obtain ⟨t, r, rfl⟩ : ∃ (t : Fin cfg0.N) (r : Fin 256), R = rw_ t r :=
    ⟨⟨R.val / 256, by show _ < 33; omega⟩, ⟨R.val % 256, by omega⟩, Fin.ext (by simp only [rw_]; omega)⟩
  refine (congrArg (β := Elt Ideal .bf16) ((dats m 0 c).arrAt 6 cfg0.N) (emb6 t r j)).symm.trans ?_
  exact (congrFun ((Value.blocks6 m c t (flushes t)).trans (Value.flushed6 m c t)) (ix2 r j)).trans (stored m c t r j)

/-! ## The reference -/

open Cert.ReferenceMergeIdeal.Read

theorem gate0 (R : Fin 8448) (j : Fin 1024) : val_main_v4 (F := Ideal) (m (c.tc.loc main_arg2)) (ix2 R j) = gate m c 0 R j := by
  refine (val_main_v4_apply _ _).trans ((val_main_v3_apply _ _).trans ((val_main_v2_apply _ _).trans ?_))
  refine congrArg (m (c.tc.loc main_arg2) : Vec Ideal S8448x7680 .bf16) (place _ _ _ rfl ?_)
  show 5632 + j.val = 5632 + 1024 * 0 + j.val; omega
theorem gate1 (R : Fin 8448) (j : Fin 1024) : val_main_v5 (F := Ideal) (m (c.tc.loc main_arg2)) (ix2 R j) = gate m c 1 R j := by
  refine (val_main_v5_apply _ _).trans ((val_main_v3_apply _ _).trans ((val_main_v2_apply _ _).trans ?_))
  refine congrArg (m (c.tc.loc main_arg2) : Vec Ideal S8448x7680 .bf16) (place _ _ _ rfl ?_)
  show 5632 + (1024 + j.val) = 5632 + 1024 * 1 + j.val; omega

theorem sig0 (R : Fin 8448) (j : Fin 1024) : val_main_v11 (F := Ideal) (m (c.tc.loc main_arg2)) (ix2 R j) = Ideal.logistic (gate m c 0 R j) := by
  refine (val_main_v11_apply _ _).trans ?_
  rw [val_main_v10_apply, val_main_v9_apply, val_main_v8_apply, val_main_v7_apply, val_main_v6_apply, gate0]
  exact quotient _
theorem sig1 (R : Fin 8448) (j : Fin 1024) : val_main_v18 (F := Ideal) (m (c.tc.loc main_arg2)) (ix2 R j) = Ideal.logistic (gate m c 1 R j) := by
  refine (val_main_v18_apply _ _).trans ?_
  rw [val_main_v17_apply, val_main_v16_apply, val_main_v15_apply, val_main_v14_apply, val_main_v13_apply, gate1]
  exact quotient _

theorem ref : (dats m 0 c).arrAt 6 cfg0.N
    = val_main_v21 (F := Ideal) (m (c.tc.loc main_arg0)) (m (c.tc.loc main_arg1)) (m (c.tc.loc main_arg2)) := by
  funext (i : S8448x1024.Idx)
  obtain ⟨R, j, rfl⟩ : ∃ R j, i = ix2 R j := ⟨i 0, i 1, eq_ix2 i⟩
  refine (array m c R j).trans (Eq.symm ?_)
  exact congrArg₂ (fun a b : EReal => a * ((m (c.tc.loc main_arg0) : Vec Ideal S8448x1024 .bf16) (ix2 R j) : EReal)
    + b * ((m (c.tc.loc main_arg1) : Vec Ideal S8448x1024 .bf16) (ix2 R j) : EReal)) (sig0 m c R j) (sig1 m c R j)

/-! ## The claims -/

theorem same : Cert.KernelMerge.defs (F := Bits) = Cert.KernelMergeIdeal.defs (F := Bits) :=
  congrArg (Pipeline.defs (Cert.KernelMergeIdeal.pcfgs (F := Bits))) (funext fun p => funext fun ℓ => funext fun a => by
    cases p <;> (match ℓ, a with
      | (0 : Fin 1), (_, _) => rfl))

theorem frame_kernel : Cert.quiescent_KernelMerge := fun m ρ _ => by rw [same]; exact Cert.KernelMergeIdeal.Gen.frame (F := Bits) m ρ
theorem frame_ideal : Cert.quiescent_KernelMergeIdeal := fun m ρ _ => Cert.KernelMergeIdeal.Gen.frame m ρ
theorem frame_reference : Cert.quiescent_ReferenceMergeIdeal := fun m ρ _ =>
  (θ_run Cert.ReferenceMergeIdeal.defs _ _).mono (fun r h => ⟨fun c => (h c).2, sem_eq_zero_of_no_sems (by decide) r.2⟩)
    (Cert.ReferenceMergeIdeal.Value.run (F := Ideal) m ρ)

theorem algebraic : Cert.algebraic_KernelMergeIdeal_ReferenceMergeIdeal := by
  intro m ρ m' ρ' _ hagree
  refine ⟨_, Cert.KernelMergeIdeal.Value.run_blocks (F := Ideal) m ρ, ?_⟩
  refine (θ_run Cert.ReferenceMergeIdeal.defs _ _).mono (fun _ h c => ?_) (Cert.ReferenceMergeIdeal.Value.run (F := Ideal) m' ρ')
  obtain ⟨e0, e1, e2⟩ := hagree c
  obtain ⟨h0, h1⟩ := h c
  rw [val_main_v21_eq, e0, e1, e2] at h0
  exact ⟨h0.trans (ref m c).symm, h1⟩

end Cert.Merge

end
-- ==== Proof.Norm.lean ====
/- The normalisation of a row by the root of its mean square, as a point of the grid computes it on a block of 256 rows. -/
module

public import proofs.«01_k».proof.Proof.Coe
public import proofs.«01_k».proof.Proof.Products

@[expose] public section

set_option maxRecDepth 16384

noncomputable section

namespace Cert.Norm

open Cert.Products
open Idealize.ShloMosaic Idealize.ShloMosaic.TcCoe Idealize.ShloMosaic.ValueIdx Idealize.SL.Sem

/-- The reciprocal of the root of a row's mean square, a small number being added to the mean. -/
def scale (x : Fin 1024 → EReal) : EReal :=
  Ideal.rsqrt (Ideal.div (∑ k, x k * x k) (Ideal.ofBits .f32 0x44800000#32) + Ideal.ofBits .f32 0x358637BD#32)

/-- A row normalised, at column `j`, times the weight. -/
def rms (x : Fin 1024 → EReal) (g : EReal) (j : Fin 1024) : EReal := x j * scale x * g

/-- The row that a normalisation's modulation is read from: 0 of the latent rows, 1 of the context rows. -/
def side (R : Fin 8448) : Fin 8 := if R.val < 8192 then 0 else 1

/-- Whether a point's block has context rows, as the point computes it. -/
abbrev ctxBit (n : ℕ) : BitVec 1 := Scalar.cmpi .sge (Scalar.muli (BitVec.ofNat 32 n) 256#32) 8192#32

theorem ctxBit_eq : ∀ t : Fin 33, ctxBit t.val = if t.val < 32 then 0 else 1 := by decide +kernel

/-- Of two rows the one that a point chooses, given what both are. -/
theorem choose_ {α : Type} (t : Fin 33) (a b : α) (f : Fin 8 → α) (ha : a = f 1) (hb : b = f 0) (R : Fin 8448) (hR : R.val / 256 = t.val) :
    Scalar.select (ctxBit t.val) a b = f (side R) := by
  rw [ctxBit_eq, side]
  by_cases h : t.val < 32
  · rw [if_pos h, if_pos (by omega)]; exact (if_neg (by decide)).trans hb
  · rw [if_neg h, if_neg (by omega)]; exact (if_pos rfl).trans ha

section Block

variable {α : Type} (r : Fin 256) (j : Fin 1024)

theorem sumRow (X : FVec Ideal ⟨2, ![256, 1024]⟩ .f32) (h : (⟨2, ![256, 1024]⟩ : Shape).Reduces [1] ⟨1, ![256]⟩) :
    multiReduction .add [1] ⟨1, ![256]⟩ X 0x00000000#32 h (.inl rfl) rfl (ix1 r) = ∑ k : Fin 1024, (X (ix2 r k) : EReal) := by
  refine (Ideal.multiReduction_add_single (s := ⟨2, ![256, 1024]⟩) (t := ⟨1, ![256]⟩) (a := 1) X _ h (.inl rfl) rfl (ix1 r)).trans ?_
  refine Finset.sum_congr rfl fun (k : Fin 1024) _ => congrArg X (funext fun a => Fin.ext ?_)
  match a with
  | ⟨0, _⟩ => rfl
  | ⟨1, _⟩ => rfl

theorem col (y : (⟨1, ![256]⟩ : Shape).Idx → α) (h : (⟨1, ![256]⟩ : Shape).ShapeCasts ⟨2, ![256, 1]⟩) :
    shapeCast ⟨2, ![256, 1]⟩ y h (ix2 r 0) = y (ix1 r) := by
  refine shapeCast_apply y h _ _ ?_
  rw [Shape.rowMajor_val_one, Shape.rowMajor_val_two]
  show r.val = r.val * 1 + 0; omega

theorem across (y : (⟨2, ![256, 1]⟩ : Shape).Idx → α) (h : (⟨2, ![256, 1]⟩ : Shape).Broadcasts ⟨2, ![256, 1024]⟩) :
    broadcastTo ⟨2, ![256, 1024]⟩ y h (ix2 r j) = y (ix2 r 0) :=
  broadcastTo_apply y h _ _ fun a => by
    match a with
    | ⟨0, _⟩ => rfl
    | ⟨1, _⟩ => rfl

theorem down (y : (⟨2, ![1, 1024]⟩ : Shape).Idx → α) (h : (⟨2, ![1, 1024]⟩ : Shape).Broadcasts ⟨2, ![256, 1024]⟩) :
    broadcastTo ⟨2, ![256, 1024]⟩ y h (ix2 r j) = y (ix2 0 j) :=
  broadcastTo_apply y h _ _ fun a => by
    match a with
    | ⟨0, _⟩ => rfl
    | ⟨1, _⟩ => rfl

/-- What a point multiplies a row by. -/
theorem scaled (X : FVec Ideal ⟨2, ![256, 1024]⟩ .f32) (h : (⟨2, ![256, 1024]⟩ : Shape).Reduces [1] ⟨1, ![256]⟩)
    (hc : (⟨1, ![256]⟩ : Shape).ShapeCasts ⟨2, ![256, 1]⟩) :
    rsqrt (addf (divf (shapeCast ⟨2, ![256, 1]⟩ (multiReduction .add [1] ⟨1, ![256]⟩ (mulf X X) 0x00000000#32 h (.inl rfl) rfl) hc)
      (broadcast ⟨2, ![256, 1]⟩ (Scalar.ofBits (F := Ideal) .f32 0x44800000#32))) (broadcast ⟨2, ![256, 1]⟩ (Scalar.ofBits (F := Ideal) .f32 0x358637BD#32)))
      (ix2 r 0) = scale fun k => X (ix2 r k) :=
  congrArg (fun z : EReal => Ideal.rsqrt (Ideal.div z (Ideal.ofBits .f32 0x44800000#32) + Ideal.ofBits .f32 0x358637BD#32))
    ((col r _ hc).trans (sumRow r (mulf X X) h))

end Block

/-- A context row among all rows. -/
def low (n : Fin 256) : Fin 8448 := ⟨8192 + n.val, by omega⟩

theorem eq_low (R : Fin 8448) (h : ¬R.val < 8192) : ∃ n, R = low n :=
  ⟨⟨R.val - 8192, by omega⟩, Fin.ext (by show R.val = 8192 + (R.val - 8192); omega)⟩

end Cert.Norm

end
-- ==== Proof.Pre.lean ====
/- The modulated normalisation before the projection: the claims about `KernelPre`, `KernelPreIdeal` and `ReferencePreIdeal`.
Point `i` computes the block of 256 rows `i`; the last block has the context rows and their modulation. -/
module

public import proofs.«01_k».proof.Defs
public import proofs.«01_k».proof.Proof.Norm
public import proofs.«01_k».proof.Proof.MergeBwd
public import proofs.«01_k».proof.Proof.Gen.KernelPre
public import proofs.«01_k».proof.Proof.Gen.KernelPreIdeal.Value
public import proofs.«01_k».proof.Proof.Gen.ReferencePreIdeal.Read

@[expose] public section

set_option maxRecDepth 16384

noncomputable section

namespace Cert.Pre

open Cert.KernelPreIdeal Cert.KernelPreIdeal.Gen Cert.Products Cert.Norm
open Cert.MergeBwd (place)
open Idealize.ShloMosaic Idealize.ShloMosaic.TcCoe Idealize.ShloMosaic.ValueIdx Idealize.SL.Sem

variable (m : (ℓ : Loc nD τ sig) → Buf (Elt Ideal) ℓ) (c : Dev nD)

theorem at_ : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) ∧ (grid0.coords t 0).val = t.val := by decide +kernel

/-- The rows of a grid point's block. -/
def rw_ (t : Fin cfg0.N) (r : Fin 256) : Fin 8448 := ⟨256 * t.val + r.val, by have : t.val < 33 := t.isLt; omega⟩

/-- The rows, the weight and the modulation, by their coordinates. -/
def X (R : Fin 8448) (j : Fin 1024) : EReal := (m (c.tc.loc main_arg0) : Vec Ideal S8448x1024 .f32) (ix2 R j)
def G (j : Fin 1024) : EReal := (m (c.tc.loc main_arg1) : Vec Ideal S1x1024 .f32) (ix2 0 j)
def M (s : Fin 8) (k : Fin 3072) : EReal := (m (c.tc.loc main_arg2) : Vec Ideal S8x3072 .f32) (ix2 s k)

theorem load0 (t : Fin cfg0.N) (r : Fin 256) (j : Fin 1024) : (iblk m c 0 t : Vec Ideal S256x1024 .f32) (ix2 r j) = X m c (rw_ t r) j := by
  obtain ⟨⟨e0, e1⟩, -⟩ := at_ t
  refine congrArg (m (c.tc.loc main_arg0) : Vec Ideal S8448x1024 .f32) (place _ _ _ ?_ ?_)
  · show win0_0.index t (0 : Fin 2) * 256 + 1 * r.val = 256 * t.val + r.val; omega
  · show win0_0.index t (1 : Fin 2) * 1024 + 1 * j.val = j.val; omega
theorem load1 (t : Fin cfg0.N) (j : Fin 1024) : (iblk m c 1 t : Vec Ideal S1x1024 .f32) (ix2 0 j) = G m c j := by
  obtain ⟨-, ⟨e0, e1⟩, -⟩ := at_ t
  refine congrArg (m (c.tc.loc main_arg1) : Vec Ideal S1x1024 .f32) ((eq_ix2 _).trans (congrArg₂ ix2 (Fin.ext ?_) (Fin.ext ?_)))
  · show win0_1.index t (0 : Fin 2) * 1 + 1 * 0 = 0; omega
  · show win0_1.index t (1 : Fin 2) * 1024 + 1 * j.val = j.val; omega
theorem load2 (t : Fin cfg0.N) (y : S8x3072.Idx) (s : Fin 8) (k : Fin 3072) (h0 : (y 0).val = s.val) (h1 : (y 1).val = k.val) :
    (iblk m c 2 t : Vec Ideal S8x3072 .f32) y = M m c s k := by
  obtain ⟨-, -, ⟨e0, e1⟩, -⟩ := at_ t
  refine congrArg (m (c.tc.loc main_arg2) : Vec Ideal S8x3072 .f32) ((eq_ix2 _).trans (congrArg₂ ix2 (Fin.ext ?_) (Fin.ext ?_)))
  · show win0_2.index t (0 : Fin 2) * 8 + 1 * (y 0).val = s.val; omega
  · show win0_2.index t (1 : Fin 2) * 3072 + 1 * (y 1).val = k.val; omega
theorem emb3 (t : Fin cfg0.N) (r : Fin 256) (j : Fin 1024) :
    ((cfg0.win 3).blk t).view.emb (ix2 r j : S256x1024.Idx) = (ix2 (rw_ t r) j : S8448x1024.Idx) := by
  obtain ⟨-, -, -, ⟨e0, e1⟩, -⟩ := at_ t
  refine place _ _ _ ?_ ?_
  · show win0_3.index t (0 : Fin 2) * 256 + 1 * r.val = 256 * t.val + r.val; omega
  · show win0_3.index t (1 : Fin 2) * 1024 + 1 * j.val = j.val; omega

/-- The columns of the shift and of the scale. -/
def shiftCol (j : Fin 1024) : Fin 3072 := ⟨j.val, by omega⟩
def scaleCol (j : Fin 1024) : Fin 3072 := ⟨1024 + j.val, by omega⟩

/-- A row normalised and modulated. -/
def pre (x : Fin 1024 → EReal) (g sc sh : EReal) (j : Fin 1024) : EReal := rms x g j * (Ideal.ofBits .f32 0x3F800000#32 + sc) + sh

/-- What a point stores, from what it loads. -/
theorem pay (i : grid0.Coords) (a b a' b' : Vec Ideal S1x1024 .f32) (x : Vec Ideal S256x1024 .f32) (g : Vec Ideal S1x1024 .f32) (r : Fin 256)
    (j : Fin 1024) : k0_pay1 i a b a' b' x g (ix2 r j)
      = pre (fun k => x (ix2 r k)) (g (ix2 0 j)) (Scalar.select (ctxBit (i 0).val) a' b' (ix2 0 j)) (Scalar.select (ctxBit (i 0).val) a b (ix2 0 j)) j := by
  refine congrArg₂ (fun u v : EReal => u + v) (congrArg₂ (fun u v : EReal => u * v) (congrArg₂ (fun u v : EReal => u * v)
    (congrArg (fun v : EReal => (x (ix2 r j) : EReal) * v) ((across r j _ _).trans (scaled r x _ _))) (down r j _ _)) (down r j _ _)) (down r j _ _)

theorem stored (t : Fin cfg0.N) (r : Fin 256) (j : Fin 1024) :
    out0_3 (grid0.coords t) (iblk m c 0 t) (iblk m c 1 t) (iblk m c 2 t) (ix2 r j)
      = pre (X m c (rw_ t r)) (G m c j) (M m c (side (rw_ t r)) (scaleCol j)) (M m c (side (rw_ t r)) (shiftCol j)) j := by
  unfold out0_3
  rw [View.canon_unit_zero off2, View.ld_unit_zero off2, View.ld_unit_zero off2]
  refine (pay _ _ _ _ _ _ _ r j).trans ?_
  have hR : (rw_ t r).val / 256 = (t : Fin 33).val := by show (256 * t.val + r.val) / 256 = t.val; omega
  rw [(at_ t).2.2.2.2]
  have e0 : (fun k => (iblk m c 0 t : Vec Ideal S256x1024 .f32) (ix2 r k)) = X m c (rw_ t r) := funext (load0 m c t r)
  have e2 := congrFun (choose_ (t : Fin 33) (View.ld (iblk m c 2 t) r0_2) (View.ld (iblk m c 2 t) r0_3)
    (fun s => fun y : S1x1024.Idx => (show Elt Ideal .f32 from M m c s (scaleCol (y 1))))
    (funext fun y => load2 m c t _ 1 _ (by show 1 + 1 * (y 0).val = 1; have : (y 0).val < 1 := (y 0).isLt; omega) (by show 1024 + 1 * (y 1).val = 1024 + (y 1).val; omega))
    (funext fun y => load2 m c t _ 0 _ (by show 0 + 1 * (y 0).val = 0; have : (y 0).val < 1 := (y 0).isLt; omega) (by show 1024 + 1 * (y 1).val = 1024 + (y 1).val; omega))
    (rw_ t r) hR) (ix2 0 j)
  have e1 := congrFun (choose_ (t : Fin 33) (View.ld (iblk m c 2 t) r0_0) (View.ld (iblk m c 2 t) r0_1)
    (fun s => fun y : S1x1024.Idx => (show Elt Ideal .f32 from M m c s (shiftCol (y 1))))
    (funext fun y => load2 m c t _ 1 _ (by show 1 + 1 * (y 0).val = 1; have : (y 0).val < 1 := (y 0).isLt; omega) (by show 0 + 1 * (y 1).val = (y 1).val; omega))
    (funext fun y => load2 m c t _ 0 _ (by show 0 + 1 * (y 0).val = 0; have : (y 0).val < 1 := (y 0).isLt; omega) (by show 0 + 1 * (y 1).val = (y 1).val; omega))
    (rw_ t r) hR) (ix2 0 j)
  rw [e0, load1]
  exact congrArg₂ (fun u v => pre (X m c (rw_ t r)) (G m c j) u v j) e2 e1

theorem flushes : ∀ t : Fin cfg0.N, (cfg0.win 3).flush t = true := (by decide +kernel : ∀ t : Fin grid0.N, win0_3.flush t = true)

theorem array (R : Fin 8448) (j : Fin 1024) : ((dats m 0 c).arrAt 3 cfg0.N : Vec Ideal S8448x1024 .bf16) (ix2 R j)
    = pre (X m c R) (G m c j) (M m c (side R) (scaleCol j)) (M m c (side R) (shiftCol j)) j := by
  obtain ⟨t, r, rfl⟩ : ∃ (t : Fin cfg0.N) (r : Fin 256), R = rw_ t r :=
    ⟨⟨R.val / 256, by show _ < 33; omega⟩, ⟨R.val % 256, by omega⟩, Fin.ext (by simp only [rw_]; omega)⟩
  refine (congrArg (β := Elt Ideal .bf16) ((dats m 0 c).arrAt 3 cfg0.N) (emb3 t r j)).symm.trans ?_
  exact (congrFun ((Value.blocks3 m c t (flushes t)).trans (Value.flushed3 m c t)) (ix2 r j)).trans (stored m c t r j)

/-! ## The reference -/

open Cert.ReferencePreIdeal (S8192x1024)
open Cert.ReferencePreIdeal.Read

/-- The latent rows. -/
theorem lat_read (R : Fin 8448) (hR : R.val < 8192) (j : Fin 1024) (i : S8192x1024.Idx) (h0 : (i 0).val = R.val) (h1 : (i 1).val = j.val) :
    val_main_v4 (F := Ideal) (m (c.tc.loc main_arg0)) i = X m c R j :=
  (val_main_v4_apply _ _).trans (congrArg (m (c.tc.loc main_arg0) : Vec Ideal S8448x1024 .f32) (place _ _ _ h0 h1))

theorem lat_scale (R : Fin 8448) (hR : R.val < 8192) : val_main_v12 (F := Ideal) (m (c.tc.loc main_arg0)) (ix2 ⟨R.val, hR⟩ 0) = scale (X m c R) := by
  rw [val_main_v12_apply, val_main_v11_apply, val_main_v9_apply, val_main_v7_apply, val_main_v6_apply]
  refine congrArg (fun z : EReal => Ideal.rsqrt (Ideal.div z (Ideal.ofBits .f32 0x44800000#32) + Ideal.ofBits .f32 0x358637BD#32)) ((zero_add' _).trans ?_)
  refine Finset.sum_congr rfl fun k _ => (val_main_v5_apply _ _).trans ?_
  exact congrArg (fun z : EReal => z * z) (lat_read m c R hR k _ rfl rfl)

theorem lat (R : Fin 8448) (hR : R.val < 8192) (j : Fin 1024) :
    val_main_v22 (F := Ideal) (m (c.tc.loc main_arg0)) (m (c.tc.loc main_arg1)) (m (c.tc.loc main_arg2)) (ix2 ⟨R.val, hR⟩ j)
      = pre (X m c R) (G m c j) (M m c 0 (scaleCol j)) (M m c 0 (shiftCol j)) j := by
  rw [val_main_v22_apply, val_main_v20_apply, val_main_v16_apply, val_main_v14_apply, val_main_v13_apply, val_main_v15_apply, val_main_v19_apply,
    val_main_v18_apply, val_main_v21_apply, val_main_v0_apply, val_main_v1_apply]
  refine congrArg₂ (fun u v : EReal => u + v) (congrArg₂ (fun u v : EReal => u * v) (congrArg₂ (fun u v : EReal => u * v)
    (congrArg₂ (fun u v : EReal => u * v) (lat_read m c R hR j _ rfl rfl)
      ((congrArg (val_main_v12 (F := Ideal) (m (c.tc.loc main_arg0))) (eq_ix2 _)).trans (lat_scale m c R hR)))
    (congrArg (m (c.tc.loc main_arg1) : Vec Ideal S1x1024 .f32) (eq_ix2 _)))
    (congrArg (fun u : EReal => Ideal.ofBits .f32 0x3F800000#32 + u) (congrArg (m (c.tc.loc main_arg2) : Vec Ideal S8x3072 .f32) (eq_ix2 _))))
    (congrArg (m (c.tc.loc main_arg2) : Vec Ideal S8x3072 .f32) (eq_ix2 _))

/-- The context rows. -/
theorem ctx_read (n : Fin 256) (j : Fin 1024) (i : S256x1024.Idx) (h0 : (i 0).val = n.val) (h1 : (i 1).val = j.val) :
    val_main_v23 (F := Ideal) (m (c.tc.loc main_arg0)) i = X m c ⟨8192 + n.val, by omega⟩ j :=
  (val_main_v23_apply _ _).trans (congrArg (m (c.tc.loc main_arg0) : Vec Ideal S8448x1024 .f32) (place _ _ _ (congrArg (8192 + ·) h0) h1))

theorem ctx_scale (n : Fin 256) : val_main_v31 (F := Ideal) (m (c.tc.loc main_arg0)) (ix2 n 0) = scale (X m c ⟨8192 + n.val, by omega⟩) := by
  rw [val_main_v31_apply, val_main_v30_apply, val_main_v28_apply, val_main_v26_apply, val_main_v25_apply]
  refine congrArg (fun z : EReal => Ideal.rsqrt (Ideal.div z (Ideal.ofBits .f32 0x44800000#32) + Ideal.ofBits .f32 0x358637BD#32)) ((zero_add' _).trans ?_)
  refine Finset.sum_congr rfl fun k _ => (val_main_v24_apply _ _).trans ?_
  exact congrArg (fun z : EReal => z * z) (ctx_read m c n k _ rfl rfl)

theorem ctx (n : Fin 256) (j : Fin 1024) :
    val_main_v41 (F := Ideal) (m (c.tc.loc main_arg0)) (m (c.tc.loc main_arg1)) (m (c.tc.loc main_arg2)) (ix2 n j)
      = pre (X m c ⟨8192 + n.val, by omega⟩) (G m c j) (M m c 1 (scaleCol j)) (M m c 1 (shiftCol j)) j := by
  rw [val_main_v41_apply, val_main_v39_apply, val_main_v35_apply, val_main_v33_apply, val_main_v32_apply, val_main_v34_apply, val_main_v38_apply,
    val_main_v37_apply, val_main_v40_apply, val_main_v2_apply, val_main_v3_apply]
  refine congrArg₂ (fun u v : EReal => u + v) (congrArg₂ (fun u v : EReal => u * v) (congrArg₂ (fun u v : EReal => u * v)
    (congrArg₂ (fun u v : EReal => u * v) (ctx_read m c n j _ rfl rfl)
      ((congrArg (val_main_v31 (F := Ideal) (m (c.tc.loc main_arg0))) (eq_ix2 _)).trans (ctx_scale m c n)))
    (congrArg (m (c.tc.loc main_arg1) : Vec Ideal S1x1024 .f32) (eq_ix2 _)))
    (congrArg (fun u : EReal => Ideal.ofBits .f32 0x3F800000#32 + u) (congrArg (m (c.tc.loc main_arg2) : Vec Ideal S8x3072 .f32) (eq_ix2 _))))
    (congrArg (m (c.tc.loc main_arg2) : Vec Ideal S8x3072 .f32) (eq_ix2 _))

/-- The latent rows over the context rows. -/
abbrev parts : List ((s : Shape) × (s.Idx → Ideal .f32)) :=
  [⟨S8192x1024, val_main_v22 (F := Ideal) (m (c.tc.loc main_arg0)) (m (c.tc.loc main_arg1)) (m (c.tc.loc main_arg2))⟩,
    ⟨S256x1024, val_main_v41 (F := Ideal) (m (c.tc.loc main_arg0)) (m (c.tc.loc main_arg1)) (m (c.tc.loc main_arg2))⟩]

theorem ref : (dats m 0 c).arrAt 3 cfg0.N
    = val_main_v43 (F := Ideal) (m (c.tc.loc main_arg0)) (m (c.tc.loc main_arg1)) (m (c.tc.loc main_arg2)) := by
  funext (i : S8448x1024.Idx)
  obtain ⟨R, j, rfl⟩ : ∃ R j, i = ix2 R j := ⟨i 0, i 1, eq_ix2 i⟩
  refine (array m c R j).trans (Eq.symm ?_)
  refine (val_main_v43_apply _ _ _ _).trans ?_
  unfold side
  split_ifs with h
  · refine (concatenate_apply_piece (t := S8448x1024) 0 (parts m c) Cert.ReferencePreIdeal.Facts₀.concatenates_S8192x1024_S256x1024_S8448x1024_d0 (ix2 R j)
      0 (Nat.succ_pos 1 : 0 < 2) S8192x1024 _ rfl rfl 0 rfl (ix2 ⟨R.val, h⟩ j) (fun x hx => ?_) ?_).trans (lat m c R h j)
    · match x with | ⟨0, _⟩ => exact absurd rfl hx | ⟨1, _⟩ => rfl
    · show 0 + R.val = R.val; omega
  · obtain ⟨n, rfl⟩ := eq_low R h
    refine (concatenate_apply_piece (t := S8448x1024) 0 (parts m c) Cert.ReferencePreIdeal.Facts₀.concatenates_S8192x1024_S256x1024_S8448x1024_d0 (ix2 _ j)
      1 (by omega : 1 < 2) S256x1024 _ rfl rfl 8192 rfl (ix2 n j) (fun x hx => ?_) rfl).trans (ctx m c n j)
    · match x with | ⟨0, _⟩ => exact absurd rfl hx | ⟨1, _⟩ => rfl

/-! ## The claims -/

theorem same : Cert.KernelPre.defs (F := Bits) = Cert.KernelPreIdeal.defs (F := Bits) :=
  congrArg (Pipeline.defs (Cert.KernelPreIdeal.pcfgs (F := Bits))) (funext fun p => funext fun ℓ => funext fun a => by
    cases p <;> (match ℓ, a with
      | (0 : Fin 1), (_, _) => rfl))

theorem frame_kernel : Cert.quiescent_KernelPre := fun m ρ _ => by rw [same]; exact Cert.KernelPreIdeal.Gen.frame (F := Bits) m ρ
theorem frame_ideal : Cert.quiescent_KernelPreIdeal := fun m ρ _ => Cert.KernelPreIdeal.Gen.frame m ρ
theorem frame_reference : Cert.quiescent_ReferencePreIdeal := fun m ρ _ =>
  (θ_run Cert.ReferencePreIdeal.defs _ _).mono (fun r h => ⟨fun c => (h c).2, sem_eq_zero_of_no_sems (by decide) r.2⟩)
    (Cert.ReferencePreIdeal.Value.run (F := Ideal) m ρ)

theorem algebraic : Cert.algebraic_KernelPreIdeal_ReferencePreIdeal := by
  intro m ρ m' ρ' _ hagree
  refine ⟨_, Cert.KernelPreIdeal.Value.run_blocks (F := Ideal) m ρ, ?_⟩
  refine (θ_run Cert.ReferencePreIdeal.defs _ _).mono (fun _ h c => ?_) (Cert.ReferencePreIdeal.Value.run (F := Ideal) m' ρ')
  obtain ⟨e0, e1, e2⟩ := hagree c
  obtain ⟨h0, h1⟩ := h c
  rw [val_main_v43_eq, e0, e1, e2] at h0
  exact ⟨h0.trans (ref m c).symm, h1⟩

end Cert.Pre

end
-- ==== Proof.Post.lean ====
/- The gated normalisation after the last product, added to the rows: the claims about `KernelPost`, `KernelPostIdeal` and
`ReferencePostIdeal`. Point `i` computes the block of 256 rows `i`; the last block has the context rows and their gate. -/
module

public import proofs.«01_k».proof.Defs
public import proofs.«01_k».proof.Proof.Norm
public import proofs.«01_k».proof.Proof.MergeBwd
public import proofs.«01_k».proof.Proof.Gen.KernelPost
public import proofs.«01_k».proof.Proof.Gen.KernelPostIdeal.Value
public import proofs.«01_k».proof.Proof.Gen.ReferencePostIdeal.Read

@[expose] public section

set_option maxRecDepth 16384

noncomputable section

namespace Cert.Post

open Cert.KernelPostIdeal Cert.KernelPostIdeal.Gen Cert.Products Cert.Norm
open Cert.MergeBwd (place)
open Idealize.ShloMosaic Idealize.ShloMosaic.TcCoe Idealize.ShloMosaic.ValueIdx Idealize.SL.Sem

variable (m : (ℓ : Loc nD τ sig) → Buf (Elt Ideal) ℓ) (c : Dev nD)

theorem at_ : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) ∧ (grid0.coords t 0).val = t.val := by decide +kernel

/-- The rows of a grid point's block. -/
def rw_ (t : Fin cfg0.N) (r : Fin 256) : Fin 8448 := ⟨256 * t.val + r.val, by have : t.val < 33 := t.isLt; omega⟩

/-- The rows, the product's rows, the weight and the gates, by their coordinates. -/
def X (R : Fin 8448) (j : Fin 1024) : EReal := (m (c.tc.loc main_arg0) : Vec Ideal S8448x1024 .f32) (ix2 R j)
def O (R : Fin 8448) (j : Fin 1024) : EReal := (m (c.tc.loc main_arg1) : Vec Ideal S8448x1024 .bf16) (ix2 R j)
def G (j : Fin 1024) : EReal := (m (c.tc.loc main_arg2) : Vec Ideal S1x1024 .f32) (ix2 0 j)
def gt (s : Fin 8) (j : Fin 1024) : EReal := (m (c.tc.loc main_arg3) : Vec Ideal S8x3072 .f32) (ix2 s ⟨2048 + j.val, by omega⟩)

theorem load0 (t : Fin cfg0.N) (r : Fin 256) (j : Fin 1024) : (iblk m c 0 t : Vec Ideal S256x1024 .f32) (ix2 r j) = X m c (rw_ t r) j := by
  obtain ⟨⟨e0, e1⟩, -⟩ := at_ t
  refine congrArg (m (c.tc.loc main_arg0) : Vec Ideal S8448x1024 .f32) (place _ _ _ ?_ ?_)
  · show win0_0.index t (0 : Fin 2) * 256 + 1 * r.val = 256 * t.val + r.val; omega
  · show win0_0.index t (1 : Fin 2) * 1024 + 1 * j.val = j.val; omega
theorem load1 (t : Fin cfg0.N) (r : Fin 256) (j : Fin 1024) : (iblk m c 1 t : Vec Ideal S256x1024 .bf16) (ix2 r j) = O m c (rw_ t r) j := by
  obtain ⟨-, ⟨e0, e1⟩, -⟩ := at_ t
  refine congrArg (m (c.tc.loc main_arg1) : Vec Ideal S8448x1024 .bf16) (place _ _ _ ?_ ?_)
  · show win0_1.index t (0 : Fin 2) * 256 + 1 * r.val = 256 * t.val + r.val; omega
  · show win0_1.index t (1 : Fin 2) * 1024 + 1 * j.val = j.val; omega
theorem load2 (t : Fin cfg0.N) (j : Fin 1024) : (iblk m c 2 t : Vec Ideal S1x1024 .f32) (ix2 0 j) = G m c j := by
  obtain ⟨-, -, ⟨e0, e1⟩, -⟩ := at_ t
  refine congrArg (m (c.tc.loc main_arg2) : Vec Ideal S1x1024 .f32) ((eq_ix2 _).trans (congrArg₂ ix2 (Fin.ext ?_) (Fin.ext ?_)))
  · show win0_2.index t (0 : Fin 2) * 1 + 1 * 0 = 0; omega
  · show win0_2.index t (1 : Fin 2) * 1024 + 1 * j.val = j.val; omega
theorem load3 (t : Fin cfg0.N) (y : S8x3072.Idx) (s : Fin 8) (j : Fin 1024) (h0 : (y 0).val = s.val) (h1 : (y 1).val = 2048 + j.val) :
    (iblk m c 3 t : Vec Ideal S8x3072 .f32) y = gt m c s j := by
  obtain ⟨-, -, -, ⟨e0, e1⟩, -⟩ := at_ t
  refine congrArg (m (c.tc.loc main_arg3) : Vec Ideal S8x3072 .f32) ((eq_ix2 _).trans (congrArg₂ ix2 (Fin.ext ?_) (Fin.ext ?_)))
  · show win0_3.index t (0 : Fin 2) * 8 + 1 * (y 0).val = s.val; omega
  · show win0_3.index t (1 : Fin 2) * 3072 + 1 * (y 1).val = 2048 + j.val; omega
theorem emb4 (t : Fin cfg0.N) (r : Fin 256) (j : Fin 1024) :
    ((cfg0.win 4).blk t).view.emb (ix2 r j : S256x1024.Idx) = (ix2 (rw_ t r) j : S8448x1024.Idx) := by
  obtain ⟨-, -, -, -, ⟨e0, e1⟩, -⟩ := at_ t
  refine place _ _ _ ?_ ?_
  · show win0_4.index t (0 : Fin 2) * 256 + 1 * r.val = 256 * t.val + r.val; omega
  · show win0_4.index t (1 : Fin 2) * 1024 + 1 * j.val = j.val; omega

/-- A row with the gated, normalised product added. -/
def post (x : EReal) (o : Fin 1024 → EReal) (g γ : EReal) (j : Fin 1024) : EReal := x + γ * rms o g j

/-- What a point stores, from what it loads. -/
theorem pay (i : grid0.Coords) (a b : Vec Ideal S1x1024 .f32) (x : Vec Ideal S256x1024 .f32) (o : Vec Ideal S256x1024 .bf16) (g : Vec Ideal S1x1024 .f32)
    (r : Fin 256) (j : Fin 1024) : k0_pay1 i a b x o g (ix2 r j)
      = post (x (ix2 r j)) (fun k => o (ix2 r k)) (g (ix2 0 j)) (Scalar.select (ctxBit (i 0).val) a b (ix2 0 j)) j := by
  refine congrArg (fun v : EReal => (x (ix2 r j) : EReal) + v) (congrArg₂ (fun u v : EReal => u * v) (down r j _ _) (congrArg₂ (fun u v : EReal => u * v)
    (congrArg (fun v : EReal => (o (ix2 r j) : EReal) * v) ((across r j _ _).trans (scaled r (extf .f32 o bitsLt_bf16_f32) _ _))) (down r j _ _)))

theorem stored (t : Fin cfg0.N) (r : Fin 256) (j : Fin 1024) :
    out0_4 (grid0.coords t) (iblk m c 0 t) (iblk m c 1 t) (iblk m c 2 t) (iblk m c 3 t) (ix2 r j)
      = post (X m c (rw_ t r) j) (O m c (rw_ t r)) (G m c j) (gt m c (side (rw_ t r)) j) j := by
  unfold out0_4
  rw [View.canon_unit_zero off2, View.ld_unit_zero off2, View.ld_unit_zero off2, View.ld_unit_zero off2]
  refine (pay _ _ _ _ _ _ r j).trans ?_
  have hR : (rw_ t r).val / 256 = (t : Fin 33).val := by show (256 * t.val + r.val) / 256 = t.val; omega
  rw [(at_ t).2.2.2.2.2]
  have e0 : (fun k => (iblk m c 1 t : Vec Ideal S256x1024 .bf16) (ix2 r k)) = O m c (rw_ t r) := funext (load1 m c t r)
  have e1 := congrFun (choose_ (t : Fin 33) (View.ld (iblk m c 3 t) r0_0) (View.ld (iblk m c 3 t) r0_1)
    (fun s => fun y : S1x1024.Idx => (show Elt Ideal .f32 from gt m c s (y 1)))
    (funext fun y => load3 m c t _ 1 _ (by show 1 + 1 * (y 0).val = 1; have : (y 0).val < 1 := (y 0).isLt; omega) (by show 2048 + 1 * (y 1).val = 2048 + (y 1).val; omega))
    (funext fun y => load3 m c t _ 0 _ (by show 0 + 1 * (y 0).val = 0; have : (y 0).val < 1 := (y 0).isLt; omega) (by show 2048 + 1 * (y 1).val = 2048 + (y 1).val; omega))
    (rw_ t r) hR) (ix2 0 j)
  rw [e0, load0, load2]
  exact congrArg (fun u => post (X m c (rw_ t r) j) (O m c (rw_ t r)) (G m c j) u j) e1

theorem flushes : ∀ t : Fin cfg0.N, (cfg0.win 4).flush t = true := (by decide +kernel : ∀ t : Fin grid0.N, win0_4.flush t = true)

theorem array (R : Fin 8448) (j : Fin 1024) : ((dats m 0 c).arrAt 4 cfg0.N : Vec Ideal S8448x1024 .f32) (ix2 R j)
    = post (X m c R j) (O m c R) (G m c j) (gt m c (side R) j) j := by
  obtain ⟨t, r, rfl⟩ : ∃ (t : Fin cfg0.N) (r : Fin 256), R = rw_ t r :=
    ⟨⟨R.val / 256, by show _ < 33; omega⟩, ⟨R.val % 256, by omega⟩, Fin.ext (by simp only [rw_]; omega)⟩
  refine (congrArg (β := Elt Ideal .f32) ((dats m 0 c).arrAt 4 cfg0.N) (emb4 t r j)).symm.trans ?_
  exact (congrFun ((Value.blocks4 m c t (flushes t)).trans (Value.flushed4 m c t)) (ix2 r j)).trans (stored m c t r j)

/-! ## The reference -/

open Cert.ReferencePostIdeal (S8192x1024)
open Cert.ReferencePostIdeal.Read

/-- The latent rows. -/
theorem lat_read (R : Fin 8448) (hR : R.val < 8192) (j : Fin 1024) (i : S8192x1024.Idx) (h0 : (i 0).val = R.val) (h1 : (i 1).val = j.val) :
    val_main_v3 (F := Ideal) (m (c.tc.loc main_arg1)) i = O m c R j :=
  (val_main_v3_apply _ _).trans ((val_main_v0_apply _ _).trans (congrArg (m (c.tc.loc main_arg1) : Vec Ideal S8448x1024 .bf16) (place _ _ _ h0 h1)))

theorem lat_scale (R : Fin 8448) (hR : R.val < 8192) : val_main_v11 (F := Ideal) (m (c.tc.loc main_arg1)) (ix2 ⟨R.val, hR⟩ 0) = scale (O m c R) := by
  rw [val_main_v11_apply, val_main_v10_apply, val_main_v8_apply, val_main_v6_apply, val_main_v5_apply]
  refine congrArg (fun z : EReal => Ideal.rsqrt (Ideal.div z (Ideal.ofBits .f32 0x44800000#32) + Ideal.ofBits .f32 0x358637BD#32)) ((zero_add' _).trans ?_)
  refine Finset.sum_congr rfl fun k _ => (val_main_v4_apply _ _).trans ?_
  exact congrArg (fun z : EReal => z * z) (lat_read m c R hR k _ rfl rfl)

theorem lat (R : Fin 8448) (hR : R.val < 8192) (j : Fin 1024) :
    val_main_v18 (F := Ideal) (m (c.tc.loc main_arg0)) (m (c.tc.loc main_arg1)) (m (c.tc.loc main_arg2)) (m (c.tc.loc main_arg3)) (ix2 ⟨R.val, hR⟩ j)
      = post (X m c R j) (O m c R) (G m c j) (gt m c 0 j) j := by
  rw [val_main_v18_apply, val_main_v1_apply, val_main_v17_apply, val_main_v16_apply, val_main_v2_apply, val_main_v15_apply, val_main_v13_apply,
    val_main_v12_apply, val_main_v14_apply]
  refine congrArg₂ (fun u v : EReal => u + v) (congrArg (m (c.tc.loc main_arg0) : Vec Ideal S8448x1024 .f32) (place _ _ _ rfl rfl))
    (congrArg₂ (fun u v : EReal => u * v) (congrArg (m (c.tc.loc main_arg3) : Vec Ideal S8x3072 .f32) (eq_ix2 _))
    (congrArg₂ (fun u v : EReal => u * v) (congrArg₂ (fun u v : EReal => u * v) (lat_read m c R hR j _ rfl rfl)
      ((congrArg (val_main_v11 (F := Ideal) (m (c.tc.loc main_arg1))) (eq_ix2 _)).trans (lat_scale m c R hR)))
    (congrArg (m (c.tc.loc main_arg2) : Vec Ideal S1x1024 .f32) (eq_ix2 _))))

/-- The context rows. -/
theorem ctx_read (n : Fin 256) (j : Fin 1024) (i : S256x1024.Idx) (h0 : (i 0).val = n.val) (h1 : (i 1).val = j.val) :
    val_main_v21 (F := Ideal) (m (c.tc.loc main_arg1)) i = O m c ⟨8192 + n.val, by omega⟩ j :=
  (val_main_v21_apply _ _).trans ((val_main_v0_apply _ _).trans
    (congrArg (m (c.tc.loc main_arg1) : Vec Ideal S8448x1024 .bf16) (place _ _ _ (congrArg (8192 + ·) h0) h1)))

theorem ctx_scale (n : Fin 256) : val_main_v29 (F := Ideal) (m (c.tc.loc main_arg1)) (ix2 n 0) = scale (O m c ⟨8192 + n.val, by omega⟩) := by
  rw [val_main_v29_apply, val_main_v28_apply, val_main_v26_apply, val_main_v24_apply, val_main_v23_apply]
  refine congrArg (fun z : EReal => Ideal.rsqrt (Ideal.div z (Ideal.ofBits .f32 0x44800000#32) + Ideal.ofBits .f32 0x358637BD#32)) ((zero_add' _).trans ?_)
  refine Finset.sum_congr rfl fun k _ => (val_main_v22_apply _ _).trans ?_
  exact congrArg (fun z : EReal => z * z) (ctx_read m c n k _ rfl rfl)

theorem ctx (n : Fin 256) (j : Fin 1024) :
    val_main_v36 (F := Ideal) (m (c.tc.loc main_arg0)) (m (c.tc.loc main_arg1)) (m (c.tc.loc main_arg2)) (m (c.tc.loc main_arg3)) (ix2 n j)
      = post (X m c ⟨8192 + n.val, by omega⟩ j) (O m c ⟨8192 + n.val, by omega⟩) (G m c j) (gt m c 1 j) j := by
  rw [val_main_v36_apply, val_main_v19_apply, val_main_v35_apply, val_main_v34_apply, val_main_v20_apply, val_main_v33_apply, val_main_v31_apply,
    val_main_v30_apply, val_main_v32_apply]
  refine congrArg₂ (fun u v : EReal => u + v) (congrArg (m (c.tc.loc main_arg0) : Vec Ideal S8448x1024 .f32) (place _ _ _ rfl rfl))
    (congrArg₂ (fun u v : EReal => u * v) (congrArg (m (c.tc.loc main_arg3) : Vec Ideal S8x3072 .f32) (eq_ix2 _))
    (congrArg₂ (fun u v : EReal => u * v) (congrArg₂ (fun u v : EReal => u * v) (ctx_read m c n j _ rfl rfl)
      ((congrArg (val_main_v29 (F := Ideal) (m (c.tc.loc main_arg1))) (eq_ix2 _)).trans (ctx_scale m c n)))
    (congrArg (m (c.tc.loc main_arg2) : Vec Ideal S1x1024 .f32) (eq_ix2 _))))

/-- The latent rows over the context rows. -/
abbrev parts : List ((s : Shape) × (s.Idx → Ideal .f32)) :=
  [⟨S8192x1024, val_main_v18 (F := Ideal) (m (c.tc.loc main_arg0)) (m (c.tc.loc main_arg1)) (m (c.tc.loc main_arg2)) (m (c.tc.loc main_arg3))⟩,
    ⟨S256x1024, val_main_v36 (F := Ideal) (m (c.tc.loc main_arg0)) (m (c.tc.loc main_arg1)) (m (c.tc.loc main_arg2)) (m (c.tc.loc main_arg3))⟩]

theorem ref : (dats m 0 c).arrAt 4 cfg0.N
    = val_main_v37 (F := Ideal) (m (c.tc.loc main_arg0)) (m (c.tc.loc main_arg1)) (m (c.tc.loc main_arg2)) (m (c.tc.loc main_arg3)) := by
  funext (i : S8448x1024.Idx)
  obtain ⟨R, j, rfl⟩ : ∃ R j, i = ix2 R j := ⟨i 0, i 1, eq_ix2 i⟩
  refine (array m c R j).trans (Eq.symm ?_)
  unfold side
  split_ifs with h
  · refine (concatenate_apply_piece (t := S8448x1024) 0 (parts m c) Cert.ReferencePostIdeal.Facts₀.concatenates_S8192x1024_S256x1024_S8448x1024_d0 (ix2 R j)
      0 (Nat.succ_pos 1 : 0 < 2) S8192x1024 _ rfl rfl 0 rfl (ix2 ⟨R.val, h⟩ j) (fun x hx => ?_) ?_).trans (lat m c R h j)
    · match x with | ⟨0, _⟩ => exact absurd rfl hx | ⟨1, _⟩ => rfl
    · show 0 + R.val = R.val; omega
  · obtain ⟨n, rfl⟩ := eq_low R h
    refine (concatenate_apply_piece (t := S8448x1024) 0 (parts m c) Cert.ReferencePostIdeal.Facts₀.concatenates_S8192x1024_S256x1024_S8448x1024_d0 (ix2 _ j)
      1 (by omega : 1 < 2) S256x1024 _ rfl rfl 8192 rfl (ix2 n j) (fun x hx => ?_) rfl).trans (ctx m c n j)
    · match x with | ⟨0, _⟩ => exact absurd rfl hx | ⟨1, _⟩ => rfl

/-! ## The claims -/

theorem same : Cert.KernelPost.defs (F := Bits) = Cert.KernelPostIdeal.defs (F := Bits) :=
  congrArg (Pipeline.defs (Cert.KernelPostIdeal.pcfgs (F := Bits))) (funext fun p => funext fun ℓ => funext fun a => by
    cases p <;> (match ℓ, a with
      | (0 : Fin 1), (_, _) => rfl))

theorem frame_kernel : Cert.quiescent_KernelPost := fun m ρ _ => by rw [same]; exact Cert.KernelPostIdeal.Gen.frame (F := Bits) m ρ
theorem frame_ideal : Cert.quiescent_KernelPostIdeal := fun m ρ _ => Cert.KernelPostIdeal.Gen.frame m ρ
theorem frame_reference : Cert.quiescent_ReferencePostIdeal := fun m ρ _ =>
  (θ_run Cert.ReferencePostIdeal.defs _ _).mono (fun r h => ⟨fun c => (h c).2, sem_eq_zero_of_no_sems (by decide) r.2⟩)
    (Cert.ReferencePostIdeal.Value.run (F := Ideal) m ρ)

theorem algebraic : Cert.algebraic_KernelPostIdeal_ReferencePostIdeal := by
  intro m ρ m' ρ' _ hagree
  refine ⟨_, Cert.KernelPostIdeal.Value.run_blocks (F := Ideal) m ρ, ?_⟩
  refine (θ_run Cert.ReferencePostIdeal.defs _ _).mono (fun _ h c => ?_) (Cert.ReferencePostIdeal.Value.run (F := Ideal) m' ρ')
  obtain ⟨e0, e1, e2, e3⟩ := hagree c
  obtain ⟨h0, h1⟩ := h c
  rw [val_main_v37_eq, e0, e1, e2, e3] at h0
  exact ⟨h0.trans (ref m c).symm, h1⟩

end Cert.Post

end
-- ==== Proof.Adam.lean ====
/- The optimiser's step: the claims about the four programs of `adamw`, one for each shape of a device's shards. Each is
pointwise: an element of the step, and of the two new moments, is one formula of the weight, its gradient and its moments. -/
module

public import proofs.«01_k».proof.Defs
public import proofs.«01_k».proof.Proof.Gen.KernelAdamIn
public import proofs.«01_k».proof.Proof.Gen.KernelAdamInIdeal.Value
public import proofs.«01_k».proof.Proof.Gen.ReferenceAdamInIdeal.Run
public import proofs.«01_k».proof.Proof.Gen.KernelAdamMod
public import proofs.«01_k».proof.Proof.Gen.KernelAdamModIdeal.Value
public import proofs.«01_k».proof.Proof.Gen.ReferenceAdamModIdeal.Run
public import proofs.«01_k».proof.Proof.Gen.KernelAdamOut
public import proofs.«01_k».proof.Proof.Gen.KernelAdamOutIdeal.Value
public import proofs.«01_k».proof.Proof.Gen.ReferenceAdamOutIdeal.Run
public import proofs.«01_k».proof.Proof.Gen.KernelAdamSmall
public import proofs.«01_k».proof.Proof.Gen.KernelAdamSmallIdeal.Value
public import proofs.«01_k».proof.Proof.Gen.ReferenceAdamSmallIdeal.Run

@[expose] public section

noncomputable section

namespace Cert.Adam

open Idealize.ShloMosaic Idealize.ShloMosaic.TcCoe Idealize.SL.Sem

/-! ## `w_in` -/

theorem same_in : Cert.KernelAdamIn.defs (F := Bits) = Cert.KernelAdamInIdeal.defs (F := Bits) :=
  congrArg (Pipeline.defs (Cert.KernelAdamInIdeal.pcfgs (F := Bits))) (funext fun p => funext fun ℓ => funext fun a => by
    cases p <;> (match ℓ, a with
      | (0 : Fin 1), (_, _) => rfl))

theorem frame_in : Cert.quiescent_KernelAdamIn := fun m ρ _ => by
  rw [same_in]; exact Cert.KernelAdamInIdeal.Gen.frame (F := Bits) m ρ
theorem frame_in_ideal : Cert.quiescent_KernelAdamInIdeal := fun m ρ _ => Cert.KernelAdamInIdeal.Gen.frame m ρ
theorem frame_in_reference : Cert.quiescent_ReferenceAdamInIdeal := fun m ρ _ =>
  (θ_run Cert.ReferenceAdamInIdeal.defs _ _).mono (fun r h => ⟨fun c => (h c).2.2.2, sem_eq_zero_of_no_sems (by decide) r.2⟩)
    (Cert.ReferenceAdamInIdeal.Value.run (F := Ideal) m ρ)

/-- The call and the reference compute the same step and the same moments of `w_in`. -/
theorem algebraic_in : Cert.algebraic_KernelAdamInIdeal_ReferenceAdamInIdeal := by
  intro m ρ m' ρ' _ hagree
  refine ⟨_, _, _, Cert.KernelAdamInIdeal.Value.run (F := Ideal) m ρ, ?_⟩
  refine (θ_run Cert.ReferenceAdamInIdeal.defs _ _).mono (fun _ h c => ?_) (Cert.ReferenceAdamInIdeal.Value.run (F := Ideal) m' ρ')
  obtain ⟨e0, e1, e2, e3⟩ := hagree c
  obtain ⟨h0, h1, h2, h3⟩ := h c
  rw [e0, e1, e2, e3] at h0
  rw [e1, e2] at h1
  rw [e1, e3] at h2
  exact ⟨h0, h1, h2, h3⟩

/-! ## `w_mod` -/

theorem same_mod : Cert.KernelAdamMod.defs (F := Bits) = Cert.KernelAdamModIdeal.defs (F := Bits) :=
  congrArg (Pipeline.defs (Cert.KernelAdamModIdeal.pcfgs (F := Bits))) (funext fun p => funext fun ℓ => funext fun a => by
    cases p <;> (match ℓ, a with
      | (0 : Fin 1), (_, _) => rfl))

theorem frame_mod : Cert.quiescent_KernelAdamMod := fun m ρ _ => by
  rw [same_mod]; exact Cert.KernelAdamModIdeal.Gen.frame (F := Bits) m ρ
theorem frame_mod_ideal : Cert.quiescent_KernelAdamModIdeal := fun m ρ _ => Cert.KernelAdamModIdeal.Gen.frame m ρ
theorem frame_mod_reference : Cert.quiescent_ReferenceAdamModIdeal := fun m ρ _ =>
  (θ_run Cert.ReferenceAdamModIdeal.defs _ _).mono (fun r h => ⟨fun c => (h c).2.2.2, sem_eq_zero_of_no_sems (by decide) r.2⟩)
    (Cert.ReferenceAdamModIdeal.Value.run (F := Ideal) m ρ)

/-- The call and the reference compute the same step and the same moments of `w_mod`. -/
theorem algebraic_mod : Cert.algebraic_KernelAdamModIdeal_ReferenceAdamModIdeal := by
  intro m ρ m' ρ' _ hagree
  refine ⟨_, _, _, Cert.KernelAdamModIdeal.Value.run (F := Ideal) m ρ, ?_⟩
  refine (θ_run Cert.ReferenceAdamModIdeal.defs _ _).mono (fun _ h c => ?_) (Cert.ReferenceAdamModIdeal.Value.run (F := Ideal) m' ρ')
  obtain ⟨e0, e1, e2, e3⟩ := hagree c
  obtain ⟨h0, h1, h2, h3⟩ := h c
  rw [e0, e1, e2, e3] at h0
  rw [e1, e2] at h1
  rw [e1, e3] at h2
  exact ⟨h0, h1, h2, h3⟩

/-! ## the three square weights -/

theorem same_out : Cert.KernelAdamOut.defs (F := Bits) = Cert.KernelAdamOutIdeal.defs (F := Bits) :=
  congrArg (Pipeline.defs (Cert.KernelAdamOutIdeal.pcfgs (F := Bits))) (funext fun p => funext fun ℓ => funext fun a => by
    cases p <;> (match ℓ, a with
      | (0 : Fin 1), (_, _) => rfl))

theorem frame_out : Cert.quiescent_KernelAdamOut := fun m ρ _ => by
  rw [same_out]; exact Cert.KernelAdamOutIdeal.Gen.frame (F := Bits) m ρ
theorem frame_out_ideal : Cert.quiescent_KernelAdamOutIdeal := fun m ρ _ => Cert.KernelAdamOutIdeal.Gen.frame m ρ
theorem frame_out_reference : Cert.quiescent_ReferenceAdamOutIdeal := fun m ρ _ =>
  (θ_run Cert.ReferenceAdamOutIdeal.defs _ _).mono (fun r h => ⟨fun c => (h c).2.2.2, sem_eq_zero_of_no_sems (by decide) r.2⟩)
    (Cert.ReferenceAdamOutIdeal.Value.run (F := Ideal) m ρ)

/-- The call and the reference compute the same step and the same moments of the three square weights. -/
theorem algebraic_out : Cert.algebraic_KernelAdamOutIdeal_ReferenceAdamOutIdeal := by
  intro m ρ m' ρ' _ hagree
  refine ⟨_, _, _, Cert.KernelAdamOutIdeal.Value.run (F := Ideal) m ρ, ?_⟩
  refine (θ_run Cert.ReferenceAdamOutIdeal.defs _ _).mono (fun _ h c => ?_) (Cert.ReferenceAdamOutIdeal.Value.run (F := Ideal) m' ρ')
  obtain ⟨e0, e1, e2, e3⟩ := hagree c
  obtain ⟨h0, h1, h2, h3⟩ := h c
  rw [e0, e1, e2, e3] at h0
  rw [e1, e2] at h1
  rw [e1, e3] at h2
  exact ⟨h0, h1, h2, h3⟩

/-! ## the small weights, joined -/

theorem same_small : Cert.KernelAdamSmall.defs (F := Bits) = Cert.KernelAdamSmallIdeal.defs (F := Bits) :=
  congrArg (Pipeline.defs (Cert.KernelAdamSmallIdeal.pcfgs (F := Bits))) (funext fun p => funext fun ℓ => funext fun a => by
    cases p <;> (match ℓ, a with
      | (0 : Fin 1), (_, _) => rfl))

theorem frame_small : Cert.quiescent_KernelAdamSmall := fun m ρ _ => by
  rw [same_small]; exact Cert.KernelAdamSmallIdeal.Gen.frame (F := Bits) m ρ
theorem frame_small_ideal : Cert.quiescent_KernelAdamSmallIdeal := fun m ρ _ => Cert.KernelAdamSmallIdeal.Gen.frame m ρ
theorem frame_small_reference : Cert.quiescent_ReferenceAdamSmallIdeal := fun m ρ _ =>
  (θ_run Cert.ReferenceAdamSmallIdeal.defs _ _).mono (fun r h => ⟨fun c => (h c).2.2.2, sem_eq_zero_of_no_sems (by decide) r.2⟩)
    (Cert.ReferenceAdamSmallIdeal.Value.run (F := Ideal) m ρ)

/-- The call and the reference compute the same step and the same moments of the small weights, joined. -/
theorem algebraic_small : Cert.algebraic_KernelAdamSmallIdeal_ReferenceAdamSmallIdeal := by
  intro m ρ m' ρ' _ hagree
  refine ⟨_, _, _, Cert.KernelAdamSmallIdeal.Value.run (F := Ideal) m ρ, ?_⟩
  refine (θ_run Cert.ReferenceAdamSmallIdeal.defs _ _).mono (fun _ h c => ?_) (Cert.ReferenceAdamSmallIdeal.Value.run (F := Ideal) m' ρ')
  obtain ⟨e0, e1, e2, e3⟩ := hagree c
  obtain ⟨h0, h1, h2, h3⟩ := h c
  rw [e0, e1, e2, e3] at h0
  rw [e1, e2] at h1
  rw [e1, e3] at h2
  exact ⟨h0, h1, h2, h3⟩

end Cert.Adam

end
-- ==== Proof.lean ====
module

public import proofs.«01_k».proof.Defs
public import proofs.«01_k».proof.Proof.AttnGrad
public import proofs.«01_k».proof.Proof.AttnFwd
public import proofs.«01_k».proof.Proof.ProdInDx
public import proofs.«01_k».proof.Proof.ProdInDw
public import proofs.«01_k».proof.Proof.ProdOutDx
public import proofs.«01_k».proof.Proof.ProdOutDw
public import proofs.«01_k».proof.Proof.ProdIn
public import proofs.«01_k».proof.Proof.ProdOut
public import proofs.«01_k».proof.Proof.MergeBwd
public import proofs.«01_k».proof.Proof.Merge
public import proofs.«01_k».proof.Proof.Pre
public import proofs.«01_k».proof.Proof.Post
public import proofs.«01_k».proof.Proof.Adam
public import proofs.«01_k».proof.Proof.Gen.Kernel
public import proofs.«01_k».proof.Proof.Gen.KernelIdeal
public import proofs.«01_k».proof.Proof.Gen.ReferenceIdeal
public import proofs.«01_k».proof.Proof.Gen.KernelFwd
public import proofs.«01_k».proof.Proof.Gen.KernelFwdIdeal
public import proofs.«01_k».proof.Proof.Gen.ReferenceFwdIdeal
public import proofs.«01_k».proof.Proof.Gen.KernelInDx
public import proofs.«01_k».proof.Proof.Gen.KernelInDxIdeal
public import proofs.«01_k».proof.Proof.Gen.ReferenceInDxIdeal
public import proofs.«01_k».proof.Proof.Gen.KernelInDw
public import proofs.«01_k».proof.Proof.Gen.KernelInDwIdeal
public import proofs.«01_k».proof.Proof.Gen.ReferenceInDwIdeal
public import proofs.«01_k».proof.Proof.Gen.KernelOutDx
public import proofs.«01_k».proof.Proof.Gen.KernelOutDxIdeal
public import proofs.«01_k».proof.Proof.Gen.ReferenceOutDxIdeal
public import proofs.«01_k».proof.Proof.Gen.KernelOutDw
public import proofs.«01_k».proof.Proof.Gen.KernelOutDwIdeal
public import proofs.«01_k».proof.Proof.Gen.ReferenceOutDwIdeal
public import proofs.«01_k».proof.Proof.Gen.KernelIn
public import proofs.«01_k».proof.Proof.Gen.KernelInIdeal
public import proofs.«01_k».proof.Proof.Gen.ReferenceInIdeal
public import proofs.«01_k».proof.Proof.Gen.KernelOut
public import proofs.«01_k».proof.Proof.Gen.KernelOutIdeal
public import proofs.«01_k».proof.Proof.Gen.ReferenceOutIdeal
public import proofs.«01_k».proof.Proof.Gen.KernelMergeBwd
public import proofs.«01_k».proof.Proof.Gen.KernelMergeBwdIdeal
public import proofs.«01_k».proof.Proof.Gen.ReferenceMergeBwdIdeal
public import proofs.«01_k».proof.Proof.Gen.KernelMerge
public import proofs.«01_k».proof.Proof.Gen.KernelMergeIdeal
public import proofs.«01_k».proof.Proof.Gen.ReferenceMergeIdeal
public import proofs.«01_k».proof.Proof.Gen.KernelPre
public import proofs.«01_k».proof.Proof.Gen.KernelPreIdeal
public import proofs.«01_k».proof.Proof.Gen.ReferencePreIdeal
public import proofs.«01_k».proof.Proof.Gen.KernelPost
public import proofs.«01_k».proof.Proof.Gen.KernelPostIdeal
public import proofs.«01_k».proof.Proof.Gen.ReferencePostIdeal
public import proofs.«01_k».proof.Proof.Gen.KernelAdamIn
public import proofs.«01_k».proof.Proof.Gen.KernelAdamInIdeal
public import proofs.«01_k».proof.Proof.Gen.ReferenceAdamInIdeal
public import proofs.«01_k».proof.Proof.Gen.KernelAdamMod
public import proofs.«01_k».proof.Proof.Gen.KernelAdamModIdeal
public import proofs.«01_k».proof.Proof.Gen.ReferenceAdamModIdeal
public import proofs.«01_k».proof.Proof.Gen.KernelAdamOut
public import proofs.«01_k».proof.Proof.Gen.KernelAdamOutIdeal
public import proofs.«01_k».proof.Proof.Gen.ReferenceAdamOutIdeal
public import proofs.«01_k».proof.Proof.Gen.KernelAdamSmall
public import proofs.«01_k».proof.Proof.Gen.KernelAdamSmallIdeal
public import proofs.«01_k».proof.Proof.Gen.ReferenceAdamSmallIdeal
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.KernelFwd.Gen.facts, Cert.KernelFwdIdeal.Gen.facts, Cert.ReferenceFwdIdeal.Gen.facts,
    Cert.KernelInDx.Gen.facts, Cert.KernelInDxIdeal.Gen.facts, Cert.ReferenceInDxIdeal.Gen.facts,
    Cert.KernelInDw.Gen.facts, Cert.KernelInDwIdeal.Gen.facts, Cert.ReferenceInDwIdeal.Gen.facts,
    Cert.KernelOutDx.Gen.facts, Cert.KernelOutDxIdeal.Gen.facts, Cert.ReferenceOutDxIdeal.Gen.facts,
    Cert.KernelOutDw.Gen.facts, Cert.KernelOutDwIdeal.Gen.facts, Cert.ReferenceOutDwIdeal.Gen.facts,
    Cert.KernelIn.Gen.facts, Cert.KernelInIdeal.Gen.facts, Cert.ReferenceInIdeal.Gen.facts,
    Cert.KernelOut.Gen.facts, Cert.KernelOutIdeal.Gen.facts, Cert.ReferenceOutIdeal.Gen.facts,
    Cert.KernelMergeBwd.Gen.facts, Cert.KernelMergeBwdIdeal.Gen.facts, Cert.ReferenceMergeBwdIdeal.Gen.facts,
    Cert.KernelMerge.Gen.facts, Cert.KernelMergeIdeal.Gen.facts, Cert.ReferenceMergeIdeal.Gen.facts,
    Cert.KernelPre.Gen.facts, Cert.KernelPreIdeal.Gen.facts, Cert.ReferencePreIdeal.Gen.facts,
    Cert.KernelPost.Gen.facts, Cert.KernelPostIdeal.Gen.facts, Cert.ReferencePostIdeal.Gen.facts,
    Cert.KernelAdamIn.Gen.facts, Cert.KernelAdamInIdeal.Gen.facts, Cert.ReferenceAdamInIdeal.Gen.facts,
    Cert.KernelAdamMod.Gen.facts, Cert.KernelAdamModIdeal.Gen.facts, Cert.ReferenceAdamModIdeal.Gen.facts,
    Cert.KernelAdamOut.Gen.facts, Cert.KernelAdamOutIdeal.Gen.facts, Cert.ReferenceAdamOutIdeal.Gen.facts,
    Cert.KernelAdamSmall.Gen.facts, Cert.KernelAdamSmallIdeal.Gen.facts, Cert.ReferenceAdamSmallIdeal.Gen.facts,
    AttnGrad.facts_finite, AttnFwd.facts_finite,
    AttnGrad.frame_kernel, AttnGrad.frame_ideal, AttnGrad.frame_ideal_finite, AttnGrad.frame_reference,
    AttnGrad.frame_reference_finite,
    AttnFwd.frame_kernel, AttnFwd.frame_ideal, AttnFwd.frame_ideal_finite, AttnFwd.frame_reference,
    AttnFwd.frame_reference_finite,
    ProdInDx.frame_kernel, ProdInDx.frame_ideal, ProdInDx.frame_reference,
    ProdInDw.frame_kernel, ProdInDw.frame_ideal, ProdInDw.frame_reference,
    ProdOutDx.frame_kernel, ProdOutDx.frame_ideal, ProdOutDx.frame_reference,
    ProdOutDw.frame_kernel, ProdOutDw.frame_ideal, ProdOutDw.frame_reference,
    ProdIn.frame_kernel, ProdIn.frame_ideal, ProdIn.frame_reference,
    ProdOut.frame_kernel, ProdOut.frame_ideal, ProdOut.frame_reference,
    MergeBwd.frame_kernel, MergeBwd.frame_ideal, MergeBwd.frame_reference,
    Merge.frame_kernel, Merge.frame_ideal, Merge.frame_reference,
    Pre.frame_kernel, Pre.frame_ideal, Pre.frame_reference,
    Post.frame_kernel, Post.frame_ideal, Post.frame_reference,
    Adam.frame_in, Adam.frame_in_ideal, Adam.frame_in_reference,
    Adam.frame_mod, Adam.frame_mod_ideal, Adam.frame_mod_reference,
    Adam.frame_out, Adam.frame_out_ideal, Adam.frame_out_reference,
    Adam.frame_small, Adam.frame_small_ideal, Adam.frame_small_reference,
    AttnGrad.preserves, AttnGrad.algebraic, AttnFwd.preserves, AttnFwd.algebraic,
    trivial, ProdInDx.algebraic, trivial, ProdInDw.algebraic, trivial, ProdOutDx.algebraic, trivial, ProdOutDw.algebraic, trivial, ProdIn.algebraic, trivial, ProdOut.algebraic,
    trivial, MergeBwd.algebraic, trivial, Merge.algebraic, trivial, Pre.algebraic, trivial, Post.algebraic,
    trivial, Adam.algebraic_in, trivial, Adam.algebraic_mod, trivial, Adam.algebraic_out, trivial, Adam.algebraic_small⟩

end Cert.Proof

end
